-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))).2.2.2.2.2 = (fun _ => 1#1)

def Pre_RefUpIdeal (m : (ℓ : Loc Cert.RefUpIdeal.nD Cert.RefUpIdeal.τ Cert.RefUpIdeal.sig) → Buf (Elt Ideal) ℓ) : Prop :=
  True

def Pre_RefUpIdeal_finite_up [hPre_finite_up : Cert.Pre_finite_up.Facts] (m : (ℓ : Loc Cert.RefUpIdeal.nD Cert.RefUpIdeal.τ Cert.RefUpIdeal.sig) → Buf (Elt Ideal) ℓ) : Prop :=
  ∀ c : Dev Cert.RefUpIdeal.nD,
    (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.2.1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.2.2.1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.2.2.2.1 = (fun _ => 1#1)
    ∧ (Cert.Pre_finite_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4)) (m ((c.tc : Thread Cert.RefUpIdeal.nD Cert.RefUpIdeal.τ).loc Cert.RefUpIdeal.main_arg5))).2.2.2.2.2 = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_RefDwIdeal (m : (ℓ : Loc Cert.RefDwIdeal.nD Cert.RefDwIdeal.τ Cert.RefDwIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_RefUpFwdIdeal (m : (ℓ : Loc Cert.RefUpFwdIdeal.nD Cert.RefUpFwdIdeal.τ Cert.RefUpFwdIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_RefDownFwdIdeal (m : (ℓ : Loc Cert.RefDownFwdIdeal.nD Cert.RefDownFwdIdeal.τ Cert.RefDownFwdIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.2.2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.2.2.2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.2.2.2.2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8))).2.2.2.2.2.2.2.2 = (fun _ => 1#1)

def Pre_RefInIdeal (m : (ℓ : Loc Cert.RefInIdeal.nD Cert.RefInIdeal.τ Cert.RefInIdeal.sig) → Buf (Elt Ideal) ℓ) : Prop :=
  True

def Pre_RefInIdeal_finite_in [hPre_finite_in : Cert.Pre_finite_in.Facts] (m : (ℓ : Loc Cert.RefInIdeal.nD Cert.RefInIdeal.τ Cert.RefInIdeal.sig) → Buf (Elt Ideal) ℓ) : Prop :=
  ∀ c : Dev Cert.RefInIdeal.nD,
    (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.2.2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.2.2.2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.2.2.2.2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.2.2.2.2.2.1 = (fun _ => 1#1)
    ∧ (Cert.Pre_finite_in.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8))).2.2.2.2.2.2.2.2 = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_RefInFwdIdeal (m : (ℓ : Loc Cert.RefInFwdIdeal.nD Cert.RefInFwdIdeal.τ Cert.RefInFwdIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_RefOutFwdIdeal (m : (ℓ : Loc Cert.RefOutFwdIdeal.nD Cert.RefOutFwdIdeal.τ Cert.RefOutFwdIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_finite_ln [hPre_finite_ln : Cert.Pre_finite_ln.Facts] (m : (ℓ : Loc Cert.LnIdeal.nD Cert.LnIdeal.τ Cert.LnIdeal.sig) → Buf (Elt Ideal) ℓ) : Prop :=
  ∀ c : Dev Cert.LnIdeal.nD,
    (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.2.2 = (fun _ => 1#1)

def Pre_RefLnIdeal (m : (ℓ : Loc Cert.RefLnIdeal.nD Cert.RefLnIdeal.τ Cert.RefLnIdeal.sig) → Buf (Elt Ideal) ℓ) : Prop :=
  True

def Pre_RefLnIdeal_finite_ln [hPre_finite_ln : Cert.Pre_finite_ln.Facts] (m : (ℓ : Loc Cert.RefLnIdeal.nD Cert.RefLnIdeal.τ Cert.RefLnIdeal.sig) → Buf (Elt Ideal) ℓ) : Prop :=
  ∀ c : Dev Cert.RefLnIdeal.nD,
    (Cert.Pre_finite_ln.fn (F := Ideal) (m ((c.tc : Thread Cert.RefLnIdeal.nD Cert.RefLnIdeal.τ).loc Cert.RefLnIdeal.main_arg0)) (m ((c.tc : Thread Cert.RefLnIdeal.nD Cert.RefLnIdeal.τ).loc Cert.RefLnIdeal.main_arg1)) (m ((c.tc : Thread Cert.RefLnIdeal.nD Cert.RefLnIdeal.τ).loc Cert.RefLnIdeal.main_arg2)) (m ((c.tc : Thread Cert.RefLnIdeal.nD Cert.RefLnIdeal.τ).loc Cert.RefLnIdeal.main_arg3))).1 = (fun _ => 1#1)
    ∧ (Cert.Pre_finite_ln.fn (F := Ideal) (m ((c.tc : Thread Cert.RefLnIdeal.nD Cert.RefLnIdeal.τ).loc Cert.RefLnIdeal.main_arg0)) (m ((c.tc : Thread Cert.RefLnIdeal.nD Cert.RefLnIdeal.τ).loc Cert.RefLnIdeal.main_arg1)) (m ((c.tc : Thread Cert.RefLnIdeal.nD Cert.RefLnIdeal.τ).loc Cert.RefLnIdeal.main_arg2)) (m ((c.tc : Thread Cert.RefLnIdeal.nD Cert.RefLnIdeal.τ).loc Cert.RefLnIdeal.main_arg3))).2.1 = (fun _ => 1#1)
    ∧ (Cert.Pre_finite_ln.fn (F := Ideal) (m ((c.tc : Thread Cert.RefLnIdeal.nD Cert.RefLnIdeal.τ).loc Cert.RefLnIdeal.main_arg0)) (m ((c.tc : Thread Cert.RefLnIdeal.nD Cert.RefLnIdeal.τ).loc Cert.RefLnIdeal.main_arg1)) (m ((c.tc : Thread Cert.RefLnIdeal.nD Cert.RefLnIdeal.τ).loc Cert.RefLnIdeal.main_arg2)) (m ((c.tc : Thread Cert.RefLnIdeal.nD Cert.RefLnIdeal.τ).loc Cert.RefLnIdeal.main_arg3))).2.2.1 = (fun _ => 1#1)
    ∧ (Cert.Pre_finite_ln.fn (F := Ideal) (m ((c.tc : Thread Cert.RefLnIdeal.nD Cert.RefLnIdeal.τ).loc Cert.RefLnIdeal.main_arg0)) (m ((c.tc : Thread Cert.RefLnIdeal.nD Cert.RefLnIdeal.τ).loc Cert.RefLnIdeal.main_arg1)) (m ((c.tc : Thread Cert.RefLnIdeal.nD Cert.RefLnIdeal.τ).loc Cert.RefLnIdeal.main_arg2)) (m ((c.tc : Thread Cert.RefLnIdeal.nD Cert.RefLnIdeal.τ).loc Cert.RefLnIdeal.main_arg3))).2.2.2 = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_RefLnFwdIdeal (m : (ℓ : Loc Cert.RefLnFwdIdeal.nD Cert.RefLnFwdIdeal.τ Cert.RefLnFwdIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_RefAdamNormIdeal (m : (ℓ : Loc Cert.RefAdamNormIdeal.nD Cert.RefAdamNormIdeal.τ Cert.RefAdamNormIdeal.sig) → Buf (Elt Ideal) ℓ) : Prop :=
  True

def Pre_AdamQk (m : (ℓ : Loc Cert.AdamQk.nD Cert.AdamQk.τ Cert.AdamQk.sig) → Buf (Elt Bits) ℓ) : Prop :=
  True

def Pre_AdamQkIdeal (m : (ℓ : Loc Cert.AdamQkIdeal.nD Cert.AdamQkIdeal.τ Cert.AdamQkIdeal.sig) → Buf (Elt Ideal) ℓ) : Prop :=
  True

def Pre_RefAdamQkIdeal (m : (ℓ : Loc Cert.RefAdamQkIdeal.nD Cert.RefAdamQkIdeal.τ Cert.RefAdamQkIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_RefAdamConvWIdeal (m : (ℓ : Loc Cert.RefAdamConvWIdeal.nD Cert.RefAdamConvWIdeal.τ Cert.RefAdamConvWIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_RefAdamConvBIdeal (m : (ℓ : Loc Cert.RefAdamConvBIdeal.nD Cert.RefAdamConvBIdeal.τ Cert.RefAdamConvBIdeal.sig) → Buf (Elt Ideal) ℓ) : Prop :=
  True

def Pre_AdamFfnW (m : (ℓ : Loc Cert.AdamFfnW.nD Cert.AdamFfnW.τ Cert.AdamFfnW.sig) → Buf (Elt Bits) ℓ) : Prop :=
  True

def Pre_AdamFfnWIdeal (m : (ℓ : Loc Cert.AdamFfnWIdeal.nD Cert.AdamFfnWIdeal.τ Cert.AdamFfnWIdeal.sig) → Buf (Elt Ideal) ℓ) : Prop :=
  True

def Pre_RefAdamFfnWIdeal (m : (ℓ : Loc Cert.RefAdamFfnWIdeal.nD Cert.RefAdamFfnWIdeal.τ Cert.RefAdamFfnWIdeal.sig) → Buf (Elt Ideal) ℓ) : Prop :=
  True

def Pre_AdamFfnB (m : (ℓ : Loc Cert.AdamFfnB.nD Cert.AdamFfnB.τ Cert.AdamFfnB.sig) → Buf (Elt Bits) ℓ) : Prop :=
  True

def Pre_AdamFfnBIdeal (m : (ℓ : Loc Cert.AdamFfnBIdeal.nD Cert.AdamFfnBIdeal.τ Cert.AdamFfnBIdeal.sig) → Buf (Elt Ideal) ℓ) : Prop :=
  True

def Pre_RefAdamFfnBIdeal (m : (ℓ : Loc Cert.RefAdamFfnBIdeal.nD Cert.RefAdamFfnBIdeal.τ Cert.RefAdamFfnBIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_RefAdamUpIdeal (m : (ℓ : Loc Cert.RefAdamUpIdeal.nD Cert.RefAdamUpIdeal.τ Cert.RefAdamUpIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_RefAdamDownIdeal (m : (ℓ : Loc Cert.RefAdamDownIdeal.nD Cert.RefAdamDownIdeal.τ Cert.RefAdamDownIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4)
      ∧ r.2.mem ((c.tc : Thread Cert.RefUpIdeal.nD Cert.RefUpIdeal.τ).loc Cert.RefUpIdeal.main_arg5) = m ((c.tc : Thread Cert.RefUpIdeal.nD Cert.RefUpIdeal.τ).loc Cert.RefUpIdeal.main_arg5))
      ∧ r.2.sem = fun _ => 0)

def quiescent_RefUpIdeal_pre_finite_up [hRefUpIdeal : Cert.RefUpIdeal.Facts] [hPre_finite_up : Cert.Pre_finite_up.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal_finite_up m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4)
      ∧ r.2.mem ((c.tc : Thread Cert.RefUpIdeal.nD Cert.RefUpIdeal.τ).loc Cert.RefUpIdeal.main_arg5) = m ((c.tc : Thread Cert.RefUpIdeal.nD Cert.RefUpIdeal.τ).loc Cert.RefUpIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_RefDwIdeal [hRefDwIdeal : Cert.RefDwIdeal.Facts] : Prop :=
  ∀ (m : (ℓ : Loc Cert.RefDwIdeal.nD Cert.RefDwIdeal.τ Cert.RefDwIdeal.sig) → Buf (Elt Ideal) ℓ) (g : Dev Cert.RefDwIdeal.nD → PrngReg), Pre_RefDwIdeal m →
    θ_run (Cert.RefDwIdeal.defs (F := Ideal)) (onTc (τ := Cert.RefDwIdeal.τ) (Cert.RefDwIdeal.main (F := Ideal))) ⟨m, fun _ => 0, g⟩ (fun r => (∀ c : Dev Cert.RefDwIdeal.nD,
      r.2.mem ((c.tc : Thread Cert.RefDwIdeal.nD Cert.RefDwIdeal.τ).loc Cert.RefDwIdeal.main_arg0) = m ((c.tc : Thread Cert.RefDwIdeal.nD Cert.RefDwIdeal.τ).loc Cert.RefDwIdeal.main_arg0)
      ∧ r.2.mem ((c.tc : Thread Cert.RefDwIdeal.nD Cert.RefDwIdeal.τ).loc Cert.RefDwIdeal.main_arg1) = m ((c.tc : Thread Cert.RefDwIdeal.nD Cert.RefDwIdeal.τ).loc Cert.RefDwIdeal.main_arg1)
      ∧ r.2.mem ((c.tc : Thread Cert.RefDwIdeal.nD Cert.RefDwIdeal.τ).loc Cert.RefDwIdeal.main_arg2) = m ((c.tc : Thread Cert.RefDwIdeal.nD Cert.RefDwIdeal.τ).loc Cert.RefDwIdeal.main_arg2)
      ∧ r.2.mem ((c.tc : Thread Cert.RefDwIdeal.nD Cert.RefDwIdeal.τ).loc Cert.RefDwIdeal.main_arg3) = m ((c.tc : Thread Cert.RefDwIdeal.nD Cert.RefDwIdeal.τ).loc Cert.RefDwIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_RefUpFwdIdeal [hRefUpFwdIdeal : Cert.RefUpFwdIdeal.Facts] : Prop :=
  ∀ (m : (ℓ : Loc Cert.RefUpFwdIdeal.nD Cert.RefUpFwdIdeal.τ Cert.RefUpFwdIdeal.sig) → Buf (Elt Ideal) ℓ) (g : Dev Cert.RefUpFwdIdeal.nD → PrngReg), Pre_RefUpFwdIdeal m →
    θ_run (Cert.RefUpFwdIdeal.defs (F := Ideal)) (onTc (τ := Cert.RefUpFwdIdeal.τ) (Cert.RefUpFwdIdeal.main (F := Ideal))) ⟨m, fun _ => 0, g⟩ (fun r => (∀ c : Dev Cert.RefUpFwdIdeal.nD,
      r.2.mem ((c.tc : Thread Cert.RefUpFwdIdeal.nD Cert.RefUpFwdIdeal.τ).loc Cert.RefUpFwdIdeal.main_arg0) = m ((c.tc : Thread Cert.RefUpFwdIdeal.nD Cert.RefUpFwdIdeal.τ).loc Cert.RefUpFwdIdeal.main_arg0)
      ∧ r.2.mem ((c.tc : Thread Cert.RefUpFwdIdeal.nD Cert.RefUpFwdIdeal.τ).loc Cert.RefUpFwdIdeal.main_arg1) = m ((c.tc : Thread Cert.RefUpFwdIdeal.nD Cert.RefUpFwdIdeal.τ).loc Cert.RefUpFwdIdeal.main_arg1)
      ∧ r.2.mem ((c.tc : Thread Cert.RefUpFwdIdeal.nD Cert.RefUpFwdIdeal.τ).loc Cert.RefUpFwdIdeal.main_arg2) = m ((c.tc : Thread Cert.RefUpFwdIdeal.nD Cert.RefUpFwdIdeal.τ).loc Cert.RefUpFwdIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_RefDownFwdIdeal [hRefDownFwdIdeal : Cert.RefDownFwdIdeal.Facts] : Prop :=
  ∀ (m : (ℓ : Loc Cert.RefDownFwdIdeal.nD Cert.RefDownFwdIdeal.τ Cert.RefDownFwdIdeal.sig) → Buf (Elt Ideal) ℓ) (g : Dev Cert.RefDownFwdIdeal.nD → PrngReg), Pre_RefDownFwdIdeal m →
    θ_run (Cert.RefDownFwdIdeal.defs (F := Ideal)) (onTc (τ := Cert.RefDownFwdIdeal.τ) (Cert.RefDownFwdIdeal.main (F := Ideal))) ⟨m, fun _ => 0, g⟩ (fun r => (∀ c : Dev Cert.RefDownFwdIdeal.nD,
      r.2.mem ((c.tc : Thread Cert.RefDownFwdIdeal.nD Cert.RefDownFwdIdeal.τ).loc Cert.RefDownFwdIdeal.main_arg0) = m ((c.tc : Thread Cert.RefDownFwdIdeal.nD Cert.RefDownFwdIdeal.τ).loc Cert.RefDownFwdIdeal.main_arg0)
      ∧ r.2.mem ((c.tc : Thread Cert.RefDownFwdIdeal.nD Cert.RefDownFwdIdeal.τ).loc Cert.RefDownFwdIdeal.main_arg1) = m ((c.tc : Thread Cert.RefDownFwdIdeal.nD Cert.RefDownFwdIdeal.τ).loc Cert.RefDownFwdIdeal.main_arg1)
      ∧ r.2.mem ((c.tc : Thread Cert.RefDownFwdIdeal.nD Cert.RefDownFwdIdeal.τ).loc Cert.RefDownFwdIdeal.main_arg2) = m ((c.tc : Thread Cert.RefDownFwdIdeal.nD Cert.RefDownFwdIdeal.τ).loc Cert.RefDownFwdIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7)
      ∧ r.2.mem ((c.tc : Thread Cert.RefInIdeal.nD Cert.RefInIdeal.τ).loc Cert.RefInIdeal.main_arg8) = m ((c.tc : Thread Cert.RefInIdeal.nD Cert.RefInIdeal.τ).loc Cert.RefInIdeal.main_arg8))
      ∧ r.2.sem = fun _ => 0)

def quiescent_RefInIdeal_pre_finite_in [hRefInIdeal : Cert.RefInIdeal.Facts] [hPre_finite_in : Cert.Pre_finite_in.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal_finite_in m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7)
      ∧ r.2.mem ((c.tc : Thread Cert.RefInIdeal.nD Cert.RefInIdeal.τ).loc Cert.RefInIdeal.main_arg8) = m ((c.tc : Thread Cert.RefInIdeal.nD Cert.RefInIdeal.τ).loc Cert.RefInIdeal.main_arg8))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3)
      ∧ r.2.mem ((c.tc : Thread Cert.InDw.nD Cert.InDw.τ).loc Cert.InDw.main_arg4) = m ((c.tc : Thread Cert.InDw.nD Cert.InDw.τ).loc Cert.InDw.main_arg4)
      ∧ r.2.mem ((c.tc : Thread Cert.InDw.nD Cert.InDw.τ).loc Cert.InDw.main_arg5) = m ((c.tc : Thread Cert.InDw.nD Cert.InDw.τ).loc Cert.InDw.main_arg5)
      ∧ r.2.mem ((c.tc : Thread Cert.InDw.nD Cert.InDw.τ).loc Cert.InDw.main_arg6) = m ((c.tc : Thread Cert.InDw.nD Cert.InDw.τ).loc Cert.InDw.main_arg6))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
      ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
      ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5)
      ∧ r.2.mem ((c.tc : Thread Cert.InDwIdeal.nD Cert.InDwIdeal.τ).loc Cert.InDwIdeal.main_arg6) = m ((c.tc : Thread Cert.InDwIdeal.nD Cert.InDwIdeal.τ).loc Cert.InDwIdeal.main_arg6))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1)
      ∧ r.2.mem ((c.tc : Thread Cert.RefInDwIdeal.nD Cert.RefInDwIdeal.τ).loc Cert.RefInDwIdeal.main_arg2) = m ((c.tc : Thread Cert.RefInDwIdeal.nD Cert.RefInDwIdeal.τ).loc Cert.RefInDwIdeal.main_arg2)
      ∧ r.2.mem ((c.tc : Thread Cert.RefInDwIdeal.nD Cert.RefInDwIdeal.τ).loc Cert.RefInDwIdeal.main_arg3) = m ((c.tc : Thread Cert.RefInDwIdeal.nD Cert.RefInDwIdeal.τ).loc Cert.RefInDwIdeal.main_arg3)
      ∧ r.2.mem ((c.tc : Thread Cert.RefInDwIdeal.nD Cert.RefInDwIdeal.τ).loc Cert.RefInDwIdeal.main_arg4) = m ((c.tc : Thread Cert.RefInDwIdeal.nD Cert.RefInDwIdeal.τ).loc Cert.RefInDwIdeal.main_arg4)
      ∧ r.2.mem ((c.tc : Thread Cert.RefInDwIdeal.nD Cert.RefInDwIdeal.τ).loc Cert.RefInDwIdeal.main_arg5) = m ((c.tc : Thread Cert.RefInDwIdeal.nD Cert.RefInDwIdeal.τ).loc Cert.RefInDwIdeal.main_arg5)
      ∧ r.2.mem ((c.tc : Thread Cert.RefInDwIdeal.nD Cert.RefInDwIdeal.τ).loc Cert.RefInDwIdeal.main_arg6) = m ((c.tc : Thread Cert.RefInDwIdeal.nD Cert.RefInDwIdeal.τ).loc Cert.RefInDwIdeal.main_arg6))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_RefInFwdIdeal [hRefInFwdIdeal : Cert.RefInFwdIdeal.Facts] : Prop :=
  ∀ (m : (ℓ : Loc Cert.RefInFwdIdeal.nD Cert.RefInFwdIdeal.τ Cert.RefInFwdIdeal.sig) → Buf (Elt Ideal) ℓ) (g : Dev Cert.RefInFwdIdeal.nD → PrngReg), Pre_RefInFwdIdeal m →
    θ_run (Cert.RefInFwdIdeal.defs (F := Ideal)) (onTc (τ := Cert.RefInFwdIdeal.τ) (Cert.RefInFwdIdeal.main (F := Ideal))) ⟨m, fun _ => 0, g⟩ (fun r => (∀ c : Dev Cert.RefInFwdIdeal.nD,
      r.2.mem ((c.tc : Thread Cert.RefInFwdIdeal.nD Cert.RefInFwdIdeal.τ).loc Cert.RefInFwdIdeal.main_arg0) = m ((c.tc : Thread Cert.RefInFwdIdeal.nD Cert.RefInFwdIdeal.τ).loc Cert.RefInFwdIdeal.main_arg0)
      ∧ r.2.mem ((c.tc : Thread Cert.RefInFwdIdeal.nD Cert.RefInFwdIdeal.τ).loc Cert.RefInFwdIdeal.main_arg1) = m ((c.tc : Thread Cert.RefInFwdIdeal.nD Cert.RefInFwdIdeal.τ).loc Cert.RefInFwdIdeal.main_arg1)
      ∧ r.2.mem ((c.tc : Thread Cert.RefInFwdIdeal.nD Cert.RefInFwdIdeal.τ).loc Cert.RefInFwdIdeal.main_arg2) = m ((c.tc : Thread Cert.RefInFwdIdeal.nD Cert.RefInFwdIdeal.τ).loc Cert.RefInFwdIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1)
      ∧ r.2.mem ((c.tc : Thread Cert.RefOutDwIdeal.nD Cert.RefOutDwIdeal.τ).loc Cert.RefOutDwIdeal.main_arg2) = m ((c.tc : Thread Cert.RefOutDwIdeal.nD Cert.RefOutDwIdeal.τ).loc Cert.RefOutDwIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_RefOutFwdIdeal [hRefOutFwdIdeal : Cert.RefOutFwdIdeal.Facts] : Prop :=
  ∀ (m : (ℓ : Loc Cert.RefOutFwdIdeal.nD Cert.RefOutFwdIdeal.τ Cert.RefOutFwdIdeal.sig) → Buf (Elt Ideal) ℓ) (g : Dev Cert.RefOutFwdIdeal.nD → PrngReg), Pre_RefOutFwdIdeal m →
    θ_run (Cert.RefOutFwdIdeal.defs (F := Ideal)) (onTc (τ := Cert.RefOutFwdIdeal.τ) (Cert.RefOutFwdIdeal.main (F := Ideal))) ⟨m, fun _ => 0, g⟩ (fun r => (∀ c : Dev Cert.RefOutFwdIdeal.nD,
      r.2.mem ((c.tc : Thread Cert.RefOutFwdIdeal.nD Cert.RefOutFwdIdeal.τ).loc Cert.RefOutFwdIdeal.main_arg0) = m ((c.tc : Thread Cert.RefOutFwdIdeal.nD Cert.RefOutFwdIdeal.τ).loc Cert.RefOutFwdIdeal.main_arg0)
      ∧ r.2.mem ((c.tc : Thread Cert.RefOutFwdIdeal.nD Cert.RefOutFwdIdeal.τ).loc Cert.RefOutFwdIdeal.main_arg1) = m ((c.tc : Thread Cert.RefOutFwdIdeal.nD Cert.RefOutFwdIdeal.τ).loc Cert.RefOutFwdIdeal.main_arg1)
      ∧ r.2.mem ((c.tc : Thread Cert.RefOutFwdIdeal.nD Cert.RefOutFwdIdeal.τ).loc Cert.RefOutFwdIdeal.main_arg2) = m ((c.tc : Thread Cert.RefOutFwdIdeal.nD Cert.RefOutFwdIdeal.τ).loc Cert.RefOutFwdIdeal.main_arg2)
      ∧ r.2.mem ((c.tc : Thread Cert.RefOutFwdIdeal.nD Cert.RefOutFwdIdeal.τ).loc Cert.RefOutFwdIdeal.main_arg3) = m ((c.tc : Thread Cert.RefOutFwdIdeal.nD Cert.RefOutFwdIdeal.τ).loc Cert.RefOutFwdIdeal.main_arg3))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnIdeal_pre_finite_ln [hLnIdeal : Cert.LnIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg), Pre_LnIdeal_finite_ln m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_RefLnIdeal [hRefLnIdeal : Cert.RefLnIdeal.Facts] : Prop :=
  ∀ (m : (ℓ : Loc Cert.RefLnIdeal.nD Cert.RefLnIdeal.τ Cert.RefLnIdeal.sig) → Buf (Elt Ideal) ℓ) (g : Dev Cert.RefLnIdeal.nD → PrngReg), Pre_RefLnIdeal m →
    θ_run (Cert.RefLnIdeal.defs (F := Ideal)) (onTc (τ := Cert.RefLnIdeal.τ) (Cert.RefLnIdeal.main (F := Ideal))) ⟨m, fun _ => 0, g⟩ (fun r => (∀ c : Dev Cert.RefLnIdeal.nD,
      r.2.mem ((c.tc : Thread Cert.RefLnIdeal.nD Cert.RefLnIdeal.τ).loc Cert.RefLnIdeal.main_arg0) = m ((c.tc : Thread Cert.RefLnIdeal.nD Cert.RefLnIdeal.τ).loc Cert.RefLnIdeal.main_arg0)
      ∧ r.2.mem ((c.tc : Thread Cert.RefLnIdeal.nD Cert.RefLnIdeal.τ).loc Cert.RefLnIdeal.main_arg1) = m ((c.tc : Thread Cert.RefLnIdeal.nD Cert.RefLnIdeal.τ).loc Cert.RefLnIdeal.main_arg1)
      ∧ r.2.mem ((c.tc : Thread Cert.RefLnIdeal.nD Cert.RefLnIdeal.τ).loc Cert.RefLnIdeal.main_arg2) = m ((c.tc : Thread Cert.RefLnIdeal.nD Cert.RefLnIdeal.τ).loc Cert.RefLnIdeal.main_arg2)
      ∧ r.2.mem ((c.tc : Thread Cert.RefLnIdeal.nD Cert.RefLnIdeal.τ).loc Cert.RefLnIdeal.main_arg3) = m ((c.tc : Thread Cert.RefLnIdeal.nD Cert.RefLnIdeal.τ).loc Cert.RefLnIdeal.main_arg3))
      ∧ r.2.sem = fun _ => 0)

def quiescent_RefLnIdeal_pre_finite_ln [hRefLnIdeal : Cert.RefLnIdeal.Facts] [hPre_finite_ln : Cert.Pre_finite_ln.Facts] : Prop :=
  ∀ (m : (ℓ : Loc Cert.RefLnIdeal.nD Cert.RefLnIdeal.τ Cert.RefLnIdeal.sig) → Buf (Elt Ideal) ℓ) (g : Dev Cert.RefLnIdeal.nD → PrngReg), Pre_RefLnIdeal_finite_ln m →
    θ_run (Cert.RefLnIdeal.defs (F := Ideal)) (onTc (τ := Cert.RefLnIdeal.τ) (Cert.RefLnIdeal.main (F := Ideal))) ⟨m, fun _ => 0, g⟩ (fun r => (∀ c : Dev Cert.RefLnIdeal.nD,
      r.2.mem ((c.tc : Thread Cert.RefLnIdeal.nD Cert.RefLnIdeal.τ).loc Cert.RefLnIdeal.main_arg0) = m ((c.tc : Thread Cert.RefLnIdeal.nD Cert.RefLnIdeal.τ).loc Cert.RefLnIdeal.main_arg0)
      ∧ r.2.mem ((c.tc : Thread Cert.RefLnIdeal.nD Cert.RefLnIdeal.τ).loc Cert.RefLnIdeal.main_arg1) = m ((c.tc : Thread Cert.RefLnIdeal.nD Cert.RefLnIdeal.τ).loc Cert.RefLnIdeal.main_arg1)
      ∧ r.2.mem ((c.tc : Thread Cert.RefLnIdeal.nD Cert.RefLnIdeal.τ).loc Cert.RefLnIdeal.main_arg2) = m ((c.tc : Thread Cert.RefLnIdeal.nD Cert.RefLnIdeal.τ).loc Cert.RefLnIdeal.main_arg2)
      ∧ r.2.mem ((c.tc : Thread Cert.RefLnIdeal.nD Cert.RefLnIdeal.τ).loc Cert.RefLnIdeal.main_arg3) = m ((c.tc : Thread Cert.RefLnIdeal.nD Cert.RefLnIdeal.τ).loc Cert.RefLnIdeal.main_arg3))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_RefLnFwdIdeal [hRefLnFwdIdeal : Cert.RefLnFwdIdeal.Facts] : Prop :=
  ∀ (m : (ℓ : Loc Cert.RefLnFwdIdeal.nD Cert.RefLnFwdIdeal.τ Cert.RefLnFwdIdeal.sig) → Buf (Elt Ideal) ℓ) (g : Dev Cert.RefLnFwdIdeal.nD → PrngReg), Pre_RefLnFwdIdeal m →
    θ_run (Cert.RefLnFwdIdeal.defs (F := Ideal)) (onTc (τ := Cert.RefLnFwdIdeal.τ) (Cert.RefLnFwdIdeal.main (F := Ideal))) ⟨m, fun _ => 0, g⟩ (fun r => (∀ c : Dev Cert.RefLnFwdIdeal.nD,
      r.2.mem ((c.tc : Thread Cert.RefLnFwdIdeal.nD Cert.RefLnFwdIdeal.τ).loc Cert.RefLnFwdIdeal.main_arg0) = m ((c.tc : Thread Cert.RefLnFwdIdeal.nD Cert.RefLnFwdIdeal.τ).loc Cert.RefLnFwdIdeal.main_arg0)
      ∧ r.2.mem ((c.tc : Thread Cert.RefLnFwdIdeal.nD Cert.RefLnFwdIdeal.τ).loc Cert.RefLnFwdIdeal.main_arg1) = m ((c.tc : Thread Cert.RefLnFwdIdeal.nD Cert.RefLnFwdIdeal.τ).loc Cert.RefLnFwdIdeal.main_arg1)
      ∧ r.2.mem ((c.tc : Thread Cert.RefLnFwdIdeal.nD Cert.RefLnFwdIdeal.τ).loc Cert.RefLnFwdIdeal.main_arg2) = m ((c.tc : Thread Cert.RefLnFwdIdeal.nD Cert.RefLnFwdIdeal.τ).loc Cert.RefLnFwdIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_RefAdamNormIdeal [hRefAdamNormIdeal : Cert.RefAdamNormIdeal.Facts] : Prop :=
  ∀ (m : (ℓ : Loc Cert.RefAdamNormIdeal.nD Cert.RefAdamNormIdeal.τ Cert.RefAdamNormIdeal.sig) → Buf (Elt Ideal) ℓ) (g : Dev Cert.RefAdamNormIdeal.nD → PrngReg), Pre_RefAdamNormIdeal m →
    θ_run (Cert.RefAdamNormIdeal.defs (F := Ideal)) (onTc (τ := Cert.RefAdamNormIdeal.τ) (Cert.RefAdamNormIdeal.main (F := Ideal))) ⟨m, fun _ => 0, g⟩ (fun r => (∀ c : Dev Cert.RefAdamNormIdeal.nD,
      r.2.mem ((c.tc : Thread Cert.RefAdamNormIdeal.nD Cert.RefAdamNormIdeal.τ).loc Cert.RefAdamNormIdeal.main_arg0) = m ((c.tc : Thread Cert.RefAdamNormIdeal.nD Cert.RefAdamNormIdeal.τ).loc Cert.RefAdamNormIdeal.main_arg0)
      ∧ r.2.mem ((c.tc : Thread Cert.RefAdamNormIdeal.nD Cert.RefAdamNormIdeal.τ).loc Cert.RefAdamNormIdeal.main_arg1) = m ((c.tc : Thread Cert.RefAdamNormIdeal.nD Cert.RefAdamNormIdeal.τ).loc Cert.RefAdamNormIdeal.main_arg1)
      ∧ r.2.mem ((c.tc : Thread Cert.RefAdamNormIdeal.nD Cert.RefAdamNormIdeal.τ).loc Cert.RefAdamNormIdeal.main_arg2) = m ((c.tc : Thread Cert.RefAdamNormIdeal.nD Cert.RefAdamNormIdeal.τ).loc Cert.RefAdamNormIdeal.main_arg2)
      ∧ r.2.mem ((c.tc : Thread Cert.RefAdamNormIdeal.nD Cert.RefAdamNormIdeal.τ).loc Cert.RefAdamNormIdeal.main_arg3) = m ((c.tc : Thread Cert.RefAdamNormIdeal.nD Cert.RefAdamNormIdeal.τ).loc Cert.RefAdamNormIdeal.main_arg3))
      ∧ r.2.sem = fun _ => 0)

def quiescent_AdamQk [hAdamQk : Cert.AdamQk.Facts] : Prop :=
  ∀ (m : (ℓ : Loc Cert.AdamQk.nD Cert.AdamQk.τ Cert.AdamQk.sig) → Buf (Elt Bits) ℓ) (g : Dev Cert.AdamQk.nD → PrngReg), Pre_AdamQk m →
    θ_run (Cert.AdamQk.defs (F := Bits)) (onTc (τ := Cert.AdamQk.τ) (Cert.AdamQk.main (F := Bits))) ⟨m, fun _ => 0, g⟩ (fun r => (∀ c : Dev Cert.AdamQk.nD,
      r.2.mem ((c.tc : Thread Cert.AdamQk.nD Cert.AdamQk.τ).loc Cert.AdamQk.main_arg0) = m ((c.tc : Thread Cert.AdamQk.nD Cert.AdamQk.τ).loc Cert.AdamQk.main_arg0)
      ∧ r.2.mem ((c.tc : Thread Cert.AdamQk.nD Cert.AdamQk.τ).loc Cert.AdamQk.main_arg1) = m ((c.tc : Thread Cert.AdamQk.nD Cert.AdamQk.τ).loc Cert.AdamQk.main_arg1)
      ∧ r.2.mem ((c.tc : Thread Cert.AdamQk.nD Cert.AdamQk.τ).loc Cert.AdamQk.main_arg2) = m ((c.tc : Thread Cert.AdamQk.nD Cert.AdamQk.τ).loc Cert.AdamQk.main_arg2)
      ∧ r.2.mem ((c.tc : Thread Cert.AdamQk.nD Cert.AdamQk.τ).loc Cert.AdamQk.main_arg3) = m ((c.tc : Thread Cert.AdamQk.nD Cert.AdamQk.τ).loc Cert.AdamQk.main_arg3))
      ∧ r.2.sem = fun _ => 0)

def quiescent_AdamQkIdeal [hAdamQkIdeal : Cert.AdamQkIdeal.Facts] : Prop :=
  ∀ (m : (ℓ : Loc Cert.AdamQkIdeal.nD Cert.AdamQkIdeal.τ Cert.AdamQkIdeal.sig) → Buf (Elt Ideal) ℓ) (g : Dev Cert.AdamQkIdeal.nD → PrngReg), Pre_AdamQkIdeal m →
    θ_run (Cert.AdamQkIdeal.defs (F := Ideal)) (onTc (τ := Cert.AdamQkIdeal.τ) (Cert.AdamQkIdeal.main (F := Ideal))) ⟨m, fun _ => 0, g⟩ (fun r => (∀ c : Dev Cert.AdamQkIdeal.nD,
      r.2.mem ((c.tc : Thread Cert.AdamQkIdeal.nD Cert.AdamQkIdeal.τ).loc Cert.AdamQkIdeal.main_arg0) = m ((c.tc : Thread Cert.AdamQkIdeal.nD Cert.AdamQkIdeal.τ).loc Cert.AdamQkIdeal.main_arg0)
      ∧ r.2.mem ((c.tc : Thread Cert.AdamQkIdeal.nD Cert.AdamQkIdeal.τ).loc Cert.AdamQkIdeal.main_arg1) = m ((c.tc : Thread Cert.AdamQkIdeal.nD Cert.AdamQkIdeal.τ).loc Cert.AdamQkIdeal.main_arg1)
      ∧ r.2.mem ((c.tc : Thread Cert.AdamQkIdeal.nD Cert.AdamQkIdeal.τ).loc Cert.AdamQkIdeal.main_arg2) = m ((c.tc : Thread Cert.AdamQkIdeal.nD Cert.AdamQkIdeal.τ).loc Cert.AdamQkIdeal.main_arg2)
      ∧ r.2.mem ((c.tc : Thread Cert.AdamQkIdeal.nD Cert.AdamQkIdeal.τ).loc Cert.AdamQkIdeal.main_arg3) = m ((c.tc : Thread Cert.AdamQkIdeal.nD Cert.AdamQkIdeal.τ).loc Cert.AdamQkIdeal.main_arg3))
      ∧ r.2.sem = fun _ => 0)

def quiescent_RefAdamQkIdeal [hRefAdamQkIdeal : Cert.RefAdamQkIdeal.Facts] : Prop :=
  ∀ (m : (ℓ : Loc Cert.RefAdamQkIdeal.nD Cert.RefAdamQkIdeal.τ Cert.RefAdamQkIdeal.sig) → Buf (Elt Ideal) ℓ) (g : Dev Cert.RefAdamQkIdeal.nD → PrngReg), Pre_RefAdamQkIdeal m →
    θ_run (Cert.RefAdamQkIdeal.defs (F := Ideal)) (onTc (τ := Cert.RefAdamQkIdeal.τ) (Cert.RefAdamQkIdeal.main (F := Ideal))) ⟨m, fun _ => 0, g⟩ (fun r => (∀ c : Dev Cert.RefAdamQkIdeal.nD,
      r.2.mem ((c.tc : Thread Cert.RefAdamQkIdeal.nD Cert.RefAdamQkIdeal.τ).loc Cert.RefAdamQkIdeal.main_arg0) = m ((c.tc : Thread Cert.RefAdamQkIdeal.nD Cert.RefAdamQkIdeal.τ).loc Cert.RefAdamQkIdeal.main_arg0)
      ∧ r.2.mem ((c.tc : Thread Cert.RefAdamQkIdeal.nD Cert.RefAdamQkIdeal.τ).loc Cert.RefAdamQkIdeal.main_arg1) = m ((c.tc : Thread Cert.RefAdamQkIdeal.nD Cert.RefAdamQkIdeal.τ).loc Cert.RefAdamQkIdeal.main_arg1)
      ∧ r.2.mem ((c.tc : Thread Cert.RefAdamQkIdeal.nD Cert.RefAdamQkIdeal.τ).loc Cert.RefAdamQkIdeal.main_arg2) = m ((c.tc : Thread Cert.RefAdamQkIdeal.nD Cert.RefAdamQkIdeal.τ).loc Cert.RefAdamQkIdeal.main_arg2)
      ∧ r.2.mem ((c.tc : Thread Cert.RefAdamQkIdeal.nD Cert.RefAdamQkIdeal.τ).loc Cert.RefAdamQkIdeal.main_arg3) = m ((c.tc : Thread Cert.RefAdamQkIdeal.nD Cert.RefAdamQkIdeal.τ).loc Cert.RefAdamQkIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_RefAdamConvWIdeal [hRefAdamConvWIdeal : Cert.RefAdamConvWIdeal.Facts] : Prop :=
  ∀ (m : (ℓ : Loc Cert.RefAdamConvWIdeal.nD Cert.RefAdamConvWIdeal.τ Cert.RefAdamConvWIdeal.sig) → Buf (Elt Ideal) ℓ) (g : Dev Cert.RefAdamConvWIdeal.nD → PrngReg), Pre_RefAdamConvWIdeal m →
    θ_run (Cert.RefAdamConvWIdeal.defs (F := Ideal)) (onTc (τ := Cert.RefAdamConvWIdeal.τ) (Cert.RefAdamConvWIdeal.main (F := Ideal))) ⟨m, fun _ => 0, g⟩ (fun r => (∀ c : Dev Cert.RefAdamConvWIdeal.nD,
      r.2.mem ((c.tc : Thread Cert.RefAdamConvWIdeal.nD Cert.RefAdamConvWIdeal.τ).loc Cert.RefAdamConvWIdeal.main_arg0) = m ((c.tc : Thread Cert.RefAdamConvWIdeal.nD Cert.RefAdamConvWIdeal.τ).loc Cert.RefAdamConvWIdeal.main_arg0)
      ∧ r.2.mem ((c.tc : Thread Cert.RefAdamConvWIdeal.nD Cert.RefAdamConvWIdeal.τ).loc Cert.RefAdamConvWIdeal.main_arg1) = m ((c.tc : Thread Cert.RefAdamConvWIdeal.nD Cert.RefAdamConvWIdeal.τ).loc Cert.RefAdamConvWIdeal.main_arg1)
      ∧ r.2.mem ((c.tc : Thread Cert.RefAdamConvWIdeal.nD Cert.RefAdamConvWIdeal.τ).loc Cert.RefAdamConvWIdeal.main_arg2) = m ((c.tc : Thread Cert.RefAdamConvWIdeal.nD Cert.RefAdamConvWIdeal.τ).loc Cert.RefAdamConvWIdeal.main_arg2)
      ∧ r.2.mem ((c.tc : Thread Cert.RefAdamConvWIdeal.nD Cert.RefAdamConvWIdeal.τ).loc Cert.RefAdamConvWIdeal.main_arg3) = m ((c.tc : Thread Cert.RefAdamConvWIdeal.nD Cert.RefAdamConvWIdeal.τ).loc Cert.RefAdamConvWIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_RefAdamConvBIdeal [hRefAdamConvBIdeal : Cert.RefAdamConvBIdeal.Facts] : Prop :=
  ∀ (m : (ℓ : Loc Cert.RefAdamConvBIdeal.nD Cert.RefAdamConvBIdeal.τ Cert.RefAdamConvBIdeal.sig) → Buf (Elt Ideal) ℓ) (g : Dev Cert.RefAdamConvBIdeal.nD → PrngReg), Pre_RefAdamConvBIdeal m →
    θ_run (Cert.RefAdamConvBIdeal.defs (F := Ideal)) (onTc (τ := Cert.RefAdamConvBIdeal.τ) (Cert.RefAdamConvBIdeal.main (F := Ideal))) ⟨m, fun _ => 0, g⟩ (fun r => (∀ c : Dev Cert.RefAdamConvBIdeal.nD,
      r.2.mem ((c.tc : Thread Cert.RefAdamConvBIdeal.nD Cert.RefAdamConvBIdeal.τ).loc Cert.RefAdamConvBIdeal.main_arg0) = m ((c.tc : Thread Cert.RefAdamConvBIdeal.nD Cert.RefAdamConvBIdeal.τ).loc Cert.RefAdamConvBIdeal.main_arg0)
      ∧ r.2.mem ((c.tc : Thread Cert.RefAdamConvBIdeal.nD Cert.RefAdamConvBIdeal.τ).loc Cert.RefAdamConvBIdeal.main_arg1) = m ((c.tc : Thread Cert.RefAdamConvBIdeal.nD Cert.RefAdamConvBIdeal.τ).loc Cert.RefAdamConvBIdeal.main_arg1)
      ∧ r.2.mem ((c.tc : Thread Cert.RefAdamConvBIdeal.nD Cert.RefAdamConvBIdeal.τ).loc Cert.RefAdamConvBIdeal.main_arg2) = m ((c.tc : Thread Cert.RefAdamConvBIdeal.nD Cert.RefAdamConvBIdeal.τ).loc Cert.RefAdamConvBIdeal.main_arg2)
      ∧ r.2.mem ((c.tc : Thread Cert.RefAdamConvBIdeal.nD Cert.RefAdamConvBIdeal.τ).loc Cert.RefAdamConvBIdeal.main_arg3) = m ((c.tc : Thread Cert.RefAdamConvBIdeal.nD Cert.RefAdamConvBIdeal.τ).loc Cert.RefAdamConvBIdeal.main_arg3))
      ∧ r.2.sem = fun _ => 0)

def quiescent_AdamFfnW [hAdamFfnW : Cert.AdamFfnW.Facts] : Prop :=
  ∀ (m : (ℓ : Loc Cert.AdamFfnW.nD Cert.AdamFfnW.τ Cert.AdamFfnW.sig) → Buf (Elt Bits) ℓ) (g : Dev Cert.AdamFfnW.nD → PrngReg), Pre_AdamFfnW m →
    θ_run (Cert.AdamFfnW.defs (F := Bits)) (onTc (τ := Cert.AdamFfnW.τ) (Cert.AdamFfnW.main (F := Bits))) ⟨m, fun _ => 0, g⟩ (fun r => (∀ c : Dev Cert.AdamFfnW.nD,
      r.2.mem ((c.tc : Thread Cert.AdamFfnW.nD Cert.AdamFfnW.τ).loc Cert.AdamFfnW.main_arg0) = m ((c.tc : Thread Cert.AdamFfnW.nD Cert.AdamFfnW.τ).loc Cert.AdamFfnW.main_arg0)
      ∧ r.2.mem ((c.tc : Thread Cert.AdamFfnW.nD Cert.AdamFfnW.τ).loc Cert.AdamFfnW.main_arg1) = m ((c.tc : Thread Cert.AdamFfnW.nD Cert.AdamFfnW.τ).loc Cert.AdamFfnW.main_arg1)
      ∧ r.2.mem ((c.tc : Thread Cert.AdamFfnW.nD Cert.AdamFfnW.τ).loc Cert.AdamFfnW.main_arg2) = m ((c.tc : Thread Cert.AdamFfnW.nD Cert.AdamFfnW.τ).loc Cert.AdamFfnW.main_arg2)
      ∧ r.2.mem ((c.tc : Thread Cert.AdamFfnW.nD Cert.AdamFfnW.τ).loc Cert.AdamFfnW.main_arg3) = m ((c.tc : Thread Cert.AdamFfnW.nD Cert.AdamFfnW.τ).loc Cert.AdamFfnW.main_arg3))
      ∧ r.2.sem = fun _ => 0)

def quiescent_AdamFfnWIdeal [hAdamFfnWIdeal : Cert.AdamFfnWIdeal.Facts] : Prop :=
  ∀ (m : (ℓ : Loc Cert.AdamFfnWIdeal.nD Cert.AdamFfnWIdeal.τ Cert.AdamFfnWIdeal.sig) → Buf (Elt Ideal) ℓ) (g : Dev Cert.AdamFfnWIdeal.nD → PrngReg), Pre_AdamFfnWIdeal m →
    θ_run (Cert.AdamFfnWIdeal.defs (F := Ideal)) (onTc (τ := Cert.AdamFfnWIdeal.τ) (Cert.AdamFfnWIdeal.main (F := Ideal))) ⟨m, fun _ => 0, g⟩ (fun r => (∀ c : Dev Cert.AdamFfnWIdeal.nD,
      r.2.mem ((c.tc : Thread Cert.AdamFfnWIdeal.nD Cert.AdamFfnWIdeal.τ).loc Cert.AdamFfnWIdeal.main_arg0) = m ((c.tc : Thread Cert.AdamFfnWIdeal.nD Cert.AdamFfnWIdeal.τ).loc Cert.AdamFfnWIdeal.main_arg0)
      ∧ r.2.mem ((c.tc : Thread Cert.AdamFfnWIdeal.nD Cert.AdamFfnWIdeal.τ).loc Cert.AdamFfnWIdeal.main_arg1) = m ((c.tc : Thread Cert.AdamFfnWIdeal.nD Cert.AdamFfnWIdeal.τ).loc Cert.AdamFfnWIdeal.main_arg1)
      ∧ r.2.mem ((c.tc : Thread Cert.AdamFfnWIdeal.nD Cert.AdamFfnWIdeal.τ).loc Cert.AdamFfnWIdeal.main_arg2) = m ((c.tc : Thread Cert.AdamFfnWIdeal.nD Cert.AdamFfnWIdeal.τ).loc Cert.AdamFfnWIdeal.main_arg2)
      ∧ r.2.mem ((c.tc : Thread Cert.AdamFfnWIdeal.nD Cert.AdamFfnWIdeal.τ).loc Cert.AdamFfnWIdeal.main_arg3) = m ((c.tc : Thread Cert.AdamFfnWIdeal.nD Cert.AdamFfnWIdeal.τ).loc Cert.AdamFfnWIdeal.main_arg3))
      ∧ r.2.sem = fun _ => 0)

def quiescent_RefAdamFfnWIdeal [hRefAdamFfnWIdeal : Cert.RefAdamFfnWIdeal.Facts] : Prop :=
  ∀ (m : (ℓ : Loc Cert.RefAdamFfnWIdeal.nD Cert.RefAdamFfnWIdeal.τ Cert.RefAdamFfnWIdeal.sig) → Buf (Elt Ideal) ℓ) (g : Dev Cert.RefAdamFfnWIdeal.nD → PrngReg), Pre_RefAdamFfnWIdeal m →
    θ_run (Cert.RefAdamFfnWIdeal.defs (F := Ideal)) (onTc (τ := Cert.RefAdamFfnWIdeal.τ) (Cert.RefAdamFfnWIdeal.main (F := Ideal))) ⟨m, fun _ => 0, g⟩ (fun r => (∀ c : Dev Cert.RefAdamFfnWIdeal.nD,
      r.2.mem ((c.tc : Thread Cert.RefAdamFfnWIdeal.nD Cert.RefAdamFfnWIdeal.τ).loc Cert.RefAdamFfnWIdeal.main_arg0) = m ((c.tc : Thread Cert.RefAdamFfnWIdeal.nD Cert.RefAdamFfnWIdeal.τ).loc Cert.RefAdamFfnWIdeal.main_arg0)
      ∧ r.2.mem ((c.tc : Thread Cert.RefAdamFfnWIdeal.nD Cert.RefAdamFfnWIdeal.τ).loc Cert.RefAdamFfnWIdeal.main_arg1) = m ((c.tc : Thread Cert.RefAdamFfnWIdeal.nD Cert.RefAdamFfnWIdeal.τ).loc Cert.RefAdamFfnWIdeal.main_arg1)
      ∧ r.2.mem ((c.tc : Thread Cert.RefAdamFfnWIdeal.nD Cert.RefAdamFfnWIdeal.τ).loc Cert.RefAdamFfnWIdeal.main_arg2) = m ((c.tc : Thread Cert.RefAdamFfnWIdeal.nD Cert.RefAdamFfnWIdeal.τ).loc Cert.RefAdamFfnWIdeal.main_arg2)
      ∧ r.2.mem ((c.tc : Thread Cert.RefAdamFfnWIdeal.nD Cert.RefAdamFfnWIdeal.τ).loc Cert.RefAdamFfnWIdeal.main_arg3) = m ((c.tc : Thread Cert.RefAdamFfnWIdeal.nD Cert.RefAdamFfnWIdeal.τ).loc Cert.RefAdamFfnWIdeal.main_arg3))
      ∧ r.2.sem = fun _ => 0)

def quiescent_AdamFfnB [hAdamFfnB : Cert.AdamFfnB.Facts] : Prop :=
  ∀ (m : (ℓ : Loc Cert.AdamFfnB.nD Cert.AdamFfnB.τ Cert.AdamFfnB.sig) → Buf (Elt Bits) ℓ) (g : Dev Cert.AdamFfnB.nD → PrngReg), Pre_AdamFfnB m →
    θ_run (Cert.AdamFfnB.defs (F := Bits)) (onTc (τ := Cert.AdamFfnB.τ) (Cert.AdamFfnB.main (F := Bits))) ⟨m, fun _ => 0, g⟩ (fun r => (∀ c : Dev Cert.AdamFfnB.nD,
      r.2.mem ((c.tc : Thread Cert.AdamFfnB.nD Cert.AdamFfnB.τ).loc Cert.AdamFfnB.main_arg0) = m ((c.tc : Thread Cert.AdamFfnB.nD Cert.AdamFfnB.τ).loc Cert.AdamFfnB.main_arg0)
      ∧ r.2.mem ((c.tc : Thread Cert.AdamFfnB.nD Cert.AdamFfnB.τ).loc Cert.AdamFfnB.main_arg1) = m ((c.tc : Thread Cert.AdamFfnB.nD Cert.AdamFfnB.τ).loc Cert.AdamFfnB.main_arg1)
      ∧ r.2.mem ((c.tc : Thread Cert.AdamFfnB.nD Cert.AdamFfnB.τ).loc Cert.AdamFfnB.main_arg2) = m ((c.tc : Thread Cert.AdamFfnB.nD Cert.AdamFfnB.τ).loc Cert.AdamFfnB.main_arg2)
      ∧ r.2.mem ((c.tc : Thread Cert.AdamFfnB.nD Cert.AdamFfnB.τ).loc Cert.AdamFfnB.main_arg3) = m ((c.tc : Thread Cert.AdamFfnB.nD Cert.AdamFfnB.τ).loc Cert.AdamFfnB.main_arg3))
      ∧ r.2.sem = fun _ => 0)

def quiescent_AdamFfnBIdeal [hAdamFfnBIdeal : Cert.AdamFfnBIdeal.Facts] : Prop :=
  ∀ (m : (ℓ : Loc Cert.AdamFfnBIdeal.nD Cert.AdamFfnBIdeal.τ Cert.AdamFfnBIdeal.sig) → Buf (Elt Ideal) ℓ) (g : Dev Cert.AdamFfnBIdeal.nD → PrngReg), Pre_AdamFfnBIdeal m →
    θ_run (Cert.AdamFfnBIdeal.defs (F := Ideal)) (onTc (τ := Cert.AdamFfnBIdeal.τ) (Cert.AdamFfnBIdeal.main (F := Ideal))) ⟨m, fun _ => 0, g⟩ (fun r => (∀ c : Dev Cert.AdamFfnBIdeal.nD,
      r.2.mem ((c.tc : Thread Cert.AdamFfnBIdeal.nD Cert.AdamFfnBIdeal.τ).loc Cert.AdamFfnBIdeal.main_arg0) = m ((c.tc : Thread Cert.AdamFfnBIdeal.nD Cert.AdamFfnBIdeal.τ).loc Cert.AdamFfnBIdeal.main_arg0)
      ∧ r.2.mem ((c.tc : Thread Cert.AdamFfnBIdeal.nD Cert.AdamFfnBIdeal.τ).loc Cert.AdamFfnBIdeal.main_arg1) = m ((c.tc : Thread Cert.AdamFfnBIdeal.nD Cert.AdamFfnBIdeal.τ).loc Cert.AdamFfnBIdeal.main_arg1)
      ∧ r.2.mem ((c.tc : Thread Cert.AdamFfnBIdeal.nD Cert.AdamFfnBIdeal.τ).loc Cert.AdamFfnBIdeal.main_arg2) = m ((c.tc : Thread Cert.AdamFfnBIdeal.nD Cert.AdamFfnBIdeal.τ).loc Cert.AdamFfnBIdeal.main_arg2)
      ∧ r.2.mem ((c.tc : Thread Cert.AdamFfnBIdeal.nD Cert.AdamFfnBIdeal.τ).loc Cert.AdamFfnBIdeal.main_arg3) = m ((c.tc : Thread Cert.AdamFfnBIdeal.nD Cert.AdamFfnBIdeal.τ).loc Cert.AdamFfnBIdeal.main_arg3))
      ∧ r.2.sem = fun _ => 0)

def quiescent_RefAdamFfnBIdeal [hRefAdamFfnBIdeal : Cert.RefAdamFfnBIdeal.Facts] : Prop :=
  ∀ (m : (ℓ : Loc Cert.RefAdamFfnBIdeal.nD Cert.RefAdamFfnBIdeal.τ Cert.RefAdamFfnBIdeal.sig) → Buf (Elt Ideal) ℓ) (g : Dev Cert.RefAdamFfnBIdeal.nD → PrngReg), Pre_RefAdamFfnBIdeal m →
    θ_run (Cert.RefAdamFfnBIdeal.defs (F := Ideal)) (onTc (τ := Cert.RefAdamFfnBIdeal.τ) (Cert.RefAdamFfnBIdeal.main (F := Ideal))) ⟨m, fun _ => 0, g⟩ (fun r => (∀ c : Dev Cert.RefAdamFfnBIdeal.nD,
      r.2.mem ((c.tc : Thread Cert.RefAdamFfnBIdeal.nD Cert.RefAdamFfnBIdeal.τ).loc Cert.RefAdamFfnBIdeal.main_arg0) = m ((c.tc : Thread Cert.RefAdamFfnBIdeal.nD Cert.RefAdamFfnBIdeal.τ).loc Cert.RefAdamFfnBIdeal.main_arg0)
      ∧ r.2.mem ((c.tc : Thread Cert.RefAdamFfnBIdeal.nD Cert.RefAdamFfnBIdeal.τ).loc Cert.RefAdamFfnBIdeal.main_arg1) = m ((c.tc : Thread Cert.RefAdamFfnBIdeal.nD Cert.RefAdamFfnBIdeal.τ).loc Cert.RefAdamFfnBIdeal.main_arg1)
      ∧ r.2.mem ((c.tc : Thread Cert.RefAdamFfnBIdeal.nD Cert.RefAdamFfnBIdeal.τ).loc Cert.RefAdamFfnBIdeal.main_arg2) = m ((c.tc : Thread Cert.RefAdamFfnBIdeal.nD Cert.RefAdamFfnBIdeal.τ).loc Cert.RefAdamFfnBIdeal.main_arg2)
      ∧ r.2.mem ((c.tc : Thread Cert.RefAdamFfnBIdeal.nD Cert.RefAdamFfnBIdeal.τ).loc Cert.RefAdamFfnBIdeal.main_arg3) = m ((c.tc : Thread Cert.RefAdamFfnBIdeal.nD Cert.RefAdamFfnBIdeal.τ).loc Cert.RefAdamFfnBIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3)
      ∧ r.2.mem ((c.tc : Thread Cert.RefAdamInIdeal.nD Cert.RefAdamInIdeal.τ).loc Cert.RefAdamInIdeal.main_arg4) = m ((c.tc : Thread Cert.RefAdamInIdeal.nD Cert.RefAdamInIdeal.τ).loc Cert.RefAdamInIdeal.main_arg4)
      ∧ r.2.mem ((c.tc : Thread Cert.RefAdamInIdeal.nD Cert.RefAdamInIdeal.τ).loc Cert.RefAdamInIdeal.main_arg5) = m ((c.tc : Thread Cert.RefAdamInIdeal.nD Cert.RefAdamInIdeal.τ).loc Cert.RefAdamInIdeal.main_arg5)
      ∧ r.2.mem ((c.tc : Thread Cert.RefAdamInIdeal.nD Cert.RefAdamInIdeal.τ).loc Cert.RefAdamInIdeal.main_arg6) = m ((c.tc : Thread Cert.RefAdamInIdeal.nD Cert.RefAdamInIdeal.τ).loc Cert.RefAdamInIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3)
      ∧ r.2.mem ((c.tc : Thread Cert.RefAdamOutIdeal.nD Cert.RefAdamOutIdeal.τ).loc Cert.RefAdamOutIdeal.main_arg4) = m ((c.tc : Thread Cert.RefAdamOutIdeal.nD Cert.RefAdamOutIdeal.τ).loc Cert.RefAdamOutIdeal.main_arg4)
      ∧ r.2.mem ((c.tc : Thread Cert.RefAdamOutIdeal.nD Cert.RefAdamOutIdeal.τ).loc Cert.RefAdamOutIdeal.main_arg5) = m ((c.tc : Thread Cert.RefAdamOutIdeal.nD Cert.RefAdamOutIdeal.τ).loc Cert.RefAdamOutIdeal.main_arg5)
      ∧ r.2.mem ((c.tc : Thread Cert.RefAdamOutIdeal.nD Cert.RefAdamOutIdeal.τ).loc Cert.RefAdamOutIdeal.main_arg6) = m ((c.tc : Thread Cert.RefAdamOutIdeal.nD Cert.RefAdamOutIdeal.τ).loc Cert.RefAdamOutIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_RefAdamUpIdeal [hRefAdamUpIdeal : Cert.RefAdamUpIdeal.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3)
      ∧ r.2.mem ((c.tc : Thread Cert.RefAdamUpIdeal.nD Cert.RefAdamUpIdeal.τ).loc Cert.RefAdamUpIdeal.main_arg4) = m ((c.tc : Thread Cert.RefAdamUpIdeal.nD Cert.RefAdamUpIdeal.τ).loc Cert.RefAdamUpIdeal.main_arg4)
      ∧ r.2.mem ((c.tc : Thread Cert.RefAdamUpIdeal.nD Cert.RefAdamUpIdeal.τ).loc Cert.RefAdamUpIdeal.main_arg5) = m ((c.tc : Thread Cert.RefAdamUpIdeal.nD Cert.RefAdamUpIdeal.τ).loc Cert.RefAdamUpIdeal.main_arg5)
      ∧ r.2.mem ((c.tc : Thread Cert.RefAdamUpIdeal.nD Cert.RefAdamUpIdeal.τ).loc Cert.RefAdamUpIdeal.main_arg6) = m ((c.tc : Thread Cert.RefAdamUpIdeal.nD Cert.RefAdamUpIdeal.τ).loc Cert.RefAdamUpIdeal.main_arg6))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ r.2.sem = fun _ => 0)

def quiescent_RefAdamDownIdeal [hRefAdamDownIdeal : Cert.RefAdamDownIdeal.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3)
      ∧ r.2.mem ((c.tc : Thread Cert.RefAdamDownIdeal.nD Cert.RefAdamDownIdeal.τ).loc Cert.RefAdamDownIdeal.main_arg4) = m ((c.tc : Thread Cert.RefAdamDownIdeal.nD Cert.RefAdamDownIdeal.τ).loc Cert.RefAdamDownIdeal.main_arg4)
      ∧ r.2.mem ((c.tc : Thread Cert.RefAdamDownIdeal.nD Cert.RefAdamDownIdeal.τ).loc Cert.RefAdamDownIdeal.main_arg5) = m ((c.tc : Thread Cert.RefAdamDownIdeal.nD Cert.RefAdamDownIdeal.τ).loc Cert.RefAdamDownIdeal.main_arg5)
      ∧ r.2.mem ((c.tc : Thread Cert.RefAdamDownIdeal.nD Cert.RefAdamDownIdeal.τ).loc Cert.RefAdamDownIdeal.main_arg6) = m ((c.tc : Thread Cert.RefAdamDownIdeal.nD Cert.RefAdamDownIdeal.τ).loc Cert.RefAdamDownIdeal.main_arg6))
      ∧ r.2.sem = fun _ => 0)

def preserves_Kernel_KernelIdeal : Prop :=
  True

def preserves_Up_UpIdeal : Prop :=
  True

def algebraic_UpIdeal_RefUpIdeal_pre_finite_up [hUpIdeal : Cert.UpIdeal.Facts] [hRefUpIdeal : Cert.RefUpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal_finite_up m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)
      ∧ m' ((c.tc : Thread Cert.RefUpIdeal.nD Cert.RefUpIdeal.τ).loc Cert.RefUpIdeal.main_arg3) = m ((c.tc : Thread Cert.UpIdeal.nD Cert.UpIdeal.τ).loc Cert.UpIdeal.main_arg3)
      ∧ m' ((c.tc : Thread Cert.RefUpIdeal.nD Cert.RefUpIdeal.τ).loc Cert.RefUpIdeal.main_arg4) = m ((c.tc : Thread Cert.UpIdeal.nD Cert.UpIdeal.τ).loc Cert.UpIdeal.main_arg4)
      ∧ m' ((c.tc : Thread Cert.RefUpIdeal.nD Cert.RefUpIdeal.τ).loc Cert.RefUpIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v39) = v0 c
          ∧ r.2.mem ((c.tc : Thread Cert.RefUpIdeal.nD Cert.RefUpIdeal.τ).loc Cert.RefUpIdeal.main_v22) = v1 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3)
          ∧ r.2.mem ((c.tc : Thread Cert.RefUpIdeal.nD Cert.RefUpIdeal.τ).loc Cert.RefUpIdeal.main_arg4) = m' ((c.tc : Thread Cert.RefUpIdeal.nD Cert.RefUpIdeal.τ).loc Cert.RefUpIdeal.main_arg4)
          ∧ r.2.mem ((c.tc : Thread Cert.RefUpIdeal.nD Cert.RefUpIdeal.τ).loc Cert.RefUpIdeal.main_arg5) = m' ((c.tc : Thread Cert.RefUpIdeal.nD Cert.RefUpIdeal.τ).loc Cert.RefUpIdeal.main_arg5))

def preserves_Dw_DwIdeal : Prop :=
  True

def algebraic_DwIdeal_RefDwIdeal [hDwIdeal : Cert.DwIdeal.Facts] [hRefDwIdeal : Cert.RefDwIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.RefDwIdeal.nD Cert.RefDwIdeal.τ Cert.RefDwIdeal.sig) → Buf (Elt Ideal) ℓ) (g' : Dev Cert.RefDwIdeal.nD → PrngReg), Pre_DwIdeal m →
    (∀ c : Dev Cert.DwIdeal.nD,
      m' ((c.tc : Thread Cert.RefDwIdeal.nD Cert.RefDwIdeal.τ).loc Cert.RefDwIdeal.main_arg0) = m ((c.tc : Thread Cert.DwIdeal.nD Cert.DwIdeal.τ).loc Cert.DwIdeal.main_arg0)
      ∧ m' ((c.tc : Thread Cert.RefDwIdeal.nD Cert.RefDwIdeal.τ).loc Cert.RefDwIdeal.main_arg1) = m ((c.tc : Thread Cert.DwIdeal.nD Cert.DwIdeal.τ).loc Cert.DwIdeal.main_arg1)
      ∧ m' ((c.tc : Thread Cert.RefDwIdeal.nD Cert.RefDwIdeal.τ).loc Cert.RefDwIdeal.main_arg2) = m ((c.tc : Thread Cert.DwIdeal.nD Cert.DwIdeal.τ).loc Cert.DwIdeal.main_arg2)
      ∧ m' ((c.tc : Thread Cert.RefDwIdeal.nD Cert.RefDwIdeal.τ).loc Cert.RefDwIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v14)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v14) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.RefDwIdeal.defs (F := Ideal)) (onTc (τ := Cert.RefDwIdeal.τ) (Cert.RefDwIdeal.main (F := Ideal))) ⟨m', fun _ => 0, g'⟩ (fun r => ∀ c : Dev Cert.RefDwIdeal.nD,
          r.2.mem ((c.tc : Thread Cert.RefDwIdeal.nD Cert.RefDwIdeal.τ).loc Cert.RefDwIdeal.main_v18) = v0 c
          ∧ r.2.mem ((c.tc : Thread Cert.RefDwIdeal.nD Cert.RefDwIdeal.τ).loc Cert.RefDwIdeal.main_arg0) = m' ((c.tc : Thread Cert.RefDwIdeal.nD Cert.RefDwIdeal.τ).loc Cert.RefDwIdeal.main_arg0)
          ∧ r.2.mem ((c.tc : Thread Cert.RefDwIdeal.nD Cert.RefDwIdeal.τ).loc Cert.RefDwIdeal.main_arg1) = m' ((c.tc : Thread Cert.RefDwIdeal.nD Cert.RefDwIdeal.τ).loc Cert.RefDwIdeal.main_arg1)
          ∧ r.2.mem ((c.tc : Thread Cert.RefDwIdeal.nD Cert.RefDwIdeal.τ).loc Cert.RefDwIdeal.main_arg2) = m' ((c.tc : Thread Cert.RefDwIdeal.nD Cert.RefDwIdeal.τ).loc Cert.RefDwIdeal.main_arg2)
          ∧ r.2.mem ((c.tc : Thread Cert.RefDwIdeal.nD Cert.RefDwIdeal.τ).loc Cert.RefDwIdeal.main_arg3) = m' ((c.tc : Thread Cert.RefDwIdeal.nD Cert.RefDwIdeal.τ).loc Cert.RefDwIdeal.main_arg3))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v4) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v5) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_UpFwd_UpFwdIdeal : Prop :=
  True

def algebraic_UpFwdIdeal_RefUpFwdIdeal [hUpFwdIdeal : Cert.UpFwdIdeal.Facts] [hRefUpFwdIdeal : Cert.RefUpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.RefUpFwdIdeal.nD Cert.RefUpFwdIdeal.τ Cert.RefUpFwdIdeal.sig) → Buf (Elt Ideal) ℓ) (g' : Dev Cert.RefUpFwdIdeal.nD → PrngReg), Pre_UpFwdIdeal m →
    (∀ c : Dev Cert.UpFwdIdeal.nD,
      m' ((c.tc : Thread Cert.RefUpFwdIdeal.nD Cert.RefUpFwdIdeal.τ).loc Cert.RefUpFwdIdeal.main_arg0) = m ((c.tc : Thread Cert.UpFwdIdeal.nD Cert.UpFwdIdeal.τ).loc Cert.UpFwdIdeal.main_arg0)
      ∧ m' ((c.tc : Thread Cert.RefUpFwdIdeal.nD Cert.RefUpFwdIdeal.τ).loc Cert.RefUpFwdIdeal.main_arg1) = m ((c.tc : Thread Cert.UpFwdIdeal.nD Cert.UpFwdIdeal.τ).loc Cert.UpFwdIdeal.main_arg1)
      ∧ m' ((c.tc : Thread Cert.RefUpFwdIdeal.nD Cert.RefUpFwdIdeal.τ).loc Cert.RefUpFwdIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.RefUpFwdIdeal.defs (F := Ideal)) (onTc (τ := Cert.RefUpFwdIdeal.τ) (Cert.RefUpFwdIdeal.main (F := Ideal))) ⟨m', fun _ => 0, g'⟩ (fun r => ∀ c : Dev Cert.RefUpFwdIdeal.nD,
          r.2.mem ((c.tc : Thread Cert.RefUpFwdIdeal.nD Cert.RefUpFwdIdeal.τ).loc Cert.RefUpFwdIdeal.main_v13) = v0 c
          ∧ r.2.mem ((c.tc : Thread Cert.RefUpFwdIdeal.nD Cert.RefUpFwdIdeal.τ).loc Cert.RefUpFwdIdeal.main_v15) = v1 c
          ∧ r.2.mem ((c.tc : Thread Cert.RefUpFwdIdeal.nD Cert.RefUpFwdIdeal.τ).loc Cert.RefUpFwdIdeal.main_arg0) = m' ((c.tc : Thread Cert.RefUpFwdIdeal.nD Cert.RefUpFwdIdeal.τ).loc Cert.RefUpFwdIdeal.main_arg0)
          ∧ r.2.mem ((c.tc : Thread Cert.RefUpFwdIdeal.nD Cert.RefUpFwdIdeal.τ).loc Cert.RefUpFwdIdeal.main_arg1) = m' ((c.tc : Thread Cert.RefUpFwdIdeal.nD Cert.RefUpFwdIdeal.τ).loc Cert.RefUpFwdIdeal.main_arg1)
          ∧ r.2.mem ((c.tc : Thread Cert.RefUpFwdIdeal.nD Cert.RefUpFwdIdeal.τ).loc Cert.RefUpFwdIdeal.main_arg2) = m' ((c.tc : Thread Cert.RefUpFwdIdeal.nD Cert.RefUpFwdIdeal.τ).loc Cert.RefUpFwdIdeal.main_arg2))

def preserves_DownFwd_DownFwdIdeal : Prop :=
  True

def algebraic_DownFwdIdeal_RefDownFwdIdeal [hDownFwdIdeal : Cert.DownFwdIdeal.Facts] [hRefDownFwdIdeal : Cert.RefDownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.RefDownFwdIdeal.nD Cert.RefDownFwdIdeal.τ Cert.RefDownFwdIdeal.sig) → Buf (Elt Ideal) ℓ) (g' : Dev Cert.RefDownFwdIdeal.nD → PrngReg), Pre_DownFwdIdeal m →
    (∀ c : Dev Cert.DownFwdIdeal.nD,
      m' ((c.tc : Thread Cert.RefDownFwdIdeal.nD Cert.RefDownFwdIdeal.τ).loc Cert.RefDownFwdIdeal.main_arg0) = m ((c.tc : Thread Cert.DownFwdIdeal.nD Cert.DownFwdIdeal.τ).loc Cert.DownFwdIdeal.main_arg0)
      ∧ m' ((c.tc : Thread Cert.RefDownFwdIdeal.nD Cert.RefDownFwdIdeal.τ).loc Cert.RefDownFwdIdeal.main_arg1) = m ((c.tc : Thread Cert.DownFwdIdeal.nD Cert.DownFwdIdeal.τ).loc Cert.DownFwdIdeal.main_arg1)
      ∧ m' ((c.tc : Thread Cert.RefDownFwdIdeal.nD Cert.RefDownFwdIdeal.τ).loc Cert.RefDownFwdIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.RefDownFwdIdeal.defs (F := Ideal)) (onTc (τ := Cert.RefDownFwdIdeal.τ) (Cert.RefDownFwdIdeal.main (F := Ideal))) ⟨m', fun _ => 0, g'⟩ (fun r => ∀ c : Dev Cert.RefDownFwdIdeal.nD,
          r.2.mem ((c.tc : Thread Cert.RefDownFwdIdeal.nD Cert.RefDownFwdIdeal.τ).loc Cert.RefDownFwdIdeal.main_v3) = v0 c
          ∧ r.2.mem ((c.tc : Thread Cert.RefDownFwdIdeal.nD Cert.RefDownFwdIdeal.τ).loc Cert.RefDownFwdIdeal.main_arg0) = m' ((c.tc : Thread Cert.RefDownFwdIdeal.nD Cert.RefDownFwdIdeal.τ).loc Cert.RefDownFwdIdeal.main_arg0)
          ∧ r.2.mem ((c.tc : Thread Cert.RefDownFwdIdeal.nD Cert.RefDownFwdIdeal.τ).loc Cert.RefDownFwdIdeal.main_arg1) = m' ((c.tc : Thread Cert.RefDownFwdIdeal.nD Cert.RefDownFwdIdeal.τ).loc Cert.RefDownFwdIdeal.main_arg1)
          ∧ r.2.mem ((c.tc : Thread Cert.RefDownFwdIdeal.nD Cert.RefDownFwdIdeal.τ).loc Cert.RefDownFwdIdeal.main_arg2) = m' ((c.tc : Thread Cert.RefDownFwdIdeal.nD Cert.RefDownFwdIdeal.τ).loc Cert.RefDownFwdIdeal.main_arg2))

def preserves_In_InIdeal : Prop :=
  True

def algebraic_InIdeal_RefInIdeal_pre_finite_in [hInIdeal : Cert.InIdeal.Facts] [hRefInIdeal : Cert.RefInIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal_finite_in m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)
      ∧ m' ((c.tc : Thread Cert.RefInIdeal.nD Cert.RefInIdeal.τ).loc Cert.RefInIdeal.main_arg2) = m ((c.tc : Thread Cert.InIdeal.nD Cert.InIdeal.τ).loc Cert.InIdeal.main_arg2)
      ∧ m' ((c.tc : Thread Cert.RefInIdeal.nD Cert.RefInIdeal.τ).loc Cert.RefInIdeal.main_arg3) = m ((c.tc : Thread Cert.InIdeal.nD Cert.InIdeal.τ).loc Cert.InIdeal.main_arg3)
      ∧ m' ((c.tc : Thread Cert.RefInIdeal.nD Cert.RefInIdeal.τ).loc Cert.RefInIdeal.main_arg4) = m ((c.tc : Thread Cert.InIdeal.nD Cert.InIdeal.τ).loc Cert.InIdeal.main_arg4)
      ∧ m' ((c.tc : Thread Cert.RefInIdeal.nD Cert.RefInIdeal.τ).loc Cert.RefInIdeal.main_arg5) = m ((c.tc : Thread Cert.InIdeal.nD Cert.InIdeal.τ).loc Cert.InIdeal.main_arg5)
      ∧ m' ((c.tc : Thread Cert.RefInIdeal.nD Cert.RefInIdeal.τ).loc Cert.RefInIdeal.main_arg6) = m ((c.tc : Thread Cert.InIdeal.nD Cert.InIdeal.τ).loc Cert.InIdeal.main_arg6)
      ∧ m' ((c.tc : Thread Cert.RefInIdeal.nD Cert.RefInIdeal.τ).loc Cert.RefInIdeal.main_arg7) = m ((c.tc : Thread Cert.InIdeal.nD Cert.InIdeal.τ).loc Cert.InIdeal.main_arg7)
      ∧ m' ((c.tc : Thread Cert.RefInIdeal.nD Cert.RefInIdeal.τ).loc Cert.RefInIdeal.main_arg8) = m ((c.tc : Thread Cert.InIdeal.nD Cert.InIdeal.τ).loc Cert.InIdeal.main_arg8)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v39) = v0 c
          ∧ r.2.mem ((c.tc : Thread Cert.RefInIdeal.nD Cert.RefInIdeal.τ).loc Cert.RefInIdeal.main_v22) = v1 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6)
          ∧ r.2.mem ((c.tc : Thread Cert.RefInIdeal.nD Cert.RefInIdeal.τ).loc Cert.RefInIdeal.main_arg7) = m' ((c.tc : Thread Cert.RefInIdeal.nD Cert.RefInIdeal.τ).loc Cert.RefInIdeal.main_arg7)
          ∧ r.2.mem ((c.tc : Thread Cert.RefInIdeal.nD Cert.RefInIdeal.τ).loc Cert.RefInIdeal.main_arg8) = m' ((c.tc : Thread Cert.RefInIdeal.nD Cert.RefInIdeal.τ).loc Cert.RefInIdeal.main_arg8))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)
      ∧ m' ((c.tc : Thread Cert.RefInDwIdeal.nD Cert.RefInDwIdeal.τ).loc Cert.RefInDwIdeal.main_arg2) = m ((c.tc : Thread Cert.InDwIdeal.nD Cert.InDwIdeal.τ).loc Cert.InDwIdeal.main_arg2)
      ∧ m' ((c.tc : Thread Cert.RefInDwIdeal.nD Cert.RefInDwIdeal.τ).loc Cert.RefInDwIdeal.main_arg3) = m ((c.tc : Thread Cert.InDwIdeal.nD Cert.InDwIdeal.τ).loc Cert.InDwIdeal.main_arg3)
      ∧ m' ((c.tc : Thread Cert.RefInDwIdeal.nD Cert.RefInDwIdeal.τ).loc Cert.RefInDwIdeal.main_arg4) = m ((c.tc : Thread Cert.InDwIdeal.nD Cert.InDwIdeal.τ).loc Cert.InDwIdeal.main_arg4)
      ∧ m' ((c.tc : Thread Cert.RefInDwIdeal.nD Cert.RefInDwIdeal.τ).loc Cert.RefInDwIdeal.main_arg5) = m ((c.tc : Thread Cert.InDwIdeal.nD Cert.InDwIdeal.τ).loc Cert.InDwIdeal.main_arg5)
      ∧ m' ((c.tc : Thread Cert.RefInDwIdeal.nD Cert.RefInDwIdeal.τ).loc Cert.RefInDwIdeal.main_arg6) = m ((c.tc : Thread Cert.InDwIdeal.nD Cert.InDwIdeal.τ).loc Cert.InDwIdeal.main_arg6)) →
    ∃ (v0 : (c : Dev Cert.InDwIdeal.nD) → Buf (Elt Ideal) ((c.tc : Thread Cert.InDwIdeal.nD Cert.InDwIdeal.τ).loc Cert.InDwIdeal.main_v14)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v14) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
          ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
          ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5)
          ∧ r.2.mem ((c.tc : Thread Cert.InDwIdeal.nD Cert.InDwIdeal.τ).loc Cert.InDwIdeal.main_arg6) = m ((c.tc : Thread Cert.InDwIdeal.nD Cert.InDwIdeal.τ).loc Cert.InDwIdeal.main_arg6))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v18) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1)
          ∧ r.2.mem ((c.tc : Thread Cert.RefInDwIdeal.nD Cert.RefInDwIdeal.τ).loc Cert.RefInDwIdeal.main_arg2) = m' ((c.tc : Thread Cert.RefInDwIdeal.nD Cert.RefInDwIdeal.τ).loc Cert.RefInDwIdeal.main_arg2)
          ∧ r.2.mem ((c.tc : Thread Cert.RefInDwIdeal.nD Cert.RefInDwIdeal.τ).loc Cert.RefInDwIdeal.main_arg3) = m' ((c.tc : Thread Cert.RefInDwIdeal.nD Cert.RefInDwIdeal.τ).loc Cert.RefInDwIdeal.main_arg3)
          ∧ r.2.mem ((c.tc : Thread Cert.RefInDwIdeal.nD Cert.RefInDwIdeal.τ).loc Cert.RefInDwIdeal.main_arg4) = m' ((c.tc : Thread Cert.RefInDwIdeal.nD Cert.RefInDwIdeal.τ).loc Cert.RefInDwIdeal.main_arg4)
          ∧ r.2.mem ((c.tc : Thread Cert.RefInDwIdeal.nD Cert.RefInDwIdeal.τ).loc Cert.RefInDwIdeal.main_arg5) = m' ((c.tc : Thread Cert.RefInDwIdeal.nD Cert.RefInDwIdeal.τ).loc Cert.RefInDwIdeal.main_arg5)
          ∧ r.2.mem ((c.tc : Thread Cert.RefInDwIdeal.nD Cert.RefInDwIdeal.τ).loc Cert.RefInDwIdeal.main_arg6) = m' ((c.tc : Thread Cert.RefInDwIdeal.nD Cert.RefInDwIdeal.τ).loc Cert.RefInDwIdeal.main_arg6))

def preserves_InFwd_InFwdIdeal : Prop :=
  True

def algebraic_InFwdIdeal_RefInFwdIdeal [hInFwdIdeal : Cert.InFwdIdeal.Facts] [hRefInFwdIdeal : Cert.RefInFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.RefInFwdIdeal.nD Cert.RefInFwdIdeal.τ Cert.RefInFwdIdeal.sig) → Buf (Elt Ideal) ℓ) (g' : Dev Cert.RefInFwdIdeal.nD → PrngReg), Pre_InFwdIdeal m →
    (∀ c : Dev Cert.InFwdIdeal.nD,
      m' ((c.tc : Thread Cert.RefInFwdIdeal.nD Cert.RefInFwdIdeal.τ).loc Cert.RefInFwdIdeal.main_arg0) = m ((c.tc : Thread Cert.InFwdIdeal.nD Cert.InFwdIdeal.τ).loc Cert.InFwdIdeal.main_arg0)
      ∧ m' ((c.tc : Thread Cert.RefInFwdIdeal.nD Cert.RefInFwdIdeal.τ).loc Cert.RefInFwdIdeal.main_arg1) = m ((c.tc : Thread Cert.InFwdIdeal.nD Cert.InFwdIdeal.τ).loc Cert.InFwdIdeal.main_arg1)
      ∧ m' ((c.tc : Thread Cert.RefInFwdIdeal.nD Cert.RefInFwdIdeal.τ).loc Cert.RefInFwdIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.RefInFwdIdeal.defs (F := Ideal)) (onTc (τ := Cert.RefInFwdIdeal.τ) (Cert.RefInFwdIdeal.main (F := Ideal))) ⟨m', fun _ => 0, g'⟩ (fun r => ∀ c : Dev Cert.RefInFwdIdeal.nD,
          r.2.mem ((c.tc : Thread Cert.RefInFwdIdeal.nD Cert.RefInFwdIdeal.τ).loc Cert.RefInFwdIdeal.main_v13) = v0 c
          ∧ r.2.mem ((c.tc : Thread Cert.RefInFwdIdeal.nD Cert.RefInFwdIdeal.τ).loc Cert.RefInFwdIdeal.main_v15) = v1 c
          ∧ r.2.mem ((c.tc : Thread Cert.RefInFwdIdeal.nD Cert.RefInFwdIdeal.τ).loc Cert.RefInFwdIdeal.main_arg0) = m' ((c.tc : Thread Cert.RefInFwdIdeal.nD Cert.RefInFwdIdeal.τ).loc Cert.RefInFwdIdeal.main_arg0)
          ∧ r.2.mem ((c.tc : Thread Cert.RefInFwdIdeal.nD Cert.RefInFwdIdeal.τ).loc Cert.RefInFwdIdeal.main_arg1) = m' ((c.tc : Thread Cert.RefInFwdIdeal.nD Cert.RefInFwdIdeal.τ).loc Cert.RefInFwdIdeal.main_arg1)
          ∧ r.2.mem ((c.tc : Thread Cert.RefInFwdIdeal.nD Cert.RefInFwdIdeal.τ).loc Cert.RefInFwdIdeal.main_arg2) = m' ((c.tc : Thread Cert.RefInFwdIdeal.nD Cert.RefInFwdIdeal.τ).loc Cert.RefInFwdIdeal.main_arg2))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v3) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)
      ∧ m' ((c.tc : Thread Cert.RefOutDwIdeal.nD Cert.RefOutDwIdeal.τ).loc Cert.RefOutDwIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v6) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1)
          ∧ r.2.mem ((c.tc : Thread Cert.RefOutDwIdeal.nD Cert.RefOutDwIdeal.τ).loc Cert.RefOutDwIdeal.main_arg2) = m' ((c.tc : Thread Cert.RefOutDwIdeal.nD Cert.RefOutDwIdeal.τ).loc Cert.RefOutDwIdeal.main_arg2))

def preserves_OutFwd_OutFwdIdeal : Prop :=
  True

def algebraic_OutFwdIdeal_RefOutFwdIdeal [hOutFwdIdeal : Cert.OutFwdIdeal.Facts] [hRefOutFwdIdeal : Cert.RefOutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.RefOutFwdIdeal.nD Cert.RefOutFwdIdeal.τ Cert.RefOutFwdIdeal.sig) → Buf (Elt Ideal) ℓ) (g' : Dev Cert.RefOutFwdIdeal.nD → PrngReg), Pre_OutFwdIdeal m →
    (∀ c : Dev Cert.OutFwdIdeal.nD,
      m' ((c.tc : Thread Cert.RefOutFwdIdeal.nD Cert.RefOutFwdIdeal.τ).loc Cert.RefOutFwdIdeal.main_arg0) = m ((c.tc : Thread Cert.OutFwdIdeal.nD Cert.OutFwdIdeal.τ).loc Cert.OutFwdIdeal.main_arg0)
      ∧ m' ((c.tc : Thread Cert.RefOutFwdIdeal.nD Cert.RefOutFwdIdeal.τ).loc Cert.RefOutFwdIdeal.main_arg1) = m ((c.tc : Thread Cert.OutFwdIdeal.nD Cert.OutFwdIdeal.τ).loc Cert.OutFwdIdeal.main_arg1)
      ∧ m' ((c.tc : Thread Cert.RefOutFwdIdeal.nD Cert.RefOutFwdIdeal.τ).loc Cert.RefOutFwdIdeal.main_arg2) = m ((c.tc : Thread Cert.OutFwdIdeal.nD Cert.OutFwdIdeal.τ).loc Cert.OutFwdIdeal.main_arg2)
      ∧ m' ((c.tc : Thread Cert.RefOutFwdIdeal.nD Cert.RefOutFwdIdeal.τ).loc Cert.RefOutFwdIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.RefOutFwdIdeal.defs (F := Ideal)) (onTc (τ := Cert.RefOutFwdIdeal.τ) (Cert.RefOutFwdIdeal.main (F := Ideal))) ⟨m', fun _ => 0, g'⟩ (fun r => ∀ c : Dev Cert.RefOutFwdIdeal.nD,
          r.2.mem ((c.tc : Thread Cert.RefOutFwdIdeal.nD Cert.RefOutFwdIdeal.τ).loc Cert.RefOutFwdIdeal.main_v4) = v0 c
          ∧ r.2.mem ((c.tc : Thread Cert.RefOutFwdIdeal.nD Cert.RefOutFwdIdeal.τ).loc Cert.RefOutFwdIdeal.main_arg0) = m' ((c.tc : Thread Cert.RefOutFwdIdeal.nD Cert.RefOutFwdIdeal.τ).loc Cert.RefOutFwdIdeal.main_arg0)
          ∧ r.2.mem ((c.tc : Thread Cert.RefOutFwdIdeal.nD Cert.RefOutFwdIdeal.τ).loc Cert.RefOutFwdIdeal.main_arg1) = m' ((c.tc : Thread Cert.RefOutFwdIdeal.nD Cert.RefOutFwdIdeal.τ).loc Cert.RefOutFwdIdeal.main_arg1)
          ∧ r.2.mem ((c.tc : Thread Cert.RefOutFwdIdeal.nD Cert.RefOutFwdIdeal.τ).loc Cert.RefOutFwdIdeal.main_arg2) = m' ((c.tc : Thread Cert.RefOutFwdIdeal.nD Cert.RefOutFwdIdeal.τ).loc Cert.RefOutFwdIdeal.main_arg2)
          ∧ r.2.mem ((c.tc : Thread Cert.RefOutFwdIdeal.nD Cert.RefOutFwdIdeal.τ).loc Cert.RefOutFwdIdeal.main_arg3) = m' ((c.tc : Thread Cert.RefOutFwdIdeal.nD Cert.RefOutFwdIdeal.τ).loc Cert.RefOutFwdIdeal.main_arg3))

def preserves_Ln_LnIdeal : Prop :=
  True

def algebraic_LnIdeal_RefLnIdeal_pre_finite_ln [hLnIdeal : Cert.LnIdeal.Facts] [hRefLnIdeal : Cert.RefLnIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.RefLnIdeal.nD Cert.RefLnIdeal.τ Cert.RefLnIdeal.sig) → Buf (Elt Ideal) ℓ) (g' : Dev Cert.RefLnIdeal.nD → PrngReg), Pre_LnIdeal_finite_ln m →
    (∀ c : Dev Cert.LnIdeal.nD,
      m' ((c.tc : Thread Cert.RefLnIdeal.nD Cert.RefLnIdeal.τ).loc Cert.RefLnIdeal.main_arg0) = m ((c.tc : Thread Cert.LnIdeal.nD Cert.LnIdeal.τ).loc Cert.LnIdeal.main_arg0)
      ∧ m' ((c.tc : Thread Cert.RefLnIdeal.nD Cert.RefLnIdeal.τ).loc Cert.RefLnIdeal.main_arg1) = m ((c.tc : Thread Cert.LnIdeal.nD Cert.LnIdeal.τ).loc Cert.LnIdeal.main_arg1)
      ∧ m' ((c.tc : Thread Cert.RefLnIdeal.nD Cert.RefLnIdeal.τ).loc Cert.RefLnIdeal.main_arg2) = m ((c.tc : Thread Cert.LnIdeal.nD Cert.LnIdeal.τ).loc Cert.LnIdeal.main_arg2)
      ∧ m' ((c.tc : Thread Cert.RefLnIdeal.nD Cert.RefLnIdeal.τ).loc Cert.RefLnIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)) (v2 : (c : Dev Cert.LnIdeal.nD) → Buf (Elt Ideal) ((c.tc : Thread Cert.LnIdeal.nD Cert.LnIdeal.τ).loc Cert.LnIdeal.main_v0_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_v0_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.RefLnIdeal.defs (F := Ideal)) (onTc (τ := Cert.RefLnIdeal.τ) (Cert.RefLnIdeal.main (F := Ideal))) ⟨m', fun _ => 0, g'⟩ (fun r => ∀ c : Dev Cert.RefLnIdeal.nD,
          r.2.mem ((c.tc : Thread Cert.RefLnIdeal.nD Cert.RefLnIdeal.τ).loc Cert.RefLnIdeal.main_v54) = v0 c
          ∧ r.2.mem ((c.tc : Thread Cert.RefLnIdeal.nD Cert.RefLnIdeal.τ).loc Cert.RefLnIdeal.main_v30) = v1 c
          ∧ r.2.mem ((c.tc : Thread Cert.RefLnIdeal.nD Cert.RefLnIdeal.τ).loc Cert.RefLnIdeal.main_v27) = v2 c
          ∧ r.2.mem ((c.tc : Thread Cert.RefLnIdeal.nD Cert.RefLnIdeal.τ).loc Cert.RefLnIdeal.main_arg0) = m' ((c.tc : Thread Cert.RefLnIdeal.nD Cert.RefLnIdeal.τ).loc Cert.RefLnIdeal.main_arg0)
          ∧ r.2.mem ((c.tc : Thread Cert.RefLnIdeal.nD Cert.RefLnIdeal.τ).loc Cert.RefLnIdeal.main_arg1) = m' ((c.tc : Thread Cert.RefLnIdeal.nD Cert.RefLnIdeal.τ).loc Cert.RefLnIdeal.main_arg1)
          ∧ r.2.mem ((c.tc : Thread Cert.RefLnIdeal.nD Cert.RefLnIdeal.τ).loc Cert.RefLnIdeal.main_arg2) = m' ((c.tc : Thread Cert.RefLnIdeal.nD Cert.RefLnIdeal.τ).loc Cert.RefLnIdeal.main_arg2)
          ∧ r.2.mem ((c.tc : Thread Cert.RefLnIdeal.nD Cert.RefLnIdeal.τ).loc Cert.RefLnIdeal.main_arg3) = m' ((c.tc : Thread Cert.RefLnIdeal.nD Cert.RefLnIdeal.τ).loc Cert.RefLnIdeal.main_arg3))

def preserves_LnFwd_LnFwdIdeal : Prop :=
  True

def algebraic_LnFwdIdeal_RefLnFwdIdeal [hLnFwdIdeal : Cert.LnFwdIdeal.Facts] [hRefLnFwdIdeal : Cert.RefLnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.RefLnFwdIdeal.nD Cert.RefLnFwdIdeal.τ Cert.RefLnFwdIdeal.sig) → Buf (Elt Ideal) ℓ) (g' : Dev Cert.RefLnFwdIdeal.nD → PrngReg), Pre_LnFwdIdeal m →
    (∀ c : Dev Cert.LnFwdIdeal.nD,
      m' ((c.tc : Thread Cert.RefLnFwdIdeal.nD Cert.RefLnFwdIdeal.τ).loc Cert.RefLnFwdIdeal.main_arg0) = m ((c.tc : Thread Cert.LnFwdIdeal.nD Cert.LnFwdIdeal.τ).loc Cert.LnFwdIdeal.main_arg0)
      ∧ m' ((c.tc : Thread Cert.RefLnFwdIdeal.nD Cert.RefLnFwdIdeal.τ).loc Cert.RefLnFwdIdeal.main_arg1) = m ((c.tc : Thread Cert.LnFwdIdeal.nD Cert.LnFwdIdeal.τ).loc Cert.LnFwdIdeal.main_arg1)
      ∧ m' ((c.tc : Thread Cert.RefLnFwdIdeal.nD Cert.RefLnFwdIdeal.τ).loc Cert.RefLnFwdIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.RefLnFwdIdeal.defs (F := Ideal)) (onTc (τ := Cert.RefLnFwdIdeal.τ) (Cert.RefLnFwdIdeal.main (F := Ideal))) ⟨m', fun _ => 0, g'⟩ (fun r => ∀ c : Dev Cert.RefLnFwdIdeal.nD,
          r.2.mem ((c.tc : Thread Cert.RefLnFwdIdeal.nD Cert.RefLnFwdIdeal.τ).loc Cert.RefLnFwdIdeal.main_v21) = v0 c
          ∧ r.2.mem ((c.tc : Thread Cert.RefLnFwdIdeal.nD Cert.RefLnFwdIdeal.τ).loc Cert.RefLnFwdIdeal.main_v22) = v1 c
          ∧ r.2.mem ((c.tc : Thread Cert.RefLnFwdIdeal.nD Cert.RefLnFwdIdeal.τ).loc Cert.RefLnFwdIdeal.main_arg0) = m' ((c.tc : Thread Cert.RefLnFwdIdeal.nD Cert.RefLnFwdIdeal.τ).loc Cert.RefLnFwdIdeal.main_arg0)
          ∧ r.2.mem ((c.tc : Thread Cert.RefLnFwdIdeal.nD Cert.RefLnFwdIdeal.τ).loc Cert.RefLnFwdIdeal.main_arg1) = m' ((c.tc : Thread Cert.RefLnFwdIdeal.nD Cert.RefLnFwdIdeal.τ).loc Cert.RefLnFwdIdeal.main_arg1)
          ∧ r.2.mem ((c.tc : Thread Cert.RefLnFwdIdeal.nD Cert.RefLnFwdIdeal.τ).loc Cert.RefLnFwdIdeal.main_arg2) = m' ((c.tc : Thread Cert.RefLnFwdIdeal.nD Cert.RefLnFwdIdeal.τ).loc Cert.RefLnFwdIdeal.main_arg2))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v14) = v0 c
          ∧ r.2.mem ((c.tc : Thread Cert.RefLossIdeal.nD Cert.RefLossIdeal.τ).loc Cert.RefLossIdeal.main_v15) = v1 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1))

def preserves_AdamNorm_AdamNormIdeal : Prop :=
  True

def algebraic_AdamNormIdeal_RefAdamNormIdeal [hAdamNormIdeal : Cert.AdamNormIdeal.Facts] [hRefAdamNormIdeal : Cert.RefAdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.RefAdamNormIdeal.nD Cert.RefAdamNormIdeal.τ Cert.RefAdamNormIdeal.sig) → Buf (Elt Ideal) ℓ) (g' : Dev Cert.RefAdamNormIdeal.nD → PrngReg), Pre_AdamNormIdeal m →
    (∀ c : Dev Cert.AdamNormIdeal.nD,
      m' ((c.tc : Thread Cert.RefAdamNormIdeal.nD Cert.RefAdamNormIdeal.τ).loc Cert.RefAdamNormIdeal.main_arg0) = m ((c.tc : Thread Cert.AdamNormIdeal.nD Cert.AdamNormIdeal.τ).loc Cert.AdamNormIdeal.main_arg0)
      ∧ m' ((c.tc : Thread Cert.RefAdamNormIdeal.nD Cert.RefAdamNormIdeal.τ).loc Cert.RefAdamNormIdeal.main_arg1) = m ((c.tc : Thread Cert.AdamNormIdeal.nD Cert.AdamNormIdeal.τ).loc Cert.AdamNormIdeal.main_arg1)
      ∧ m' ((c.tc : Thread Cert.RefAdamNormIdeal.nD Cert.RefAdamNormIdeal.τ).loc Cert.RefAdamNormIdeal.main_arg2) = m ((c.tc : Thread Cert.AdamNormIdeal.nD Cert.AdamNormIdeal.τ).loc Cert.AdamNormIdeal.main_arg2)
      ∧ m' ((c.tc : Thread Cert.RefAdamNormIdeal.nD Cert.RefAdamNormIdeal.τ).loc Cert.RefAdamNormIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.RefAdamNormIdeal.defs (F := Ideal)) (onTc (τ := Cert.RefAdamNormIdeal.τ) (Cert.RefAdamNormIdeal.main (F := Ideal))) ⟨m', fun _ => 0, g'⟩ (fun r => ∀ c : Dev Cert.RefAdamNormIdeal.nD,
          r.2.mem ((c.tc : Thread Cert.RefAdamNormIdeal.nD Cert.RefAdamNormIdeal.τ).loc Cert.RefAdamNormIdeal.main_v23) = v0 c
          ∧ r.2.mem ((c.tc : Thread Cert.RefAdamNormIdeal.nD Cert.RefAdamNormIdeal.τ).loc Cert.RefAdamNormIdeal.main_v4) = v1 c
          ∧ r.2.mem ((c.tc : Thread Cert.RefAdamNormIdeal.nD Cert.RefAdamNormIdeal.τ).loc Cert.RefAdamNormIdeal.main_v10) = v2 c
          ∧ r.2.mem ((c.tc : Thread Cert.RefAdamNormIdeal.nD Cert.RefAdamNormIdeal.τ).loc Cert.RefAdamNormIdeal.main_arg0) = m' ((c.tc : Thread Cert.RefAdamNormIdeal.nD Cert.RefAdamNormIdeal.τ).loc Cert.RefAdamNormIdeal.main_arg0)
          ∧ r.2.mem ((c.tc : Thread Cert.RefAdamNormIdeal.nD Cert.RefAdamNormIdeal.τ).loc Cert.RefAdamNormIdeal.main_arg1) = m' ((c.tc : Thread Cert.RefAdamNormIdeal.nD Cert.RefAdamNormIdeal.τ).loc Cert.RefAdamNormIdeal.main_arg1)
          ∧ r.2.mem ((c.tc : Thread Cert.RefAdamNormIdeal.nD Cert.RefAdamNormIdeal.τ).loc Cert.RefAdamNormIdeal.main_arg2) = m' ((c.tc : Thread Cert.RefAdamNormIdeal.nD Cert.RefAdamNormIdeal.τ).loc Cert.RefAdamNormIdeal.main_arg2)
          ∧ r.2.mem ((c.tc : Thread Cert.RefAdamNormIdeal.nD Cert.RefAdamNormIdeal.τ).loc Cert.RefAdamNormIdeal.main_arg3) = m' ((c.tc : Thread Cert.RefAdamNormIdeal.nD Cert.RefAdamNormIdeal.τ).loc Cert.RefAdamNormIdeal.main_arg3))

def preserves_AdamQk_AdamQkIdeal : Prop :=
  True

def algebraic_AdamQkIdeal_RefAdamQkIdeal [hAdamQkIdeal : Cert.AdamQkIdeal.Facts] [hRefAdamQkIdeal : Cert.RefAdamQkIdeal.Facts] : Prop :=
  ∀ (m : (ℓ : Loc Cert.AdamQkIdeal.nD Cert.AdamQkIdeal.τ Cert.AdamQkIdeal.sig) → Buf (Elt Ideal) ℓ) (g : Dev Cert.AdamQkIdeal.nD → PrngReg)
    (m' : (ℓ : Loc Cert.RefAdamQkIdeal.nD Cert.RefAdamQkIdeal.τ Cert.RefAdamQkIdeal.sig) → Buf (Elt Ideal) ℓ) (g' : Dev Cert.RefAdamQkIdeal.nD → PrngReg), Pre_AdamQkIdeal m →
    (∀ c : Dev Cert.AdamQkIdeal.nD,
      m' ((c.tc : Thread Cert.RefAdamQkIdeal.nD Cert.RefAdamQkIdeal.τ).loc Cert.RefAdamQkIdeal.main_arg0) = m ((c.tc : Thread Cert.AdamQkIdeal.nD Cert.AdamQkIdeal.τ).loc Cert.AdamQkIdeal.main_arg0)
      ∧ m' ((c.tc : Thread Cert.RefAdamQkIdeal.nD Cert.RefAdamQkIdeal.τ).loc Cert.RefAdamQkIdeal.main_arg1) = m ((c.tc : Thread Cert.AdamQkIdeal.nD Cert.AdamQkIdeal.τ).loc Cert.AdamQkIdeal.main_arg1)
      ∧ m' ((c.tc : Thread Cert.RefAdamQkIdeal.nD Cert.RefAdamQkIdeal.τ).loc Cert.RefAdamQkIdeal.main_arg2) = m ((c.tc : Thread Cert.AdamQkIdeal.nD Cert.AdamQkIdeal.τ).loc Cert.AdamQkIdeal.main_arg2)
      ∧ m' ((c.tc : Thread Cert.RefAdamQkIdeal.nD Cert.RefAdamQkIdeal.τ).loc Cert.RefAdamQkIdeal.main_arg3) = m ((c.tc : Thread Cert.AdamQkIdeal.nD Cert.AdamQkIdeal.τ).loc Cert.AdamQkIdeal.main_arg3)) →
    ∃ (v0 : (c : Dev Cert.AdamQkIdeal.nD) → Buf (Elt Ideal) ((c.tc : Thread Cert.AdamQkIdeal.nD Cert.AdamQkIdeal.τ).loc Cert.AdamQkIdeal.main_v0_0)) (v1 : (c : Dev Cert.AdamQkIdeal.nD) → Buf (Elt Ideal) ((c.tc : Thread Cert.AdamQkIdeal.nD Cert.AdamQkIdeal.τ).loc Cert.AdamQkIdeal.main_v0_1)) (v2 : (c : Dev Cert.AdamQkIdeal.nD) → Buf (Elt Ideal) ((c.tc : Thread Cert.AdamQkIdeal.nD Cert.AdamQkIdeal.τ).loc Cert.AdamQkIdeal.main_v0_2)),
      θ_run (Cert.AdamQkIdeal.defs (F := Ideal)) (onTc (τ := Cert.AdamQkIdeal.τ) (Cert.AdamQkIdeal.main (F := Ideal))) ⟨m, fun _ => 0, g⟩ (fun r => ∀ c : Dev Cert.AdamQkIdeal.nD,
          r.2.mem ((c.tc : Thread Cert.AdamQkIdeal.nD Cert.AdamQkIdeal.τ).loc Cert.AdamQkIdeal.main_v0_0) = v0 c
          ∧ r.2.mem ((c.tc : Thread Cert.AdamQkIdeal.nD Cert.AdamQkIdeal.τ).loc Cert.AdamQkIdeal.main_v0_1) = v1 c
          ∧ r.2.mem ((c.tc : Thread Cert.AdamQkIdeal.nD Cert.AdamQkIdeal.τ).loc Cert.AdamQkIdeal.main_v0_2) = v2 c
          ∧ r.2.mem ((c.tc : Thread Cert.AdamQkIdeal.nD Cert.AdamQkIdeal.τ).loc Cert.AdamQkIdeal.main_arg0) = m ((c.tc : Thread Cert.AdamQkIdeal.nD Cert.AdamQkIdeal.τ).loc Cert.AdamQkIdeal.main_arg0)
          ∧ r.2.mem ((c.tc : Thread Cert.AdamQkIdeal.nD Cert.AdamQkIdeal.τ).loc Cert.AdamQkIdeal.main_arg1) = m ((c.tc : Thread Cert.AdamQkIdeal.nD Cert.AdamQkIdeal.τ).loc Cert.AdamQkIdeal.main_arg1)
          ∧ r.2.mem ((c.tc : Thread Cert.AdamQkIdeal.nD Cert.AdamQkIdeal.τ).loc Cert.AdamQkIdeal.main_arg2) = m ((c.tc : Thread Cert.AdamQkIdeal.nD Cert.AdamQkIdeal.τ).loc Cert.AdamQkIdeal.main_arg2)
          ∧ r.2.mem ((c.tc : Thread Cert.AdamQkIdeal.nD Cert.AdamQkIdeal.τ).loc Cert.AdamQkIdeal.main_arg3) = m ((c.tc : Thread Cert.AdamQkIdeal.nD Cert.AdamQkIdeal.τ).loc Cert.AdamQkIdeal.main_arg3))
      ∧ θ_run (Cert.RefAdamQkIdeal.defs (F := Ideal)) (onTc (τ := Cert.RefAdamQkIdeal.τ) (Cert.RefAdamQkIdeal.main (F := Ideal))) ⟨m', fun _ => 0, g'⟩ (fun r => ∀ c : Dev Cert.RefAdamQkIdeal.nD,
          r.2.mem ((c.tc : Thread Cert.RefAdamQkIdeal.nD Cert.RefAdamQkIdeal.τ).loc Cert.RefAdamQkIdeal.main_v23) = v0 c
          ∧ r.2.mem ((c.tc : Thread Cert.RefAdamQkIdeal.nD Cert.RefAdamQkIdeal.τ).loc Cert.RefAdamQkIdeal.main_v4) = v1 c
          ∧ r.2.mem ((c.tc : Thread Cert.RefAdamQkIdeal.nD Cert.RefAdamQkIdeal.τ).loc Cert.RefAdamQkIdeal.main_v10) = v2 c
          ∧ r.2.mem ((c.tc : Thread Cert.RefAdamQkIdeal.nD Cert.RefAdamQkIdeal.τ).loc Cert.RefAdamQkIdeal.main_arg0) = m' ((c.tc : Thread Cert.RefAdamQkIdeal.nD Cert.RefAdamQkIdeal.τ).loc Cert.RefAdamQkIdeal.main_arg0)
          ∧ r.2.mem ((c.tc : Thread Cert.RefAdamQkIdeal.nD Cert.RefAdamQkIdeal.τ).loc Cert.RefAdamQkIdeal.main_arg1) = m' ((c.tc : Thread Cert.RefAdamQkIdeal.nD Cert.RefAdamQkIdeal.τ).loc Cert.RefAdamQkIdeal.main_arg1)
          ∧ r.2.mem ((c.tc : Thread Cert.RefAdamQkIdeal.nD Cert.RefAdamQkIdeal.τ).loc Cert.RefAdamQkIdeal.main_arg2) = m' ((c.tc : Thread Cert.RefAdamQkIdeal.nD Cert.RefAdamQkIdeal.τ).loc Cert.RefAdamQkIdeal.main_arg2)
          ∧ r.2.mem ((c.tc : Thread Cert.RefAdamQkIdeal.nD Cert.RefAdamQkIdeal.τ).loc Cert.RefAdamQkIdeal.main_arg3) = m' ((c.tc : Thread Cert.RefAdamQkIdeal.nD Cert.RefAdamQkIdeal.τ).loc Cert.RefAdamQkIdeal.main_arg3))

def preserves_AdamConvW_AdamConvWIdeal : Prop :=
  True

def algebraic_AdamConvWIdeal_RefAdamConvWIdeal [hAdamConvWIdeal : Cert.AdamConvWIdeal.Facts] [hRefAdamConvWIdeal : Cert.RefAdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.RefAdamConvWIdeal.nD Cert.RefAdamConvWIdeal.τ Cert.RefAdamConvWIdeal.sig) → Buf (Elt Ideal) ℓ) (g' : Dev Cert.RefAdamConvWIdeal.nD → PrngReg), Pre_AdamConvWIdeal m →
    (∀ c : Dev Cert.AdamConvWIdeal.nD,
      m' ((c.tc : Thread Cert.RefAdamConvWIdeal.nD Cert.RefAdamConvWIdeal.τ).loc Cert.RefAdamConvWIdeal.main_arg0) = m ((c.tc : Thread Cert.AdamConvWIdeal.nD Cert.AdamConvWIdeal.τ).loc Cert.AdamConvWIdeal.main_arg0)
      ∧ m' ((c.tc : Thread Cert.RefAdamConvWIdeal.nD Cert.RefAdamConvWIdeal.τ).loc Cert.RefAdamConvWIdeal.main_arg1) = m ((c.tc : Thread Cert.AdamConvWIdeal.nD Cert.AdamConvWIdeal.τ).loc Cert.AdamConvWIdeal.main_arg1)
      ∧ m' ((c.tc : Thread Cert.RefAdamConvWIdeal.nD Cert.RefAdamConvWIdeal.τ).loc Cert.RefAdamConvWIdeal.main_arg2) = m ((c.tc : Thread Cert.AdamConvWIdeal.nD Cert.AdamConvWIdeal.τ).loc Cert.AdamConvWIdeal.main_arg2)
      ∧ m' ((c.tc : Thread Cert.RefAdamConvWIdeal.nD Cert.RefAdamConvWIdeal.τ).loc Cert.RefAdamConvWIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.RefAdamConvWIdeal.defs (F := Ideal)) (onTc (τ := Cert.RefAdamConvWIdeal.τ) (Cert.RefAdamConvWIdeal.main (F := Ideal))) ⟨m', fun _ => 0, g'⟩ (fun r => ∀ c : Dev Cert.RefAdamConvWIdeal.nD,
          r.2.mem ((c.tc : Thread Cert.RefAdamConvWIdeal.nD Cert.RefAdamConvWIdeal.τ).loc Cert.RefAdamConvWIdeal.main_v23) = v0 c
          ∧ r.2.mem ((c.tc : Thread Cert.RefAdamConvWIdeal.nD Cert.RefAdamConvWIdeal.τ).loc Cert.RefAdamConvWIdeal.main_v4) = v1 c
          ∧ r.2.mem ((c.tc : Thread Cert.RefAdamConvWIdeal.nD Cert.RefAdamConvWIdeal.τ).loc Cert.RefAdamConvWIdeal.main_v10) = v2 c
          ∧ r.2.mem ((c.tc : Thread Cert.RefAdamConvWIdeal.nD Cert.RefAdamConvWIdeal.τ).loc Cert.RefAdamConvWIdeal.main_arg0) = m' ((c.tc : Thread Cert.RefAdamConvWIdeal.nD Cert.RefAdamConvWIdeal.τ).loc Cert.RefAdamConvWIdeal.main_arg0)
          ∧ r.2.mem ((c.tc : Thread Cert.RefAdamConvWIdeal.nD Cert.RefAdamConvWIdeal.τ).loc Cert.RefAdamConvWIdeal.main_arg1) = m' ((c.tc : Thread Cert.RefAdamConvWIdeal.nD Cert.RefAdamConvWIdeal.τ).loc Cert.RefAdamConvWIdeal.main_arg1)
          ∧ r.2.mem ((c.tc : Thread Cert.RefAdamConvWIdeal.nD Cert.RefAdamConvWIdeal.τ).loc Cert.RefAdamConvWIdeal.main_arg2) = m' ((c.tc : Thread Cert.RefAdamConvWIdeal.nD Cert.RefAdamConvWIdeal.τ).loc Cert.RefAdamConvWIdeal.main_arg2)
          ∧ r.2.mem ((c.tc : Thread Cert.RefAdamConvWIdeal.nD Cert.RefAdamConvWIdeal.τ).loc Cert.RefAdamConvWIdeal.main_arg3) = m' ((c.tc : Thread Cert.RefAdamConvWIdeal.nD Cert.RefAdamConvWIdeal.τ).loc Cert.RefAdamConvWIdeal.main_arg3))

def preserves_AdamConvB_AdamConvBIdeal : Prop :=
  True

def algebraic_AdamConvBIdeal_RefAdamConvBIdeal [hAdamConvBIdeal : Cert.AdamConvBIdeal.Facts] [hRefAdamConvBIdeal : Cert.RefAdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.RefAdamConvBIdeal.nD Cert.RefAdamConvBIdeal.τ Cert.RefAdamConvBIdeal.sig) → Buf (Elt Ideal) ℓ) (g' : Dev Cert.RefAdamConvBIdeal.nD → PrngReg), Pre_AdamConvBIdeal m →
    (∀ c : Dev Cert.AdamConvBIdeal.nD,
      m' ((c.tc : Thread Cert.RefAdamConvBIdeal.nD Cert.RefAdamConvBIdeal.τ).loc Cert.RefAdamConvBIdeal.main_arg0) = m ((c.tc : Thread Cert.AdamConvBIdeal.nD Cert.AdamConvBIdeal.τ).loc Cert.AdamConvBIdeal.main_arg0)
      ∧ m' ((c.tc : Thread Cert.RefAdamConvBIdeal.nD Cert.RefAdamConvBIdeal.τ).loc Cert.RefAdamConvBIdeal.main_arg1) = m ((c.tc : Thread Cert.AdamConvBIdeal.nD Cert.AdamConvBIdeal.τ).loc Cert.AdamConvBIdeal.main_arg1)
      ∧ m' ((c.tc : Thread Cert.RefAdamConvBIdeal.nD Cert.RefAdamConvBIdeal.τ).loc Cert.RefAdamConvBIdeal.main_arg2) = m ((c.tc : Thread Cert.AdamConvBIdeal.nD Cert.AdamConvBIdeal.τ).loc Cert.AdamConvBIdeal.main_arg2)
      ∧ m' ((c.tc : Thread Cert.RefAdamConvBIdeal.nD Cert.RefAdamConvBIdeal.τ).loc Cert.RefAdamConvBIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.RefAdamConvBIdeal.defs (F := Ideal)) (onTc (τ := Cert.RefAdamConvBIdeal.τ) (Cert.RefAdamConvBIdeal.main (F := Ideal))) ⟨m', fun _ => 0, g'⟩ (fun r => ∀ c : Dev Cert.RefAdamConvBIdeal.nD,
          r.2.mem ((c.tc : Thread Cert.RefAdamConvBIdeal.nD Cert.RefAdamConvBIdeal.τ).loc Cert.RefAdamConvBIdeal.main_v23) = v0 c
          ∧ r.2.mem ((c.tc : Thread Cert.RefAdamConvBIdeal.nD Cert.RefAdamConvBIdeal.τ).loc Cert.RefAdamConvBIdeal.main_v4) = v1 c
          ∧ r.2.mem ((c.tc : Thread Cert.RefAdamConvBIdeal.nD Cert.RefAdamConvBIdeal.τ).loc Cert.RefAdamConvBIdeal.main_v10) = v2 c
          ∧ r.2.mem ((c.tc : Thread Cert.RefAdamConvBIdeal.nD Cert.RefAdamConvBIdeal.τ).loc Cert.RefAdamConvBIdeal.main_arg0) = m' ((c.tc : Thread Cert.RefAdamConvBIdeal.nD Cert.RefAdamConvBIdeal.τ).loc Cert.RefAdamConvBIdeal.main_arg0)
          ∧ r.2.mem ((c.tc : Thread Cert.RefAdamConvBIdeal.nD Cert.RefAdamConvBIdeal.τ).loc Cert.RefAdamConvBIdeal.main_arg1) = m' ((c.tc : Thread Cert.RefAdamConvBIdeal.nD Cert.RefAdamConvBIdeal.τ).loc Cert.RefAdamConvBIdeal.main_arg1)
          ∧ r.2.mem ((c.tc : Thread Cert.RefAdamConvBIdeal.nD Cert.RefAdamConvBIdeal.τ).loc Cert.RefAdamConvBIdeal.main_arg2) = m' ((c.tc : Thread Cert.RefAdamConvBIdeal.nD Cert.RefAdamConvBIdeal.τ).loc Cert.RefAdamConvBIdeal.main_arg2)
          ∧ r.2.mem ((c.tc : Thread Cert.RefAdamConvBIdeal.nD Cert.RefAdamConvBIdeal.τ).loc Cert.RefAdamConvBIdeal.main_arg3) = m' ((c.tc : Thread Cert.RefAdamConvBIdeal.nD Cert.RefAdamConvBIdeal.τ).loc Cert.RefAdamConvBIdeal.main_arg3))

def preserves_AdamFfnW_AdamFfnWIdeal : Prop :=
  True

def algebraic_AdamFfnWIdeal_RefAdamFfnWIdeal [hAdamFfnWIdeal : Cert.AdamFfnWIdeal.Facts] [hRefAdamFfnWIdeal : Cert.RefAdamFfnWIdeal.Facts] : Prop :=
  ∀ (m : (ℓ : Loc Cert.AdamFfnWIdeal.nD Cert.AdamFfnWIdeal.τ Cert.AdamFfnWIdeal.sig) → Buf (Elt Ideal) ℓ) (g : Dev Cert.AdamFfnWIdeal.nD → PrngReg)
    (m' : (ℓ : Loc Cert.RefAdamFfnWIdeal.nD Cert.RefAdamFfnWIdeal.τ Cert.RefAdamFfnWIdeal.sig) → Buf (Elt Ideal) ℓ) (g' : Dev Cert.RefAdamFfnWIdeal.nD → PrngReg), Pre_AdamFfnWIdeal m →
    (∀ c : Dev Cert.AdamFfnWIdeal.nD,
      m' ((c.tc : Thread Cert.RefAdamFfnWIdeal.nD Cert.RefAdamFfnWIdeal.τ).loc Cert.RefAdamFfnWIdeal.main_arg0) = m ((c.tc : Thread Cert.AdamFfnWIdeal.nD Cert.AdamFfnWIdeal.τ).loc Cert.AdamFfnWIdeal.main_arg0)
      ∧ m' ((c.tc : Thread Cert.RefAdamFfnWIdeal.nD Cert.RefAdamFfnWIdeal.τ).loc Cert.RefAdamFfnWIdeal.main_arg1) = m ((c.tc : Thread Cert.AdamFfnWIdeal.nD Cert.AdamFfnWIdeal.τ).loc Cert.AdamFfnWIdeal.main_arg1)
      ∧ m' ((c.tc : Thread Cert.RefAdamFfnWIdeal.nD Cert.RefAdamFfnWIdeal.τ).loc Cert.RefAdamFfnWIdeal.main_arg2) = m ((c.tc : Thread Cert.AdamFfnWIdeal.nD Cert.AdamFfnWIdeal.τ).loc Cert.AdamFfnWIdeal.main_arg2)
      ∧ m' ((c.tc : Thread Cert.RefAdamFfnWIdeal.nD Cert.RefAdamFfnWIdeal.τ).loc Cert.RefAdamFfnWIdeal.main_arg3) = m ((c.tc : Thread Cert.AdamFfnWIdeal.nD Cert.AdamFfnWIdeal.τ).loc Cert.AdamFfnWIdeal.main_arg3)) →
    ∃ (v0 : (c : Dev Cert.AdamFfnWIdeal.nD) → Buf (Elt Ideal) ((c.tc : Thread Cert.AdamFfnWIdeal.nD Cert.AdamFfnWIdeal.τ).loc Cert.AdamFfnWIdeal.main_v0_0)) (v1 : (c : Dev Cert.AdamFfnWIdeal.nD) → Buf (Elt Ideal) ((c.tc : Thread Cert.AdamFfnWIdeal.nD Cert.AdamFfnWIdeal.τ).loc Cert.AdamFfnWIdeal.main_v0_1)) (v2 : (c : Dev Cert.AdamFfnWIdeal.nD) → Buf (Elt Ideal) ((c.tc : Thread Cert.AdamFfnWIdeal.nD Cert.AdamFfnWIdeal.τ).loc Cert.AdamFfnWIdeal.main_v0_2)),
      θ_run (Cert.AdamFfnWIdeal.defs (F := Ideal)) (onTc (τ := Cert.AdamFfnWIdeal.τ) (Cert.AdamFfnWIdeal.main (F := Ideal))) ⟨m, fun _ => 0, g⟩ (fun r => ∀ c : Dev Cert.AdamFfnWIdeal.nD,
          r.2.mem ((c.tc : Thread Cert.AdamFfnWIdeal.nD Cert.AdamFfnWIdeal.τ).loc Cert.AdamFfnWIdeal.main_v0_0) = v0 c
          ∧ r.2.mem ((c.tc : Thread Cert.AdamFfnWIdeal.nD Cert.AdamFfnWIdeal.τ).loc Cert.AdamFfnWIdeal.main_v0_1) = v1 c
          ∧ r.2.mem ((c.tc : Thread Cert.AdamFfnWIdeal.nD Cert.AdamFfnWIdeal.τ).loc Cert.AdamFfnWIdeal.main_v0_2) = v2 c
          ∧ r.2.mem ((c.tc : Thread Cert.AdamFfnWIdeal.nD Cert.AdamFfnWIdeal.τ).loc Cert.AdamFfnWIdeal.main_arg0) = m ((c.tc : Thread Cert.AdamFfnWIdeal.nD Cert.AdamFfnWIdeal.τ).loc Cert.AdamFfnWIdeal.main_arg0)
          ∧ r.2.mem ((c.tc : Thread Cert.AdamFfnWIdeal.nD Cert.AdamFfnWIdeal.τ).loc Cert.AdamFfnWIdeal.main_arg1) = m ((c.tc : Thread Cert.AdamFfnWIdeal.nD Cert.AdamFfnWIdeal.τ).loc Cert.AdamFfnWIdeal.main_arg1)
          ∧ r.2.mem ((c.tc : Thread Cert.AdamFfnWIdeal.nD Cert.AdamFfnWIdeal.τ).loc Cert.AdamFfnWIdeal.main_arg2) = m ((c.tc : Thread Cert.AdamFfnWIdeal.nD Cert.AdamFfnWIdeal.τ).loc Cert.AdamFfnWIdeal.main_arg2)
          ∧ r.2.mem ((c.tc : Thread Cert.AdamFfnWIdeal.nD Cert.AdamFfnWIdeal.τ).loc Cert.AdamFfnWIdeal.main_arg3) = m ((c.tc : Thread Cert.AdamFfnWIdeal.nD Cert.AdamFfnWIdeal.τ).loc Cert.AdamFfnWIdeal.main_arg3))
      ∧ θ_run (Cert.RefAdamFfnWIdeal.defs (F := Ideal)) (onTc (τ := Cert.RefAdamFfnWIdeal.τ) (Cert.RefAdamFfnWIdeal.main (F := Ideal))) ⟨m', fun _ => 0, g'⟩ (fun r => ∀ c : Dev Cert.RefAdamFfnWIdeal.nD,
          r.2.mem ((c.tc : Thread Cert.RefAdamFfnWIdeal.nD Cert.RefAdamFfnWIdeal.τ).loc Cert.RefAdamFfnWIdeal.main_v23) = v0 c
          ∧ r.2.mem ((c.tc : Thread Cert.RefAdamFfnWIdeal.nD Cert.RefAdamFfnWIdeal.τ).loc Cert.RefAdamFfnWIdeal.main_v4) = v1 c
          ∧ r.2.mem ((c.tc : Thread Cert.RefAdamFfnWIdeal.nD Cert.RefAdamFfnWIdeal.τ).loc Cert.RefAdamFfnWIdeal.main_v10) = v2 c
          ∧ r.2.mem ((c.tc : Thread Cert.RefAdamFfnWIdeal.nD Cert.RefAdamFfnWIdeal.τ).loc Cert.RefAdamFfnWIdeal.main_arg0) = m' ((c.tc : Thread Cert.RefAdamFfnWIdeal.nD Cert.RefAdamFfnWIdeal.τ).loc Cert.RefAdamFfnWIdeal.main_arg0)
          ∧ r.2.mem ((c.tc : Thread Cert.RefAdamFfnWIdeal.nD Cert.RefAdamFfnWIdeal.τ).loc Cert.RefAdamFfnWIdeal.main_arg1) = m' ((c.tc : Thread Cert.RefAdamFfnWIdeal.nD Cert.RefAdamFfnWIdeal.τ).loc Cert.RefAdamFfnWIdeal.main_arg1)
          ∧ r.2.mem ((c.tc : Thread Cert.RefAdamFfnWIdeal.nD Cert.RefAdamFfnWIdeal.τ).loc Cert.RefAdamFfnWIdeal.main_arg2) = m' ((c.tc : Thread Cert.RefAdamFfnWIdeal.nD Cert.RefAdamFfnWIdeal.τ).loc Cert.RefAdamFfnWIdeal.main_arg2)
          ∧ r.2.mem ((c.tc : Thread Cert.RefAdamFfnWIdeal.nD Cert.RefAdamFfnWIdeal.τ).loc Cert.RefAdamFfnWIdeal.main_arg3) = m' ((c.tc : Thread Cert.RefAdamFfnWIdeal.nD Cert.RefAdamFfnWIdeal.τ).loc Cert.RefAdamFfnWIdeal.main_arg3))

def preserves_AdamFfnB_AdamFfnBIdeal : Prop :=
  True

def algebraic_AdamFfnBIdeal_RefAdamFfnBIdeal [hAdamFfnBIdeal : Cert.AdamFfnBIdeal.Facts] [hRefAdamFfnBIdeal : Cert.RefAdamFfnBIdeal.Facts] : Prop :=
  ∀ (m : (ℓ : Loc Cert.AdamFfnBIdeal.nD Cert.AdamFfnBIdeal.τ Cert.AdamFfnBIdeal.sig) → Buf (Elt Ideal) ℓ) (g : Dev Cert.AdamFfnBIdeal.nD → PrngReg)
    (m' : (ℓ : Loc Cert.RefAdamFfnBIdeal.nD Cert.RefAdamFfnBIdeal.τ Cert.RefAdamFfnBIdeal.sig) → Buf (Elt Ideal) ℓ) (g' : Dev Cert.RefAdamFfnBIdeal.nD → PrngReg), Pre_AdamFfnBIdeal m →
    (∀ c : Dev Cert.AdamFfnBIdeal.nD,
      m' ((c.tc : Thread Cert.RefAdamFfnBIdeal.nD Cert.RefAdamFfnBIdeal.τ).loc Cert.RefAdamFfnBIdeal.main_arg0) = m ((c.tc : Thread Cert.AdamFfnBIdeal.nD Cert.AdamFfnBIdeal.τ).loc Cert.AdamFfnBIdeal.main_arg0)
      ∧ m' ((c.tc : Thread Cert.RefAdamFfnBIdeal.nD Cert.RefAdamFfnBIdeal.τ).loc Cert.RefAdamFfnBIdeal.main_arg1) = m ((c.tc : Thread Cert.AdamFfnBIdeal.nD Cert.AdamFfnBIdeal.τ).loc Cert.AdamFfnBIdeal.main_arg1)
      ∧ m' ((c.tc : Thread Cert.RefAdamFfnBIdeal.nD Cert.RefAdamFfnBIdeal.τ).loc Cert.RefAdamFfnBIdeal.main_arg2) = m ((c.tc : Thread Cert.AdamFfnBIdeal.nD Cert.AdamFfnBIdeal.τ).loc Cert.AdamFfnBIdeal.main_arg2)
      ∧ m' ((c.tc : Thread Cert.RefAdamFfnBIdeal.nD Cert.RefAdamFfnBIdeal.τ).loc Cert.RefAdamFfnBIdeal.main_arg3) = m ((c.tc : Thread Cert.AdamFfnBIdeal.nD Cert.AdamFfnBIdeal.τ).loc Cert.AdamFfnBIdeal.main_arg3)) →
    ∃ (v0 : (c : Dev Cert.AdamFfnBIdeal.nD) → Buf (Elt Ideal) ((c.tc : Thread Cert.AdamFfnBIdeal.nD Cert.AdamFfnBIdeal.τ).loc Cert.AdamFfnBIdeal.main_v0_0)) (v1 : (c : Dev Cert.AdamFfnBIdeal.nD) → Buf (Elt Ideal) ((c.tc : Thread Cert.AdamFfnBIdeal.nD Cert.AdamFfnBIdeal.τ).loc Cert.AdamFfnBIdeal.main_v0_1)) (v2 : (c : Dev Cert.AdamFfnBIdeal.nD) → Buf (Elt Ideal) ((c.tc : Thread Cert.AdamFfnBIdeal.nD Cert.AdamFfnBIdeal.τ).loc Cert.AdamFfnBIdeal.main_v0_2)),
      θ_run (Cert.AdamFfnBIdeal.defs (F := Ideal)) (onTc (τ := Cert.AdamFfnBIdeal.τ) (Cert.AdamFfnBIdeal.main (F := Ideal))) ⟨m, fun _ => 0, g⟩ (fun r => ∀ c : Dev Cert.AdamFfnBIdeal.nD,
          r.2.mem ((c.tc : Thread Cert.AdamFfnBIdeal.nD Cert.AdamFfnBIdeal.τ).loc Cert.AdamFfnBIdeal.main_v0_0) = v0 c
          ∧ r.2.mem ((c.tc : Thread Cert.AdamFfnBIdeal.nD Cert.AdamFfnBIdeal.τ).loc Cert.AdamFfnBIdeal.main_v0_1) = v1 c
          ∧ r.2.mem ((c.tc : Thread Cert.AdamFfnBIdeal.nD Cert.AdamFfnBIdeal.τ).loc Cert.AdamFfnBIdeal.main_v0_2) = v2 c
          ∧ r.2.mem ((c.tc : Thread Cert.AdamFfnBIdeal.nD Cert.AdamFfnBIdeal.τ).loc Cert.AdamFfnBIdeal.main_arg0) = m ((c.tc : Thread Cert.AdamFfnBIdeal.nD Cert.AdamFfnBIdeal.τ).loc Cert.AdamFfnBIdeal.main_arg0)
          ∧ r.2.mem ((c.tc : Thread Cert.AdamFfnBIdeal.nD Cert.AdamFfnBIdeal.τ).loc Cert.AdamFfnBIdeal.main_arg1) = m ((c.tc : Thread Cert.AdamFfnBIdeal.nD Cert.AdamFfnBIdeal.τ).loc Cert.AdamFfnBIdeal.main_arg1)
          ∧ r.2.mem ((c.tc : Thread Cert.AdamFfnBIdeal.nD Cert.AdamFfnBIdeal.τ).loc Cert.AdamFfnBIdeal.main_arg2) = m ((c.tc : Thread Cert.AdamFfnBIdeal.nD Cert.AdamFfnBIdeal.τ).loc Cert.AdamFfnBIdeal.main_arg2)
          ∧ r.2.mem ((c.tc : Thread Cert.AdamFfnBIdeal.nD Cert.AdamFfnBIdeal.τ).loc Cert.AdamFfnBIdeal.main_arg3) = m ((c.tc : Thread Cert.AdamFfnBIdeal.nD Cert.AdamFfnBIdeal.τ).loc Cert.AdamFfnBIdeal.main_arg3))
      ∧ θ_run (Cert.RefAdamFfnBIdeal.defs (F := Ideal)) (onTc (τ := Cert.RefAdamFfnBIdeal.τ) (Cert.RefAdamFfnBIdeal.main (F := Ideal))) ⟨m', fun _ => 0, g'⟩ (fun r => ∀ c : Dev Cert.RefAdamFfnBIdeal.nD,
          r.2.mem ((c.tc : Thread Cert.RefAdamFfnBIdeal.nD Cert.RefAdamFfnBIdeal.τ).loc Cert.RefAdamFfnBIdeal.main_v23) = v0 c
          ∧ r.2.mem ((c.tc : Thread Cert.RefAdamFfnBIdeal.nD Cert.RefAdamFfnBIdeal.τ).loc Cert.RefAdamFfnBIdeal.main_v4) = v1 c
          ∧ r.2.mem ((c.tc : Thread Cert.RefAdamFfnBIdeal.nD Cert.RefAdamFfnBIdeal.τ).loc Cert.RefAdamFfnBIdeal.main_v10) = v2 c
          ∧ r.2.mem ((c.tc : Thread Cert.RefAdamFfnBIdeal.nD Cert.RefAdamFfnBIdeal.τ).loc Cert.RefAdamFfnBIdeal.main_arg0) = m' ((c.tc : Thread Cert.RefAdamFfnBIdeal.nD Cert.RefAdamFfnBIdeal.τ).loc Cert.RefAdamFfnBIdeal.main_arg0)
          ∧ r.2.mem ((c.tc : Thread Cert.RefAdamFfnBIdeal.nD Cert.RefAdamFfnBIdeal.τ).loc Cert.RefAdamFfnBIdeal.main_arg1) = m' ((c.tc : Thread Cert.RefAdamFfnBIdeal.nD Cert.RefAdamFfnBIdeal.τ).loc Cert.RefAdamFfnBIdeal.main_arg1)
          ∧ r.2.mem ((c.tc : Thread Cert.RefAdamFfnBIdeal.nD Cert.RefAdamFfnBIdeal.τ).loc Cert.RefAdamFfnBIdeal.main_arg2) = m' ((c.tc : Thread Cert.RefAdamFfnBIdeal.nD Cert.RefAdamFfnBIdeal.τ).loc Cert.RefAdamFfnBIdeal.main_arg2)
          ∧ r.2.mem ((c.tc : Thread Cert.RefAdamFfnBIdeal.nD Cert.RefAdamFfnBIdeal.τ).loc Cert.RefAdamFfnBIdeal.main_arg3) = m' ((c.tc : Thread Cert.RefAdamFfnBIdeal.nD Cert.RefAdamFfnBIdeal.τ).loc Cert.RefAdamFfnBIdeal.main_arg3))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)
      ∧ m' ((c.tc : Thread Cert.RefAdamInIdeal.nD Cert.RefAdamInIdeal.τ).loc Cert.RefAdamInIdeal.main_arg4) = m ((c.tc : Thread Cert.AdamInIdeal.nD Cert.AdamInIdeal.τ).loc Cert.AdamInIdeal.main_arg4)
      ∧ m' ((c.tc : Thread Cert.RefAdamInIdeal.nD Cert.RefAdamInIdeal.τ).loc Cert.RefAdamInIdeal.main_arg5) = m ((c.tc : Thread Cert.AdamInIdeal.nD Cert.AdamInIdeal.τ).loc Cert.AdamInIdeal.main_arg5)
      ∧ m' ((c.tc : Thread Cert.RefAdamInIdeal.nD Cert.RefAdamInIdeal.τ).loc Cert.RefAdamInIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v4) = v0 c
          ∧ r.2.mem ((c.tc : Thread Cert.RefAdamInIdeal.nD Cert.RefAdamInIdeal.τ).loc Cert.RefAdamInIdeal.main_v28) = v1 c
          ∧ r.2.mem ((c.tc : Thread Cert.RefAdamInIdeal.nD Cert.RefAdamInIdeal.τ).loc Cert.RefAdamInIdeal.main_v9) = v2 c
          ∧ r.2.mem ((c.tc : Thread Cert.RefAdamInIdeal.nD Cert.RefAdamInIdeal.τ).loc Cert.RefAdamInIdeal.main_v15) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3)
          ∧ r.2.mem ((c.tc : Thread Cert.RefAdamInIdeal.nD Cert.RefAdamInIdeal.τ).loc Cert.RefAdamInIdeal.main_arg4) = m' ((c.tc : Thread Cert.RefAdamInIdeal.nD Cert.RefAdamInIdeal.τ).loc Cert.RefAdamInIdeal.main_arg4)
          ∧ r.2.mem ((c.tc : Thread Cert.RefAdamInIdeal.nD Cert.RefAdamInIdeal.τ).loc Cert.RefAdamInIdeal.main_arg5) = m' ((c.tc : Thread Cert.RefAdamInIdeal.nD Cert.RefAdamInIdeal.τ).loc Cert.RefAdamInIdeal.main_arg5)
          ∧ r.2.mem ((c.tc : Thread Cert.RefAdamInIdeal.nD Cert.RefAdamInIdeal.τ).loc Cert.RefAdamInIdeal.main_arg6) = m' ((c.tc : Thread Cert.RefAdamInIdeal.nD Cert.RefAdamInIdeal.τ).loc Cert.RefAdamInIdeal.main_arg6))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)
      ∧ m' ((c.tc : Thread Cert.RefAdamOutIdeal.nD Cert.RefAdamOutIdeal.τ).loc Cert.RefAdamOutIdeal.main_arg4) = m ((c.tc : Thread Cert.AdamOutIdeal.nD Cert.AdamOutIdeal.τ).loc Cert.AdamOutIdeal.main_arg4)
      ∧ m' ((c.tc : Thread Cert.RefAdamOutIdeal.nD Cert.RefAdamOutIdeal.τ).loc Cert.RefAdamOutIdeal.main_arg5) = m ((c.tc : Thread Cert.AdamOutIdeal.nD Cert.AdamOutIdeal.τ).loc Cert.AdamOutIdeal.main_arg5)
      ∧ m' ((c.tc : Thread Cert.RefAdamOutIdeal.nD Cert.RefAdamOutIdeal.τ).loc Cert.RefAdamOutIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v4) = v0 c
          ∧ r.2.mem ((c.tc : Thread Cert.RefAdamOutIdeal.nD Cert.RefAdamOutIdeal.τ).loc Cert.RefAdamOutIdeal.main_v28) = v1 c
          ∧ r.2.mem ((c.tc : Thread Cert.RefAdamOutIdeal.nD Cert.RefAdamOutIdeal.τ).loc Cert.RefAdamOutIdeal.main_v9) = v2 c
          ∧ r.2.mem ((c.tc : Thread Cert.RefAdamOutIdeal.nD Cert.RefAdamOutIdeal.τ).loc Cert.RefAdamOutIdeal.main_v15) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3)
          ∧ r.2.mem ((c.tc : Thread Cert.RefAdamOutIdeal.nD Cert.RefAdamOutIdeal.τ).loc Cert.RefAdamOutIdeal.main_arg4) = m' ((c.tc : Thread Cert.RefAdamOutIdeal.nD Cert.RefAdamOutIdeal.τ).loc Cert.RefAdamOutIdeal.main_arg4)
          ∧ r.2.mem ((c.tc : Thread Cert.RefAdamOutIdeal.nD Cert.RefAdamOutIdeal.τ).loc Cert.RefAdamOutIdeal.main_arg5) = m' ((c.tc : Thread Cert.RefAdamOutIdeal.nD Cert.RefAdamOutIdeal.τ).loc Cert.RefAdamOutIdeal.main_arg5)
          ∧ r.2.mem ((c.tc : Thread Cert.RefAdamOutIdeal.nD Cert.RefAdamOutIdeal.τ).loc Cert.RefAdamOutIdeal.main_arg6) = m' ((c.tc : Thread Cert.RefAdamOutIdeal.nD Cert.RefAdamOutIdeal.τ).loc Cert.RefAdamOutIdeal.main_arg6))

def preserves_AdamUp_AdamUpIdeal : Prop :=
  True

def algebraic_AdamUpIdeal_RefAdamUpIdeal [hAdamUpIdeal : Cert.AdamUpIdeal.Facts] [hRefAdamUpIdeal : Cert.RefAdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RefAdamUpIdeal.nD Cert.RefAdamUpIdeal.τ Cert.RefAdamUpIdeal.sig) → Buf (Elt Ideal) ℓ) (g' : Dev Cert.RefAdamUpIdeal.nD → PrngReg), Pre_AdamUpIdeal m →
    (∀ c : Dev Cert.AdamUpIdeal.nD,
      m' ((c.tc : Thread Cert.RefAdamUpIdeal.nD Cert.RefAdamUpIdeal.τ).loc Cert.RefAdamUpIdeal.main_arg0) = m ((c.tc : Thread Cert.AdamUpIdeal.nD Cert.AdamUpIdeal.τ).loc Cert.AdamUpIdeal.main_arg0)
      ∧ m' ((c.tc : Thread Cert.RefAdamUpIdeal.nD Cert.RefAdamUpIdeal.τ).loc Cert.RefAdamUpIdeal.main_arg1) = m ((c.tc : Thread Cert.AdamUpIdeal.nD Cert.AdamUpIdeal.τ).loc Cert.AdamUpIdeal.main_arg1)
      ∧ m' ((c.tc : Thread Cert.RefAdamUpIdeal.nD Cert.RefAdamUpIdeal.τ).loc Cert.RefAdamUpIdeal.main_arg2) = m ((c.tc : Thread Cert.AdamUpIdeal.nD Cert.AdamUpIdeal.τ).loc Cert.AdamUpIdeal.main_arg2)
      ∧ m' ((c.tc : Thread Cert.RefAdamUpIdeal.nD Cert.RefAdamUpIdeal.τ).loc Cert.RefAdamUpIdeal.main_arg3) = m ((c.tc : Thread Cert.AdamUpIdeal.nD Cert.AdamUpIdeal.τ).loc Cert.AdamUpIdeal.main_arg3)
      ∧ m' ((c.tc : Thread Cert.RefAdamUpIdeal.nD Cert.RefAdamUpIdeal.τ).loc Cert.RefAdamUpIdeal.main_arg4) = m ((c.tc : Thread Cert.AdamUpIdeal.nD Cert.AdamUpIdeal.τ).loc Cert.AdamUpIdeal.main_arg4)
      ∧ m' ((c.tc : Thread Cert.RefAdamUpIdeal.nD Cert.RefAdamUpIdeal.τ).loc Cert.RefAdamUpIdeal.main_arg5) = m ((c.tc : Thread Cert.AdamUpIdeal.nD Cert.AdamUpIdeal.τ).loc Cert.AdamUpIdeal.main_arg5)
      ∧ m' ((c.tc : Thread Cert.RefAdamUpIdeal.nD Cert.RefAdamUpIdeal.τ).loc Cert.RefAdamUpIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.RefAdamUpIdeal.defs (F := Ideal)) (onTc (τ := Cert.RefAdamUpIdeal.τ) (Cert.RefAdamUpIdeal.main (F := Ideal))) ⟨m', fun _ => 0, g'⟩ (fun r => ∀ c : Dev Cert.RefAdamUpIdeal.nD,
          r.2.mem ((c.tc : Thread Cert.RefAdamUpIdeal.nD Cert.RefAdamUpIdeal.τ).loc Cert.RefAdamUpIdeal.main_v4) = v0 c
          ∧ r.2.mem ((c.tc : Thread Cert.RefAdamUpIdeal.nD Cert.RefAdamUpIdeal.τ).loc Cert.RefAdamUpIdeal.main_v28) = v1 c
          ∧ r.2.mem ((c.tc : Thread Cert.RefAdamUpIdeal.nD Cert.RefAdamUpIdeal.τ).loc Cert.RefAdamUpIdeal.main_v9) = v2 c
          ∧ r.2.mem ((c.tc : Thread Cert.RefAdamUpIdeal.nD Cert.RefAdamUpIdeal.τ).loc Cert.RefAdamUpIdeal.main_v15) = v3 c
          ∧ r.2.mem ((c.tc : Thread Cert.RefAdamUpIdeal.nD Cert.RefAdamUpIdeal.τ).loc Cert.RefAdamUpIdeal.main_arg0) = m' ((c.tc : Thread Cert.RefAdamUpIdeal.nD Cert.RefAdamUpIdeal.τ).loc Cert.RefAdamUpIdeal.main_arg0)
          ∧ r.2.mem ((c.tc : Thread Cert.RefAdamUpIdeal.nD Cert.RefAdamUpIdeal.τ).loc Cert.RefAdamUpIdeal.main_arg1) = m' ((c.tc : Thread Cert.RefAdamUpIdeal.nD Cert.RefAdamUpIdeal.τ).loc Cert.RefAdamUpIdeal.main_arg1)
          ∧ r.2.mem ((c.tc : Thread Cert.RefAdamUpIdeal.nD Cert.RefAdamUpIdeal.τ).loc Cert.RefAdamUpIdeal.main_arg2) = m' ((c.tc : Thread Cert.RefAdamUpIdeal.nD Cert.RefAdamUpIdeal.τ).loc Cert.RefAdamUpIdeal.main_arg2)
          ∧ r.2.mem ((c.tc : Thread Cert.RefAdamUpIdeal.nD Cert.RefAdamUpIdeal.τ).loc Cert.RefAdamUpIdeal.main_arg3) = m' ((c.tc : Thread Cert.RefAdamUpIdeal.nD Cert.RefAdamUpIdeal.τ).loc Cert.RefAdamUpIdeal.main_arg3)
          ∧ r.2.mem ((c.tc : Thread Cert.RefAdamUpIdeal.nD Cert.RefAdamUpIdeal.τ).loc Cert.RefAdamUpIdeal.main_arg4) = m' ((c.tc : Thread Cert.RefAdamUpIdeal.nD Cert.RefAdamUpIdeal.τ).loc Cert.RefAdamUpIdeal.main_arg4)
          ∧ r.2.mem ((c.tc : Thread Cert.RefAdamUpIdeal.nD Cert.RefAdamUpIdeal.τ).loc Cert.RefAdamUpIdeal.main_arg5) = m' ((c.tc : Thread Cert.RefAdamUpIdeal.nD Cert.RefAdamUpIdeal.τ).loc Cert.RefAdamUpIdeal.main_arg5)
          ∧ r.2.mem ((c.tc : Thread Cert.RefAdamUpIdeal.nD Cert.RefAdamUpIdeal.τ).loc Cert.RefAdamUpIdeal.main_arg6) = m' ((c.tc : Thread Cert.RefAdamUpIdeal.nD Cert.RefAdamUpIdeal.τ).loc Cert.RefAdamUpIdeal.main_arg6))

def preserves_AdamDown_AdamDownIdeal : Prop :=
  True

def algebraic_AdamDownIdeal_RefAdamDownIdeal [hAdamDownIdeal : Cert.AdamDownIdeal.Facts] [hRefAdamDownIdeal : Cert.RefAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RefAdamDownIdeal.nD Cert.RefAdamDownIdeal.τ Cert.RefAdamDownIdeal.sig) → Buf (Elt Ideal) ℓ) (g' : Dev Cert.RefAdamDownIdeal.nD → PrngReg), Pre_AdamDownIdeal m →
    (∀ c : Dev Cert.AdamDownIdeal.nD,
      m' ((c.tc : Thread Cert.RefAdamDownIdeal.nD Cert.RefAdamDownIdeal.τ).loc Cert.RefAdamDownIdeal.main_arg0) = m ((c.tc : Thread Cert.AdamDownIdeal.nD Cert.AdamDownIdeal.τ).loc Cert.AdamDownIdeal.main_arg0)
      ∧ m' ((c.tc : Thread Cert.RefAdamDownIdeal.nD Cert.RefAdamDownIdeal.τ).loc Cert.RefAdamDownIdeal.main_arg1) = m ((c.tc : Thread Cert.AdamDownIdeal.nD Cert.AdamDownIdeal.τ).loc Cert.AdamDownIdeal.main_arg1)
      ∧ m' ((c.tc : Thread Cert.RefAdamDownIdeal.nD Cert.RefAdamDownIdeal.τ).loc Cert.RefAdamDownIdeal.main_arg2) = m ((c.tc : Thread Cert.AdamDownIdeal.nD Cert.AdamDownIdeal.τ).loc Cert.AdamDownIdeal.main_arg2)
      ∧ m' ((c.tc : Thread Cert.RefAdamDownIdeal.nD Cert.RefAdamDownIdeal.τ).loc Cert.RefAdamDownIdeal.main_arg3) = m ((c.tc : Thread Cert.AdamDownIdeal.nD Cert.AdamDownIdeal.τ).loc Cert.AdamDownIdeal.main_arg3)
      ∧ m' ((c.tc : Thread Cert.RefAdamDownIdeal.nD Cert.RefAdamDownIdeal.τ).loc Cert.RefAdamDownIdeal.main_arg4) = m ((c.tc : Thread Cert.AdamDownIdeal.nD Cert.AdamDownIdeal.τ).loc Cert.AdamDownIdeal.main_arg4)
      ∧ m' ((c.tc : Thread Cert.RefAdamDownIdeal.nD Cert.RefAdamDownIdeal.τ).loc Cert.RefAdamDownIdeal.main_arg5) = m ((c.tc : Thread Cert.AdamDownIdeal.nD Cert.AdamDownIdeal.τ).loc Cert.AdamDownIdeal.main_arg5)
      ∧ m' ((c.tc : Thread Cert.RefAdamDownIdeal.nD Cert.RefAdamDownIdeal.τ).loc Cert.RefAdamDownIdeal.main_arg6) = m ((c.tc : Thread Cert.AdamDownIdeal.nD Cert.AdamDownIdeal.τ).loc Cert.AdamDownIdeal.main_arg6)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ θ_run (Cert.RefAdamDownIdeal.defs (F := Ideal)) (onTc (τ := Cert.RefAdamDownIdeal.τ) (Cert.RefAdamDownIdeal.main (F := Ideal))) ⟨m', fun _ => 0, g'⟩ (fun r => ∀ c : Dev Cert.RefAdamDownIdeal.nD,
          r.2.mem ((c.tc : Thread Cert.RefAdamDownIdeal.nD Cert.RefAdamDownIdeal.τ).loc Cert.RefAdamDownIdeal.main_v4) = v0 c
          ∧ r.2.mem ((c.tc : Thread Cert.RefAdamDownIdeal.nD Cert.RefAdamDownIdeal.τ).loc Cert.RefAdamDownIdeal.main_v28) = v1 c
          ∧ r.2.mem ((c.tc : Thread Cert.RefAdamDownIdeal.nD Cert.RefAdamDownIdeal.τ).loc Cert.RefAdamDownIdeal.main_v9) = v2 c
          ∧ r.2.mem ((c.tc : Thread Cert.RefAdamDownIdeal.nD Cert.RefAdamDownIdeal.τ).loc Cert.RefAdamDownIdeal.main_v15) = v3 c
          ∧ r.2.mem ((c.tc : Thread Cert.RefAdamDownIdeal.nD Cert.RefAdamDownIdeal.τ).loc Cert.RefAdamDownIdeal.main_arg0) = m' ((c.tc : Thread Cert.RefAdamDownIdeal.nD Cert.RefAdamDownIdeal.τ).loc Cert.RefAdamDownIdeal.main_arg0)
          ∧ r.2.mem ((c.tc : Thread Cert.RefAdamDownIdeal.nD Cert.RefAdamDownIdeal.τ).loc Cert.RefAdamDownIdeal.main_arg1) = m' ((c.tc : Thread Cert.RefAdamDownIdeal.nD Cert.RefAdamDownIdeal.τ).loc Cert.RefAdamDownIdeal.main_arg1)
          ∧ r.2.mem ((c.tc : Thread Cert.RefAdamDownIdeal.nD Cert.RefAdamDownIdeal.τ).loc Cert.RefAdamDownIdeal.main_arg2) = m' ((c.tc : Thread Cert.RefAdamDownIdeal.nD Cert.RefAdamDownIdeal.τ).loc Cert.RefAdamDownIdeal.main_arg2)
          ∧ r.2.mem ((c.tc : Thread Cert.RefAdamDownIdeal.nD Cert.RefAdamDownIdeal.τ).loc Cert.RefAdamDownIdeal.main_arg3) = m' ((c.tc : Thread Cert.RefAdamDownIdeal.nD Cert.RefAdamDownIdeal.τ).loc Cert.RefAdamDownIdeal.main_arg3)
          ∧ r.2.mem ((c.tc : Thread Cert.RefAdamDownIdeal.nD Cert.RefAdamDownIdeal.τ).loc Cert.RefAdamDownIdeal.main_arg4) = m' ((c.tc : Thread Cert.RefAdamDownIdeal.nD Cert.RefAdamDownIdeal.τ).loc Cert.RefAdamDownIdeal.main_arg4)
          ∧ r.2.mem ((c.tc : Thread Cert.RefAdamDownIdeal.nD Cert.RefAdamDownIdeal.τ).loc Cert.RefAdamDownIdeal.main_arg5) = m' ((c.tc : Thread Cert.RefAdamDownIdeal.nD Cert.RefAdamDownIdeal.τ).loc Cert.RefAdamDownIdeal.main_arg5)
          ∧ r.2.mem ((c.tc : Thread Cert.RefAdamDownIdeal.nD Cert.RefAdamDownIdeal.τ).loc Cert.RefAdamDownIdeal.main_arg6) = m' ((c.tc : Thread Cert.RefAdamDownIdeal.nD Cert.RefAdamDownIdeal.τ).loc Cert.RefAdamDownIdeal.main_arg6))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hRefUpIdeal : Cert.RefUpIdeal.Facts) (hDw : Cert.Dw.Facts) (hDwIdeal : Cert.DwIdeal.Facts) (hRefDwIdeal : Cert.RefDwIdeal.Facts) (hDown : Cert.Down.Facts) (hDownIdeal : Cert.DownIdeal.Facts) (hRefDownIdeal : Cert.RefDownIdeal.Facts) (hDownDw : Cert.DownDw.Facts) (hDownDwIdeal : Cert.DownDwIdeal.Facts) (hRefDownDwIdeal : Cert.RefDownDwIdeal.Facts) (hUpFwd : Cert.UpFwd.Facts) (hUpFwdIdeal : Cert.UpFwdIdeal.Facts) (hRefUpFwdIdeal : Cert.RefUpFwdIdeal.Facts) (hDownFwd : Cert.DownFwd.Facts) (hDownFwdIdeal : Cert.DownFwdIdeal.Facts) (hRefDownFwdIdeal : Cert.RefDownFwdIdeal.Facts) (hIn : Cert.In.Facts) (hInIdeal : Cert.InIdeal.Facts) (hRefInIdeal : Cert.RefInIdeal.Facts) (hInDw : Cert.InDw.Facts) (hInDwIdeal : Cert.InDwIdeal.Facts) (hRefInDwIdeal : Cert.RefInDwIdeal.Facts) (hInFwd : Cert.InFwd.Facts) (hInFwdIdeal : Cert.InFwdIdeal.Facts) (hRefInFwdIdeal : Cert.RefInFwdIdeal.Facts) (hOut : Cert.Out.Facts) (hOutIdeal : Cert.OutIdeal.Facts) (hRefOutIdeal : Cert.RefOutIdeal.Facts) (hOutDw : Cert.OutDw.Facts) (hOutDwIdeal : Cert.OutDwIdeal.Facts) (hRefOutDwIdeal : Cert.RefOutDwIdeal.Facts) (hOutFwd : Cert.OutFwd.Facts) (hOutFwdIdeal : Cert.OutFwdIdeal.Facts) (hRefOutFwdIdeal : Cert.RefOutFwdIdeal.Facts) (hLn : Cert.Ln.Facts) (hLnIdeal : Cert.LnIdeal.Facts) (hRefLnIdeal : Cert.RefLnIdeal.Facts) (hLnFwd : Cert.LnFwd.Facts) (hLnFwdIdeal : Cert.LnFwdIdeal.Facts) (hRefLnFwdIdeal : Cert.RefLnFwdIdeal.Facts) (hLoss : Cert.Loss.Facts) (hLossIdeal : Cert.LossIdeal.Facts) (hRefLossIdeal : Cert.RefLossIdeal.Facts) (hAdamNorm : Cert.AdamNorm.Facts) (hAdamNormIdeal : Cert.AdamNormIdeal.Facts) (hRefAdamNormIdeal : Cert.RefAdamNormIdeal.Facts) (hAdamQk : Cert.AdamQk.Facts) (hAdamQkIdeal : Cert.AdamQkIdeal.Facts) (hRefAdamQkIdeal : Cert.RefAdamQkIdeal.Facts) (hAdamConvW : Cert.AdamConvW.Facts) (hAdamConvWIdeal : Cert.AdamConvWIdeal.Facts) (hRefAdamConvWIdeal : Cert.RefAdamConvWIdeal.Facts) (hAdamConvB : Cert.AdamConvB.Facts) (hAdamConvBIdeal : Cert.AdamConvBIdeal.Facts) (hRefAdamConvBIdeal : Cert.RefAdamConvBIdeal.Facts) (hAdamFfnW : Cert.AdamFfnW.Facts) (hAdamFfnWIdeal : Cert.AdamFfnWIdeal.Facts) (hRefAdamFfnWIdeal : Cert.RefAdamFfnWIdeal.Facts) (hAdamFfnB : Cert.AdamFfnB.Facts) (hAdamFfnBIdeal : Cert.AdamFfnBIdeal.Facts) (hRefAdamFfnBIdeal : Cert.RefAdamFfnBIdeal.Facts) (hAdamIn : Cert.AdamIn.Facts) (hAdamInIdeal : Cert.AdamInIdeal.Facts) (hRefAdamInIdeal : Cert.RefAdamInIdeal.Facts) (hAdamOut : Cert.AdamOut.Facts) (hAdamOutIdeal : Cert.AdamOutIdeal.Facts) (hRefAdamOutIdeal : Cert.RefAdamOutIdeal.Facts) (hAdamUp : Cert.AdamUp.Facts) (hAdamUpIdeal : Cert.AdamUpIdeal.Facts) (hRefAdamUpIdeal : Cert.RefAdamUpIdeal.Facts) (hAdamDown : Cert.AdamDown.Facts) (hAdamDownIdeal : Cert.AdamDownIdeal.Facts) (hRefAdamDownIdeal : Cert.RefAdamDownIdeal.Facts) (hPre_finite_up : Cert.Pre_finite_up.Facts) (hPre_finite_in : Cert.Pre_finite_in.Facts) (hPre_finite_ln : Cert.Pre_finite_ln.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_RefUpIdeal (hRefUpIdeal := hRefUpIdeal)
    ∧ quiescent_RefUpIdeal_pre_finite_up (hRefUpIdeal := hRefUpIdeal) (hPre_finite_up := hPre_finite_up)
    ∧ quiescent_Dw (hDw := hDw)
    ∧ quiescent_DwIdeal (hDwIdeal := hDwIdeal)
    ∧ quiescent_RefDwIdeal (hRefDwIdeal := hRefDwIdeal)
    ∧ quiescent_Down (hDown := hDown)
    ∧ quiescent_DownIdeal (hDownIdeal := hDownIdeal)
    ∧ quiescent_RefDownIdeal (hRefDownIdeal := hRefDownIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_UpFwd (hUpFwd := hUpFwd)
    ∧ quiescent_UpFwdIdeal (hUpFwdIdeal := hUpFwdIdeal)
    ∧ quiescent_RefUpFwdIdeal (hRefUpFwdIdeal := hRefUpFwdIdeal)
    ∧ quiescent_DownFwd (hDownFwd := hDownFwd)
    ∧ quiescent_DownFwdIdeal (hDownFwdIdeal := hDownFwdIdeal)
    ∧ quiescent_RefDownFwdIdeal (hRefDownFwdIdeal := hRefDownFwdIdeal)
    ∧ quiescent_In (hIn := hIn)
    ∧ quiescent_InIdeal (hInIdeal := hInIdeal)
    ∧ quiescent_InIdeal_pre_finite_in (hInIdeal := hInIdeal) (hPre_finite_in := hPre_finite_in)
    ∧ quiescent_RefInIdeal (hRefInIdeal := hRefInIdeal)
    ∧ quiescent_RefInIdeal_pre_finite_in (hRefInIdeal := hRefInIdeal) (hPre_finite_in := hPre_finite_in)
    ∧ quiescent_InDw (hInDw := hInDw)
    ∧ quiescent_InDwIdeal (hInDwIdeal := hInDwIdeal)
    ∧ quiescent_RefInDwIdeal (hRefInDwIdeal := hRefInDwIdeal)
    ∧ quiescent_InFwd (hInFwd := hInFwd)
    ∧ quiescent_InFwdIdeal (hInFwdIdeal := hInFwdIdeal)
    ∧ quiescent_RefInFwdIdeal (hRefInFwdIdeal := hRefInFwdIdeal)
    ∧ quiescent_Out (hOut := hOut)
    ∧ quiescent_OutIdeal (hOutIdeal := hOutIdeal)
    ∧ quiescent_RefOutIdeal (hRefOutIdeal := hRefOutIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_OutFwd (hOutFwd := hOutFwd)
    ∧ quiescent_OutFwdIdeal (hOutFwdIdeal := hOutFwdIdeal)
    ∧ quiescent_RefOutFwdIdeal (hRefOutFwdIdeal := hRefOutFwdIdeal)
    ∧ quiescent_Ln (hLn := hLn)
    ∧ quiescent_LnIdeal (hLnIdeal := hLnIdeal)
    ∧ quiescent_LnIdeal_pre_finite_ln (hLnIdeal := hLnIdeal) (hPre_finite_ln := hPre_finite_ln)
    ∧ quiescent_RefLnIdeal (hRefLnIdeal := hRefLnIdeal)
    ∧ quiescent_RefLnIdeal_pre_finite_ln (hRefLnIdeal := hRefLnIdeal) (hPre_finite_ln := hPre_finite_ln)
    ∧ quiescent_LnFwd (hLnFwd := hLnFwd)
    ∧ quiescent_LnFwdIdeal (hLnFwdIdeal := hLnFwdIdeal)
    ∧ quiescent_RefLnFwdIdeal (hRefLnFwdIdeal := hRefLnFwdIdeal)
    ∧ quiescent_Loss (hLoss := hLoss)
    ∧ quiescent_LossIdeal (hLossIdeal := hLossIdeal)
    ∧ quiescent_RefLossIdeal (hRefLossIdeal := hRefLossIdeal)
    ∧ quiescent_AdamNorm (hAdamNorm := hAdamNorm)
    ∧ quiescent_AdamNormIdeal (hAdamNormIdeal := hAdamNormIdeal)
    ∧ quiescent_RefAdamNormIdeal (hRefAdamNormIdeal := hRefAdamNormIdeal)
    ∧ quiescent_AdamQk (hAdamQk := hAdamQk)
    ∧ quiescent_AdamQkIdeal (hAdamQkIdeal := hAdamQkIdeal)
    ∧ quiescent_RefAdamQkIdeal (hRefAdamQkIdeal := hRefAdamQkIdeal)
    ∧ quiescent_AdamConvW (hAdamConvW := hAdamConvW)
    ∧ quiescent_AdamConvWIdeal (hAdamConvWIdeal := hAdamConvWIdeal)
    ∧ quiescent_RefAdamConvWIdeal (hRefAdamConvWIdeal := hRefAdamConvWIdeal)
    ∧ quiescent_AdamConvB (hAdamConvB := hAdamConvB)
    ∧ quiescent_AdamConvBIdeal (hAdamConvBIdeal := hAdamConvBIdeal)
    ∧ quiescent_RefAdamConvBIdeal (hRefAdamConvBIdeal := hRefAdamConvBIdeal)
    ∧ quiescent_AdamFfnW (hAdamFfnW := hAdamFfnW)
    ∧ quiescent_AdamFfnWIdeal (hAdamFfnWIdeal := hAdamFfnWIdeal)
    ∧ quiescent_RefAdamFfnWIdeal (hRefAdamFfnWIdeal := hRefAdamFfnWIdeal)
    ∧ quiescent_AdamFfnB (hAdamFfnB := hAdamFfnB)
    ∧ quiescent_AdamFfnBIdeal (hAdamFfnBIdeal := hAdamFfnBIdeal)
    ∧ quiescent_RefAdamFfnBIdeal (hRefAdamFfnBIdeal := hRefAdamFfnBIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamUp (hAdamUp := hAdamUp)
    ∧ quiescent_AdamUpIdeal (hAdamUpIdeal := hAdamUpIdeal)
    ∧ quiescent_RefAdamUpIdeal (hRefAdamUpIdeal := hRefAdamUpIdeal)
    ∧ quiescent_AdamDown (hAdamDown := hAdamDown)
    ∧ quiescent_AdamDownIdeal (hAdamDownIdeal := hAdamDownIdeal)
    ∧ quiescent_RefAdamDownIdeal (hRefAdamDownIdeal := hRefAdamDownIdeal)
    ∧ preserves_Kernel_KernelIdeal
    ∧ preserves_Up_UpIdeal
    ∧ algebraic_UpIdeal_RefUpIdeal_pre_finite_up (hUpIdeal := hUpIdeal) (hRefUpIdeal := hRefUpIdeal) (hPre_finite_up := hPre_finite_up)
    ∧ preserves_Dw_DwIdeal
    ∧ algebraic_DwIdeal_RefDwIdeal (hDwIdeal := hDwIdeal) (hRefDwIdeal := hRefDwIdeal)
    ∧ preserves_Down_DownIdeal
    ∧ algebraic_DownIdeal_RefDownIdeal (hDownIdeal := hDownIdeal) (hRefDownIdeal := hRefDownIdeal)
    ∧ preserves_DownDw_DownDwIdeal
    ∧ algebraic_DownDwIdeal_RefDownDwIdeal (hDownDwIdeal := hDownDwIdeal) (hRefDownDwIdeal := hRefDownDwIdeal)
    ∧ preserves_UpFwd_UpFwdIdeal
    ∧ algebraic_UpFwdIdeal_RefUpFwdIdeal (hUpFwdIdeal := hUpFwdIdeal) (hRefUpFwdIdeal := hRefUpFwdIdeal)
    ∧ preserves_DownFwd_DownFwdIdeal
    ∧ algebraic_DownFwdIdeal_RefDownFwdIdeal (hDownFwdIdeal := hDownFwdIdeal) (hRefDownFwdIdeal := hRefDownFwdIdeal)
    ∧ preserves_In_InIdeal
    ∧ algebraic_InIdeal_RefInIdeal_pre_finite_in (hInIdeal := hInIdeal) (hRefInIdeal := hRefInIdeal) (hPre_finite_in := hPre_finite_in)
    ∧ preserves_InDw_InDwIdeal
    ∧ algebraic_InDwIdeal_RefInDwIdeal (hInDwIdeal := hInDwIdeal) (hRefInDwIdeal := hRefInDwIdeal)
    ∧ preserves_InFwd_InFwdIdeal
    ∧ algebraic_InFwdIdeal_RefInFwdIdeal (hInFwdIdeal := hInFwdIdeal) (hRefInFwdIdeal := hRefInFwdIdeal)
    ∧ preserves_Out_OutIdeal
    ∧ algebraic_OutIdeal_RefOutIdeal (hOutIdeal := hOutIdeal) (hRefOutIdeal := hRefOutIdeal)
    ∧ preserves_OutDw_OutDwIdeal
    ∧ algebraic_OutDwIdeal_RefOutDwIdeal (hOutDwIdeal := hOutDwIdeal) (hRefOutDwIdeal := hRefOutDwIdeal)
    ∧ preserves_OutFwd_OutFwdIdeal
    ∧ algebraic_OutFwdIdeal_RefOutFwdIdeal (hOutFwdIdeal := hOutFwdIdeal) (hRefOutFwdIdeal := hRefOutFwdIdeal)
    ∧ preserves_Ln_LnIdeal
    ∧ algebraic_LnIdeal_RefLnIdeal_pre_finite_ln (hLnIdeal := hLnIdeal) (hRefLnIdeal := hRefLnIdeal) (hPre_finite_ln := hPre_finite_ln)
    ∧ preserves_LnFwd_LnFwdIdeal
    ∧ algebraic_LnFwdIdeal_RefLnFwdIdeal (hLnFwdIdeal := hLnFwdIdeal) (hRefLnFwdIdeal := hRefLnFwdIdeal)
    ∧ preserves_Loss_LossIdeal
    ∧ algebraic_LossIdeal_RefLossIdeal (hLossIdeal := hLossIdeal) (hRefLossIdeal := hRefLossIdeal)
    ∧ preserves_AdamNorm_AdamNormIdeal
    ∧ algebraic_AdamNormIdeal_RefAdamNormIdeal (hAdamNormIdeal := hAdamNormIdeal) (hRefAdamNormIdeal := hRefAdamNormIdeal)
    ∧ preserves_AdamQk_AdamQkIdeal
    ∧ algebraic_AdamQkIdeal_RefAdamQkIdeal (hAdamQkIdeal := hAdamQkIdeal) (hRefAdamQkIdeal := hRefAdamQkIdeal)
    ∧ preserves_AdamConvW_AdamConvWIdeal
    ∧ algebraic_AdamConvWIdeal_RefAdamConvWIdeal (hAdamConvWIdeal := hAdamConvWIdeal) (hRefAdamConvWIdeal := hRefAdamConvWIdeal)
    ∧ preserves_AdamConvB_AdamConvBIdeal
    ∧ algebraic_AdamConvBIdeal_RefAdamConvBIdeal (hAdamConvBIdeal := hAdamConvBIdeal) (hRefAdamConvBIdeal := hRefAdamConvBIdeal)
    ∧ preserves_AdamFfnW_AdamFfnWIdeal
    ∧ algebraic_AdamFfnWIdeal_RefAdamFfnWIdeal (hAdamFfnWIdeal := hAdamFfnWIdeal) (hRefAdamFfnWIdeal := hRefAdamFfnWIdeal)
    ∧ preserves_AdamFfnB_AdamFfnBIdeal
    ∧ algebraic_AdamFfnBIdeal_RefAdamFfnBIdeal (hAdamFfnBIdeal := hAdamFfnBIdeal) (hRefAdamFfnBIdeal := hRefAdamFfnBIdeal)
    ∧ preserves_AdamIn_AdamInIdeal
    ∧ algebraic_AdamInIdeal_RefAdamInIdeal (hAdamInIdeal := hAdamInIdeal) (hRefAdamInIdeal := hRefAdamInIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamUp_AdamUpIdeal
    ∧ algebraic_AdamUpIdeal_RefAdamUpIdeal (hAdamUpIdeal := hAdamUpIdeal) (hRefAdamUpIdeal := hRefAdamUpIdeal)
    ∧ preserves_AdamDown_AdamDownIdeal
    ∧ algebraic_AdamDownIdeal_RefAdamDownIdeal (hAdamDownIdeal := hAdamDownIdeal) (hRefAdamDownIdeal := hRefAdamDownIdeal)
-- ==== Pre_finite_in.lean ====
abbrev S2048x512 : Shape := ⟨2, ![2048, 512]⟩
abbrev S1024x2560 : Shape := ⟨2, ![1024, 2560]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S1024x2560 : S_.BroadcastsInDim S1024x2560 (![] : Fin 0 → Fin S1024x2560.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn_part1 {F : FTy → Type} [FloatOps F] (main_arg5 : FVec F S1024x2560 .bf16) (main_arg6 : FVec F S2048x1024 .f32) (main_arg7 : FVec F S1x1024 .f32) (main_arg8 : FVec F S2048x1024 .f32) (main_v3 : IVec S2048x512 1) (main_v7 : IVec S2048x512 1) (main_v11 : IVec S2048x512 1) (main_v15 : IVec S2048x512 1) (main_v17 : FVec F S2048x512 .f32) (main_v18 : FVec F S2048x512 .f32) : IVec S2048x512 1 × IVec S2048x512 1 × IVec S2048x512 1 × IVec S2048x512 1 × IVec S2048x512 1 × IVec S1024x2560 1 × IVec S2048x1024 1 × IVec S1x1024 1 × IVec S2048x1024 1 :=
  let main_v19 : IVec S2048x512 1 := cmpf .olt main_v17 main_v18
  let main_v20 : FVec F S1024x2560 .f32 := (extf .f32 · bitsLt_bf16_f32) main_arg5
  let main_v21 : FVec F S1024x2560 .f32 := Host.absf main_v20
  let main_cst_4 : FVec F S_ .f32 := constant S_ .f32 0x7F800000#32
  let main_v22 : FVec F S1024x2560 .f32 := broadcastInDim S1024x2560 ![] bcast_S_S1024x2560 main_cst_4
  let main_v23 : IVec S1024x2560 1 := cmpf .olt main_v21 main_v22
  let main_v24 : FVec F S2048x1024 .f32 := Host.absf main_arg6
  let main_cst_5 : FVec F S_ .f32 := constant S_ .f32 0x7F800000#32
  let main_v25 : FVec F S2048x1024 .f32 := broadcastInDim S2048x1024 ![] bcast_S_S2048x1024 main_cst_5
  let main_v26 : IVec S2048x1024 1 := cmpf .olt main_v24 main_v25
  let main_v27 : FVec F S1x1024 .f32 := Host.absf main_arg7
  let main_cst_6 : FVec F S_ .f32 := constant S_ .f32 0x7F800000#32
  let main_v28 : FVec F S1x1024 .f32 := broadcastInDim S1x1024 ![] bcast_S_S1x1024 main_cst_6
  let main_v29 : IVec S1x1024 1 := cmpf .olt main_v27 main_v28
  let main_v30 : FVec F S2048x1024 .f32 := Host.absf main_arg8
  let main_cst_7 : FVec F S_ .f32 := constant S_ .f32 0x7F800000#32
  let main_v31 : FVec F S2048x1024 .f32 := broadcastInDim S2048x1024 ![] bcast_S_S2048x1024 main_cst_7
  let main_v32 : IVec S2048x1024 1 := cmpf .olt main_v30 main_v31
  (main_v3, main_v7, main_v11, main_v15, main_v19, main_v23, main_v26, main_v29, main_v32)

def fn {F : FTy → Type} [FloatOps F] (main_arg0 : FVec F S2048x512 .bf16) (main_arg1 : FVec F S2048x512 .bf16) (main_arg2 : FVec F S2048x512 .bf16) (main_arg3 : FVec F S2048x512 .bf16) (main_arg4 : FVec F S2048x512 .bf16) (main_arg5 : FVec F S1024x2560 .bf16) (main_arg6 : FVec F S2048x1024 .f32) (main_arg7 : FVec F S1x1024 .f32) (main_arg8 : FVec F S2048x1024 .f32) : IVec S2048x512 1 × IVec S2048x512 1 × IVec S2048x512 1 × IVec S2048x512 1 × IVec S2048x512 1 × IVec S1024x2560 1 × IVec S2048x1024 1 × IVec S1x1024 1 × IVec S2048x1024 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_v8 : FVec F S2048x512 .f32 := (extf .f32 · bitsLt_bf16_f32) main_arg2
  let main_v9 : FVec F S2048x512 .f32 := Host.absf main_v8
  let main_cst_1 : FVec F S_ .f32 := constant S_ .f32 0x7F800000#32
  let main_v10 : FVec F S2048x512 .f32 := broadcastInDim S2048x512 ![] bcast_S_S2048x512 main_cst_1
  let main_v11 : IVec S2048x512 1 := cmpf .olt main_v9 main_v10
  let main_v12 : FVec F S2048x512 .f32 := (extf .f32 · bitsLt_bf16_f32) main_arg3
  let main_v13 : FVec F S2048x512 .f32 := Host.absf main_v12
  let main_cst_2 : FVec F S_ .f32 := constant S_ .f32 0x7F800000#32
  let main_v14 : FVec F S2048x512 .f32 := broadcastInDim S2048x512 ![] bcast_S_S2048x512 main_cst_2
  let main_v15 : IVec S2048x512 1 := cmpf .olt main_v13 main_v14
  let main_v16 : FVec F S2048x512 .f32 := (extf .f32 · bitsLt_bf16_f32) main_arg4
  let main_v17 : FVec F S2048x512 .f32 := Host.absf main_v16
  let main_cst_3 : FVec F S_ .f32 := constant S_ .f32 0x7F800000#32
  let main_v18 : FVec F S2048x512 .f32 := broadcastInDim S2048x512 ![] bcast_S_S2048x512 main_cst_3
  fn_part1 (F := F) main_arg5 main_arg6 main_arg7 main_arg8 main_v3 main_v7 main_v11 main_v15 main_v17 main_v18
-- ==== Pre_finite_ln.lean ====
abbrev S2048x512 : Shape := ⟨2, ![2048, 512]⟩
abbrev S1x512 : Shape := ⟨2, ![1, 512]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  bcast_S_S1x512 : S_.BroadcastsInDim S1x512 (![] : Fin 0 → Fin S1x512.rank)
  bcast_S_S2048x1024 : S_.BroadcastsInDim S2048x1024 (![] : Fin 0 → Fin S2048x1024.rank)

variable [Facts]

def fn {F : FTy → Type} [FloatOps F] (main_arg0 : FVec F S2048x512 .f32) (main_arg1 : FVec F S1x512 .f32) (main_arg2 : FVec F S1x512 .f32) (main_arg3 : FVec F S2048x1024 .f32) : IVec S2048x512 1 × IVec S1x512 1 × IVec S1x512 1 × IVec S2048x1024 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_finite_up.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)
  bcast_S_S1024x5632 : S_.BroadcastsInDim S1024x5632 (![] : Fin 0 → Fin S1024x5632.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn_part1 {F : FTy → Type} [FloatOps F] (main_v3 : IVec S2048x2816 1) (main_v7 : IVec S2048x2816 1) (main_v11 : IVec S1024x5632 1) (main_v14 : IVec S2048x1024 1) (main_v17 : IVec S1x1024 1) (main_v18 : FVec F S2048x1024 .f32) : IVec S2048x2816 1 × IVec S2048x2816 1 × IVec S1024x5632 1 × IVec S2048x1024 1 × IVec S1x1024 1 × IVec S2048x1024 1 :=
  let main_cst_4 : FVec F S_ .f32 := constant S_ .f32 0x7F800000#32
  let main_v19 : FVec F S2048x1024 .f32 := broadcastInDim S2048x1024 ![] bcast_S_S2048x1024 main_cst_4
  let main_v20 : IVec S2048x1024 1 := cmpf .olt main_v18 main_v19
  (main_v3, main_v7, main_v11, main_v14, main_v17, main_v20)

def fn {F : FTy → Type} [FloatOps F] (main_arg0 : FVec F S2048x2816 .bf16) (main_arg1 : FVec F S2048x2816 .bf16) (main_arg2 : FVec F S1024x5632 .bf16) (main_arg3 : FVec F S2048x1024 .f32) (main_arg4 : FVec F S1x1024 .f32) (main_arg5 : FVec F S2048x1024 .f32) : IVec S2048x2816 1 × IVec S2048x2816 1 × IVec S1024x5632 1 × IVec S2048x1024 1 × IVec S1x1024 1 × IVec S2048x1024 1 :=
  let main_v0 : FVec F S2048x2816 .f32 := (extf .f32 · bitsLt_bf16_f32) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_v4 : FVec F S2048x2816 .f32 := (extf .f32 · bitsLt_bf16_f32) main_arg1
  let main_v5 : FVec F S2048x2816 .f32 := Host.absf main_v4
  let main_cst_0 : FVec F S_ .f32 := constant S_ .f32 0x7F800000#32
  let main_v6 : FVec F S2048x2816 .f32 := broadcastInDim S2048x2816 ![] bcast_S_S2048x2816 main_cst_0
  let main_v7 : IVec S2048x2816 1 := cmpf .olt main_v5 main_v6
  let main_v8 : FVec F S1024x5632 .f32 := (extf .f32 · bitsLt_bf16_f32) main_arg2
  let main_v9 : FVec F S1024x5632 .f32 := Host.absf main_v8
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S2048x1024 .f32 := Host.absf main_arg3
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_v15 : FVec F S1x1024 .f32 := Host.absf main_arg4
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  let main_v18 : FVec F S2048x1024 .f32 := Host.absf main_arg5
  fn_part1 (F := F) main_v3 main_v7 main_v11 main_v14 main_v17 main_v18
-- ==== Kernel.lean ====
abbrev S2048x2560 : Shape := ⟨2, ![2048, 2560]⟩
abbrev S1x64 : Shape := ⟨2, ![1, 64]⟩
abbrev S2048x1024 : Shape := ⟨2, ![2048, 1024]⟩
abbrev S2048x512 : Shape := ⟨2, ![2048, 512]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2x4x2048 : Shape := ⟨3, ![2, 4, 2048]⟩
abbrev S2x2048x4 : Shape := ⟨3, ![2, 2048, 4]⟩
abbrev S2x2048x4x1 : Shape := ⟨4, ![2, 2048, 4, 1]⟩
abbrev S2x2048x4x64 : Shape := ⟨4, ![2, 2048, 4, 64]⟩
abbrev S2x2048x256 : Shape := ⟨3, ![2, 2048, 256]⟩
abbrev S2x8 : Shape := ⟨2, ![2, 8]⟩
abbrev S8x2048x64 : Shape := ⟨3, ![8, 2048, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x256 : Shape := ⟨2, ![2048, 256]⟩
abbrev S1x2048x256 : Shape := ⟨3, ![1, 2048, 256]⟩
abbrev S4x2048x64 : Shape := ⟨3, ![4, 2048, 64]⟩
abbrev S1x256x64 : Shape := ⟨3, ![1, 256, 64]⟩
abbrev S256x64 : Shape := ⟨2, ![256, 64]⟩
abbrev S1x256x1 : Shape := ⟨3, ![1, 256, 1]⟩
abbrev S1x1 : Shape := ⟨2, ![1, 1]⟩
abbrev S64 : Shape := ⟨1, ![64]⟩

abbrev nBuf : Space → Nat
  | .hbm => 114
  | .vmem => 29
  | .smem => 1
  | _ => 0

abbrev bufTy : (tb : Table) → Fin (tcTables nBuf tb) → BufTy
  | .hbm, ⟨0, _⟩ => ⟨S2048x2560, .f32⟩
  | .hbm, ⟨1, _⟩ => ⟨S1x64, .f32⟩
  | .hbm, ⟨2, _⟩ => ⟨S1x64, .f32⟩
  | .hbm, ⟨3, _⟩ => ⟨S2048x1024, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S_, .f32⟩
  | .hbm, ⟨8, _⟩ => ⟨S2048x8, .f32⟩
  | .hbm, ⟨9, _⟩ => ⟨S2048x8x1, .f32⟩
  | .hbm, ⟨10, _⟩ => ⟨S_, .f32⟩
  | .hbm, ⟨11, _⟩ => ⟨S2048x8x1, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x1, .f32⟩
  | .hbm, ⟨17, _⟩ => ⟨S2048x8x64, .f32⟩
  | .hbm, ⟨18, _⟩ => ⟨S2048x8x64, .f32⟩
  | .hbm, ⟨19, _⟩ => ⟨S1x1x64, .f32⟩
  | .hbm, ⟨20, _⟩ => ⟨S2048x8x64, .f32⟩
  | .hbm, ⟨21, _⟩ => ⟨S2048x8x64, .f32⟩
  | .hbm, ⟨22, _⟩ => ⟨S2048x512, .f32⟩
  | .hbm, ⟨23, _⟩ => ⟨S2048x8x64, .f32⟩
  | .hbm, ⟨24, _⟩ => ⟨S2048x8x64, .f32⟩
  | .hbm, ⟨25, _⟩ => ⟨S_, .f32⟩
  | .hbm, ⟨26, _⟩ => ⟨S2048x8, .f32⟩
  | .hbm, ⟨27, _⟩ => ⟨S2048x8x1, .f32⟩
  | .hbm, ⟨28, _⟩ => ⟨S_, .f32⟩
  | .hbm, ⟨29, _⟩ => ⟨S2048x8x1, .f32⟩
  | .hbm, ⟨30, _⟩ => ⟨S2048x8x1, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S2048x8x1, .f32⟩
  | .hbm, ⟨35, _⟩ => ⟨S2048x8x64, .f32⟩
  | .hbm, ⟨36, _⟩ => ⟨S2048x8x64, .f32⟩
  | .hbm, ⟨37, _⟩ => ⟨S1x1x64, .f32⟩
  | .hbm, ⟨38, _⟩ => ⟨S2048x8x64, .f32⟩
  | .hbm, ⟨39, _⟩ => ⟨S2048x8x64, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S2048, .i32⟩
  | .hbm, ⟨45, _⟩ => ⟨S1x2048, .i32⟩
  | .hbm, ⟨46, _⟩ => ⟨S2048, .i32⟩
  | .hbm, ⟨47, _⟩ => ⟨S2048x1, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S8x2048x2048, .f32⟩
  | .hbm, ⟨52, _⟩ => ⟨S8x2048x2048, .f32⟩
  | .hbm, ⟨53, _⟩ => ⟨S_, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .i1⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S_, .f32⟩
  | .hbm, ⟨70, _⟩ => ⟨S8x2048x2048, .i1⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S2x4x2048, .f32⟩
  | .hbm, ⟨76, _⟩ => ⟨S2x2048x4, .f32⟩
  | .hbm, ⟨77, _⟩ => ⟨S2x2048x4x1, .f32⟩
  | .hbm, ⟨78, _⟩ => ⟨S2x2048x4x64, .f32⟩
  | .hbm, ⟨79, _⟩ => ⟨S2x2048x256, .f32⟩
  | .hbm, ⟨80, _⟩ => ⟨S_, .f32⟩
  | .hbm, ⟨81, _⟩ => ⟨S2x8, .f32⟩
  | .hbm, ⟨82, _⟩ => ⟨S_, .f32⟩
  | .hbm, ⟨83, _⟩ => ⟨S2048x8x64, .f32⟩
  | .hbm, ⟨84, _⟩ => ⟨S2048x8x64, .f32⟩
  | .hbm, ⟨85, _⟩ => ⟨S8x2048x64, .f32⟩
  | .hbm, ⟨86, _⟩ => ⟨S8x2048x64, .bf16⟩
  | .hbm, ⟨87, _⟩ => ⟨S8x2048x64, .f32⟩
  | .hbm, ⟨88, _⟩ => ⟨S8x2048x64, .bf16⟩
  | .hbm, ⟨89, _⟩ => ⟨S2048x512, .f32⟩
  | .hbm, ⟨90, _⟩ => ⟨S2048x8x64, .f32⟩
  | .hbm, ⟨91, _⟩ => ⟨S8x2048x64, .f32⟩
  | .hbm, ⟨92, _⟩ => ⟨S8x2048x64, .bf16⟩
  | .hbm, ⟨93, _⟩ => ⟨S256, .i32⟩
  | .hbm, ⟨94, _⟩ => ⟨S256x1, .i32⟩
  | .hbm, ⟨95, _⟩ => ⟨S256, .i32⟩
  | .hbm, ⟨96, _⟩ => ⟨S1x256, .i32⟩
  | .hbm, ⟨97, _⟩ => ⟨S256x256, .i32⟩
  | .hbm, ⟨98, _⟩ => ⟨S256x256, .i32⟩
  | .hbm, ⟨99, _⟩ => ⟨S256x256, .i1⟩
  | .hbm, ⟨100, _⟩ => ⟨S256x256, .bf16⟩
  | .hbm, ⟨101, _⟩ => ⟨S256x256, .i32⟩
  | .hbm, ⟨102, _⟩ => ⟨S256x256, .i32⟩
  | .hbm, ⟨103, _⟩ => ⟨S256x256, .i1⟩
  | .hbm, ⟨104, _⟩ => ⟨S256x256, .bf16⟩
  | .hbm, ⟨105, _⟩ => ⟨S256x256, .i32⟩
  | .hbm, ⟨106, _⟩ => ⟨S256x256, .i32⟩
  | .hbm, ⟨107, _⟩ => ⟨S256x256, .i1⟩
  | .hbm, ⟨108, _⟩ => ⟨S256x256, .bf16⟩
  | .hbm, ⟨109, _⟩ => ⟨S2048x512, .bf16⟩
  | .hbm, ⟨110, _⟩ => ⟨S2048x512, .bf16⟩
  | .hbm, ⟨111, _⟩ => ⟨S2048x512, .bf16⟩
  | .hbm, ⟨112, _⟩ => ⟨S1x64, .f32⟩
  | .hbm, ⟨113, _⟩ => ⟨S1x64, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x64, .f32⟩
  | .local _ .vmem, ⟨5, _⟩ => ⟨S1x64, .f32⟩
  | .local _ .vmem, ⟨6, _⟩ => ⟨S1x2048x256, .f32⟩
  | .local _ .vmem, ⟨7, _⟩ => ⟨S1x2048x256, .f32⟩
  | .local _ .vmem, ⟨8, _⟩ => ⟨S2048x256, .f32⟩
  | .local _ .vmem, ⟨9, _⟩ => ⟨S2048x256, .f32⟩
  | .local _ .vmem, ⟨10, _⟩ => ⟨S256x256, .bf16⟩
  | .local _ .vmem, ⟨11, _⟩ => ⟨S256x256, .bf16⟩
  | .local _ .vmem, ⟨12, _⟩ => ⟨S4x2048x64, .bf16⟩
  | .local _ .vmem, ⟨13, _⟩ => ⟨S4x2048x64, .bf16⟩
  | .local _ .vmem, ⟨14, _⟩ => ⟨S4x2048x64, .bf16⟩
  | .local _ .vmem, ⟨15, _⟩ => ⟨S4x2048x64, .bf16⟩
  | .local _ .vmem, ⟨16, _⟩ => ⟨S4x2048x64, .bf16⟩
  | .local _ .vmem, ⟨17, _⟩ => ⟨S4x2048x64, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S1x64, .f32⟩
  | .local _ .vmem, ⟨25, _⟩ => ⟨S1x64, .f32⟩
  | .local _ .vmem, ⟨26, _⟩ => ⟨S4x2048x64, .f32⟩
  | .local _ .vmem, ⟨27, _⟩ => ⟨S4x2048x64, .f32⟩
  | .local _ .vmem, ⟨28, _⟩ => ⟨S4x2048x64, .f32⟩
  | .local _ .smem, ⟨0, _⟩ => ⟨S2x8, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v41 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76_0 : Ref sig .tc := ⟨.hbm, 109, rfl⟩
abbrev main_v76_1 : Ref sig .tc := ⟨.hbm, 110, rfl⟩
abbrev main_v76_2 : Ref sig .tc := ⟨.hbm, 111, rfl⟩
abbrev main_v76_3 : Ref sig .tc := ⟨.hbm, 112, rfl⟩
abbrev main_v76_4 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_7 : BitVec 32 := 0#32
  let c8_i32 : BitVec 32 := 8#32
  let v11 : BitVec 32 := Scalar.addi c0_i32_7 c8_i32
  let c1_i32 : BitVec 32 := 1#32
  ⟨c0_i32_7, v11, c1_i32⟩
def k0_mult1 (k0_t1 : Fin k0_t1_loop.trips) : BitVec 32 :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  v33
def k0_off1 (k0_t1 : Fin k0_t1_loop.trips) : Fin 3 → Nat :=
  let c0_24 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v35 : Index := Scalar.indexCast v34
  let c0_25 : Index := 0#32
  ![0, v35.toNat, 0]
def k0_off2 (k0_t1 : Fin k0_t1_loop.trips) : Fin 3 → Nat :=
  let c1 : Index := 1#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v38 : Index := Scalar.indexCast v34
  let c0_26 : Index := 0#32
  ![1, v38.toNat, 0]
def k0_off3 (k0_t1 : Fin k0_t1_loop.trips) : Fin 3 → Nat :=
  let c2 : Index := 2#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v41 : Index := Scalar.indexCast v34
  let c0_27 : Index := 0#32
  ![2, v41.toNat, 0]
def k0_off4 (k0_t1 : Fin k0_t1_loop.trips) : Fin 3 → Nat :=
  let c3 : Index := 3#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v44 : Index := Scalar.indexCast v34
  let c0_28 : Index := 0#32
  ![3, v44.toNat, 0]
def k0_off5 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v47 : Index := Scalar.indexCast v34
  let c0_29 : Index := 0#32
  ![v47.toNat, 0]
def k0_off6 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v50 : Index := Scalar.indexCast v34
  let c64 : Index := 64#32
  ![v50.toNat, 64]
def k0_off7 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v53 : Index := Scalar.indexCast v34
  let c128 : Index := 128#32
  ![v53.toNat, 128]
def k0_off8 (k0_t1 : Fin k0_t1_loop.trips) : Fin 2 → Nat :=
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v56 : Index := Scalar.indexCast v34
  let c192 : Index := 192#32
  ![v56.toNat, 192]
def k0_off9 (k0_t1 : Fin k0_t1_loop.trips) : Fin 3 → Nat :=
  let c0_30 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v59 : Index := Scalar.indexCast v34
  let c0_31 : Index := 0#32
  ![0, v59.toNat, 0]
def k0_off10 (k0_t1 : Fin k0_t1_loop.trips) : Fin 3 → Nat :=
  let c0_32 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v62 : Index := Scalar.indexCast v34
  let c64_33 : Index := 64#32
  ![0, v62.toNat, 64]
def k0_off11 (k0_t1 : Fin k0_t1_loop.trips) : Fin 3 → Nat :=
  let c0_34 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v65 : Index := Scalar.indexCast v34
  let c128_35 : Index := 128#32
  ![0, v65.toNat, 128]
def k0_off12 (k0_t1 : Fin k0_t1_loop.trips) : Fin 3 → Nat :=
  let c0_36 : Index := 0#32
  let c0_i32_7 : BitVec 32 := 0#32
  let c1_i32 : BitVec 32 := 1#32
  let arg21 : BitVec 32 := Scf.iv c0_i32_7 c1_i32 k0_t1
  let c256_i32 : BitVec 32 := 256#32
  let v33 : BitVec 32 := Scalar.muli arg21 c256_i32
  let v34 : BitVec 32 := v33
  let v68 : Index := Scalar.indexCast v34
  let c192_37 : Index := 192#32
  ![0, v68.toNat, 192]
def k0_off13 (i : grid0.Coords) (k0_t1 : Fin k0_t1_loop.trips) : Fin 2 → Nat :=
  let arg0 : BitVec 32 := BitVec.ofNat 32 (i 0).val
  let v76 : Index := Scalar.indexCast arg0
  let c0_i32_7 : BitVec 32 := 0#32
  let c1_i32 : BitVec 32 := 1#32
  let arg21 : BitVec 32 := Scf.iv c0_i32_7 c1_i32 k0_t1
  let v77 : Index := Scalar.indexCast arg21
  ![v76.toNat, v77.toNat]
@[reducible] def k0_t2_loop (k0_t1 : Fin k0_t1_loop.trips) (v79 : BitVec 32) : Scf.Loop 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_45 : BitVec 32 := 1#32
  ⟨v81, v86, c1_i32_45⟩

def k0_mult2 (k0_t1 : Fin k0_t1_loop.trips) (v79 : BitVec 32) (k0_t2 : Fin (k0_t2_loop k0_t1 v79).trips) : BitVec 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  v378
def k0_off14 (k0_t1 : Fin k0_t1_loop.trips) (v79 : BitVec 32) (k0_t2 : Fin (k0_t2_loop k0_t1 v79).trips) : Fin 3 → Nat :=
  let c0_173 : Index := 0#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v380 : Index := Scalar.indexCast v379
  let c0_174 : Index := 0#32
  ![0, v380.toNat, 0]
def k0_off15 (k0_t1 : Fin k0_t1_loop.trips) (v79 : BitVec 32) (k0_t2 : Fin (k0_t2_loop k0_t1 v79).trips) : Fin 3 → Nat :=
  let c1_175 : Index := 1#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v383 : Index := Scalar.indexCast v379
  let c0_176 : Index := 0#32
  ![1, v383.toNat, 0]
def k0_off16 (k0_t1 : Fin k0_t1_loop.trips) (v79 : BitVec 32) (k0_t2 : Fin (k0_t2_loop k0_t1 v79).trips) : Fin 3 → Nat :=
  let c2_177 : Index := 2#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v386 : Index := Scalar.indexCast v379
  let c0_178 : Index := 0#32
  ![2, v386.toNat, 0]
def k0_off17 (k0_t1 : Fin k0_t1_loop.trips) (v79 : BitVec 32) (k0_t2 : Fin (k0_t2_loop k0_t1 v79).trips) : Fin 3 → Nat :=
  let c3_179 : Index := 3#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let c1_i32_45 : BitVec 32 := 1#32
  let arg22 : BitVec 32 := Scf.iv v81 c1_i32_45 k0_t2
  let c256_i32_172 : BitVec 32 := 256#32
  let v378 : BitVec 32 := Scalar.muli arg22 c256_i32_172
  let v379 : BitVec 32 := v378
  let v389 : Index := Scalar.indexCast v379
  let c0_180 : Index := 0#32
  ![3, v389.toNat, 0]
@[reducible] def k0_t3_loop (k0_t1 : Fin k0_t1_loop.trips) (v79 : BitVec 32) : Scf.Loop 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let v83 : BitVec 32 := Scalar.addi v81 v82
  let c1_i32_46 : BitVec 32 := 1#32
  ⟨v86, v83, c1_i32_46⟩
def k0_mult3 (k0_t1 : Fin k0_t1_loop.trips) (v79 : BitVec 32) (k0_t3 : Fin (k0_t3_loop k0_t1 v79).trips) : BitVec 32 :=
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  v378
def k0_off18 (k0_t1 : Fin k0_t1_loop.trips) (v79 : BitVec 32) (k0_t3 : Fin (k0_t3_loop k0_t1 v79).trips) : Fin 3 → Nat :=
  let c0_173 : Index := 0#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v380 : Index := Scalar.indexCast v379
  let c0_174 : Index := 0#32
  ![0, v380.toNat, 0]
def k0_off19 (k0_t1 : Fin k0_t1_loop.trips) (v79 : BitVec 32) (k0_t3 : Fin (k0_t3_loop k0_t1 v79).trips) : Fin 3 → Nat :=
  let c1_175 : Index := 1#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v383 : Index := Scalar.indexCast v379
  let c0_176 : Index := 0#32
  ![1, v383.toNat, 0]
def k0_off20 (k0_t1 : Fin k0_t1_loop.trips) (v79 : BitVec 32) (k0_t3 : Fin (k0_t3_loop k0_t1 v79).trips) : Fin 3 → Nat :=
  let c2_177 : Index := 2#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v386 : Index := Scalar.indexCast v379
  let c0_178 : Index := 0#32
  ![2, v386.toNat, 0]
def k0_off21 (k0_t1 : Fin k0_t1_loop.trips) (v79 : BitVec 32) (k0_t3 : Fin (k0_t3_loop k0_t1 v79).trips) : Fin 3 → Nat :=
  let c3_179 : Index := 3#32
  let c0_i32_7 : BitVec 32 := 0#32
  let c1_i32 : BitVec 32 := 1#32
  let arg21 : BitVec 32 := Scf.iv c0_i32_7 c1_i32 k0_t1
  let c0_i32_43 : BitVec 32 := 0#32
  let v80 : BitVec 32 := Scalar.maxsi c0_i32_43 v79
  let v81 : BitVec 32 := Scalar.minsi arg21 v80
  let v82 : BitVec 32 := Scalar.subi arg21 v81
  let c1_i32_44 : BitVec 32 := 1#32
  let v84 : BitVec 32 := Scalar.divsi v82 c1_i32_44
  let v85 : BitVec 32 := Scalar.muli v84 c1_i32_44
  let v86 : BitVec 32 := Scalar.addi v81 v85
  let c1_i32_46 : BitVec 32 := 1#32
  let arg22 : BitVec 32 := Scf.iv v86 c1_i32_46 k0_t3
  let c256_i32_172 : BitVec 32 := 256#32
  let v378 : BitVec 32 := Scalar.muli arg22 c256_i32_172
  let v379 : BitVec 32 := v378
  let v389 : Index := Scalar.indexCast v379
  let c0_180 : Index := 0#32
  ![3, v389.toNat, 0]

def k0_chk1 (k0_t1 : Fin k0_t1_loop.trips) (v79 : BitVec 32) : Prop :=
  ((k0_t2_loop k0_t1 v79).OK) ∧
  (∀ k0_t2 : Fin (k0_t2_loop k0_t1 v79).trips, 256 ∣ (k0_mult2 k0_t1 v79 k0_t2).toNat) ∧
  (∀ k0_t2 : Fin (k0_t2_loop k0_t1 v79).trips, ∀ a, (k0_off14 k0_t1 v79 k0_t2) a + S1x256x64.size a ≤ S4x2048x64.size a) ∧
  (∀ k0_t2 : Fin (k0_t2_loop k0_t1 v79).trips, ∀ a, (k0_off15 k0_t1 v79 k0_t2) a + S1x256x64.size a ≤ S4x2048x64.size a) ∧
  (∀ k0_t2 : Fin (k0_t2_loop k0_t1 v79).trips, ∀ a, (k0_off16 k0_t1 v79 k0_t2) a + S1x256x64.size a ≤ S4x2048x64.size a) ∧
  (∀ k0_t2 : Fin (k0_t2_loop k0_t1 v79).trips, ∀ a, (k0_off17 k0_t1 v79 k0_t2) a + S1x256x64.size a ≤ S4x2048x64.size a) ∧
  ((k0_t3_loop k0_t1 v79).OK) ∧
  (∀ k0_t3 : Fin (k0_t3_loop k0_t1 v79).trips, 256 ∣ (k0_mult3 k0_t1 v79 k0_t3).toNat) ∧
  (∀ k0_t3 : Fin (k0_t3_loop k0_t1 v79).trips, ∀ a, (k0_off18 k0_t1 v79 k0_t3) a + S1x256x64.size a ≤ S4x2048x64.size a) ∧
  (∀ k0_t3 : Fin (k0_t3_loop k0_t1 v79).trips, ∀ a, (k0_off19 k0_t1 v79 k0_t3) a + S1x256x64.size a ≤ S4x2048x64.size a) ∧
  (∀ k0_t3 : Fin (k0_t3_loop k0_t1 v79).trips, ∀ a, (k0_off20 k0_t1 v79 k0_t3) a + S1x256x64.size a ≤ S4x2048x64.size a) ∧
  (∀ k0_t3 : Fin (k0_t3_loop k0_t1 v79).trips, ∀ a, (k0_off21 k0_t1 v79 k0_t3) a + S1x256x64.size a ≤ S4x2048x64.size a)
theorem k0_t2_ok : ∀ (k0_t1 : Fin k0_t1_loop.trips) (v79 : BitVec 32) (k0_hw1 : k0_chk1 k0_t1 v79), (k0_t2_loop k0_t1 v79).OK := fun k0_t1 v79 k0_hw1 => k0_hw1.1
theorem k0_mult2_dvd : ∀ (k0_t1 : Fin k0_t1_loop.trips) (v79 : BitVec 32) (k0_hw1 : k0_chk1 k0_t1 v79) (k0_t2 : Fin (k0_t2_loop k0_t1 v79).trips), 256 ∣ (k0_mult2 k0_t1 v79 k0_t2).toNat := fun k0_t1 v79 k0_hw1 k0_t2 => k0_hw1.2.1 k0_t2
theorem k0_off14_inb : ∀ (k0_t1 : Fin k0_t1_loop.trips) (v79 : BitVec 32) (k0_hw1 : k0_chk1 k0_t1 v79) (k0_t2 : Fin (k0_t2_loop k0_t1 v79).trips), ∀ a, (k0_off14 k0_t1 v79 k0_t2) a + S1x256x64.size a ≤ S4x2048x64.size a := fun k0_t1 v79 k0_hw1 k0_t2 => k0_hw1.2.2.1 k0_t2
theorem k0_off15_inb : ∀ (k0_t1 : Fin k0_t1_loop.trips) (v79 : BitVec 32) (k0_hw1 : k0_chk1 k0_t1 v79) (k0_t2 : Fin (k0_t2_loop k0_t1 v79).trips), ∀ a, (k0_off15 k0_t1 v79 k0_t2) a + S1x256x64.size a ≤ S4x2048x64.size a := fun k0_t1 v79 k0_hw1 k0_t2 => k0_hw1.2.2.2.1 k0_t2
theorem k0_off16_inb : ∀ (k0_t1 : Fin k0_t1_loop.trips) (v79 : BitVec 32) (k0_hw1 : k0_chk1 k0_t1 v79) (k0_t2 : Fin (k0_t2_loop k0_t1 v79).trips), ∀ a, (k0_off16 k0_t1 v79 k0_t2) a + S1x256x64.size a ≤ S4x2048x64.size a := fun k0_t1 v79 k0_hw1 k0_t2 => k0_hw1.2.2.2.2.1 k0_t2
theorem k0_off17_inb : ∀ (k0_t1 : Fin k0_t1_loop.trips) (v79 : BitVec 32) (k0_hw1 : k0_chk1 k0_t1 v79) (k0_t2 : Fin (k0_t2_loop k0_t1 v79).trips), ∀ a, (k0_off17 k0_t1 v79 k0_t2) a + S1x256x64.size a ≤ S4x2048x64.size a := fun k0_t1 v79 k0_hw1 k0_t2 => k0_hw1.2.2.2.2.2.1 k0_t2
theorem k0_t3_ok : ∀ (k0_t1 : Fin k0_t1_loop.trips) (v79 : BitVec 32) (k0_hw1 : k0_chk1 k0_t1 v79), (k0_t3_loop k0_t1 v79).OK := fun k0_t1 v79 k0_hw1 => k0_hw1.2.2.2.2.2.2.1
theorem k0_mult3_dvd : ∀ (k0_t1 : Fin k0_t1_loop.trips) (v79 : BitVec 32) (k0_hw1 : k0_chk1 k0_t1 v79) (k0_t3 : Fin (k0_t3_loop k0_t1 v79).trips), 256 ∣ (k0_mult3 k0_t1 v79 k0_t3).toNat := fun k0_t1 v79 k0_hw1 k0_t3 => k0_hw1.2.2.2.2.2.2.2.1 k0_t3
theorem k0_off18_inb : ∀ (k0_t1 : Fin k0_t1_loop.trips) (v79 : BitVec 32) (k0_hw1 : k0_chk1 k0_t1 v79) (k0_t3 : Fin (k0_t3_loop k0_t1 v79).trips), ∀ a, (k0_off18 k0_t1 v79 k0_t3) a + S1x256x64.size a ≤ S4x2048x64.size a := fun k0_t1 v79 k0_hw1 k0_t3 => k0_hw1.2.2.2.2.2.2.2.2.1 k0_t3
theorem k0_off19_inb : ∀ (k0_t1 : Fin k0_t1_loop.trips) (v79 : BitVec 32) (k0_hw1 : k0_chk1 k0_t1 v79) (k0_t3 : Fin (k0_t3_loop k0_t1 v79).trips), ∀ a, (k0_off19 k0_t1 v79 k0_t3) a + S1x256x64.size a ≤ S4x2048x64.size a := fun k0_t1 v79 k0_hw1 k0_t3 => k0_hw1.2.2.2.2.2.2.2.2.2.1 k0_t3
theorem k0_off20_inb : ∀ (k0_t1 : Fin k0_t1_loop.trips) (v79 : BitVec 32) (k0_hw1 : k0_chk1 k0_t1 v79) (k0_t3 : Fin (k0_t3_loop k0_t1 v79).trips), ∀ a, (k0_off20 k0_t1 v79 k0_t3) a + S1x256x64.size a ≤ S4x2048x64.size a := fun k0_t1 v79 k0_hw1 k0_t3 => k0_hw1.2.2.2.2.2.2.2.2.2.2.1 k0_t3
theorem k0_off21_inb : ∀ (k0_t1 : Fin k0_t1_loop.trips) (v79 : BitVec 32) (k0_hw1 : k0_chk1 k0_t1 v79) (k0_t3 : Fin (k0_t3_loop k0_t1 v79).trips), ∀ a, (k0_off21 k0_t1 v79 k0_t3) a + S1x256x64.size a ≤ S4x2048x64.size a := fun k0_t1 v79 k0_hw1 k0_t3 => k0_hw1.2.2.2.2.2.2.2.2.2.2.2 k0_t3

def k0_mult4 (k0_t1 : Fin k0_t1_loop.trips) : BitVec 32 :=
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  v89
def k0_off22 (k0_t1 : Fin k0_t1_loop.trips) : Fin 3 → Nat :=
  let c0_48 : Index := 0#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v91 : Index := Scalar.indexCast v90
  let c0_49 : Index := 0#32
  ![0, v91.toNat, 0]
def k0_off23 (k0_t1 : Fin k0_t1_loop.trips) : Fin 3 → Nat :=
  let c1_50 : Index := 1#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v94 : Index := Scalar.indexCast v90
  let c0_51 : Index := 0#32
  ![1, v94.toNat, 0]
def k0_off24 (k0_t1 : Fin k0_t1_loop.trips) : Fin 3 → Nat :=
  let c2_52 : Index := 2#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v97 : Index := Scalar.indexCast v90
  let c0_53 : Index := 0#32
  ![2, v97.toNat, 0]
def k0_off25 (k0_t1 : Fin k0_t1_loop.trips) : Fin 3 → Nat :=
  let c3_54 : Index := 3#32
  let c0_i32_7 : BitVec 32 := 0#32
  let c1_i32 : BitVec 32 := 1#32
  let arg21 : BitVec 32 := Scf.iv c0_i32_7 c1_i32 k0_t1
  let c256_i32_47 : BitVec 32 := 256#32
  let v89 : BitVec 32 := Scalar.muli arg21 c256_i32_47
  let v90 : BitVec 32 := v89
  let v100 : Index := Scalar.indexCast v90
  let c0_55 : Index := 0#32
  ![3, v100.toNat, 0]
@[reducible] def k0_t4_loop : Scf.Loop 32 :=
  let c0_i32_10 : BitVec 32 := 0#32
  let c8_i32_11 : BitVec 32 := 8#32
  let v13 : BitVec 32 := Scalar.addi c0_i32_10 c8_i32_11
  let c1_i32_12 : BitVec 32 := 1#32
  ⟨c0_i32_10, v13, c1_i32_12⟩
def k0_mult5 (k0_t4 : Fin k0_t4_loop.trips) : BitVec 32 :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  v33
def k0_off26 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v35 : Index := Scalar.indexCast v34
  let c0_24 : Index := 0#32
  ![v35.toNat, 0]
def k0_off27 (k0_t4 : Fin k0_t4_loop.trips) : Fin 3 → Nat :=
  let c0_32 : Index := 0#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v59 : Index := Scalar.indexCast v34
  let c0_33 : Index := 0#32
  ![0, v59.toNat, 0]
def k0_off28 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v115 : Index := Scalar.indexCast v34
  let c64 : Index := 64#32
  ![v115.toNat, 64]
def k0_off29 (k0_t4 : Fin k0_t4_loop.trips) : Fin 3 → Nat :=
  let c1 : Index := 1#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v139 : Index := Scalar.indexCast v34
  let c0_60 : Index := 0#32
  ![1, v139.toNat, 0]
def k0_off30 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v195 : Index := Scalar.indexCast v34
  let c128 : Index := 128#32
  ![v195.toNat, 128]
def k0_off31 (k0_t4 : Fin k0_t4_loop.trips) : Fin 3 → Nat :=
  let c2 : Index := 2#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v219 : Index := Scalar.indexCast v34
  let c0_87 : Index := 0#32
  ![2, v219.toNat, 0]
def k0_off32 (k0_t4 : Fin k0_t4_loop.trips) : Fin 2 → Nat :=
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v275 : Index := Scalar.indexCast v34
  let c192 : Index := 192#32
  ![v275.toNat, 192]
def k0_off33 (k0_t4 : Fin k0_t4_loop.trips) : Fin 3 → Nat :=
  let c3 : Index := 3#32
  let c0_i32_10 : BitVec 32 := 0#32
  let c1_i32_12 : BitVec 32 := 1#32
  let arg21 : BitVec 32 := Scf.iv c0_i32_10 c1_i32_12 k0_t4
  let c256_i32 : BitVec 32 := 256#32
  let v33 : BitVec 32 := Scalar.muli arg21 c256_i32
  let v34 : BitVec 32 := v33
  let v299 : Index := Scalar.indexCast v34
  let c0_114 : Index := 0#32
  ![3, v299.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S2x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x2048x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2048x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2048x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S2048x2560 : Shape := ⟨2, ![2048, 2560]⟩
abbrev S1x64 : Shape := ⟨2, ![1, 64]⟩
abbrev S2048x1024 : Shape := ⟨2, ![2048, 1024]⟩
abbrev S2048x512 : Shape := ⟨2, ![2048, 512]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩
abbrev S64 : Shape := ⟨1, ![64]⟩

abbrev nBuf : Space → Nat
  | .hbm => 272
  | .vmem => 0
  | .smem => 0
  | _ => 0

abbrev hbmTy0_0 (i : Nat) : BufTy := match i % 128 with
  | 0 => ⟨S2048x2560, .f32⟩
  | 1 => ⟨S1x64, .f32⟩
  | 2 => ⟨S1x64, .f32⟩
  | 3 => ⟨S2048x1024, .f32⟩
  | 4 => ⟨S2048x512, .f32⟩
  | 5 => ⟨S2048x512, .f32⟩
  | 6 => ⟨S2048x512, .f32⟩
  | 7 => ⟨S2048x8x64, .f32⟩
  | 8 => ⟨S2048x8x64, .f32⟩
  | 9 => ⟨S_, .f32⟩
  | 10 => ⟨S2048x8, .f32⟩
  | 11 => ⟨S2048x8x1, .f32⟩
  | 12 => ⟨S_, .f32⟩
  | 13 => ⟨S2048x8x1, .f32⟩
  | 14 => ⟨S2048x8x1, .f32⟩
  | 15 => ⟨S_, .f32⟩
  | 16 => ⟨S2048x8x1, .f32⟩
  | 17 => ⟨S2048x8x1, .f32⟩
  | 18 => ⟨S2048x8x1, .f32⟩
  | 19 => ⟨S2048x8x1, .f32⟩
  | 20 => ⟨S_, .f32⟩
  | 21 => ⟨S2048x8x1, .f32⟩
  | 22 => ⟨S2048x8x1, .f32⟩
  | 23 => ⟨S2048x8x64, .f32⟩
  | 24 => ⟨S2048x8x64, .f32⟩
  | 25 => ⟨S1x1x64, .f32⟩
  | 26 => ⟨S2048x8x64, .f32⟩
  | 27 => ⟨S2048x8x64, .f32⟩
  | 28 => ⟨S2048x8x64, .f32⟩
  | 29 => ⟨S2048x8x64, .f32⟩
  | 30 => ⟨S_, .f32⟩
  | 31 => ⟨S2048x8, .f32⟩
  | 32 => ⟨S2048x8x1, .f32⟩
  | 33 => ⟨S_, .f32⟩
  | 34 => ⟨S2048x8x1, .f32⟩
  | 35 => ⟨S2048x8x1, .f32⟩
  | 36 => ⟨S_, .f32⟩
  | 37 => ⟨S2048x8x1, .f32⟩
  | 38 => ⟨S2048x8x1, .f32⟩
  | 39 => ⟨S2048x8x1, .f32⟩
  | 40 => ⟨S2048x8x1, .f32⟩
  | 41 => ⟨S_, .f32⟩
  | 42 => ⟨S2048x8x1, .f32⟩
  | 43 => ⟨S2048x8x1, .f32⟩
  | 44 => ⟨S2048x8x64, .f32⟩
  | 45 => ⟨S2048x8x64, .f32⟩
  | 46 => ⟨S1x1x64, .f32⟩
  | 47 => ⟨S2048x8x64, .f32⟩
  | 48 => ⟨S2048x8x64, .f32⟩
  | 49 => ⟨S2048x8x64, .f32⟩
  | 50 => ⟨S8x2048x2048, .f32⟩
  | 51 => ⟨S_, .f32⟩
  | 52 => ⟨S8x2048x2048, .f32⟩
  | 53 => ⟨S8x2048x2048, .f32⟩
  | 54 => ⟨S2048, .i32⟩
  | 55 => ⟨S1x2048, .i32⟩
  | 56 => ⟨S2048, .i32⟩
  | 57 => ⟨S2048x1, .i32⟩
  | 58 => ⟨S2048x2048, .i32⟩
  | 59 => ⟨S2048x2048, .i32⟩
  | 60 => ⟨S2048x2048, .i1⟩
  | 61 => ⟨S8x2048x2048, .f32⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .i1⟩
  | 68 => ⟨S8x2048x2048, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .f32⟩
  | 74 => ⟨S8x2048x2048, .f32⟩
  | 75 => ⟨S8x2048x2048, .f32⟩
  | 76 => ⟨S_, .f32⟩
  | 77 => ⟨S8x2048x2048, .f32⟩
  | 78 => ⟨S8x2048x2048, .i1⟩
  | 79 => ⟨S_, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .i1⟩
  | 85 => ⟨S_, .f32⟩
  | 86 => ⟨S8x2048x2048, .f32⟩
  | 87 => ⟨S8x2048x2048, .f32⟩
  | 88 => ⟨S8x2048x2048, .f32⟩
  | 89 => ⟨S8x2048x2048, .f32⟩
  | 90 => ⟨S_, .f32⟩
  | 91 => ⟨S_, .f32⟩
  | 92 => ⟨S_, .i1⟩
  | 93 => ⟨S_, .f32⟩
  | 94 => ⟨S_, .f32⟩
  | 95 => ⟨S_, .f32⟩
  | 96 => ⟨S_, .f32⟩
  | 97 => ⟨S8x2048x2048, .f32⟩
  | 98 => ⟨S8x2048x2048, .i1⟩
  | 99 => ⟨S_, .f32⟩
  | 100 => ⟨S8x2048x2048, .f32⟩
  | 101 => ⟨S8x2048x2048, .f32⟩
  | 102 => ⟨S8x2048x2048, .f32⟩
  | 103 => ⟨S8x2048x2048, .f32⟩
  | 104 => ⟨S8x2048x2048, .f32⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S8x2048x2048, .f32⟩
  | 113 => ⟨S8x2048x2048, .f32⟩
  | 114 => ⟨S8x2048x2048, .f32⟩
  | 115 => ⟨S8x2048x2048, .f32⟩
  | 116 => ⟨S8x2048x2048, .i1⟩
  | 117 => ⟨S8x2048x2048, .f32⟩
  | 118 => ⟨S8x2048x2048, .f32⟩
  | 119 => ⟨S8x2048x2048, .f32⟩
  | 120 => ⟨S8x2048x2048, .f32⟩
  | 121 => ⟨S8x2048x2048, .f32⟩
  | 122 => ⟨S8x2048x2048, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .i1⟩
  | _ => ⟨S2048x2560, .f32⟩

abbrev hbmTy0_1 (i : Nat) : BufTy := match i % 128 with
  | 0 => ⟨S_, .f32⟩
  | 1 => ⟨S8x2048x2048, .f32⟩
  | 2 => ⟨S8x2048x2048, .f32⟩
  | 3 => ⟨S_, .f32⟩
  | 4 => ⟨S8x2048x2048, .f32⟩
  | 5 => ⟨S8x2048x2048, .i1⟩
  | 6 => ⟨S_, .f32⟩
  | 7 => ⟨S8x2048x2048, .f32⟩
  | 8 => ⟨S8x2048x2048, .f32⟩
  | 9 => ⟨S8x2048x2048, .f32⟩
  | 10 => ⟨S8x2048x2048, .f32⟩
  | 11 => ⟨S_, .f32⟩
  | 12 => ⟨S_, .f32⟩
  | 13 => ⟨S_, .i1⟩
  | 14 => ⟨S_, .f32⟩
  | 15 => ⟨S_, .f32⟩
  | 16 => ⟨S_, .f32⟩
  | 17 => ⟨S_, .f32⟩
  | 18 => ⟨S8x2048x2048, .f32⟩
  | 19 => ⟨S8x2048x2048, .i1⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S_, .f32⟩
  | 27 => ⟨S8x2048x2048, .f32⟩
  | 28 => ⟨S8x2048x2048, .f32⟩
  | 29 => ⟨S8x2048x2048, .f32⟩
  | 30 => ⟨S_, .f32⟩
  | 31 => ⟨S_, .f32⟩
  | 32 => ⟨S8x2048x2048, .i1⟩
  | 33 => ⟨S8x2048x2048, .f32⟩
  | 34 => ⟨S8x2048x2048, .f32⟩
  | 35 => ⟨S_, .f32⟩
  | 36 => ⟨S8x2048x2048, .f32⟩
  | 37 => ⟨S_, .f32⟩
  | 38 => ⟨S_, .f32⟩
  | 39 => ⟨S8x2048x2048, .f32⟩
  | 40 => ⟨S8x2048x2048, .f32⟩
  | 41 => ⟨S8x2048x2048, .f32⟩
  | 42 => ⟨S8x2048x2048, .f32⟩
  | 43 => ⟨S_, .f32⟩
  | 44 => ⟨S_, .f32⟩
  | 45 => ⟨S8x2048x2048, .i1⟩
  | 46 => ⟨S8x2048x2048, .f32⟩
  | 47 => ⟨S8x2048x2048, .f32⟩
  | 48 => ⟨S_, .f32⟩
  | 49 => ⟨S8x2048x2048, .f32⟩
  | 50 => ⟨S8x64x2048, .f32⟩
  | 51 => ⟨S2048x8x64, .f32⟩
  | 52 => ⟨S2048x512, .f32⟩
  | 53 => ⟨S2048x512, .f32⟩
  | 54 => ⟨S2048x8x64, .f32⟩
  | 55 => ⟨S8x64x2048, .f32⟩
  | 56 => ⟨S8x2048x2048, .f32⟩
  | 57 => ⟨S8x64x2048, .f32⟩
  | 58 => ⟨S2048x8x64, .f32⟩
  | 59 => ⟨S_, .f32⟩
  | 60 => ⟨S8x2048x2048, .f32⟩
  | 61 => ⟨S8x2048x2048, .f32⟩
  | 62 => ⟨S8x2048x2048, .f32⟩
  | 63 => ⟨S8x2048x2048, .f32⟩
  | 64 => ⟨S_, .f32⟩
  | 65 => ⟨S_, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .f32⟩
  | 74 => ⟨S8x2048x2048, .f32⟩
  | 75 => ⟨S8x2048x2048, .f32⟩
  | 76 => ⟨S8x2048x2048, .f32⟩
  | 77 => ⟨S8x2048x2048, .f32⟩
  | 78 => ⟨S8x2048x2048, .f32⟩
  | 79 => ⟨S_, .f32⟩
  | 80 => ⟨S8x2048x2048, .f32⟩
  | 81 => ⟨S8x2048x2048, .f32⟩
  | 82 => ⟨S8x2048x64, .f32⟩
  | 83 => ⟨S2048x8x64, .f32⟩
  | 84 => ⟨S8x2048x64, .f32⟩
  | 85 => ⟨S2048x8x64, .f32⟩
  | 86 => ⟨S2048x512, .f32⟩
  | 87 => ⟨S2048x8x64, .f32⟩
  | 88 => ⟨S_, .f32⟩
  | 89 => ⟨S64, .f32⟩
  | 90 => ⟨S1x1x64, .f32⟩
  | 91 => ⟨S2048x8x64, .f32⟩
  | 92 => ⟨S2048x8x64, .f32⟩
  | 93 => ⟨S_, .f32⟩
  | 94 => ⟨S64, .f32⟩
  | 95 => ⟨S1x64, .f32⟩
  | 96 => ⟨S2048x8x64, .f32⟩
  | 97 => ⟨S_, .f32⟩
  | 98 => ⟨S2048x8, .f32⟩
  | 99 => ⟨S2048x8x1, .f32⟩
  | 100 => ⟨S2048x8x64, .f32⟩
  | 101 => ⟨S2048x8x64, .f32⟩
  | 102 => ⟨S2048x8x1, .f32⟩
  | 103 => ⟨S_, .f32⟩
  | 104 => ⟨S2048x8x1, .f32⟩
  | 105 => ⟨S2048x8x1, .f32⟩
  | 106 => ⟨S_, .f32⟩
  | 107 => ⟨S2048x8, .f32⟩
  | 108 => ⟨S2048x8x64, .f32⟩
  | 109 => ⟨S2048x8x64, .f32⟩
  | 110 => ⟨S2048x8x64, .f32⟩
  | 111 => ⟨S2048x8x64, .f32⟩
  | 112 => ⟨S2048x8x64, .f32⟩
  | 113 => ⟨S2048x512, .f32⟩
  | 114 => ⟨S2048x8x64, .f32⟩
  | 115 => ⟨S_, .f32⟩
  | 116 => ⟨S64, .f32⟩
  | 117 => ⟨S1x1x64, .f32⟩
  | 118 => ⟨S2048x8x64, .f32⟩
  | 119 => ⟨S2048x8x64, .f32⟩
  | 120 => ⟨S_, .f32⟩
  | 121 => ⟨S64, .f32⟩
  | 122 => ⟨S1x64, .f32⟩
  | 123 => ⟨S2048x8x64, .f32⟩
  | 124 => ⟨S_, .f32⟩
  | 125 => ⟨S2048x8, .f32⟩
  | 126 => ⟨S2048x8x1, .f32⟩
  | 127 => ⟨S2048x8x64, .f32⟩
  | _ => ⟨S2048x2560, .f32⟩

abbrev hbmTy0_2 (i : Nat) : BufTy := match i % 128 with
  | 0 => ⟨S2048x8x64, .f32⟩
  | 1 => ⟨S2048x8x1, .f32⟩
  | 2 => ⟨S_, .f32⟩
  | 3 => ⟨S2048x8x1, .f32⟩
  | 4 => ⟨S2048x8x1, .f32⟩
  | 5 => ⟨S_, .f32⟩
  | 6 => ⟨S2048x8, .f32⟩
  | 7 => ⟨S2048x8x64, .f32⟩
  | 8 => ⟨S2048x8x64, .f32⟩
  | 9 => ⟨S2048x8x64, .f32⟩
  | 10 => ⟨S2048x8x64, .f32⟩
  | 11 => ⟨S2048x8x64, .f32⟩
  | 12 => ⟨S2048x512, .f32⟩
  | 13 => ⟨S2048x512, .bf16⟩
  | 14 => ⟨S2048x512, .bf16⟩
  | 15 => ⟨S2048x512, .bf16⟩
  | _ => ⟨S2048x2560, .f32⟩

abbrev hbmTy (i : Nat) : BufTy := match i / 128 with
  | 0 => hbmTy0_0 i
  | 1 => hbmTy0_1 i
  | 2 => hbmTy0_2 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_call0_v2 : Ref sig .tc := ⟨.hbm, 65, rfl⟩
abbrev main_call0_call0_v3 : Ref sig .tc := ⟨.hbm, 66, rfl⟩
abbrev main_call0_call0_v4 : Ref sig .tc := ⟨.hbm, 67, rfl⟩
abbrev main_call0_call0_v5 : Ref sig .tc := ⟨.hbm, 68, rfl⟩
abbrev main_call0_call0_v6 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_v1_0 : Ref sig .tc := ⟨.hbm, 75, rfl⟩
abbrev main_call0_call0_cst_0 : Ref sig .tc := ⟨.hbm, 76, rfl⟩
abbrev main_call0_call0_v13 : Ref sig .tc := ⟨.hbm, 77, rfl⟩
abbrev main_call0_call0_v14 : Ref sig .tc := ⟨.hbm, 78, rfl⟩
abbrev main_call0_call0_cst_1 : Ref sig .tc := ⟨.hbm, 79, rfl⟩
abbrev main_call0_call0_v15 : Ref sig .tc := ⟨.hbm, 80, rfl⟩
abbrev main_call0_call0_v16 : Ref sig .tc := ⟨.hbm, 81, rfl⟩
abbrev main_call0_call0_cst_2 : Ref sig .tc := ⟨.hbm, 82, rfl⟩
abbrev main_call0_call0_v17 : Ref sig .tc := ⟨.hbm, 83, rfl⟩
abbrev main_call0_call0_v18 : Ref sig .tc := ⟨.hbm, 84, rfl⟩
abbrev main_call0_call0_cst_3 : Ref sig .tc := ⟨.hbm, 85, rfl⟩
abbrev main_call0_call0_v19 : Ref sig .tc := ⟨.hbm, 86, rfl⟩
abbrev main_call0_call0_v20 : Ref sig .tc := ⟨.hbm, 87, rfl⟩
abbrev main_call0_call0_v21 : Ref sig .tc := ⟨.hbm, 88, rfl⟩
abbrev main_v48_1 : Ref sig .tc := ⟨.hbm, 89, rfl⟩
abbrev main_call0_call0_cst_4 : Ref sig .tc := ⟨.hbm, 90, rfl⟩
abbrev main_call0_call0_cst_5 : Ref sig .tc := ⟨.hbm, 91, rfl⟩
abbrev main_call0_call0_v23 : Ref sig .tc := ⟨.hbm, 92, rfl⟩
abbrev main_call0_call0_cst_6 : Ref sig .tc := ⟨.hbm, 93, rfl⟩
abbrev main_call0_call0_cst_7 : Ref sig .tc := ⟨.hbm, 94, rfl⟩
abbrev main_call0_call0_v24 : Ref sig .tc := ⟨.hbm, 95, rfl⟩
abbrev main_call0_call0_cst_8 : Ref sig .tc := ⟨.hbm, 96, rfl⟩
abbrev main_call0_call0_v25 : Ref sig .tc := ⟨.hbm, 97, rfl⟩
abbrev main_call0_call0_v26 : Ref sig .tc := ⟨.hbm, 98, rfl⟩
abbrev main_call0_call0_cst_9 : Ref sig .tc := ⟨.hbm, 99, rfl⟩
abbrev main_call0_call0_v27 : Ref sig .tc := ⟨.hbm, 100, rfl⟩
abbrev main_call0_call0_v28 : Ref sig .tc := ⟨.hbm, 101, rfl⟩
abbrev main_call0_call0_v29 : Ref sig .tc := ⟨.hbm, 102, rfl⟩
abbrev main_call0_call0_v30 : Ref sig .tc := ⟨.hbm, 103, rfl⟩
abbrev main_call0_call0_v31 : Ref sig .tc := ⟨.hbm, 104, rfl⟩
abbrev main_call0_call0_cst_10 : Ref sig .tc := ⟨.hbm, 105, rfl⟩
abbrev main_call0_call0_v32 : Ref sig .tc := ⟨.hbm, 106, rfl⟩
abbrev main_v48_2 : Ref sig .tc := ⟨.hbm, 107, rfl⟩
abbrev main_v48_0 : Ref sig .tc := ⟨.hbm, 108, rfl⟩
abbrev main_v49 : Ref sig .tc := ⟨.hbm, 109, rfl⟩
abbrev main_call1_v0 : Ref sig .tc := ⟨.hbm, 110, rfl⟩
abbrev main_call1_call0_cst : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_call0_v2 : Ref sig .tc := ⟨.hbm, 114, rfl⟩
abbrev main_call1_call0_v3 : Ref sig .tc := ⟨.hbm, 115, rfl⟩
abbrev main_call1_call0_v4 : Ref sig .tc := ⟨.hbm, 116, rfl⟩
abbrev main_call1_call0_v5 : Ref sig .tc := ⟨.hbm, 117, rfl⟩
abbrev main_call1_call0_v6 : Ref sig .tc := ⟨.hbm, 118, rfl⟩
abbrev main_call1_call0_v7 : Ref sig .tc := ⟨.hbm, 119, rfl⟩
abbrev main_call1_call0_v8 : Ref sig .tc := ⟨.hbm, 120, rfl⟩
abbrev main_call1_call0_v9 : Ref sig .tc := ⟨.hbm, 121, rfl⟩
abbrev main_call1_call0_v10 : Ref sig .tc := ⟨.hbm, 122, rfl⟩
abbrev main_call1_call0_v11 : Ref sig .tc := ⟨.hbm, 123, rfl⟩
abbrev main_call1_v1_0 : Ref sig .tc := ⟨.hbm, 124, rfl⟩
abbrev main_call1_call0_cst_0 : Ref sig .tc := ⟨.hbm, 125, rfl⟩
abbrev main_call1_call0_v13 : Ref sig .tc := ⟨.hbm, 126, rfl⟩
abbrev main_call1_call0_v14 : Ref sig .tc := ⟨.hbm, 127, rfl⟩
abbrev main_call1_call0_cst_1 : Ref sig .tc := ⟨.hbm, 128, rfl⟩
abbrev main_call1_call0_v15 : Ref sig .tc := ⟨.hbm, 129, rfl⟩
abbrev main_call1_call0_v16 : Ref sig .tc := ⟨.hbm, 130, rfl⟩
abbrev main_call1_call0_cst_2 : Ref sig .tc := ⟨.hbm, 131, rfl⟩
abbrev main_call1_call0_v17 : Ref sig .tc := ⟨.hbm, 132, rfl⟩
abbrev main_call1_call0_v18 : Ref sig .tc := ⟨.hbm, 133, rfl⟩
abbrev main_call1_call0_cst_3 : Ref sig .tc := ⟨.hbm, 134, rfl⟩
abbrev main_call1_call0_v19 : Ref sig .tc := ⟨.hbm, 135, rfl⟩
abbrev main_call1_call0_v20 : Ref sig .tc := ⟨.hbm, 136, rfl⟩
abbrev main_call1_call0_v21 : Ref sig .tc := ⟨.hbm, 137, rfl⟩
abbrev main_v50_1 : Ref sig .tc := ⟨.hbm, 138, rfl⟩
abbrev main_call1_call0_cst_4 : Ref sig .tc := ⟨.hbm, 139, rfl⟩
abbrev main_call1_call0_cst_5 : Ref sig .tc := ⟨.hbm, 140, rfl⟩
abbrev main_call1_call0_v23 : Ref sig .tc := ⟨.hbm, 141, rfl⟩
abbrev main_call1_call0_cst_6 : Ref sig .tc := ⟨.hbm, 142, rfl⟩
abbrev main_call1_call0_cst_7 : Ref sig .tc := ⟨.hbm, 143, rfl⟩
abbrev main_call1_call0_v24 : Ref sig .tc := ⟨.hbm, 144, rfl⟩
abbrev main_call1_call0_cst_8 : Ref sig .tc := ⟨.hbm, 145, rfl⟩
abbrev main_call1_call0_v25 : Ref sig .tc := ⟨.hbm, 146, rfl⟩
abbrev main_call1_call0_v26 : Ref sig .tc := ⟨.hbm, 147, rfl⟩
abbrev main_call1_call0_cst_9 : Ref sig .tc := ⟨.hbm, 148, rfl⟩
abbrev main_call1_call0_v27 : Ref sig .tc := ⟨.hbm, 149, rfl⟩
abbrev main_call1_call0_v28 : Ref sig .tc := ⟨.hbm, 150, rfl⟩
abbrev main_call1_call0_v29 : Ref sig .tc := ⟨.hbm, 151, rfl⟩
abbrev main_call1_call0_v30 : Ref sig .tc := ⟨.hbm, 152, rfl⟩
abbrev main_call1_call0_v31 : Ref sig .tc := ⟨.hbm, 153, rfl⟩
abbrev main_call1_call0_cst_10 : Ref sig .tc := ⟨.hbm, 154, rfl⟩
abbrev main_call1_call0_v32 : Ref sig .tc := ⟨.hbm, 155, rfl⟩
abbrev main_v50_2 : Ref sig .tc := ⟨.hbm, 156, rfl⟩
abbrev main_v50_0 : Ref sig .tc := ⟨.hbm, 157, rfl⟩
abbrev main_cst_8 : Ref sig .tc := ⟨.hbm, 158, rfl⟩
abbrev main_call2_v0 : Ref sig .tc := ⟨.hbm, 159, rfl⟩
abbrev main_v51_1 : Ref sig .tc := ⟨.hbm, 160, rfl⟩
abbrev main_call2_v2 : Ref sig .tc := ⟨.hbm, 161, rfl⟩
abbrev main_v51_0 : Ref sig .tc := ⟨.hbm, 162, rfl⟩
abbrev main_call2_cst : Ref sig .tc := ⟨.hbm, 163, rfl⟩
abbrev main_v51_2 : Ref sig .tc := ⟨.hbm, 164, rfl⟩
abbrev main_call3_cst : Ref sig .tc := ⟨.hbm, 165, rfl⟩
abbrev main_call3_v0 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_cst_9 : Ref sig .tc := ⟨.hbm, 171, rfl⟩
abbrev main_call4_v0 : Ref sig .tc := ⟨.hbm, 172, rfl⟩
abbrev main_v56_1 : Ref sig .tc := ⟨.hbm, 173, rfl⟩
abbrev main_call4_v2 : Ref sig .tc := ⟨.hbm, 174, rfl⟩
abbrev main_v56_0 : Ref sig .tc := ⟨.hbm, 175, rfl⟩
abbrev main_call4_cst : Ref sig .tc := ⟨.hbm, 176, rfl⟩
abbrev main_v56_2 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_call5_cst : Ref sig .tc := ⟨.hbm, 187, rfl⟩
abbrev main_call5_v0 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_call6_cst : Ref sig .tc := ⟨.hbm, 192, rfl⟩
abbrev main_call6_v0 : Ref sig .tc := ⟨.hbm, 193, rfl⟩
abbrev main_v69 : Ref sig .tc := ⟨.hbm, 194, rfl⟩
abbrev main_v70 : Ref sig .tc := ⟨.hbm, 195, rfl⟩
abbrev main_call7_cst : Ref sig .tc := ⟨.hbm, 196, rfl⟩
abbrev main_call7_v0 : Ref sig .tc := ⟨.hbm, 197, rfl⟩
abbrev main_v71 : Ref sig .tc := ⟨.hbm, 198, rfl⟩
abbrev main_call8_v0 : Ref sig .tc := ⟨.hbm, 199, rfl⟩
abbrev main_call8_v1 : Ref sig .tc := ⟨.hbm, 200, rfl⟩
abbrev main_v72 : Ref sig .tc := ⟨.hbm, 201, rfl⟩
abbrev main_v73 : Ref sig .tc := ⟨.hbm, 202, rfl⟩
abbrev main_call9_v0 : Ref sig .tc := ⟨.hbm, 203, rfl⟩
abbrev main_call9_v1 : Ref sig .tc := ⟨.hbm, 204, rfl⟩
abbrev main_v74 : Ref sig .tc := ⟨.hbm, 205, rfl⟩
abbrev main_v75 : Ref sig .tc := ⟨.hbm, 206, rfl⟩
abbrev main_cst_10 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_cst_11 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_cst_12 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_cst_13 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_cst_14 : Ref sig .tc := ⟨.hbm, 231, rfl⟩
abbrev main_v96 : Ref sig .tc := ⟨.hbm, 232, rfl⟩
abbrev main_v97 : Ref sig .tc := ⟨.hbm, 233, rfl⟩
abbrev main_cst_15 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_cst_16 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_cst_17 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_cst_18 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_cst_19 : Ref sig .tc := ⟨.hbm, 258, rfl⟩
abbrev main_v118 : Ref sig .tc := ⟨.hbm, 259, rfl⟩
abbrev main_v119 : Ref sig .tc := ⟨.hbm, 260, rfl⟩
abbrev main_cst_20 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩

abbrev nD : Nat := 1
abbrev τ : Topo := Topo.v7x

variable {F : FTy → Type} [FloatOps F]
-- ==== Up.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S256x2816 : Shape := ⟨2, ![256, 2816]⟩
abbrev S256x1024 : Shape := ⟨2, ![256, 1024]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefUpIdeal.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1024x5632, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x5632, .f32⟩
  | .hbm, ⟨27, _⟩ => ⟨S2048x5632, .bf16⟩
  | .hbm, ⟨28, _⟩ => ⟨S2048x5632, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Dw.lean ====
abbrev S2048x1024 : Shape := ⟨2, ![2048, 1024]⟩
abbrev S1x1024 : Shape := ⟨2, ![1, 1024]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 22
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2816, .bf16⟩
  | .hbm, ⟨3, _⟩ => ⟨S2048x2816, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S1024x2048, .bf16⟩
  | .hbm, ⟨21, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond4 (i : grid0.Coords) : BitVec 1 :=
  let arg2 : BitVec 32 := BitVec.ofNat 32 (i 2).val
  let c1_i32_33 : BitVec 32 := 1#32
  let v81 : BitVec 1 := Scalar.cmpi .eq arg2 c1_i32_33
  let v82 : BitVec 32 := Scalar.extui v81
  let c0_i32_34 : BitVec 32 := 0#32
  let v83 : BitVec 1 := Scalar.cmpi .ne v82 c0_i32_34
  v83

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.select v17 v27 c0_i32_12
  let c1_i32_13 : BitVec 32 := 1#32
  let v29 : BitVec 32 := Scalar.divsi arg0 c1_i32_13
  let c0_i32_14 : BitVec 32 := 0#32
  let v30 : BitVec 1 := Scalar.cmpi .sgt arg0 c0_i32_14
  let v31 : BitVec 32 := Scalar.extui v30
  let c0_i32_15 : BitVec 32 := 0#32
  let v32 : BitVec 1 := Scalar.cmpi .slt arg0 c0_i32_15
  let v33 : BitVec 32 := Scalar.extui v32
  let v34 : BitVec 32 := Scalar.subi v31 v33
  let c0_i32_16 : BitVec 32 := 0#32
  let v35 : BitVec 1 := Scalar.cmpi .sgt c1_i32_13 c0_i32_16
  let v36 : BitVec 32 := Scalar.extui v35
  let c0_i32_17 : BitVec 32 := 0#32
  let v37 : BitVec 1 := Scalar.cmpi .slt c1_i32_13 c0_i32_17
  let v38 : BitVec 32 := Scalar.extui v37
  let v39 : BitVec 32 := Scalar.subi v36 v38
  let v40 : BitVec 1 := Scalar.cmpi .ne v34 v39
  let v41 : BitVec 32 := Scalar.remsi arg0 c1_i32_13
  let c0_i32_18 : BitVec 32 := 0#32
  let v42 : BitVec 1 := Scalar.cmpi .ne v41 c0_i32_18
  let v43 : BitVec 1 := Scalar.andi v40 v42
  let c1_i32_19 : BitVec 32 := 1#32
  let v44 : BitVec 32 := Scalar.subi v29 c1_i32_19
  let v45 : BitVec 32 := Scalar.select v43 v44 v29
  let c0_i32_20 : BitVec 32 := 0#32
  let v46 : BitVec 1 := Scalar.cmpi .eq v45 c0_i32_20
  let c0_i32_21 : BitVec 32 := 0#32
  let v47 : BitVec 32 := Scalar.select v46 arg2 c0_i32_21
  let c0_i32_22 : BitVec 32 := 0#32
  ![v28.toNat, v47.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c1_i32_13 : BitVec 32 := 1#32
  let v36 : BitVec 1 := Scalar.cmpi .eq v35 c1_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDwIdeal.lean ====
abbrev S2048x1024 : Shape := ⟨2, ![2048, 1024]⟩
abbrev S1x1024 : Shape := ⟨2, ![1, 1024]⟩
abbrev S2048x2816 : Shape := ⟨2, ![2048, 2816]⟩
abbrev S2048x5632 : Shape := ⟨2, ![2048, 5632]⟩
abbrev S_ : Shape := ⟨0, ![]⟩
abbrev S1024x5632 : Shape := ⟨2, ![1024, 5632]⟩
abbrev S2048 : Shape := ⟨1, ![2048]⟩
abbrev S2048x1 : Shape := ⟨2, ![2048, 1]⟩
abbrev S5632x1024 : Shape := ⟨2, ![5632, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2816, .bf16⟩
  | .hbm, ⟨3, _⟩ => ⟨S2048x2816, .bf16⟩
  | .hbm, ⟨4, _⟩ => ⟨S2048x5632, .bf16⟩
  | .hbm, ⟨5, _⟩ => ⟨S2048x5632, .f32⟩
  | .hbm, ⟨6, _⟩ => ⟨S_, .f32⟩
  | .hbm, ⟨7, _⟩ => ⟨S1024x5632, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x5632, .f32⟩
  | .hbm, ⟨24, _⟩ => ⟨S5632x1024, .f32⟩
  | .hbm, ⟨25, _⟩ => ⟨S1024x5632, .f32⟩
  | .hbm, ⟨26, _⟩ => ⟨S1024x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Down.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDownIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x2816, .f32⟩
  | .hbm, ⟨7, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x2816 : Shape := ⟨2, ![2048, 2816]⟩
abbrev S2048x1024 : Shape := ⟨2, ![2048, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_16 : BitVec 32 := 1#32
  let v42 : BitVec 1 := Scalar.cmpi .eq arg2 c1_i32_16
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let v19 : BitVec 32 := Scalar.divsi arg0 c2_i32_6
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .slt arg0 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg0 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg0 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg1 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDwIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpFwd.lean ====
abbrev S2048x1024 : Shape := ⟨2, ![2048, 1024]⟩
abbrev S1x1024 : Shape := ⟨2, ![1, 1024]⟩
abbrev S1024x5632 : Shape := ⟨2, ![1024, 5632]⟩
abbrev S1024x2048 : Shape := ⟨2, ![1024, 2048]⟩
abbrev S2048x5632 : Shape := ⟨2, ![2048, 5632]⟩
abbrev S256x1024 : Shape := ⟨2, ![256, 1024]⟩
abbrev S1024x256 : Shape := ⟨2, ![1024, 256]⟩
abbrev S256x5632 : Shape := ⟨2, ![256, 5632]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .bf16⟩
  | .hbm, ⟨3, _⟩ => ⟨S1024x2048, .bf16⟩
  | .hbm, ⟨4, _⟩ => ⟨S2048x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S1024x256, .bf16⟩
  | .local _ .vmem, ⟨5, _⟩ => ⟨S1024x256, .bf16⟩
  | .local _ .vmem, ⟨6, _⟩ => ⟨S256x5632, .f32⟩
  | .local _ .vmem, ⟨7, _⟩ => ⟨S256x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefUpFwdIdeal.lean ====
abbrev S2048x1024 : Shape := ⟨2, ![2048, 1024]⟩
abbrev S1x1024 : Shape := ⟨2, ![1, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S2048x5632 : Shape := ⟨2, ![2048, 5632]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S1024x2048, .bf16⟩
  | .hbm, ⟨20, _⟩ => ⟨S1024x5632, .f32⟩
  | .hbm, ⟨21, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DownFwd.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefDownFwdIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S2048x512 : Shape := ⟨2, ![2048, 512]⟩
abbrev S1024x2560 : Shape := ⟨2, ![1024, 2560]⟩
abbrev S2048x1024 : Shape := ⟨2, ![2048, 1024]⟩
abbrev S1x1024 : Shape := ⟨2, ![1, 1024]⟩
abbrev S256x512 : Shape := ⟨2, ![256, 512]⟩
abbrev S256x1024 : Shape := ⟨2, ![256, 1024]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S1024x2560, .bf16⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1024x2560, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RefInIdeal.lean ====
abbrev S2048x512 : Shape := ⟨2, ![2048, 512]⟩
abbrev S1024x2560 : Shape := ⟨2, ![1024, 2560]⟩
abbrev S2048x1024 : Shape := ⟨2, ![2048, 1024]⟩
abbrev S1x1024 : Shape := ⟨2, ![1, 1024]⟩
abbrev S2048x2560 : Shape := ⟨2, ![2048, 2560]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S1024x2560, .bf16⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S1024x2560, .f32⟩
  | .hbm, ⟨10, _⟩ => ⟨S2048x2560, .bf16⟩
  | .hbm, ⟨11, _⟩ => ⟨S2048x2560, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x2560, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== InDw.lean ====
abbrev S2048x1024 : Shape := ⟨2, ![2048, 1024]⟩
abbrev S1x1024 : Shape := ⟨2, ![1, 1024]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S1024x2560 : Shape := ⟨2, ![1024, 2560]⟩
abbrev S1024x1024 : Shape := ⟨2, ![1024, 1024]⟩
abbrev S1024x512 : Shape := ⟨2, ![1024, 512]⟩

abbrev nBuf : Space → Nat
  | .hbm => 25
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S1024x2048, .bf16⟩
  | .hbm, ⟨24, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 5, 2], ![false, false, false]⟩

def k0_cond7 (i : grid0.Coords) : BitVec 1 :=
  let arg2 : BitVec 32 := BitVec.ofNat 32 (i 2).val
  let c1_i32_82 : BitVec 32 := 1#32
  let v198 : BitVec 1 := Scalar.cmpi .eq arg2 c1_i32_82
  let v199 : BitVec 32 := Scalar.extui v198
  let c0_i32_83 : BitVec 32 := 0#32
  let v200 : BitVec 1 := Scalar.cmpi .ne v199 c0_i32_83
  v200

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.select v17 v27 c0_i32_12
  let c1_i32_13 : BitVec 32 := 1#32
  let v29 : BitVec 32 := Scalar.divsi arg0 c1_i32_13
  let c0_i32_14 : BitVec 32 := 0#32
  let v30 : BitVec 1 := Scalar.cmpi .sgt arg0 c0_i32_14
  let v31 : BitVec 32 := Scalar.extui v30
  let c0_i32_15 : BitVec 32 := 0#32
  let v32 : BitVec 1 := Scalar.cmpi .slt arg0 c0_i32_15
  let v33 : BitVec 32 := Scalar.extui v32
  let v34 : BitVec 32 := Scalar.subi v31 v33
  let c0_i32_16 : BitVec 32 := 0#32
  let v35 : BitVec 1 := Scalar.cmpi .sgt c1_i32_13 c0_i32_16
  let v36 : BitVec 32 := Scalar.extui v35
  let c0_i32_17 : BitVec 32 := 0#32
  let v37 : BitVec 1 := Scalar.cmpi .slt c1_i32_13 c0_i32_17
  let v38 : BitVec 32 := Scalar.extui v37
  let v39 : BitVec 32 := Scalar.subi v36 v38
  let v40 : BitVec 1 := Scalar.cmpi .ne v34 v39
  let v41 : BitVec 32 := Scalar.remsi arg0 c1_i32_13
  let c0_i32_18 : BitVec 32 := 0#32
  let v42 : BitVec 1 := Scalar.cmpi .ne v41 c0_i32_18
  let v43 : BitVec 1 := Scalar.andi v40 v42
  let c1_i32_19 : BitVec 32 := 1#32
  let v44 : BitVec 32 := Scalar.subi v29 c1_i32_19
  let v45 : BitVec 32 := Scalar.select v43 v44 v29
  let c0_i32_20 : BitVec 32 := 0#32
  let v46 : BitVec 1 := Scalar.cmpi .eq v45 c0_i32_20
  let c0_i32_21 : BitVec 32 := 0#32
  let v47 : BitVec 32 := Scalar.select v46 arg2 c0_i32_21
  let c0_i32_22 : BitVec 32 := 0#32
  ![v28.toNat, v47.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg1 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c1_i32_14 : BitVec 32 := 1#32
  let v36 : BitVec 1 := Scalar.cmpi .eq v35 c1_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg1 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c1_i32_14 : BitVec 32 := 1#32
  let c0_i32_15 : BitVec 32 := 0#32
  let v37 : BitVec 1 := Scalar.cmpi .eq c1_i32_14 c0_i32_15
  let c1_i32_16 : BitVec 32 := 1#32
  let v38 : BitVec 32 := Scalar.select v37 c1_i32_16 c1_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32_13 : BitVec 32 := 3#32
  let v36 : BitVec 1 := Scalar.cmpi .eq v35 c3_i32_13
  let c1_i32_14 : BitVec 32 := 1#32
  let c0_i32_15 : BitVec 32 := 0#32
  let v37 : BitVec 1 := Scalar.cmpi .eq c1_i32_14 c0_i32_15
  let c1_i32_16 : BitVec 32 := 1#32
  let v38 : BitVec 32 := Scalar.select v37 c1_i32_16 c1_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 1 := Scalar.cmpi .eq v16 c4_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c4_i32_13 : BitVec 32 := 4#32
  let v36 : BitVec 1 := Scalar.cmpi .eq v35 c4_i32_13
  let c1_i32_14 : BitVec 32 := 1#32
  let c0_i32_15 : BitVec 32 := 0#32
  let v37 : BitVec 1 := Scalar.cmpi .eq c1_i32_14 c0_i32_15
  let c1_i32_16 : BitVec 32 := 1#32
  let v38 : BitVec 32 := Scalar.select v37 c1_i32_16 c1_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== RefInDwIdeal.lean ====
abbrev S2048x1024 : Shape := ⟨2, ![2048, 1024]⟩
abbrev S1x1024 : Shape := ⟨2, ![1, 1024]⟩
abbrev S2048x512 : Shape := ⟨2, ![2048, 512]⟩
abbrev S2048x2560 : Shape := ⟨2, ![2048, 2560]⟩
abbrev S_ : Shape := ⟨0, ![]⟩
abbrev S1024x2560 : Shape := ⟨2, ![1024, 2560]⟩
abbrev S2048 : Shape := ⟨1, ![2048]⟩
abbrev S2048x1 : Shape := ⟨2, ![2048, 1]⟩
abbrev S2560x1024 : Shape := ⟨2, ![2560, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S2048x2560, .bf16⟩
  | .hbm, ⟨8, _⟩ => ⟨S2048x2560, .f32⟩
  | .hbm, ⟨9, _⟩ => ⟨S_, .f32⟩
  | .hbm, ⟨10, _⟩ => ⟨S1024x2560, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x2560, .f32⟩
  | .hbm, ⟨27, _⟩ => ⟨S2560x1024, .f32⟩
  | .hbm, ⟨28, _⟩ => ⟨S1024x2560, .f32⟩
  | .hbm, ⟨29, _⟩ => ⟨S1024x2560, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== InFwd.lean ====
abbrev S2048x1024 : Shape := ⟨2, ![2048, 1024]⟩
abbrev S1x1024 : Shape := ⟨2, ![1, 1024]⟩
abbrev S1024x2560 : Shape := ⟨2, ![1024, 2560]⟩
abbrev S1024x2048 : Shape := ⟨2, ![1024, 2048]⟩
abbrev S2048x2560 : Shape := ⟨2, ![2048, 2560]⟩
abbrev S256x1024 : Shape := ⟨2, ![256, 1024]⟩
abbrev S1024x256 : Shape := ⟨2, ![1024, 256]⟩
abbrev S256x2560 : Shape := ⟨2, ![256, 2560]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .bf16⟩
  | .hbm, ⟨3, _⟩ => ⟨S1024x2048, .bf16⟩
  | .hbm, ⟨4, _⟩ => ⟨S2048x2560, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2560, .bf16⟩
  | .local _ .vmem, ⟨4, _⟩ => ⟨S1024x256, .bf16⟩
  | .local _ .vmem, ⟨5, _⟩ => ⟨S1024x256, .bf16⟩
  | .local _ .vmem, ⟨6, _⟩ => ⟨S256x2560, .f32⟩
  | .local _ .vmem, ⟨7, _⟩ => ⟨S256x2560, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefInFwdIdeal.lean ====
abbrev S2048x1024 : Shape := ⟨2, ![2048, 1024]⟩
abbrev S1x1024 : Shape := ⟨2, ![1, 1024]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S2048x2560 : Shape := ⟨2, ![2048, 2560]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S1024x2048, .bf16⟩
  | .hbm, ⟨20, _⟩ => ⟨S1024x2560, .f32⟩
  | .hbm, ⟨21, _⟩ => ⟨S2048x2560, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefOutIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S2048x512 : Shape := ⟨2, ![2048, 512]⟩
abbrev S2048x1024 : Shape := ⟨2, ![2048, 1024]⟩
abbrev S512x2048 : Shape := ⟨2, ![512, 2048]⟩
abbrev S1024x1024 : Shape := ⟨2, ![1024, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x1024, .f32⟩
  | .hbm, ⟨3, _⟩ => ⟨S512x2048, .bf16⟩
  | .hbm, ⟨4, _⟩ => ⟨S512x2048, .bf16⟩
  | .hbm, ⟨5, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond4 (i : grid0.Coords) : BitVec 1 :=
  let arg2 : BitVec 32 := BitVec.ofNat 32 (i 2).val
  let c1_i32_34 : BitVec 32 := 1#32
  let v81 : BitVec 1 := Scalar.cmpi .eq arg2 c1_i32_34
  let v82 : BitVec 32 := Scalar.extui v81
  let c0_i32_35 : BitVec 32 := 0#32
  let v83 : BitVec 1 := Scalar.cmpi .ne v82 c0_i32_35
  v83

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.select v17 v27 c0_i32_12
  let c1_i32_13 : BitVec 32 := 1#32
  let v29 : BitVec 32 := Scalar.divsi arg0 c1_i32_13
  let c0_i32_14 : BitVec 32 := 0#32
  let v30 : BitVec 1 := Scalar.cmpi .sgt arg0 c0_i32_14
  let v31 : BitVec 32 := Scalar.extui v30
  let c0_i32_15 : BitVec 32 := 0#32
  let v32 : BitVec 1 := Scalar.cmpi .slt arg0 c0_i32_15
  let v33 : BitVec 32 := Scalar.extui v32
  let v34 : BitVec 32 := Scalar.subi v31 v33
  let c0_i32_16 : BitVec 32 := 0#32
  let v35 : BitVec 1 := Scalar.cmpi .sgt c1_i32_13 c0_i32_16
  let v36 : BitVec 32 := Scalar.extui v35
  let c0_i32_17 : BitVec 32 := 0#32
  let v37 : BitVec 1 := Scalar.cmpi .slt c1_i32_13 c0_i32_17
  let v38 : BitVec 32 := Scalar.extui v37
  let v39 : BitVec 32 := Scalar.subi v36 v38
  let v40 : BitVec 1 := Scalar.cmpi .ne v34 v39
  let v41 : BitVec 32 := Scalar.remsi arg0 c1_i32_13
  let c0_i32_18 : BitVec 32 := 0#32
  let v42 : BitVec 1 := Scalar.cmpi .ne v41 c0_i32_18
  let v43 : BitVec 1 := Scalar.andi v40 v42
  let c1_i32_19 : BitVec 32 := 1#32
  let v44 : BitVec 32 := Scalar.subi v29 c1_i32_19
  let v45 : BitVec 32 := Scalar.select v43 v44 v29
  let c0_i32_20 : BitVec 32 := 0#32
  let v46 : BitVec 1 := Scalar.cmpi .eq v45 c0_i32_20
  let c0_i32_21 : BitVec 32 := 0#32
  let v47 : BitVec 32 := Scalar.select v46 arg2 c0_i32_21
  let c0_i32_22 : BitVec 32 := 0#32
  ![v28.toNat, v47.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.select v17 v27 c0_i32_12
  let c1_i32_13 : BitVec 32 := 1#32
  let v29 : BitVec 32 := Scalar.divsi arg0 c1_i32_13
  let c0_i32_14 : BitVec 32 := 0#32
  let v30 : BitVec 1 := Scalar.cmpi .sgt arg0 c0_i32_14
  let v31 : BitVec 32 := Scalar.extui v30
  let c0_i32_15 : BitVec 32 := 0#32
  let v32 : BitVec 1 := Scalar.cmpi .slt arg0 c0_i32_15
  let v33 : BitVec 32 := Scalar.extui v32
  let v34 : BitVec 32 := Scalar.subi v31 v33
  let c0_i32_16 : BitVec 32 := 0#32
  let v35 : BitVec 1 := Scalar.cmpi .sgt c1_i32_13 c0_i32_16
  let v36 : BitVec 32 := Scalar.extui v35
  let c0_i32_17 : BitVec 32 := 0#32
  let v37 : BitVec 1 := Scalar.cmpi .slt c1_i32_13 c0_i32_17
  let v38 : BitVec 32 := Scalar.extui v37
  let v39 : BitVec 32 := Scalar.subi v36 v38
  let v40 : BitVec 1 := Scalar.cmpi .ne v34 v39
  let v41 : BitVec 32 := Scalar.remsi arg0 c1_i32_13
  let c0_i32_18 : BitVec 32 := 0#32
  let v42 : BitVec 1 := Scalar.cmpi .ne v41 c0_i32_18
  let v43 : BitVec 1 := Scalar.andi v40 v42
  let c1_i32_19 : BitVec 32 := 1#32
  let v44 : BitVec 32 := Scalar.subi v29 c1_i32_19
  let v45 : BitVec 32 := Scalar.select v43 v44 v29
  let c1_i32_20 : BitVec 32 := 1#32
  let v46 : BitVec 1 := Scalar.cmpi .eq v45 c1_i32_20
  let c0_i32_21 : BitVec 32 := 0#32
  let v47 : BitVec 32 := Scalar.select v46 arg2 c0_i32_21
  let c0_i32_22 : BitVec 32 := 0#32
  ![v28.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg1 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefOutDwIdeal.lean ====
abbrev S2048x512 : Shape := ⟨2, ![2048, 512]⟩
abbrev S2048x1024 : Shape := ⟨2, ![2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x1024, .f32⟩
  | .hbm, ⟨3, _⟩ => ⟨S2048x1024, .bf16⟩
  | .hbm, ⟨4, _⟩ => ⟨S2048x1024, .f32⟩
  | .hbm, ⟨5, _⟩ => ⟨S_, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutFwd.lean ====
abbrev S2048x512 : Shape := ⟨2, ![2048, 512]⟩
abbrev S1024x1024 : Shape := ⟨2, ![1024, 1024]⟩
abbrev S2048x1024 : Shape := ⟨2, ![2048, 1024]⟩
abbrev S512x512 : Shape := ⟨2, ![512, 512]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x1024, .bf16⟩
  | .hbm, ⟨3, _⟩ => ⟨S2048x1024, .f32⟩
  | .hbm, ⟨4, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefOutFwdIdeal.lean ====
abbrev S2048x512 : Shape := ⟨2, ![2048, 512]⟩
abbrev S1024x1024 : Shape := ⟨2, ![1024, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x1024, .bf16⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ln.lean ====
abbrev S2048x512 : Shape := ⟨2, ![2048, 512]⟩
abbrev S1x512 : Shape := ⟨2, ![1, 512]⟩
abbrev S2048x1024 : Shape := ⟨2, ![2048, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x1024, .f32⟩
  | .hbm, ⟨4, _⟩ => ⟨S2048x512, .f32⟩
  | .hbm, ⟨5, _⟩ => ⟨S1x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefLnIdeal.lean ====
abbrev S2048x512 : Shape := ⟨2, ![2048, 512]⟩
abbrev S1x512 : Shape := ⟨2, ![1, 512]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S512 : Shape := ⟨1, ![512]⟩

abbrev nBuf : Space → Nat
  | .hbm => 88
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S2048x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x512, .f32⟩
  | .hbm, ⟨65, _⟩ => ⟨S2048x512, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x512, .f32⟩
  | .hbm, ⟨87, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== LnFwd.lean ====
abbrev S2048x512 : Shape := ⟨2, ![2048, 512]⟩
abbrev S1x512 : Shape := ⟨2, ![1, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S2048x512, .bf16⟩
  | .hbm, ⟨4, _⟩ => ⟨S512x2048, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefLnFwdIdeal.lean ====
abbrev S2048x512 : Shape := ⟨2, ![2048, 512]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S512x2048 : Shape := ⟨2, ![512, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .bf16⟩
  | .hbm, ⟨38, _⟩ => ⟨S512x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Loss.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RefLossIdeal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamNormIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQk.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamQkIdeal.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamQkIdeal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvW.lean ====
abbrev S4x31x128 : Shape := ⟨3, ![4, 31, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S4x31x128, .f32⟩
  | .hbm, ⟨5, _⟩ => ⟨S4x31x128, .f32⟩
  | .hbm, ⟨6, _⟩ => ⟨S4x31x128, .f32⟩
  | .local _ .vmem, ⟨0, _⟩ => ⟨S4x31x128, .f32⟩
  | .local _ .vmem, ⟨1, _⟩ => ⟨S4x31x128, .f32⟩
  | .local _ .vmem, ⟨2, _⟩ => ⟨S4x31x128, .f32⟩
  | .local _ .vmem, ⟨3, _⟩ => ⟨S4x31x128, .f32⟩
  | .local _ .vmem, ⟨4, _⟩ => ⟨S4x31x128, .f32⟩
  | .local _ .vmem, ⟨5, _⟩ => ⟨S4x31x128, .f32⟩
  | .local _ .vmem, ⟨6, _⟩ => ⟨S4x31x128, .f32⟩
  | _, _ => ⟨S4x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvWIdeal.lean ====
abbrev S4x31x128 : Shape := ⟨3, ![4, 31, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S4x31x128, .f32⟩
  | .hbm, ⟨5, _⟩ => ⟨S4x31x128, .f32⟩
  | .hbm, ⟨6, _⟩ => ⟨S4x31x128, .f32⟩
  | .local _ .vmem, ⟨0, _⟩ => ⟨S4x31x128, .f32⟩
  | .local _ .vmem, ⟨1, _⟩ => ⟨S4x31x128, .f32⟩
  | .local _ .vmem, ⟨2, _⟩ => ⟨S4x31x128, .f32⟩
  | .local _ .vmem, ⟨3, _⟩ => ⟨S4x31x128, .f32⟩
  | .local _ .vmem, ⟨4, _⟩ => ⟨S4x31x128, .f32⟩
  | .local _ .vmem, ⟨5, _⟩ => ⟨S4x31x128, .f32⟩
  | .local _ .vmem, ⟨6, _⟩ => ⟨S4x31x128, .f32⟩
  | _, _ => ⟨S4x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamConvWIdeal.lean ====
abbrev S4x31x128 : Shape := ⟨3, ![4, 31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S_, .f32⟩
  | .hbm, ⟨5, _⟩ => ⟨S4x31x128, .f32⟩
  | .hbm, ⟨6, _⟩ => ⟨S4x31x128, .f32⟩
  | .hbm, ⟨7, _⟩ => ⟨S_, .f32⟩
  | .hbm, ⟨8, _⟩ => ⟨S4x31x128, .f32⟩
  | .hbm, ⟨9, _⟩ => ⟨S4x31x128, .f32⟩
  | .hbm, ⟨10, _⟩ => ⟨S4x31x128, .f32⟩
  | .hbm, ⟨11, _⟩ => ⟨S_, .f32⟩
  | .hbm, ⟨12, _⟩ => ⟨S4x31x128, .f32⟩
  | .hbm, ⟨13, _⟩ => ⟨S4x31x128, .f32⟩
  | .hbm, ⟨14, _⟩ => ⟨S4x31x128, .f32⟩
  | .hbm, ⟨15, _⟩ => ⟨S_, .f32⟩
  | .hbm, ⟨16, _⟩ => ⟨S4x31x128, .f32⟩
  | .hbm, ⟨17, _⟩ => ⟨S4x31x128, .f32⟩
  | .hbm, ⟨18, _⟩ => ⟨S4x31x128, .f32⟩
  | .hbm, ⟨19, _⟩ => ⟨S_, .f32⟩
  | .hbm, ⟨20, _⟩ => ⟨S4x31x128, .f32⟩
  | .hbm, ⟨21, _⟩ => ⟨S4x31x128, .f32⟩
  | .hbm, ⟨22, _⟩ => ⟨S_, .f32⟩
  | .hbm, ⟨23, _⟩ => ⟨S4x31x128, .f32⟩
  | .hbm, ⟨24, _⟩ => ⟨S4x31x128, .f32⟩
  | .hbm, ⟨25, _⟩ => ⟨S4x31x128, .f32⟩
  | .hbm, ⟨26, _⟩ => ⟨S_, .f32⟩
  | .hbm, ⟨27, _⟩ => ⟨S4x31x128, .f32⟩
  | .hbm, ⟨28, _⟩ => ⟨S4x31x128, .f32⟩
  | .hbm, ⟨29, _⟩ => ⟨S4x31x128, .f32⟩
  | .hbm, ⟨30, _⟩ => ⟨S_, .f32⟩
  | .hbm, ⟨31, _⟩ => ⟨S4x31x128, .f32⟩
  | .hbm, ⟨32, _⟩ => ⟨S4x31x128, .f32⟩
  | .hbm, ⟨33, _⟩ => ⟨S4x31x128, .f32⟩
  | .hbm, ⟨34, _⟩ => ⟨S_, .f32⟩
  | .hbm, ⟨35, _⟩ => ⟨S4x31x128, .f32⟩
  | .hbm, ⟨36, _⟩ => ⟨S4x31x128, .f32⟩
  | _, _ => ⟨S4x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvB.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvBIdeal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamConvBIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnW.lean ====
abbrev S4x3x704 : Shape := ⟨3, ![4, 3, 704]⟩

abbrev nBuf : Space → Nat
  | .hbm => 7
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S4x3x704, .f32⟩
  | .hbm, ⟨5, _⟩ => ⟨S4x3x704, .f32⟩
  | .hbm, ⟨6, _⟩ => ⟨S4x3x704, .f32⟩
  | .local _ .vmem, ⟨0, _⟩ => ⟨S4x3x704, .f32⟩
  | .local _ .vmem, ⟨1, _⟩ => ⟨S4x3x704, .f32⟩
  | .local _ .vmem, ⟨2, _⟩ => ⟨S4x3x704, .f32⟩
  | .local _ .vmem, ⟨3, _⟩ => ⟨S4x3x704, .f32⟩
  | .local _ .vmem, ⟨4, _⟩ => ⟨S4x3x704, .f32⟩
  | .local _ .vmem, ⟨5, _⟩ => ⟨S4x3x704, .f32⟩
  | .local _ .vmem, ⟨6, _⟩ => ⟨S4x3x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamFfnWIdeal.lean ====
abbrev S4x3x704 : Shape := ⟨3, ![4, 3, 704]⟩

abbrev nBuf : Space → Nat
  | .hbm => 7
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S4x3x704, .f32⟩
  | .hbm, ⟨5, _⟩ => ⟨S4x3x704, .f32⟩
  | .hbm, ⟨6, _⟩ => ⟨S4x3x704, .f32⟩
  | .local _ .vmem, ⟨0, _⟩ => ⟨S4x3x704, .f32⟩
  | .local _ .vmem, ⟨1, _⟩ => ⟨S4x3x704, .f32⟩
  | .local _ .vmem, ⟨2, _⟩ => ⟨S4x3x704, .f32⟩
  | .local _ .vmem, ⟨3, _⟩ => ⟨S4x3x704, .f32⟩
  | .local _ .vmem, ⟨4, _⟩ => ⟨S4x3x704, .f32⟩
  | .local _ .vmem, ⟨5, _⟩ => ⟨S4x3x704, .f32⟩
  | .local _ .vmem, ⟨6, _⟩ => ⟨S4x3x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamFfnWIdeal.lean ====
abbrev S4x3x704 : Shape := ⟨3, ![4, 3, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S_, .f32⟩
  | .hbm, ⟨5, _⟩ => ⟨S4x3x704, .f32⟩
  | .hbm, ⟨6, _⟩ => ⟨S4x3x704, .f32⟩
  | .hbm, ⟨7, _⟩ => ⟨S_, .f32⟩
  | .hbm, ⟨8, _⟩ => ⟨S4x3x704, .f32⟩
  | .hbm, ⟨9, _⟩ => ⟨S4x3x704, .f32⟩
  | .hbm, ⟨10, _⟩ => ⟨S4x3x704, .f32⟩
  | .hbm, ⟨11, _⟩ => ⟨S_, .f32⟩
  | .hbm, ⟨12, _⟩ => ⟨S4x3x704, .f32⟩
  | .hbm, ⟨13, _⟩ => ⟨S4x3x704, .f32⟩
  | .hbm, ⟨14, _⟩ => ⟨S4x3x704, .f32⟩
  | .hbm, ⟨15, _⟩ => ⟨S_, .f32⟩
  | .hbm, ⟨16, _⟩ => ⟨S4x3x704, .f32⟩
  | .hbm, ⟨17, _⟩ => ⟨S4x3x704, .f32⟩
  | .hbm, ⟨18, _⟩ => ⟨S4x3x704, .f32⟩
  | .hbm, ⟨19, _⟩ => ⟨S_, .f32⟩
  | .hbm, ⟨20, _⟩ => ⟨S4x3x704, .f32⟩
  | .hbm, ⟨21, _⟩ => ⟨S4x3x704, .f32⟩
  | .hbm, ⟨22, _⟩ => ⟨S_, .f32⟩
  | .hbm, ⟨23, _⟩ => ⟨S4x3x704, .f32⟩
  | .hbm, ⟨24, _⟩ => ⟨S4x3x704, .f32⟩
  | .hbm, ⟨25, _⟩ => ⟨S4x3x704, .f32⟩
  | .hbm, ⟨26, _⟩ => ⟨S_, .f32⟩
  | .hbm, ⟨27, _⟩ => ⟨S4x3x704, .f32⟩
  | .hbm, ⟨28, _⟩ => ⟨S4x3x704, .f32⟩
  | .hbm, ⟨29, _⟩ => ⟨S4x3x704, .f32⟩
  | .hbm, ⟨30, _⟩ => ⟨S_, .f32⟩
  | .hbm, ⟨31, _⟩ => ⟨S4x3x704, .f32⟩
  | .hbm, ⟨32, _⟩ => ⟨S4x3x704, .f32⟩
  | .hbm, ⟨33, _⟩ => ⟨S4x3x704, .f32⟩
  | .hbm, ⟨34, _⟩ => ⟨S_, .f32⟩
  | .hbm, ⟨35, _⟩ => ⟨S4x3x704, .f32⟩
  | .hbm, ⟨36, _⟩ => ⟨S4x3x704, .f32⟩
  | _, _ => ⟨S4x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnB.lean ====
abbrev S4x2816 : Shape := ⟨2, ![4, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S4x2816, .f32⟩
  | .hbm, ⟨5, _⟩ => ⟨S4x2816, .f32⟩
  | .hbm, ⟨6, _⟩ => ⟨S4x2816, .f32⟩
  | .local _ .vmem, ⟨0, _⟩ => ⟨S4x2816, .f32⟩
  | .local _ .vmem, ⟨1, _⟩ => ⟨S4x2816, .f32⟩
  | .local _ .vmem, ⟨2, _⟩ => ⟨S4x2816, .f32⟩
  | .local _ .vmem, ⟨3, _⟩ => ⟨S4x2816, .f32⟩
  | .local _ .vmem, ⟨4, _⟩ => ⟨S4x2816, .f32⟩
  | .local _ .vmem, ⟨5, _⟩ => ⟨S4x2816, .f32⟩
  | .local _ .vmem, ⟨6, _⟩ => ⟨S4x2816, .f32⟩
  | _, _ => ⟨S4x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamFfnBIdeal.lean ====
abbrev S4x2816 : Shape := ⟨2, ![4, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S_, .f32⟩
  | .hbm, ⟨5, _⟩ => ⟨S4x2816, .f32⟩
  | .hbm, ⟨6, _⟩ => ⟨S4x2816, .f32⟩
  | .hbm, ⟨7, _⟩ => ⟨S_, .f32⟩
  | .hbm, ⟨8, _⟩ => ⟨S4x2816, .f32⟩
  | .hbm, ⟨9, _⟩ => ⟨S4x2816, .f32⟩
  | .hbm, ⟨10, _⟩ => ⟨S4x2816, .f32⟩
  | .hbm, ⟨11, _⟩ => ⟨S_, .f32⟩
  | .hbm, ⟨12, _⟩ => ⟨S4x2816, .f32⟩
  | .hbm, ⟨13, _⟩ => ⟨S4x2816, .f32⟩
  | .hbm, ⟨14, _⟩ => ⟨S4x2816, .f32⟩
  | .hbm, ⟨15, _⟩ => ⟨S_, .f32⟩
  | .hbm, ⟨16, _⟩ => ⟨S4x2816, .f32⟩
  | .hbm, ⟨17, _⟩ => ⟨S4x2816, .f32⟩
  | .hbm, ⟨18, _⟩ => ⟨S4x2816, .f32⟩
  | .hbm, ⟨19, _⟩ => ⟨S_, .f32⟩
  | .hbm, ⟨20, _⟩ => ⟨S4x2816, .f32⟩
  | .hbm, ⟨21, _⟩ => ⟨S4x2816, .f32⟩
  | .hbm, ⟨22, _⟩ => ⟨S_, .f32⟩
  | .hbm, ⟨23, _⟩ => ⟨S4x2816, .f32⟩
  | .hbm, ⟨24, _⟩ => ⟨S4x2816, .f32⟩
  | .hbm, ⟨25, _⟩ => ⟨S4x2816, .f32⟩
  | .hbm, ⟨26, _⟩ => ⟨S_, .f32⟩
  | .hbm, ⟨27, _⟩ => ⟨S4x2816, .f32⟩
  | .hbm, ⟨28, _⟩ => ⟨S4x2816, .f32⟩
  | .hbm, ⟨29, _⟩ => ⟨S4x2816, .f32⟩
  | .hbm, ⟨30, _⟩ => ⟨S_, .f32⟩
  | .hbm, ⟨31, _⟩ => ⟨S4x2816, .f32⟩
  | .hbm, ⟨32, _⟩ => ⟨S4x2816, .f32⟩
  | .hbm, ⟨33, _⟩ => ⟨S4x2816, .f32⟩
  | .hbm, ⟨34, _⟩ => ⟨S_, .f32⟩
  | .hbm, ⟨35, _⟩ => ⟨S4x2816, .f32⟩
  | .hbm, ⟨36, _⟩ => ⟨S4x2816, .f32⟩
  | _, _ => ⟨S4x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S4x1024x640 : Shape := ⟨3, ![4, 1024, 640]⟩
abbrev S1024x640 : Shape := ⟨2, ![1024, 640]⟩
abbrev S1x256x640 : Shape := ⟨3, ![1, 256, 640]⟩
abbrev S256x640 : Shape := ⟨2, ![256, 640]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S4x1024x640, .f32⟩
  | .hbm, ⟨6, _⟩ => ⟨S4x1024x640, .f32⟩
  | .hbm, ⟨7, _⟩ => ⟨S4x1024x640, .f32⟩
  | .hbm, ⟨8, _⟩ => ⟨S4x1024x640, .f32⟩
  | .hbm, ⟨9, _⟩ => ⟨S4x1024x640, .f32⟩
  | .hbm, ⟨10, _⟩ => ⟨S4x1024x640, .f32⟩
  | .local _ .vmem, ⟨0, _⟩ => ⟨S1x256x640, .f32⟩
  | .local _ .vmem, ⟨1, _⟩ => ⟨S1x256x640, .f32⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | .local _ .vmem, ⟨18, _⟩ => ⟨S1x256x640, .f32⟩
  | .local _ .vmem, ⟨19, _⟩ => ⟨S1x256x640, .f32⟩
  | .local _ .vmem, ⟨20, _⟩ => ⟨S1x256x640, .f32⟩
  | .local _ .vmem, ⟨21, _⟩ => ⟨S1x256x640, .f32⟩
  | _, _ => ⟨S4x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInIdeal.lean ====
abbrev S4x1024x640 : Shape := ⟨3, ![4, 1024, 640]⟩
abbrev S1024x640 : Shape := ⟨2, ![1024, 640]⟩
abbrev S1x256x640 : Shape := ⟨3, ![1, 256, 640]⟩
abbrev S256x640 : Shape := ⟨2, ![256, 640]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S4x1024x640, .f32⟩
  | .hbm, ⟨6, _⟩ => ⟨S4x1024x640, .f32⟩
  | .hbm, ⟨7, _⟩ => ⟨S4x1024x640, .f32⟩
  | .hbm, ⟨8, _⟩ => ⟨S4x1024x640, .f32⟩
  | .hbm, ⟨9, _⟩ => ⟨S4x1024x640, .f32⟩
  | .hbm, ⟨10, _⟩ => ⟨S4x1024x640, .f32⟩
  | .local _ .vmem, ⟨0, _⟩ => ⟨S1x256x640, .f32⟩
  | .local _ .vmem, ⟨1, _⟩ => ⟨S1x256x640, .f32⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | .local _ .vmem, ⟨18, _⟩ => ⟨S1x256x640, .f32⟩
  | .local _ .vmem, ⟨19, _⟩ => ⟨S1x256x640, .f32⟩
  | .local _ .vmem, ⟨20, _⟩ => ⟨S1x256x640, .f32⟩
  | .local _ .vmem, ⟨21, _⟩ => ⟨S1x256x640, .f32⟩
  | _, _ => ⟨S4x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamInIdeal.lean ====
abbrev S4x1024x640 : Shape := ⟨3, ![4, 1024, 640]⟩
abbrev S1024x640 : Shape := ⟨2, ![1024, 640]⟩
abbrev S1x1024x640 : Shape := ⟨3, ![1, 1024, 640]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S4x1024x640, .f32⟩
  | .hbm, ⟨6, _⟩ => ⟨S4x1024x640, .f32⟩
  | .hbm, ⟨7, _⟩ => ⟨S1x1024x640, .f32⟩
  | .hbm, ⟨8, _⟩ => ⟨S1x1024x640, .f32⟩
  | .hbm, ⟨9, _⟩ => ⟨S1x1024x640, .f32⟩
  | .hbm, ⟨10, _⟩ => ⟨S1x1024x640, .f32⟩
  | .hbm, ⟨11, _⟩ => ⟨S4x1024x640, .f32⟩
  | .hbm, ⟨12, _⟩ => ⟨S_, .f32⟩
  | .hbm, ⟨13, _⟩ => ⟨S4x1024x640, .f32⟩
  | .hbm, ⟨14, _⟩ => ⟨S4x1024x640, .f32⟩
  | .hbm, ⟨15, _⟩ => ⟨S_, .f32⟩
  | .hbm, ⟨16, _⟩ => ⟨S4x1024x640, .f32⟩
  | .hbm, ⟨17, _⟩ => ⟨S4x1024x640, .f32⟩
  | .hbm, ⟨18, _⟩ => ⟨S4x1024x640, .f32⟩
  | .hbm, ⟨19, _⟩ => ⟨S_, .f32⟩
  | .hbm, ⟨20, _⟩ => ⟨S4x1024x640, .f32⟩
  | .hbm, ⟨21, _⟩ => ⟨S4x1024x640, .f32⟩
  | .hbm, ⟨22, _⟩ => ⟨S4x1024x640, .f32⟩
  | .hbm, ⟨23, _⟩ => ⟨S_, .f32⟩
  | .hbm, ⟨24, _⟩ => ⟨S4x1024x640, .f32⟩
  | .hbm, ⟨25, _⟩ => ⟨S4x1024x640, .f32⟩
  | .hbm, ⟨26, _⟩ => ⟨S4x1024x640, .f32⟩
  | .hbm, ⟨27, _⟩ => ⟨S_, .f32⟩
  | .hbm, ⟨28, _⟩ => ⟨S4x1024x640, .f32⟩
  | .hbm, ⟨29, _⟩ => ⟨S4x1024x640, .f32⟩
  | .hbm, ⟨30, _⟩ => ⟨S_, .f32⟩
  | .hbm, ⟨31, _⟩ => ⟨S4x1024x640, .f32⟩
  | .hbm, ⟨32, _⟩ => ⟨S4x1024x640, .f32⟩
  | .hbm, ⟨33, _⟩ => ⟨S4x1024x640, .f32⟩
  | .hbm, ⟨34, _⟩ => ⟨S_, .f32⟩
  | .hbm, ⟨35, _⟩ => ⟨S4x1024x640, .f32⟩
  | .hbm, ⟨36, _⟩ => ⟨S4x1024x640, .f32⟩
  | .hbm, ⟨37, _⟩ => ⟨S4x1024x640, .f32⟩
  | .hbm, ⟨38, _⟩ => ⟨S_, .f32⟩
  | .hbm, ⟨39, _⟩ => ⟨S4x1024x640, .f32⟩
  | .hbm, ⟨40, _⟩ => ⟨S4x1024x640, .f32⟩
  | .hbm, ⟨41, _⟩ => ⟨S4x1024x640, .f32⟩
  | .hbm, ⟨42, _⟩ => ⟨S_, .f32⟩
  | .hbm, ⟨43, _⟩ => ⟨S4x1024x640, .f32⟩
  | .hbm, ⟨44, _⟩ => ⟨S4x1024x640, .f32⟩
  | _, _ => ⟨S4x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamOut.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutIdeal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamOutIdeal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S4x256x1024, .f32⟩
  | .hbm, ⟨6, _⟩ => ⟨S4x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S4x256x1024, .f32⟩
  | .hbm, ⟨12, _⟩ => ⟨S_, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamUp.lean ====
abbrev S4x1024x1408 : Shape := ⟨3, ![4, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpIdeal.lean ====
abbrev S4x1024x1408 : Shape := ⟨3, ![4, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamUpIdeal.lean ====
abbrev S4x1024x1408 : Shape := ⟨3, ![4, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S4x1024x1408, .f32⟩
  | .hbm, ⟨6, _⟩ => ⟨S4x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S4x1024x1408, .f32⟩
  | .hbm, ⟨12, _⟩ => ⟨S_, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .hbm, ⟨23, _⟩ => ⟨S_, .f32⟩
  | .hbm, ⟨24, _⟩ => ⟨S4x1024x1408, .f32⟩
  | .hbm, ⟨25, _⟩ => ⟨S4x1024x1408, .f32⟩
  | .hbm, ⟨26, _⟩ => ⟨S4x1024x1408, .f32⟩
  | .hbm, ⟨27, _⟩ => ⟨S_, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .f32⟩
  | .hbm, ⟨38, _⟩ => ⟨S_, .f32⟩
  | .hbm, ⟨39, _⟩ => ⟨S4x1024x1408, .f32⟩
  | .hbm, ⟨40, _⟩ => ⟨S4x1024x1408, .f32⟩
  | .hbm, ⟨41, _⟩ => ⟨S4x1024x1408, .f32⟩
  | .hbm, ⟨42, _⟩ => ⟨S_, .f32⟩
  | .hbm, ⟨43, _⟩ => ⟨S4x1024x1408, .f32⟩
  | .hbm, ⟨44, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamDown.lean ====
abbrev S4x704x1024 : Shape := ⟨3, ![4, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefAdamDownIdeal.lean ====
abbrev S4x704x1024 : Shape := ⟨3, ![4, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S4x704x1024, .f32⟩
  | .hbm, ⟨6, _⟩ => ⟨S4x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S4x704x1024, .f32⟩
  | .hbm, ⟨12, _⟩ => ⟨S_, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .hbm, ⟨23, _⟩ => ⟨S_, .f32⟩
  | .hbm, ⟨24, _⟩ => ⟨S4x704x1024, .f32⟩
  | .hbm, ⟨25, _⟩ => ⟨S4x704x1024, .f32⟩
  | .hbm, ⟨26, _⟩ => ⟨S4x704x1024, .f32⟩
  | .hbm, ⟨27, _⟩ => ⟨S_, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S4x704x1024, .f32⟩
  | .hbm, ⟨38, _⟩ => ⟨S_, .f32⟩
  | .hbm, ⟨39, _⟩ => ⟨S4x704x1024, .f32⟩
  | .hbm, ⟨40, _⟩ => ⟨S4x704x1024, .f32⟩
  | .hbm, ⟨41, _⟩ => ⟨S4x704x1024, .f32⟩
  | .hbm, ⟨42, _⟩ => ⟨S_, .f32⟩
  | .hbm, ⟨43, _⟩ => ⟨S4x704x1024, .f32⟩
  | .hbm, ⟨44, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.AttnCheck.lean ====
/- The side condition the attention body assumes of the word it reads: it holds of every word, for the
   key loop starts at that word clipped to lie between zero and the query tile's number. -/
module

public import proofs.«01_k».proof.Proof.Gen.KernelIdeal.Skeleton
public import Idealize.ShloMosaic.Lib.WordArith

@[expose] public section

set_option maxRecDepth 16384

namespace Cert.KernelIdeal.Attn

open Cert.KernelIdeal Cert.KernelIdeal.Gen
open Idealize.ShloMosaic Idealize.ShloMosaic.TcCoe

/-- The first key tile of a query tile lies between zero and the query tile's number, whatever the word. -/
theorem first_le (t : Fin k0_t1_loop.trips) (v : BitVec 32) :
    ∃ n : Fin 8, n.val ≤ t.val ∧ Scalar.minsi (Scf.iv 0#32 1#32 t) (Scalar.maxsi 0#32 v) = BitVec.ofNat 32 n.val := by
  have ht : t.val < 8 := lt_of_lt_of_eq t.isLt (by decide +kernel)
  have hiv : Scf.iv 0#32 1#32 t = BitVec.ofNat 32 t.val := by
    revert t; decide +kernel
  have hmax : (Scalar.maxsi 0#32 v).toNat = v.toInt.toNat := Idealize.ShloMosaic.WordArith.toNat_maxsi_zero v
  rw [hiv]
  generalize Scalar.maxsi 0#32 v = u at hmax
  have hu : u.toNat < 2 ^ 31 := by
    have := BitVec.toInt_lt (x := v); omega
  show ∃ n : Fin 8, n.val ≤ t.val ∧ (if (BitVec.ofNat 32 t.val).slt u then BitVec.ofNat 32 t.val else u) = BitVec.ofNat 32 n.val
  by_cases h : (BitVec.ofNat 32 t.val).slt u
  · exact ⟨⟨t.val, ht⟩, le_refl _, by rw [if_pos h]⟩
  · have hn : u.toNat ≤ t.val := by
      rw [BitVec.slt_iff_toInt_lt] at h
      rw [BitVec.toInt_eq_toNat_of_lt (x := u) (by omega),
        BitVec.toInt_eq_toNat_of_lt (x := BitVec.ofNat 32 t.val) (by simp; omega)] at h
      simp at h; omega
    exact ⟨⟨u.toNat, by omega⟩, hn, by rw [if_neg h]; simp⟩

/-- The assumed condition with the first key tile's word as a variable. -/
def chkAt (t : Fin k0_t1_loop.trips) (w : BitVec 32) : Prop :=
  (⟨w, Scalar.addi w (Scalar.muli (Scalar.divsi (Scalar.subi (Scf.iv 0#32 1#32 t) w) 1#32) 1#32), 1#32⟩ : Scf.Loop 32).OK ∧
  (∀ k : Fin (⟨w, Scalar.addi w (Scalar.muli (Scalar.divsi (Scalar.subi (Scf.iv 0#32 1#32 t) w) 1#32) 1#32), 1#32⟩ : Scf.Loop 32).trips, 256 ∣ (Scalar.muli (Scf.iv w 1#32 k) 256#32).toNat) ∧
  (∀ k : Fin (⟨w, Scalar.addi w (Scalar.muli (Scalar.divsi (Scalar.subi (Scf.iv 0#32 1#32 t) w) 1#32) 1#32), 1#32⟩ : Scf.Loop 32).trips, ∀ a, (![0, (Scalar.indexCast (Scalar.muli (Scf.iv w 1#32 k) 256#32) : BitVec 32).toNat, 0] : Fin 3 → Nat) a + S1x256x64.size a ≤ S4x2048x64.size a) ∧
  (∀ k : Fin (⟨w, Scalar.addi w (Scalar.muli (Scalar.divsi (Scalar.subi (Scf.iv 0#32 1#32 t) w) 1#32) 1#32), 1#32⟩ : Scf.Loop 32).trips, ∀ a, (![1, (Scalar.indexCast (Scalar.muli (Scf.iv w 1#32 k) 256#32) : BitVec 32).toNat, 0] : Fin 3 → Nat) a + S1x256x64.size a ≤ S4x2048x64.size a) ∧
  (∀ k : Fin (⟨w, Scalar.addi w (Scalar.muli (Scalar.divsi (Scalar.subi (Scf.iv 0#32 1#32 t) w) 1#32) 1#32), 1#32⟩ : Scf.Loop 32).trips, ∀ a, (![2, (Scalar.indexCast (Scalar.muli (Scf.iv w 1#32 k) 256#32) : BitVec 32).toNat, 0] : Fin 3 → Nat) a + S1x256x64.size a ≤ S4x2048x64.size a) ∧
  (∀ k : Fin (⟨w, Scalar.addi w (Scalar.muli (Scalar.divsi (Scalar.subi (Scf.iv 0#32 1#32 t) w) 1#32) 1#32), 1#32⟩ : Scf.Loop 32).trips, ∀ a, (![3, (Scalar.indexCast (Scalar.muli (Scf.iv w 1#32 k) 256#32) : BitVec 32).toNat, 0] : Fin 3 → Nat) a + S1x256x64.size a ≤ S4x2048x64.size a) ∧
  (⟨Scalar.addi w (Scalar.muli (Scalar.divsi (Scalar.subi (Scf.iv 0#32 1#32 t) w) 1#32) 1#32), Scalar.addi w (Scalar.subi (Scf.iv 0#32 1#32 t) w), 1#32⟩ : Scf.Loop 32).OK ∧
  (∀ k : Fin (⟨Scalar.addi w (Scalar.muli (Scalar.divsi (Scalar.subi (Scf.iv 0#32 1#32 t) w) 1#32) 1#32), Scalar.addi w (Scalar.subi (Scf.iv 0#32 1#32 t) w), 1#32⟩ : Scf.Loop 32).trips, 256 ∣ (Scalar.muli (Scf.iv (Scalar.addi w (Scalar.muli (Scalar.divsi (Scalar.subi (Scf.iv 0#32 1#32 t) w) 1#32) 1#32)) 1#32 k) 256#32).toNat) ∧
  (∀ k : Fin (⟨Scalar.addi w (Scalar.muli (Scalar.divsi (Scalar.subi (Scf.iv 0#32 1#32 t) w) 1#32) 1#32), Scalar.addi w (Scalar.subi (Scf.iv 0#32 1#32 t) w), 1#32⟩ : Scf.Loop 32).trips, ∀ a, (![0, (Scalar.indexCast (Scalar.muli (Scf.iv (Scalar.addi w (Scalar.muli (Scalar.divsi (Scalar.subi (Scf.iv 0#32 1#32 t) w) 1#32) 1#32)) 1#32 k) 256#32) : BitVec 32).toNat, 0] : Fin 3 → Nat) a + S1x256x64.size a ≤ S4x2048x64.size a) ∧
  (∀ k : Fin (⟨Scalar.addi w (Scalar.muli (Scalar.divsi (Scalar.subi (Scf.iv 0#32 1#32 t) w) 1#32) 1#32), Scalar.addi w (Scalar.subi (Scf.iv 0#32 1#32 t) w), 1#32⟩ : Scf.Loop 32).trips, ∀ a, (![1, (Scalar.indexCast (Scalar.muli (Scf.iv (Scalar.addi w (Scalar.muli (Scalar.divsi (Scalar.subi (Scf.iv 0#32 1#32 t) w) 1#32) 1#32)) 1#32 k) 256#32) : BitVec 32).toNat, 0] : Fin 3 → Nat) a + S1x256x64.size a ≤ S4x2048x64.size a) ∧
  (∀ k : Fin (⟨Scalar.addi w (Scalar.muli (Scalar.divsi (Scalar.subi (Scf.iv 0#32 1#32 t) w) 1#32) 1#32), Scalar.addi w (Scalar.subi (Scf.iv 0#32 1#32 t) w), 1#32⟩ : Scf.Loop 32).trips, ∀ a, (![2, (Scalar.indexCast (Scalar.muli (Scf.iv (Scalar.addi w (Scalar.muli (Scalar.divsi (Scalar.subi (Scf.iv 0#32 1#32 t) w) 1#32) 1#32)) 1#32 k) 256#32) : BitVec 32).toNat, 0] : Fin 3 → Nat) a + S1x256x64.size a ≤ S4x2048x64.size a) ∧
  (∀ k : Fin (⟨Scalar.addi w (Scalar.muli (Scalar.divsi (Scalar.subi (Scf.iv 0#32 1#32 t) w) 1#32) 1#32), Scalar.addi w (Scalar.subi (Scf.iv 0#32 1#32 t) w), 1#32⟩ : Scf.Loop 32).trips, ∀ a, (![3, (Scalar.indexCast (Scalar.muli (Scf.iv (Scalar.addi w (Scalar.muli (Scalar.divsi (Scalar.subi (Scf.iv 0#32 1#32 t) w) 1#32) 1#32)) 1#32 k) 256#32) : BitVec 32).toNat, 0] : Fin 3 → Nat) a + S1x256x64.size a ≤ S4x2048x64.size a)

instance (t : Fin k0_t1_loop.trips) (w : BitVec 32) : Decidable (chkAt t w) := by unfold chkAt; infer_instance

/-- The assumed condition holds of every word. -/
theorem chk_all (t : Fin k0_t1_loop.trips) (v : BitVec 32) : k0_chk1 t v := by
  obtain ⟨n, hn, h⟩ := first_le t v
  have key : ∀ (t : Fin k0_t1_loop.trips) (n : Fin 8), n.val ≤ t.val → chkAt t (BitVec.ofNat 32 n.val) := by
    decide +kernel
  have : chkAt t (Scalar.minsi (Scf.iv 0#32 1#32 t) (Scalar.maxsi 0#32 v)) := h ▸ key t n hn
  exact this

end Cert.KernelIdeal.Attn

end
-- ==== Proof.AttnTile.lean ====
/- One query tile of the attention backward kernel: what a trip of the outer loop leaves in the three
   scratch buffers, as lists of stored pieces found by running the region once. -/
module

public import proofs.«01_k».proof.Proof.Gen.KernelIdeal.Loops
public import proofs.«01_k».proof.Proof.AttnCheck
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers a query tile touches: the ones it reads at their contents, the scratch at any. -/
abbrev Tile (c : Dev nD) (arg5 : Memref sig .tc .vmem S1x2048x256 .f32) (arg6 : Memref sig .tc .vmem S2048x256 .f32) (arg7 : Memref sig .tc .vmem S256x256 .bf16) (arg8 : Memref sig .tc .vmem S256x256 .bf16) (arg9 : Memref sig .tc .smem S2x8 .f32) (arg10 : Memref sig .tc .vmem S4x2048x64 .bf16) (arg11 : Memref sig .tc .vmem S4x2048x64 .bf16) (arg12 : Memref sig .tc .vmem S4x2048x64 .bf16) (arg18 : Memref sig .tc .vmem S4x2048x64 .f32) (arg19 : Memref sig .tc .vmem S4x2048x64 .f32) (arg20 : Memref sig .tc .vmem S4x2048x64 .f32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f18 : BufTy.Contents (Elt F) arg18.view.ty) (f19 : BufTy.Contents (Elt F) arg19.view.ty) (f20 : BufTy.Contents (Elt F) arg20.view.ty) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))

set_option maxHeartbeats 4000000 in
/-- One query tile, run at a symbolic tile number. -/
@[irreducible] def tile (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k0_t1_loop.trips) :
    Σ' (L18 : BufTy.Contents (Elt F) arg18.view.ty → BufTy.Contents (Elt F) arg19.view.ty → BufTy.Contents (Elt F) arg20.view.ty → List (View.Piece (Elt F) S4x2048x64 .f32)) (L19 : BufTy.Contents (Elt F) arg18.view.ty → BufTy.Contents (Elt F) arg19.view.ty → BufTy.Contents (Elt F) arg20.view.ty → List (View.Piece (Elt F) S4x2048x64 .f32)), { L20 : BufTy.Contents (Elt F) arg18.view.ty → BufTy.Contents (Elt F) arg19.view.ty → BufTy.Contents (Elt F) arg20.view.ty → List (View.Piece (Elt F) S4x2048x64 .f32) // ∀ (E : Set ℕ) (f18 : BufTy.Contents (Elt F) arg18.view.ty) (f19 : BufTy.Contents (Elt F) arg19.view.ty) (f20 : BufTy.Contents (Elt F) arg20.view.ty),
      Tile (F := F) c arg5 arg6 arg7 arg8 arg9 arg10 arg11 arg12 arg18 arg19 arg20 X5 X6 X7 X8 X9 X10 X11 X12 f18 f19 f20
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 k ())
          (fun _ => Tile (F := F) c arg5 arg6 arg7 arg8 arg9 arg10 arg11 arg12 arg18 arg19 arg20 X5 X6 X7 X8 X9 X10 X11 X12 (arg18.view.writes (Elt F) f18 (L18 f18 f19 f20)) (arg19.view.writes (Elt F) f19 (L19 f18 f19 f20)) (arg20.view.writes (Elt F) f20 (L20 f18 f19 f20))) } := by
  refine ⟨?_, ?_, ?_, fun E f18 f19 f20 => ?run⟩
  case run =>
    unfold k0_t1_body
    iintro ⟨H5, H6, H7, H8, H9, H10, H11, H12, H18, H19, H20⟩
    sl_exec (disch := exact chk_all _ _)
    sl_step
    sl_close

end Cert.KernelIdeal.Attn

end
-- ==== Proof.AttnLoop.lean ====
/- The outer loop of the attention backward kernel by its invariant: before query tile `k` the three
   scratch buffers hold what the tiles before it left, one after the other. -/
module

public import proofs.«01_k».proof.Proof.AttnTile

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces the query tiles before `k` have stored into the scratch, last first, from what it holds at the first. -/
def tiles (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G18 : BufTy.Contents (Elt F) arg18.view.ty) (G19 : BufTy.Contents (Elt F) arg19.view.ty) (G20 : BufTy.Contents (Elt F) arg20.view.ty) : ℕ → List (View.Piece (Elt F) S4x2048x64 .f32) × List (View.Piece (Elt F) S4x2048x64 .f32) × List (View.Piece (Elt F) S4x2048x64 .f32)
  | 0 => ([], [], [])
  | k + 1 =>
    let p := tiles 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20 k
    if h : k < k0_t1_loop.trips then
      let T := tile (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 ⟨k, h⟩
      (T.1 (arg18.view.writes (Elt F) G18 p.1) (arg19.view.writes (Elt F) G19 p.2.1) (arg20.view.writes (Elt F) G20 p.2.2) ++ p.1, T.2.1 (arg18.view.writes (Elt F) G18 p.1) (arg19.view.writes (Elt F) G19 p.2.1) (arg20.view.writes (Elt F) G20 p.2.2) ++ p.2.1, T.2.2.1 (arg18.view.writes (Elt F) G18 p.1) (arg19.view.writes (Elt F) G19 p.2.1) (arg20.view.writes (Elt F) G20 p.2.2) ++ p.2.2)
    else p

theorem tiles_succ (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G18 : BufTy.Contents (Elt F) arg18.view.ty) (G19 : BufTy.Contents (Elt F) arg19.view.ty) (G20 : BufTy.Contents (Elt F) arg20.view.ty) (k : Fin k0_t1_loop.trips) :
    tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20 (k.val + 1)
      = (let p := tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20 k.val
         let T := tile (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k
         (T.1 (arg18.view.writes (Elt F) G18 p.1) (arg19.view.writes (Elt F) G19 p.2.1) (arg20.view.writes (Elt F) G20 p.2.2) ++ p.1, T.2.1 (arg18.view.writes (Elt F) G18 p.1) (arg19.view.writes (Elt F) G19 p.2.1) (arg20.view.writes (Elt F) G20 p.2.2) ++ p.2.1, T.2.2.1 (arg18.view.writes (Elt F) G18 p.1) (arg19.view.writes (Elt F) G19 p.2.1) (arg20.view.writes (Elt F) G20 p.2.2) ++ p.2.2)) := by
  rw [tiles.eq_2]; exact dif_pos k.isLt

/-- The invariant before query tile `k`. -/
abbrev inv_t1 (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G18 : BufTy.Contents (Elt F) arg18.view.ty) (G19 : BufTy.Contents (Elt F) arg19.view.ty) (G20 : BufTy.Contents (Elt F) arg20.view.ty) (k : ℕ) (acc : Unit) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg18.view.loc (c : Thread nD τ) ↦[arg18.view.set]{fullShare} f) ∗ ⌜f = arg18.view.writes (Elt F) G18 (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20 k).1⌝) ∗ (∃ f, (arg19.view.loc (c : Thread nD τ) ↦[arg19.view.set]{fullShare} f) ∗ ⌜f = arg19.view.writes (Elt F) G19 (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20 k).2.1⌝) ∗ (∃ f, (arg20.view.loc (c : Thread nD τ) ↦[arg20.view.set]{fullShare} f) ∗ ⌜f = arg20.view.writes (Elt F) G20 (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20 k).2.2⌝))

set_option warn.classDefReducibility false in
/-- The loop over query tiles by its invariant. -/
@[sl_loop] def loopInv_k0_t1 (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (arg0 : BitVec 32) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (G18 : BufTy.Contents (Elt F) arg18.view.ty) (G19 : BufTy.Contents (Elt F) arg19.view.ty) (G20 : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 where
  inv := inv_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 G18 G19 G20
  step k acc := by
    iintro ⟨H5, H6, H7, H8, H9, H10, H11, H12, ⟨%f18, H18, %h18⟩, ⟨%f19, H19, %h19⟩, ⟨%f20, H20, %h20⟩⟩
    iapply (wp_wand_r Idealize.ShloMosaic.frame (wpE (defs₀ (F := F)) 𝒱 (c : Thread nD τ) bd) E)
    isplitl [H5 H6 H7 H8 H9 H10 H11 H12 H18 H19 H20]
    · iapply ((tile (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg0 X5 X6 X7 X8 X9 X10 X11 X12 k).2.2.2 E f18 f19 f20)
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H18]; · iexact H18
      isplitl [H19]; · iexact H19
      iexact H20
    · iintro %yld ⟨H5, H6, H7, H8, H9, H10, H11, H12, H18, H19, H20⟩
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      simp only [tiles_succ]
      subst h18 h19 h20
      isplitl [H18]
      · iexists _; isplitl [H18]; · iexact H18
        ipureintro; rw [← View.writes_append]
      isplitl [H19]
      · iexists _; isplitl [H19]; · iexact H19
        ipureintro; rw [← View.writes_append]
      iexists _; isplitl [H20]; · iexact H20
      ipureintro; rw [← View.writes_append]

end Cert.KernelIdeal.Attn

end
-- ==== Proof.AttnRunA.lean ====
/- The body of the attention backward kernel at the first grid point: what it leaves in the five output blocks, as
   lists of stored pieces found by running it once. -/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The test by which the body finds out that it is at the first grid point. -/
abbrev first (i : grid0.Coords) : Prop := (Scalar.cmpi .ne (Scalar.extui (Scalar.cmpi .eq (BitVec.ofNat 32 (i 0).val) 0#32)) 0#32) = 1#1

set_option maxHeartbeats 8000000 in
/-- The body, run once, at the first grid point. -/
@[irreducible] def runA (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc : first i) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) :
    Σ' (L13 : BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S2048x256 .bf16)) (L14 : BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S2048x256 .bf16)) (L15 : BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S2048x256 .bf16)) (L16 : BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg16.view.ty), { L17 : BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg17.view.ty // ∀ (E : Set ℕ) (K : PUnit → sProp 𝕄) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} (arg13.view.writes (Elt F) f13 (L13 f16 f17 f18 f19 f20))) ∗ (arg14.view.loc (c : Thread nD τ) ↦[arg14.view.set]{fullShare} (arg14.view.writes (Elt F) f14 (L14 f16 f17 f18 f19 f20))) ∗ (arg15.view.loc (c : Thread nD τ) ↦[arg15.view.set]{fullShare} (arg15.view.writes (Elt F) f15 (L15 f16 f17 f18 f19 f20))) ∗ (arg16.view.loc (c : Thread nD τ) ↦[arg16.view.set]{fullShare} (L16 f16 f17 f18 f19 f20)) ∗ (arg17.view.loc (c : Thread nD τ) ↦[arg17.view.set]{fullShare} (L17 f16 f17 f18 f19 f20)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K f13 f14 f15 f16 f17 f18 f19 f20 => ?run⟩
  case run =>
    simp only [cc0_attn_bwd_eq_skeleton]; unfold cc0_attn_bwd_skel
    simp only [k0_part28_eq_skeleton]
    iintro ⟨H1, H2, H3, H4, H5, H6, H7, H8, H9, H10, H11, H12, H13, H14, H15, H16, H17, H18, H19, H20, Hk⟩
    sl_exec (disch := first | sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    iexists _; iexact H20

end Cert.KernelIdeal.Attn

end
-- ==== Proof.AttnRunB.lean ====
/- The body of the attention backward kernel at the second grid point: what it leaves in the five output blocks, as
   lists of stored pieces found by running it once. -/
module

public import proofs.«01_k».proof.Proof.AttnRunA

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The body, run once, at the second grid point. -/
@[irreducible] def runB (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (hc : ¬ first i) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) :
    Σ' (L13 : BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S2048x256 .bf16)) (L14 : BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S2048x256 .bf16)) (L15 : BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S2048x256 .bf16)) (L16 : BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg16.view.ty), { L17 : BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg17.view.ty // ∀ (E : Set ℕ) (K : PUnit → sProp 𝕄) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} (arg13.view.writes (Elt F) f13 (L13 f16 f17 f18 f19 f20))) ∗ (arg14.view.loc (c : Thread nD τ) ↦[arg14.view.set]{fullShare} (arg14.view.writes (Elt F) f14 (L14 f16 f17 f18 f19 f20))) ∗ (arg15.view.loc (c : Thread nD τ) ↦[arg15.view.set]{fullShare} (arg15.view.writes (Elt F) f15 (L15 f16 f17 f18 f19 f20))) ∗ (arg16.view.loc (c : Thread nD τ) ↦[arg16.view.set]{fullShare} (L16 f16 f17 f18 f19 f20)) ∗ (arg17.view.loc (c : Thread nD τ) ↦[arg17.view.set]{fullShare} (L17 f16 f17 f18 f19 f20)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g))) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K f13 f14 f15 f16 f17 f18 f19 f20 => ?run⟩
  case run =>
    simp only [cc0_attn_bwd_eq_skeleton]; unfold cc0_attn_bwd_skel
    simp only [k0_part28_eq_skeleton]
    iintro ⟨H1, H2, H3, H4, H5, H6, H7, H8, H9, H10, H11, H12, H13, H14, H15, H16, H17, H18, H19, H20, Hk⟩
    sl_exec (disch := first | sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    iexists _; iexact H20

end Cert.KernelIdeal.Attn

end
-- ==== Proof.AttnFrame.lean ====
/- The attention backward kernel runs from any memory, for any values: every execution ends, nothing faults, the
   argument arrays end as they began and every semaphore counter ends at zero. The five outputs are forgotten here. -/
module

public import proofs.«01_k».proof.Proof.Gen.KernelIdeal.Frame
public import proofs.«01_k».proof.Proof.AttnRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S1x2048x256 .f32 := win0_4.stage (cfg0.slots t 4)
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S256x256 .bf16 := win0_6.stage (cfg0.slots t 6)
abbrev hs0_6 (t : Fin cfg0.N) : (ms0_6 t).IsWhole := hstage0_6 ((cfg0.slots t 6).cast nbuf0_6)
/-- Window 7's staging buffer at point `t`. -/
abbrev ms0_7 (t : Fin cfg0.N) : Memref sig .tc .vmem S256x256 .bf16 := win0_7.stage (cfg0.slots t 7)
abbrev hs0_7 (t : Fin cfg0.N) : (ms0_7 t).IsWhole := hstage0_7 ((cfg0.slots t 7).cast nbuf0_7)
/-- Window 8's staging buffer at point `t`. -/
abbrev ms0_8 (t : Fin cfg0.N) : Memref sig .tc .smem S2x8 .f32 := win0_8.stage (cfg0.slots t 8)
abbrev hs0_8 (t : Fin cfg0.N) : (ms0_8 t).IsWhole := hstage0_8 ((cfg0.slots t 8).cast nbuf0_8)
/-- Window 9's staging buffer at point `t`. -/
abbrev ms0_9 (t : Fin cfg0.N) : Memref sig .tc .vmem S4x2048x64 .bf16 := win0_9.stage (cfg0.slots t 9)
abbrev hs0_9 (t : Fin cfg0.N) : (ms0_9 t).IsWhole := hstage0_9 ((cfg0.slots t 9).cast nbuf0_9)
/-- Window 10's staging buffer at point `t`. -/
abbrev ms0_10 (t : Fin cfg0.N) : Memref sig .tc .vmem S4x2048x64 .bf16 := win0_10.stage (cfg0.slots t 10)
abbrev hs0_10 (t : Fin cfg0.N) : (ms0_10 t).IsWhole := hstage0_10 ((cfg0.slots t 10).cast nbuf0_10)
/-- Window 11's staging buffer at point `t`. -/
abbrev ms0_11 (t : Fin cfg0.N) : Memref sig .tc .vmem S4x2048x64 .bf16 := win0_11.stage (cfg0.slots t 11)
abbrev hs0_11 (t : Fin cfg0.N) : (ms0_11 t).IsWhole := hstage0_11 ((cfg0.slots t 11).cast nbuf0_11)
/-- Window 12's staging buffer at point `t`. -/
abbrev ms0_12 (t : Fin cfg0.N) : Memref sig .tc .vmem S2048x256 .bf16 := win0_12.stage (cfg0.slots t 12)
abbrev hs0_12 (t : Fin cfg0.N) : (ms0_12 t).IsWhole := hstage0_12 ((cfg0.slots t 12).cast nbuf0_12)
/-- Window 13's staging buffer at point `t`. -/
abbrev ms0_13 (t : Fin cfg0.N) : Memref sig .tc .vmem S2048x256 .bf16 := win0_13.stage (cfg0.slots t 13)
abbrev hs0_13 (t : Fin cfg0.N) : (ms0_13 t).IsWhole := hstage0_13 ((cfg0.slots t 13).cast nbuf0_13)
/-- Window 14's staging buffer at point `t`. -/
abbrev ms0_14 (t : Fin cfg0.N) : Memref sig .tc .vmem S2048x256 .bf16 := win0_14.stage (cfg0.slots t 14)
abbrev hs0_14 (t : Fin cfg0.N) : (ms0_14 t).IsWhole := hstage0_14 ((cfg0.slots t 14).cast nbuf0_14)
/-- Window 15's staging buffer at point `t`. -/
abbrev ms0_15 (t : Fin cfg0.N) : Memref sig .tc .vmem S1x64 .f32 := win0_15.stage (cfg0.slots t 15)
abbrev hs0_15 (t : Fin cfg0.N) : (ms0_15 t).IsWhole := hstage0_15 ((cfg0.slots t 15).cast nbuf0_15)
/-- Window 16's staging buffer at point `t`. -/
abbrev ms0_16 (t : Fin cfg0.N) : Memref sig .tc .vmem S1x64 .f32 := win0_16.stage (cfg0.slots t 16)
abbrev hs0_16 (t : Fin cfg0.N) : (ms0_16 t).IsWhole := hstage0_16 ((cfg0.slots t 16).cast nbuf0_16)
abbrev scM0_0 : Memref sig .tc .vmem S4x2048x64 .f32 := Memref.whole cc0_scratch0
abbrev scM0_1 : Memref sig .tc .vmem S4x2048x64 .f32 := Memref.whole cc0_scratch1
abbrev scM0_2 : Memref sig .tc .vmem S4x2048x64 .f32 := Memref.whole cc0_scratch2

/-- The pipeline's invariant: the three scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The first grid point is the one whose number is 0. -/
theorem first_iff : ∀ t : Fin cfg0.N, first (grid0.coords t) ↔ t.val = 0 := by
  intro t
  rcases fin_N0 t with rfl | rfl <;> decide +kernel

/-- A buffer held at given contents is held at some. -/
theorem some_contents (c : Dev nD) {sp : Space} {s : Shape} {e : EltTy} (a : Memref sig .tc sp s e) (g : BufTy.Contents (Elt F) a.view.ty) :
    (a.view.loc (c : Thread nD τ) ↦[a.view.set]{fullShare} g : sProp 𝕄)
      ⊢ iprop(∃ d, owns (c : Thread nD τ) a fullShare d) := by
  unfold owns
  iintro H
  iexists (a.view.read (Elt F) g)
  iexists g
  isplitr
  · ipureintro; rfl
  iexact H

set_option maxHeartbeats 2000000 in
/-- The body at any grid point, its outputs and scratch at anything before and after. -/
theorem kernelRun (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x2048x256 .f32) (harg5 : arg5.IsWhole) (arg6 : Memref sig .tc .vmem S2048x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .smem S2x8 .f32) (harg9 : arg9.IsWhole) (arg10 : Memref sig .tc .vmem S4x2048x64 .bf16) (harg10 : arg10.IsWhole) (arg11 : Memref sig .tc .vmem S4x2048x64 .bf16) (harg11 : arg11.IsWhole) (arg12 : Memref sig .tc .vmem S4x2048x64 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x64 .f32) (harg16 : arg16.IsWhole) (arg17 : Memref sig .tc .vmem S1x64 .f32) (harg17 : arg17.IsWhole) (arg18 : Memref sig .tc .vmem S4x2048x64 .f32) (harg18 : arg18.IsWhole) (arg19 : Memref sig .tc .vmem S4x2048x64 .f32) (harg19 : arg19.IsWhole) (arg20 : Memref sig .tc .vmem S4x2048x64 .f32) (harg20 : arg20.IsWhole) (x0 : Vec F S2048x256 .f32) (x1 : Vec F S2048x256 .f32) (x2 : Vec F S1x64 .f32) (x3 : Vec F S1x64 .f32) (x4 : Vec F S1x2048x256 .f32) (x5 : Vec F S2048x256 .f32) (x6 : Vec F S256x256 .bf16) (x7 : Vec F S256x256 .bf16) (x8 : Vec F S2x8 .f32) (x9 : Vec F S4x2048x64 .bf16) (x10 : Vec F S4x2048x64 .bf16) (x11 : Vec F S4x2048x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  by_cases hc : first i
  · iapply ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc _ _ _ _ _ _ _ _ _ _ _ _).2.2.2.2.2 E K f13 f14 f15 f16 f17 f18 f19 f20)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, ⟨%g18, H18⟩, ⟨%g19, H19⟩, ⟨%g20, H20⟩⟩
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iapply (some_contents c arg13); iexact H13
    isplitl [H14]
    · iapply (some_contents c arg14); iexact H14
    isplitl [H15]
    · iapply (some_contents c arg15); iexact H15
    isplitl [H16]
    · iapply (some_contents c arg16); iexact H16
    isplitl [H17]
    · iapply (some_contents c arg17); iexact H17
    isplitl [H18]
    · iapply (some_contents c arg18); iexact H18
    isplitl [H19]
    · iapply (some_contents c arg19); iexact H19
    iapply (some_contents c arg20); iexact H20
  · iapply ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc _ _ _ _ _ _ _ _ _ _ _ _).2.2.2.2.2 E K f13 f14 f15 f16 f17 f18 f19 f20)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨H1, H2, H3, H4, H5, H6, H7, H8, H9, H10, H11, H12, H13, H14, H15, H16, H17, ⟨%g18, H18⟩, ⟨%g19, H19⟩, ⟨%g20, H20⟩⟩
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iapply (some_contents c arg13); iexact H13
    isplitl [H14]
    · iapply (some_contents c arg14); iexact H14
    isplitl [H15]
    · iapply (some_contents c arg15); iexact H15
    isplitl [H16]
    · iapply (some_contents c arg16); iexact H16
    isplitl [H17]
    · iapply (some_contents c arg17); iexact H17
    isplitl [H18]
    · iapply (some_contents c arg18); iexact H18
    isplitl [H19]
    · iapply (some_contents c arg19); iexact H19
    iapply (some_contents c arg20); iexact H20

/-! ## The pipeline's proof data -/

/-- The output windows, of which nothing is named. -/
def forgets0 : Fin 17 → Bool := fun w => w.val == 12 || w.val == 13 || w.val == 14 || w.val == 15 || w.val == 16

/-- The proof data of the pipeline on core `c`: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.mpr (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 1600000 in
/-- The body at any point: the inputs' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun c (grid0.coords t) _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 2000000 in
/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 1 rfl).trans ((A_eq m c 1).trans (V_main_arg0 m c)),
      (Pipeline.RDat.FramePost.arr_in h c 2 rfl).trans ((A_eq m c 2).trans (V_main_arg1 m c)),
      (Pipeline.RDat.FramePost.arr_in h c 3 rfl).trans ((A_eq m c 3).trans (V_main_arg2 m c)),
      (Pipeline.RDat.FramePost.arr_in h c 5 rfl).trans ((A_eq m c 5).trans (V_main_arg3 m c))⟩) (run_main m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.UpReal.lean ====
/- The row arithmetic of the call that carries the gradient through the product with w_up and the normalisation
   before it, over the reals: with finite blocks every payload of the body is the stated real number. -/
module
public import proofs.«01_k».proof.Proof.Gen.UpIdeal.Skeleton
public import Idealize.ShloMosaic.Lib.Pipeline.ValueKit
@[expose] public section
set_option maxRecDepth 16384
noncomputable section
namespace Cert.UpIdeal.Rows
open Cert.UpIdeal Cert.UpIdeal.Gen
open Idealize.ShloMosaic Idealize.ShloMosaic.TcCoe

/-- A finite sum of reals, taken among the extended reals, is the real sum. -/
theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word of 1024. -/
theorem word_1024 : Ideal.ofBits .f32 1149239296#32 = ((1024 : ℝ) : EReal) := by
  simp [Ideal.ofBits, Ideal.ieee, -EReal.coe_mul]; norm_num

/-- The small number under the root, exactly as its word says. -/
def eps : ℝ := (Ideal.ofBits .f32 897988541#32).toReal

/-- The small number's word is a positive real. -/
theorem word_eps : Ideal.ofBits .f32 897988541#32 = ((eps : ℝ) : EReal) ∧ 0 < eps := by
  have h : ∃ e : ℝ, 0 < e ∧ Ideal.ofBits .f32 897988541#32 = (e : EReal) := by
    refine ⟨_, ?_, by simp [Ideal.ofBits, Ideal.ieee, -EReal.coe_mul]; rfl⟩
    norm_num
  obtain ⟨e, he, h⟩ := h
  have : eps = e := by unfold eps; rw [h]; rfl
  rw [this]; exact ⟨h, he⟩

/-- A quotient by 1024 of a real. -/
theorem div_1024 (a : ℝ) : Ideal.div (a : EReal) ((1024 : ℝ) : EReal) = ((a / 1024 : ℝ) : EReal) := by
  rw [Ideal.div_coe (by norm_num), ← EReal.coe_mul]; congr 1; ring

/-- The reciprocal root of a positive real. -/
theorem rsqrt_pos {q : ℝ} (h : 0 < q) : Ideal.rsqrt (q : EReal) = (((Real.sqrt q)⁻¹ : ℝ) : EReal) := by
  rw [Ideal.rsqrt_coe, if_neg (not_lt.mpr h.le), if_neg h.ne']

/-- The mean square of a row, with the small number added. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg _) (by norm_num)) word_eps.2

/-- The factor that normalises a row. -/
def rstd (x : Fin 1024 → ℝ) : ℝ := (Real.sqrt (msq x))⁻¹

/-- The gradient of a row: what the residual brings, and what comes back through the normalisation. -/
def dxRow (d x g dh : Fin 1024 → ℝ) (j : Fin 1024) : ℝ :=
  d j + rstd x * (dh j * g j - x j * rstd x * ((∑ k, dh k * g k * (x k * rstd x)) / 1024))

section
variable {v7 : Vec Ideal S256x1024 .f32} {x : Fin 256 → Fin 1024 → ℝ} (hx : ∀ r j, v7 (ix2 r j) = ((x r j : ℝ) : EReal))
include hx

theorem pay4_real (r : Fin 256) : k0_pay4 (F := Ideal) v7 (ix2 r 0) = ((rstd (x r) : ℝ) : EReal) := by
  have h : k0_pay4 (F := Ideal) v7 (ix2 r 0) = Ideal.rsqrt (Ideal.div (∑ k : Fin 1024, v7 (ix2 r k) * v7 (ix2 r k)) (Ideal.ofBits .f32 1149239296#32) + Ideal.ofBits .f32 897988541#32) := by
    pointwise [k0_pay4]
  rw [h]
  simp only [hx, word_1024, word_eps.1, ← EReal.coe_mul, sum_real, div_1024, ← EReal.coe_add]
  exact rsqrt_pos (msq_pos (x r))

theorem pay5_real (r : Fin 256) (j : Fin 1024) : k0_pay5 (F := Ideal) v7 (ix2 r j) = ((x r j * rstd (x r) : ℝ) : EReal) := by
  have h : k0_pay5 (F := Ideal) v7 (ix2 r j) = v7 (ix2 r j) * k0_pay4 (F := Ideal) v7 (ix2 r 0) := by
    pointwise [k0_pay5]
  rw [h, hx, pay4_real hx, EReal.coe_mul]

end

/-- The product of the two pieces of the incoming gradient with w_up's two halves. -/
def dhOf (a0 a1 : Fin 2816 → ℝ) (w0 w1 : Fin 1024 → Fin 2816 → ℝ) (j : Fin 1024) : ℝ :=
  (∑ k, a0 k * w0 j k) + ∑ k, a1 k * w1 j k

section
variable {v0 v3 : Vec Ideal S256x2816 .bf16} {v1 v4 : Vec Ideal S1024x2816 .bf16} {a0 a1 : Fin 256 → Fin 2816 → ℝ} {w0 w1 : Fin 1024 → Fin 2816 → ℝ}
  (h0 : ∀ r k, v0 (ix2 r k) = ((a0 r k : ℝ) : EReal)) (h1 : ∀ r k, v1 (ix2 r k) = ((w0 r k : ℝ) : EReal))
  (h3 : ∀ r k, v3 (ix2 r k) = ((a1 r k : ℝ) : EReal)) (h4 : ∀ r k, v4 (ix2 r k) = ((w1 r k : ℝ) : EReal))
include h0 h1 h3 h4

theorem pay3_real (r : Fin 256) (j : Fin 1024) : k0_pay3 (F := Ideal) v0 v1 v3 v4 (ix2 r j) = ((dhOf (a0 r) (a1 r) w0 w1 j : ℝ) : EReal) := by
  have h : k0_pay3 (F := Ideal) v0 v1 v3 v4 (ix2 r j) = ∑ k : Fin 2816, v0 (ix2 r k) * v1 (ix2 j k) + ∑ k : Fin 2816, v3 (ix2 r k) * v4 (ix2 j k) := by
    pointwise [k0_pay3]
  rw [h]
  simp only [h0, h1, h3, h4, ← EReal.coe_mul, sum_real, ← EReal.coe_add]
  rfl

variable {v7 v21 : Vec Ideal S256x1024 .f32} {v18 : Vec Ideal S1x1024 .f32} {x d : Fin 256 → Fin 1024 → ℝ} {g : Fin 1024 → ℝ}
  (hx : ∀ r j, v7 (ix2 r j) = ((x r j : ℝ) : EReal)) (hd : ∀ r j, v21 (ix2 r j) = ((d r j : ℝ) : EReal))
  (hg : ∀ j, v18 (ix2 0 j) = ((g j : ℝ) : EReal))
include hx hd hg

theorem pay6_real (r : Fin 256) (j : Fin 1024) :
    k0_pay6 (F := Ideal) v0 v1 v3 v4 v7 v18 v21 (ix2 r j) = ((dxRow (d r) (x r) g (dhOf (a0 r) (a1 r) w0 w1) j : ℝ) : EReal) := by
  have h : k0_pay6 (F := Ideal) v0 v1 v3 v4 v7 v18 v21 (ix2 r j) = v21 (ix2 r j) + k0_pay4 (F := Ideal) v7 (ix2 r 0) *
      (k0_pay3 (F := Ideal) v0 v1 v3 v4 (ix2 r j) * v18 (ix2 0 j) - k0_pay5 (F := Ideal) v7 (ix2 r j) *
        Ideal.div (∑ k : Fin 1024, k0_pay3 (F := Ideal) v0 v1 v3 v4 (ix2 r k) * v18 (ix2 0 k) * k0_pay5 (F := Ideal) v7 (ix2 r k)) (Ideal.ofBits .f32 1149239296#32)) := by
    pointwise [k0_pay6]
  rw [h]
  simp only [pay3_real h0 h1 h3 h4, pay4_real hx, pay5_real hx, hd, hg, word_1024, ← EReal.coe_mul, sum_real, div_1024, ← EReal.coe_sub, ← EReal.coe_add]
  rfl

omit hd hg in
/-- What one tile adds to the gain's gradient. -/
theorem pay2_real {v37 : Vec Ideal S1x1024 .f32} {s : Fin 1024 → ℝ} (hs : ∀ j, v37 (ix2 0 j) = ((s j : ℝ) : EReal)) (j : Fin 1024) :
    k0_pay2 (F := Ideal) (k0_pay3 (F := Ideal) v0 v1 v3 v4) (k0_pay5 (F := Ideal) v7) v37 (ix2 0 j)
      = ((s j + ∑ r, dhOf (a0 r) (a1 r) w0 w1 j * (x r j * rstd (x r)) : ℝ) : EReal) := by
  have h : k0_pay2 (F := Ideal) (k0_pay3 (F := Ideal) v0 v1 v3 v4) (k0_pay5 (F := Ideal) v7) v37 (ix2 0 j)
      = v37 (ix2 0 j) + ∑ r : Fin 256, k0_pay3 (F := Ideal) v0 v1 v3 v4 (ix2 r j) * k0_pay5 (F := Ideal) v7 (ix2 r j) := by
    pointwise [k0_pay2]
  rw [h]
  simp only [pay3_real h0 h1 h3 h4, pay5_real hx, hs, ← EReal.coe_mul, sum_real, ← EReal.coe_add]

end
end Cert.UpIdeal.Rows
-- ==== Proof.UpValue.lean ====
/- What the two result arrays of the call hold after its run: the block that a grid point writes back, and the sum that
   the second result gathers over the grid. -/
module
public import proofs.«01_k».proof.Proof.UpReal
public import proofs.«01_k».proof.Proof.Gen.UpIdeal.Value
@[expose] public section
set_option maxRecDepth 16384
noncomputable section
namespace Cert.UpIdeal.Rows
open Cert.UpIdeal Cert.UpIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

variable (m : (ℓ : Loc nD τ sig) → Buf (Elt Ideal) ℓ)

/-- Row `r` of tile `u`. -/
def row (u : ℕ) (r : Fin 256) : Fin 2048 := ⟨(u * 256 + r.val) % 2048, Nat.mod_lt _ (by norm_num)⟩

theorem row_val (t : Fin cfg0.N) (r : Fin 256) : (row t.val r).val = t.val * 256 + r.val := by
  have := t.isLt
  have h8 : cfg0.N = 8 := rfl
  have := r.isLt
  show (t.val * 256 + r.val) % 2048 = _
  omega

/-- The lower and the upper half of w_up's columns. -/
def lo (W : Fin 1024 → Fin 5632 → ℝ) (j : Fin 1024) (k : Fin 2816) : ℝ := W j ⟨k.val, by omega⟩
@[inherit_doc lo] def hi (W : Fin 1024 → Fin 5632 → ℝ) (j : Fin 1024) (k : Fin 2816) : ℝ := W j ⟨2816 + k.val, by omega⟩

variable {c : Dev nD} {A0 A1 : Fin 2048 → Fin 2816 → ℝ} {W : Fin 1024 → Fin 5632 → ℝ} {X D : Fin 2048 → Fin 1024 → ℝ} {g : Fin 1024 → ℝ}

/-- The product of row `R` of the incoming gradient with w_up. -/
def dh (A0 A1 : Fin 2048 → Fin 2816 → ℝ) (W : Fin 1024 → Fin 5632 → ℝ) (R : Fin 2048) : Fin 1024 → ℝ := dhOf (A0 R) (A1 R) (lo W) (hi W)

section
variable (h0 : ∀ R k, m ((c : Thread nD τ).loc main_arg0) (ix2 R k) = ((A0 R k : ℝ) : EReal))
include h0
theorem blk0 (t : Fin cfg0.N) (r : Fin 256) (k : Fin 2816) : iblk m c 0 t (ix2 r k) = ((A0 (row t.val r) k : ℝ) : EReal) := by
  rw [← h0]; have := row_val t r; blk_ext [iblk, V, idx t]
end
section
variable (h1 : ∀ R k, m ((c : Thread nD τ).loc main_arg1) (ix2 R k) = ((A1 R k : ℝ) : EReal))
include h1
theorem blk1 (t : Fin cfg0.N) (r : Fin 256) (k : Fin 2816) : iblk m c 1 t (ix2 r k) = ((A1 (row t.val r) k : ℝ) : EReal) := by
  rw [← h1]; have := row_val t r; blk_ext [iblk, V, idx t]
end
section
variable (h2 : ∀ R k, m ((c : Thread nD τ).loc main_arg2) (ix2 R k) = ((W R k : ℝ) : EReal))
include h2
theorem blk2_lo (t : Fin cfg0.N) (j : Fin 1024) (k : Fin 2816) :
    View.ld (iblk m c 2 t) (Rect.unit ![0, 0] ![1024, 2816] inb_S1024x5632_S1024x2816_0_0) (ix2 j k) = ((lo W j k : ℝ) : EReal) := by
  unfold lo; rw [← h2, View.ld_apply]; blk_ext [iblk, V, idx t] <;> simp [Rect.idx_unit_val]
theorem blk2_hi (t : Fin cfg0.N) (j : Fin 1024) (k : Fin 2816) :
    View.ld (iblk m c 2 t) (Rect.unit ![0, 2816] ![1024, 2816] inb_S1024x5632_S1024x2816_0_2816) (ix2 j k) = ((hi W j k : ℝ) : EReal) := by
  unfold hi; rw [← h2, View.ld_apply]; blk_ext [iblk, V, idx t] <;> simp [Rect.idx_unit_val]
end
section
variable (h3 : ∀ R k, m ((c : Thread nD τ).loc main_arg3) (ix2 R k) = ((X R k : ℝ) : EReal))
include h3
theorem blk3 (t : Fin cfg0.N) (r : Fin 256) (k : Fin 1024) : iblk m c 3 t (ix2 r k) = ((X (row t.val r) k : ℝ) : EReal) := by
  rw [← h3]; have := row_val t r; blk_ext [iblk, V, idx t]
end
section
variable (h4 : ∀ k, m ((c : Thread nD τ).loc main_arg4) (ix2 0 k) = ((g k : ℝ) : EReal))
include h4
theorem blk4 (t : Fin cfg0.N) (k : Fin 1024) : iblk m c 4 t (ix2 0 k) = ((g k : ℝ) : EReal) := by
  rw [← h4]; blk_ext [iblk, V, idx t]
end
section
variable (h5 : ∀ R k, m ((c : Thread nD τ).loc main_arg5) (ix2 R k) = ((D R k : ℝ) : EReal))
include h5
theorem blk5 (t : Fin cfg0.N) (r : Fin 256) (k : Fin 1024) : iblk m c 5 t (ix2 r k) = ((D (row t.val r) k : ℝ) : EReal) := by
  rw [← h5]; have := row_val t r; blk_ext [iblk, V, idx t]
end

/-- What a point leaves in the first result's buffer. -/
theorem out6 (t : Fin cfg0.N) : (outsAt0 m c t.val t.isLt).1 =
    k0_pay6 (iblk m c 0 t) (View.ld (iblk m c 2 t) (Rect.unit ![0, 0] ![1024, 2816] inb_S1024x5632_S1024x2816_0_0))
      (iblk m c 1 t) (View.ld (iblk m c 2 t) (Rect.unit ![0, 2816] ![1024, 2816] inb_S1024x5632_S1024x2816_0_2816))
      (iblk m c 3 t) (iblk m c 4 t) (iblk m c 5 t) := by
  by_cases h0 : t.val % 8 = 0
  · rw [outsAt0_A m c t h0]; frame_out; rfl
  · rw [outsAt0_B m c t h0]; frame_out; rfl

/-- Row `R`'s part of the gain's gradient. -/
def gainRow (A0 A1 : Fin 2048 → Fin 2816 → ℝ) (W : Fin 1024 → Fin 5632 → ℝ) (X : Fin 2048 → Fin 1024 → ℝ) (j : Fin 1024) (R : Fin 2048) : ℝ :=
  dh A0 A1 W R j * (X R j * rstd (X R))

section
variable (h0 : ∀ R k, m ((c : Thread nD τ).loc main_arg0) (ix2 R k) = ((A0 R k : ℝ) : EReal))
  (h1 : ∀ R k, m ((c : Thread nD τ).loc main_arg1) (ix2 R k) = ((A1 R k : ℝ) : EReal))
  (h2 : ∀ R k, m ((c : Thread nD τ).loc main_arg2) (ix2 R k) = ((W R k : ℝ) : EReal))
  (h3 : ∀ R k, m ((c : Thread nD τ).loc main_arg3) (ix2 R k) = ((X R k : ℝ) : EReal))
include h0 h1 h2 h3

/-- What a point adds to what the second result's buffer holds. -/
theorem step7 (t : Fin cfg0.N) {v : Vec Ideal S1x1024 .f32} {s : Fin 1024 → ℝ} (hs : ∀ j, v (ix2 0 j) = ((s j : ℝ) : EReal)) (j : Fin 1024) :
    k0_pay2 (k0_pay3 (iblk m c 0 t) (View.ld (iblk m c 2 t) (Rect.unit ![0, 0] ![1024, 2816] inb_S1024x5632_S1024x2816_0_0))
        (iblk m c 1 t) (View.ld (iblk m c 2 t) (Rect.unit ![0, 2816] ![1024, 2816] inb_S1024x5632_S1024x2816_0_2816)))
      (k0_pay5 (iblk m c 3 t)) v (ix2 0 j) = ((s j + ∑ r, gainRow A0 A1 W X j (row t.val r) : ℝ) : EReal) :=
  pay2_real (blk0 m h0 t) (blk2_lo m h2 t) (blk1 m h1 t) (blk2_hi m h2 t) (blk3 m h3 t) hs j

/-- The second result's buffer after point `n`: the sum over the tiles so far. -/
theorem sum7 : ∀ (n : ℕ) (hn : n < cfg0.N) (j : Fin 1024),
    (outsAt0 m c n hn).2 (ix2 0 j) = ((∑ u ∈ Finset.range (n + 1), ∑ r, gainRow A0 A1 W X j (row u r) : ℝ) : EReal)
  | 0, hn, j => by
    have e : (outsAt0 m c 0 hn).2 = k0_pay2 (k0_pay3 (iblk m c 0 ⟨0, hn⟩) (View.ld (iblk m c 2 ⟨0, hn⟩) (Rect.unit ![0, 0] ![1024, 2816] inb_S1024x5632_S1024x2816_0_0))
        (iblk m c 1 ⟨0, hn⟩) (View.ld (iblk m c 2 ⟨0, hn⟩) (Rect.unit ![0, 2816] ![1024, 2816] inb_S1024x5632_S1024x2816_0_2816)))
      (k0_pay5 (iblk m c 3 ⟨0, hn⟩)) (k0_pay1 : FVec Ideal S1x1024 .f32) := by
      rw [show outsAt0 m c 0 hn = _ from outsAt0_A m c ⟨0, hn⟩ (Nat.zero_mod _)]; frame_out; rfl
    rw [e, step7 m h0 h1 h2 h3 ⟨0, hn⟩ (s := fun _ => 0) (fun j => by pointwise [k0_pay1]; exact EReal.coe_zero.symm) j]
    simp
  | n + 1, hn, j => by
    have hN : cfg0.N = 8 := rfl
    have hm : ¬ (n + 1) % 8 = 0 := by omega
    have e : (outsAt0 m c (n + 1) hn).2 = k0_pay2 (k0_pay3 (iblk m c 0 ⟨n + 1, hn⟩) (View.ld (iblk m c 2 ⟨n + 1, hn⟩) (Rect.unit ![0, 0] ![1024, 2816] inb_S1024x5632_S1024x2816_0_0))
        (iblk m c 1 ⟨n + 1, hn⟩) (View.ld (iblk m c 2 ⟨n + 1, hn⟩) (Rect.unit ![0, 2816] ![1024, 2816] inb_S1024x5632_S1024x2816_0_2816)))
      (k0_pay5 (iblk m c 3 ⟨n + 1, hn⟩)) (outsAt0 m c n (Nat.lt_of_succ_lt hn)).2 := by
      rw [show outsAt0 m c (n + 1) hn = _ from outsAt0_B m c ⟨n + 1, hn⟩ hm]; frame_out; rfl
    rw [e, step7 m h0 h1 h2 h3 ⟨n + 1, hn⟩ (sum7 n (Nat.lt_of_succ_lt hn)) j, ← Finset.sum_range_succ]

omit h0 h1 h2 h3 in
/-- The tiles' rows are all rows. -/
theorem sum_rows (f : Fin 2048 → ℝ) : ∑ u ∈ Finset.range 8, ∑ r, f (row u r) = ∑ R, f R := by
  rw [Finset.sum_range, ← Finset.sum_product', ← Equiv.sum_comp (finProdFinEquiv (m := 8) (n := 256)) f]
  refine Finset.sum_congr rfl fun p _ => congrArg f (Fin.ext ?_)
  have := p.1.isLt
  have := p.2.isLt
  show (p.1.val * 256 + p.2.val) % 2048 = p.2.val + 256 * p.1.val
  omega

/-- The second result: every row's part of the gain's gradient, summed. -/
theorem final7 : (dats m 0 c).arrAt 7 (cfgs 0).N = fun i => ((∑ R, gainRow A0 A1 W X (i 1) R : ℝ) : EReal) := by
  refine (dats m 0 c).arrAt_eq_of_after_last 7 t0_7 (by decide +kernel) _ fun j => ?_
  blk_simp
  rw [after0_7]
  obtain ⟨q, rfl⟩ : ∃ q, j = ix2 0 q := ⟨j 1, by blk_ext⟩
  rw [sum7 m h0 h1 h2 h3, ← sum_rows]
  rfl

variable (h4 : ∀ k, m ((c : Thread nD τ).loc main_arg4) (ix2 0 k) = ((g k : ℝ) : EReal))
  (h5 : ∀ R k, m ((c : Thread nD τ).loc main_arg5) (ix2 R k) = ((D R k : ℝ) : EReal))
include h4 h5

/-- The first result: every row's gradient. -/
theorem final6 : (dats m 0 c).arrAt 6 (cfgs 0).N = fun i => ((dxRow (D (i 0)) (X (i 0)) g (dh A0 A1 W (i 0)) (i 1) : ℝ) : EReal) := by
  refine (dats m 0 c).arrAt_eq_of_covers 6 _ (by decide +kernel) fun t _ y => ?_
  blk_simp
  rw [after0_6, out6]
  obtain ⟨r, j, rfl⟩ : ∃ r j, y = ix2 r j := ⟨y 0, y 1, by blk_ext⟩
  rw [pay6_real (blk0 m h0 t) (blk2_lo m h2 t) (blk1 m h1 t) (blk2_hi m h2 t) (blk3 m h3 t) (blk5 m h5 t) (blk4 m h4 t)]
  have e0 : (((cfg0.win 6).blk t).view.emb (ix2 r j)) 0 = row t.val r := by
    apply Fin.ext; have := row_val t r; blk_simp [idx t]; omega
  have e1 : (((cfg0.win 6).blk t).view.emb (ix2 r j)) 1 = j := by
    apply Fin.ext; blk_simp [idx t]
  rw [e0, e1]; rfl

end
end Cert.UpIdeal.Rows
-- ==== Proof.UpRef.lean ====
/- The reference of the gradient through the product with w_up and the normalisation before it: with finite arrays its
   two results are the same real numbers as the kernel's. -/
module
public import proofs.«01_k».proof.Proof.UpValue
public import proofs.«01_k».proof.Proof.Gen.RefUpIdeal.Read
@[expose] public section
set_option maxRecDepth 16384
noncomputable section
namespace Cert.RefUpIdeal.Rows
open Cert.RefUpIdeal Cert.RefUpIdeal.Gen Cert.RefUpIdeal.Read
open Idealize.ShloMosaic Idealize.ShloMosaic.TcCoe
open Cert.UpIdeal.Rows (sum_real word_1024 eps word_eps div_1024 rsqrt_pos msq msq_pos rstd dxRow dhOf lo hi dh gainRow)

theorem mul_i (a b : EReal) : (FloatOps.mulf (F := Ideal) (φ := .f32) a b) = a * b := rfl
theorem add_i (a b : EReal) : (FloatOps.addf (F := Ideal) (φ := .f32) a b) = a + b := rfl
theorem div_i (a b : EReal) : (FloatOps.hostDivf (F := Ideal) (φ := .f32) a b) = Ideal.div a b := rfl
theorem rsqrt_i (a : EReal) : (FloatOps.hostUnary (F := Ideal) (φ := .f32) .rsqrt a) = Ideal.rsqrt a := rfl
theorem ext_i (a : EReal) : (FloatOps.extf (F := Ideal) .f32 bitsLt_bf16_f32 a) = a := rfl
theorem word_i (w : BitVec 32) : (FloatOps.ofBits (F := Ideal) .f32 w) = Ideal.ofBits .f32 w := rfl

/-- The word of −1/2. -/
theorem word_neg_half : Ideal.ofBits .f32 0xBF000000#32 = ((-(1 / 2) : ℝ) : EReal) := by
  simp [Ideal.ofBits, Ideal.ieee, -EReal.coe_mul]; norm_num

/-- A quotient of reals. -/
theorem div_real (a : ℝ) {b : ℝ} (hb : b ≠ 0) : Ideal.div (a : EReal) (b : EReal) = ((a / b : ℝ) : EReal) := by
  rw [Ideal.div_coe hb, ← EReal.coe_mul]; congr 1; ring

variable {x0 x1 : (⟨S2048x2816, .bf16⟩ : BufTy).Contents (Elt Ideal)} {x2 : (⟨S1024x5632, .bf16⟩ : BufTy).Contents (Elt Ideal)}
  {x3 x5 : (⟨S2048x1024, .f32⟩ : BufTy).Contents (Elt Ideal)} {x4 : (⟨S1x1024, .f32⟩ : BufTy).Contents (Elt Ideal)}
  {A0 A1 : Fin 2048 → Fin 2816 → ℝ} {W : Fin 1024 → Fin 5632 → ℝ} {X D : Fin 2048 → Fin 1024 → ℝ} {g : Fin 1024 → ℝ}

section
variable (h3 : ∀ R j, x3 (ix2 R j) = ((X R j : ℝ) : EReal))
include h3

theorem v7_real (R : Fin 2048) : val_main_v7 x3 (ix2 R 0) = ((msq (X R) : ℝ) : EReal) := by
  have e : ∀ k, idx_main_v2 (idx_main_v3 (ix2 R 0)) k = ix2 R k := fun k => by blk_ext
  simp only [val_main_v7_apply, val_main_v5_apply, val_main_v6_apply, val_main_v4_apply, val_main_v3_apply, val_main_v2_apply, val_main_v1_apply,
    val_main_cst_apply, val_main_cst_0_apply, val_main_cst_1_apply, mul_i, add_i, div_i, word_i, e, h3, word_1024, word_eps.1, Ideal.ofBits_zero_f32,
    zero_add, ← EReal.coe_mul, sum_real, div_1024, ← EReal.coe_add]
  rfl

theorem v8_real (R : Fin 2048) : val_main_v8 x3 (ix2 R 0) = ((rstd (X R) : ℝ) : EReal) := by
  rw [val_main_v8_apply, v7_real h3, rsqrt_i, rsqrt_pos (msq_pos _)]; rfl

theorem v11_real (R : Fin 2048) : val_main_v11 x3 (ix2 R 0) = ((-(1 / 2) * (rstd (X R) / msq (X R)) : ℝ) : EReal) := by
  simp only [val_main_v11_apply, val_main_v10_apply, val_main_v9_apply, val_main_cst_2_apply, v8_real h3, v7_real h3, mul_i, div_i, word_i, word_neg_half,
    div_real _ (msq_pos _).ne', ← EReal.coe_mul]

theorem v13_real (R : Fin 2048) (j : Fin 1024) : val_main_v13 x3 (ix2 R j) = ((X R j * rstd (X R) : ℝ) : EReal) := by
  have e : idx_main_v12 (ix2 R j) = ix2 R 0 := by blk_ext
  simp only [val_main_v13_apply, val_main_v12_apply, e, v8_real h3, h3, mul_i, ← EReal.coe_mul]
end

/-- Column `k` of the two pieces of the incoming gradient laid side by side. -/
theorem v17_lo (R : Fin 2048) (k : Fin 2816) : val_main_v17 x0 x1 (ix2 R ⟨k.val, by omega⟩) = x0 (ix2 R k) :=
  concatenate_pair_apply_left 1 x0 x1 concatenates_S2048x2816_S2048x2816_S2048x5632_d1 _ rfl (ix2 R k) fun b => match b with
    | ⟨0, _⟩ => rfl
    | ⟨1, _⟩ => rfl
@[inherit_doc v17_lo]
theorem v17_hi (R : Fin 2048) (k : Fin 2816) : val_main_v17 x0 x1 (ix2 R ⟨2816 + k.val, by omega⟩) = x1 (ix2 R k) :=
  concatenate_pair_apply_right 1 x0 x1 concatenates_S2048x2816_S2048x2816_S2048x5632_d1 _ rfl rfl (ix2 R k) (fun b hb => match b with
    | ⟨0, _⟩ => rfl
    | ⟨1, _⟩ => absurd rfl hb) (Nat.add_comm _ _)

/-- A sum over all columns is the sum over the lower ones and the sum over the upper ones. -/
theorem sum_halves (f : Fin 5632 → ℝ) : ∑ k, f k = (∑ k : Fin 2816, f ⟨k.val, by omega⟩) + ∑ k : Fin 2816, f ⟨2816 + k.val, by omega⟩ :=
  Fin.sum_univ_add (a := 2816) (b := 2816) f

section
variable (h0 : ∀ R k, x0 (ix2 R k) = ((A0 R k : ℝ) : EReal)) (h1 : ∀ R k, x1 (ix2 R k) = ((A1 R k : ℝ) : EReal))
  (h2 : ∀ j k, x2 (ix2 j k) = ((W j k : ℝ) : EReal))
include h0 h1 h2

/-- The product of the incoming gradient with w_up. -/
theorem v19_real (R : Fin 2048) (j : Fin 1024) : val_main_v19 x0 x1 x2 (ix2 R j) = ((dh A0 A1 W R j : ℝ) : EReal) := by
  let B : Fin 5632 → ℝ := fun k => if h : k.val < 2816 then A0 R ⟨k.val, h⟩ else A1 R ⟨k.val - 2816, by omega⟩
  have hB : ∀ k : Fin 5632, val_main_v17 x0 x1 (ix2 R k) = ((B k : ℝ) : EReal) := fun k => by
    by_cases h : k.val < 2816
    · rw [show B k = _ from dif_pos h, ← h0]; exact v17_lo R ⟨k.val, h⟩
    · rw [show B k = _ from dif_neg h, ← h1, ← v17_hi (x0 := x0) (x1 := x1)]; congr 2; apply Fin.ext; show k.val = 2816 + (k.val - 2816); omega
  have hl : ∀ k, lidx_main_v19 (ix2 R j) k = ix2 R k := fun k => by blk_ext
  have hr : ∀ k, ridx_main_v19 (ix2 R j) k = ix2 j k := fun k => by blk_ext
  simp only [val_main_v19_apply, val_main_v18_apply, val_main_v0_apply, ext_i, hl, hr, hB, h2, ← EReal.coe_mul, sum_real]
  rw [sum_halves]
  refine congrArg _ (congrArg₂ (· + ·) ?_ ?_)
  · refine Finset.sum_congr rfl fun k _ => ?_
    rw [show B ⟨k.val, _⟩ = _ from dif_pos k.isLt]; rfl
  · refine Finset.sum_congr rfl fun k _ => ?_
    rw [show B ⟨2816 + k.val, _⟩ = _ from dif_neg (by simp)]
    simp only [Nat.add_sub_cancel_left]; rfl

variable (h3 : ∀ R j, x3 (ix2 R j) = ((X R j : ℝ) : EReal))
include h3

/-- The gain's gradient. -/
theorem v22_real (j : Fin 1024) : val_main_v22 x0 x1 x2 x3 (ix2 0 j) = ((∑ R, gainRow A0 A1 W X j R : ℝ) : EReal) := by
  have e : ∀ R, idx_main_v21 (idx_main_v22 (ix2 0 j)) R = ix2 R j := fun R => by blk_ext
  simp only [val_main_v22_apply, val_main_v21_apply, val_main_v20_apply, val_main_cst_3_apply, e, v13_real h3, v19_real h0 h1 h2, mul_i, word_i,
    Ideal.ofBits_zero_f32, zero_add, ← EReal.coe_mul, sum_real]
  exact congrArg _ (Finset.sum_congr rfl fun R _ => mul_comm (X R j * rstd (X R)) (dh A0 A1 W R j))

variable (h4 : ∀ j, x4 (ix2 0 j) = ((g j : ℝ) : EReal)) (h5 : ∀ R j, x5 (ix2 R j) = ((D R j : ℝ) : EReal))
include h4

omit h3 in
/-- The incoming gradient scaled by the gain. -/
theorem v24_real (R : Fin 2048) (j : Fin 1024) : val_main_v24 x0 x1 x2 x4 (ix2 R j) = ((dh A0 A1 W R j * g j : ℝ) : EReal) := by
  have e : idx_main_v23 (ix2 R j) = ix2 0 j := by blk_ext
  simp only [val_main_v24_apply, val_main_v23_apply, e, v19_real h0 h1 h2, h4, mul_i, ← EReal.coe_mul]

/-- The sum over a row that the normalisation's gradient takes, halved, with its factors. -/
theorem v34_real (R : Fin 2048) (j : Fin 1024) : val_main_v34 x0 x1 x2 x3 x4 (ix2 R j) = (((∑ k, X R k * (dh A0 A1 W R k * g k))
    * (-(1 / 2) * (rstd (X R) / msq (X R))) / 1024 : ℝ) : EReal) := by
  have e : ∀ q, idx_main_v33 (idx_main_v34 (ix2 R j)) q = ix2 R 0 := fun q => by blk_ext
  have e' : ∀ k, idx_main_v26 (idx_main_v27 (ix2 R 0)) k = ix2 R k := fun k => by blk_ext
  simp only [val_main_v34_apply, val_main_v33_apply, e, val_main_v32_apply, val_main_v31_apply, val_main_v30_apply, val_main_v27_apply, val_main_v26_apply, e',
    val_main_v25_apply, v24_real h0 h1 h2 h4, val_main_cst_4_apply, val_main_cst_5_apply, val_main_cst_6_apply, v11_real h3,
    h3, mul_i, div_i, word_i, Ideal.ofBits_zero_f32, word_1024, zero_add, ← EReal.coe_mul, sum_real, div_1024,
    Finset.univ_unique, Finset.sum_singleton]

include h5

/-- The rows' gradient. -/
theorem v39_real (R : Fin 2048) (j : Fin 1024) : val_main_v39 x0 x1 x2 x3 x4 x5 (ix2 R j) = ((dxRow (D R) (X R) g (dh A0 A1 W R) j : ℝ) : EReal) := by
  have e : idx_main_v28 (ix2 R j) = ix2 R 0 := by blk_ext
  simp only [val_main_v39_apply, val_main_v38_apply, val_main_v37_apply, val_main_v36_apply, val_main_v35_apply, val_main_v29_apply, val_main_v28_apply,
    e, v24_real h0 h1 h2 h4, v34_real h0 h1 h2 h3 h4, v8_real h3, h3, h5, mul_i, add_i, ← EReal.coe_mul, ← EReal.coe_add]
  have hq := msq_pos (X R)
  have hr : rstd (X R) / msq (X R) = rstd (X R) * (rstd (X R) * rstd (X R)) := by
    unfold rstd
    rw [div_eq_mul_inv, ← mul_inv (Real.sqrt _) (Real.sqrt _), Real.mul_self_sqrt hq.le]
  have hs : ∑ k, dh A0 A1 W R k * g k * (X R k * rstd (X R)) = (∑ k, X R k * (dh A0 A1 W R k * g k)) * rstd (X R) := by
    rw [Finset.sum_mul]; exact Finset.sum_congr rfl fun k _ => by ring
  unfold dxRow
  rw [hr, hs]
  generalize (∑ k, X R k * (dh A0 A1 W R k * g k)) = S
  congr 1
  ring

end
end Cert.RefUpIdeal.Rows
-- ==== Proof.UpClaim.lean ====
/- The value claim of the gradient through the product with w_up: on finite arrays the call and its reference give the
   same real numbers. -/
module
public import proofs.«01_k».proof.Defs
public import proofs.«01_k».proof.Proof.UpRef
@[expose] public section
set_option maxRecDepth 16384
noncomputable section
namespace Cert.UpIdeal.Rows
open Idealize.ShloMosaic Idealize.ShloMosaic.TcCoe Idealize.SL.Sem

/-- The side conditions that the precondition's text states. -/
instance pre_facts : Cert.Pre_finite_up.Facts := ⟨by decide, by decide, by decide, by decide, by decide⟩

/-- A number whose size compares below the infinity's word is real. -/
theorem real_of_bit (a : EReal) (h : Ideal.cmp .olt (max a (-a)) (Ideal.ofBits .f32 0x7F800000#32) = 1#1) : a = ((a.toReal : ℝ) : EReal) := by
  have ht : Ideal.ofBits .f32 0x7F800000#32 = (⊤ : EReal) := by simp [Ideal.ofBits, Ideal.ieee]
  rw [ht] at h
  have hlt : max a (-a) < ⊤ := by
    by_contra hc
    simp [Ideal.cmp, hc] at h
  have h1 : a ≠ ⊤ := fun e => by rw [e] at hlt; simp at hlt
  have h2 : a ≠ ⊥ := fun e => by rw [e] at hlt; simp at hlt
  exact (EReal.coe_toReal h1 h2).symm

/-- The arrays' real numbers, where the precondition holds. -/
theorem reals (m : (ℓ : Loc Cert.UpIdeal.nD Cert.UpIdeal.τ Cert.UpIdeal.sig) → Buf (Elt Ideal) ℓ) (h : Cert.Pre_UpIdeal_finite_up m) (c : Dev Cert.UpIdeal.nD) :
    ∃ (A0 A1 : Fin 2048 → Fin 2816 → ℝ) (W : Fin 1024 → Fin 5632 → ℝ) (X D : Fin 2048 → Fin 1024 → ℝ) (g : Fin 1024 → ℝ),
      (∀ R k, m ((c : Thread nD τ).loc main_arg0) (ix2 R k) = ((A0 R k : ℝ) : EReal)) ∧ (∀ R k, m ((c : Thread nD τ).loc main_arg1) (ix2 R k) = ((A1 R k : ℝ) : EReal))
      ∧ (∀ R k, m ((c : Thread nD τ).loc main_arg2) (ix2 R k) = ((W R k : ℝ) : EReal)) ∧ (∀ R k, m ((c : Thread nD τ).loc main_arg3) (ix2 R k) = ((X R k : ℝ) : EReal))
      ∧ (∀ k, m ((c : Thread nD τ).loc main_arg4) (ix2 0 k) = ((g k : ℝ) : EReal)) ∧ (∀ R k, m ((c : Thread nD τ).loc main_arg5) (ix2 R k) = ((D R k : ℝ) : EReal)) := by
  obtain ⟨p0, p1, p2, p3, p4, p5⟩ := h c
  exact ⟨fun R k => EReal.toReal (m ((c : Thread nD τ).loc main_arg0) (ix2 R k)), fun R k => EReal.toReal (m ((c : Thread nD τ).loc main_arg1) (ix2 R k)),
    fun R k => EReal.toReal (m ((c : Thread nD τ).loc main_arg2) (ix2 R k)), fun R k => EReal.toReal (m ((c : Thread nD τ).loc main_arg3) (ix2 R k)),
    fun R k => EReal.toReal (m ((c : Thread nD τ).loc main_arg5) (ix2 R k)), fun k => EReal.toReal (m ((c : Thread nD τ).loc main_arg4) (ix2 0 k)),
    fun R k => real_of_bit _ (congrFun p0 (ix2 R k)), fun R k => real_of_bit _ (congrFun p1 (ix2 R k)), fun R k => real_of_bit _ (congrFun p2 (ix2 R k)),
    fun R k => real_of_bit _ (congrFun p3 (ix2 R k)), fun k => real_of_bit _ (congrFun p4 (ix2 0 k)), fun R k => real_of_bit _ (congrFun p5 (ix2 R k))⟩

/-- The value claim. -/
theorem algebraic : Cert.algebraic_UpIdeal_RefUpIdeal_pre_finite_up := by
  intro m g m' g' hpre heq
  refine ⟨fun c => (Gen.dats m 0 c).arrAt 6 (cfgs 0).N, fun c => (Gen.dats m 0 c).arrAt 7 (cfgs 0).N, ?_, ?_⟩
  · exact Cert.UpIdeal.Value.run_blocks m g
  · refine (θ_run Cert.RefUpIdeal.defs _ _).mono (fun r h c => ?_) (Cert.RefUpIdeal.Value.run (F := Ideal) m' g')
    obtain ⟨r0, r1, rk⟩ := h c
    obtain ⟨e0, e1, e2, e3, e4, e5⟩ := heq c
    obtain ⟨A0, A1, W, X, D, gg, h0, h1, h2, h3, h4, h5⟩ := reals m hpre c
    refine ⟨r0.trans ?_, r1.trans ?_, rk⟩
    · show _ = (Gen.dats m 0 c).arrAt 6 (cfgs 0).N
      rw [Cert.RefUpIdeal.Read.val_main_v39_eq, final6 m h0 h1 h2 h3 h4 h5, e0, e1, e2, e3, e4, e5]
      funext i
      obtain ⟨R, j, rfl⟩ : ∃ (R : Fin 2048) (j : Fin 1024), i = ix2 R j := ⟨i 0, i 1, by blk_ext⟩
      exact Cert.RefUpIdeal.Rows.v39_real h0 h1 h2 h3 h4 h5 R j
    · show _ = (Gen.dats m 0 c).arrAt 7 (cfgs 0).N
      rw [Cert.RefUpIdeal.Read.val_main_v22_eq, final7 m h0 h1 h2 h3, e0, e1, e2, e3]
      funext i
      obtain ⟨j, rfl⟩ : ∃ (j : Fin 1024), i = ix2 0 j := ⟨i 1, by blk_ext⟩
      exact Cert.RefUpIdeal.Rows.v22_real h0 h1 h2 h3 j

end Cert.UpIdeal.Rows
-- ==== Proof.DwValue.lean ====
/- What the call that gives the gradient of w_up leaves in its result: the sum over all rows, taken in two tiles. -/
module
public import proofs.«01_k».proof.Proof.Gen.DwIdeal.Value
public import proofs.«01_k».proof.Proof.Gen.RefDwIdeal.Read
public import Idealize.ShloMosaic.Lib.Pipeline.ValueKit
public import Idealize.ShloMosaic.Lib.Pipeline.ReadBack
@[expose] public section
set_option maxRecDepth 16384
noncomputable section
namespace Cert.DwIdeal.Rows
open Cert.DwIdeal Cert.DwIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block at a grid point. -/
theorem idx : ∀ t : Fin cfg0.N, win0_0.index t = ![0, t.val % 2] ∧ (t.val < 4 → win0_1.index t = ![t.val % 2, t.val / 2])
    ∧ (4 ≤ t.val → win0_2.index t = ![t.val % 2, t.val / 2 - 2]) ∧ win0_3.index t = ![0, t.val / 2] :=
  (by decide +kernel : ∀ t : Fin grid0.N, _)

/-- The normalised rows that the host prepares, transposed. -/
theorem host (c : Dev nD) : V m c main_v13 = transpose S1024x2048 [1, 0] (Cert.RefDwIdeal.Read.val_main_v14 (F := Ideal) (m ((c : Thread nD τ).loc main_arg0)) (m ((c : Thread nD τ).loc main_arg1))) transposes_S2048x1024_S1024x2048_1_0 := by
  unfold V hostOps0
  after_results_simp
  rfl

variable (c : Dev nD)

/-- The normalised rows. -/
def H : (⟨2, ![2048, 1024]⟩ : Shape).Idx → EReal := Cert.RefDwIdeal.Read.val_main_v14 (F := Ideal) (m ((c : Thread nD τ).loc main_arg0)) (m ((c : Thread nD τ).loc main_arg1))
/-- The two pieces of the incoming gradient side by side. -/
def Y : (⟨2, ![2048, 5632]⟩ : Shape).Idx → EReal := Cert.RefDwIdeal.Read.val_main_v0 (F := Ideal) (m ((c : Thread nD τ).loc main_arg2)) (m ((c : Thread nD τ).loc main_arg3))

theorem Y_lo (R : Fin 2048) (k : Fin 5632) (k' : Fin 2816) (h : k.val = k'.val) : Y m c (ix2 R k) = m ((c : Thread nD τ).loc main_arg2) (ix2 R k') :=
  concatenate_pair_apply_left 1 _ _ Cert.RefDwIdeal.Gen.concatenates_S2048x2816_S2048x2816_S2048x5632_d1 _ rfl (ix2 R k') fun b => match b with
    | ⟨0, _⟩ => rfl
    | ⟨1, _⟩ => h.symm
theorem Y_hi (R : Fin 2048) (k : Fin 5632) (k' : Fin 2816) (h : k.val = k'.val + 2816) : Y m c (ix2 R k) = m ((c : Thread nD τ).loc main_arg3) (ix2 R k') :=
  concatenate_pair_apply_right 1 _ _ Cert.RefDwIdeal.Gen.concatenates_S2048x2816_S2048x2816_S2048x5632_d1 _ rfl rfl (ix2 R k') (fun b hb => match b with
    | ⟨0, _⟩ => rfl
    | ⟨1, _⟩ => absurd rfl hb) h.symm

/-- Row `r` of half `s`, and column `q` of the result's block `n`. -/
def row (s : ℕ) (r : Fin 1024) : Fin 2048 := ⟨(s * 1024 + r.val) % 2048, Nat.mod_lt _ (by norm_num)⟩
@[inherit_doc row] def col (n : ℕ) (q : Fin 1408) : Fin 5632 := ⟨(n * 1408 + q.val) % 5632, Nat.mod_lt _ (by norm_num)⟩

theorem row_val (t : ℕ) (r : Fin 1024) : (row (t % 2) r).val = t % 2 * 1024 + r.val := by
  have := r.isLt
  show (t % 2 * 1024 + r.val) % 2048 = _
  omega
theorem col_val (t : Fin cfg0.N) (q : Fin 1408) : (col (t.val / 2) q).val = t.val / 2 * 1408 + q.val := by
  have := q.isLt
  have := t.isLt
  have h8 : cfg0.N = 8 := rfl
  show (t.val / 2 * 1408 + q.val) % 5632 = _
  omega

theorem blk0 (t : Fin cfg0.N) (j : Fin 1024) (r : Fin 1024) : iblk m c 0 t (ix2 j r) = H m c (ix2 (row (t.val % 2) r) j) := by
  have e : iblk m c 0 t (ix2 j r) = V m c main_v13 (ix2 j (row (t.val % 2) r)) := by
    have := row_val t.val r
    blk_ext [iblk, idx t]
  rw [e, host]
  unfold H
  generalize Cert.RefDwIdeal.Read.val_main_v14 (F := Ideal) (m ((c : Thread nD τ).loc main_arg0)) (m ((c : Thread nD τ).loc main_arg1)) = y
  exact transpose_apply [1, 0] y transposes_S2048x1024_S1024x2048_1_0 _ _ fun b => match b with
    | ⟨0, _⟩ => rfl
    | ⟨1, _⟩ => rfl

theorem blk1 (t : Fin cfg0.N) (h : t.val < 4) (r : Fin 1024) (q : Fin 1408) : iblk m c 1 t (ix2 r q) = Y m c (ix2 (row (t.val % 2) r) (col (t.val / 2) q)) := by
  have h1 := row_val t.val r
  have h2 := col_val t q
  have hi := (idx t).2.1 h
  rw [Y_lo m c _ _ ⟨t.val / 2 * 1408 + q.val, by omega⟩ h2, ← V_main_arg2 m c]
  blk_ext [iblk, hi]

theorem blk2 (t : Fin cfg0.N) (h : 4 ≤ t.val) (r : Fin 1024) (q : Fin 1408) : iblk m c 2 t (ix2 r q) = Y m c (ix2 (row (t.val % 2) r) (col (t.val / 2) q)) := by
  have h1 := row_val t.val r
  have h2 := col_val t q
  have hi := (idx t).2.2.1 h
  have := t.isLt
  have h8 : cfg0.N = 8 := rfl
  rw [Y_hi m c _ _ ⟨(t.val / 2 - 2) * 1408 + q.val, by omega⟩ (by show _ = (t.val / 2 - 2) * 1408 + q.val + 2816; omega), ← V_main_arg3 m c]
  blk_ext [iblk, hi]

/-- What a half of the rows adds to the result's block. -/
def part (n s : ℕ) (j : Fin 1024) (q : Fin 1408) : EReal := ∑ r, H m c (ix2 (row s r) j) * Y m c (ix2 (row s r) (col n q))

theorem pay1_at (a : Vec Ideal S1024x1408 .f32) (b : Vec Ideal S1024x1024 .bf16) (d : Vec Ideal S1024x1408 .bf16) (j : Fin 1024) (q : Fin 1408) :
    k0_pay1 a b d (ix2 j q) = a (ix2 j q) + ∑ r : Fin 1024, b (ix2 j r) * d (ix2 r q) := by
  pointwise [k0_pay1]
theorem pay4_at (a : Vec Ideal S1024x1408 .f32) (b : Vec Ideal S1024x1024 .bf16) (d : Vec Ideal S1024x1408 .bf16) (j : Fin 1024) (q : Fin 1408) :
    k0_pay4 a b d (ix2 j q) = a (ix2 j q) + ∑ r : Fin 1024, b (ix2 j r) * d (ix2 r q) := by
  pointwise [k0_pay4]
theorem pay3_at (j : Fin 1024) (q : Fin 1408) : k0_pay3 (F := Ideal) (ix2 j q) = 0 := by pointwise [k0_pay3]
theorem pay2_at (a : Vec Ideal S1024x1408 .f32) (j : Fin 1024) (q : Fin 1408) : k0_pay2 a (ix2 j q) = a (ix2 j q) := by pointwise [k0_pay2]

/-- The scratch after a block's first half. -/
theorem first (t : Fin cfg0.N) (h0 : t.val % 2 = 0) (j : Fin 1024) (q : Fin 1408) :
    (outsAt0 m c t.val t.isLt).2 (ix2 j q) = part m c (t.val / 2) 0 j q := by
  unfold part
  rcases Nat.lt_or_ge t.val 4 with h1 | h1
  · have e : (outsAt0 m c t.val t.isLt).2 = k0_pay4 (k0_pay3 : FVec Ideal S1024x1408 .f32) (iblk m c 0 t) (iblk m c 1 t) := by
      rw [outsAt0_A m c t h0 h1 (by omega) (by omega)]; frame_out
    rw [e, pay4_at, pay3_at, zero_add]
    exact Finset.sum_congr rfl fun r _ => by rw [blk0, blk1 m c t h1, h0]
  · have e : (outsAt0 m c t.val t.isLt).2 = k0_pay1 (k0_pay3 : FVec Ideal S1024x1408 .f32) (iblk m c 0 t) (iblk m c 2 t) := by
      rw [outsAt0_C m c t h0 (by omega) h1 (by omega)]; frame_out
    rw [e, pay1_at, pay3_at, zero_add]
    exact Finset.sum_congr rfl fun r _ => by rw [blk0, blk2 m c t h1, h0]

/-- The result's block after its second half. -/
theorem second (t : Fin cfg0.N) (h0 : t.val % 2 = 1) (j : Fin 1024) (q : Fin 1408) :
    (outsAt0 m c t.val t.isLt).1 (ix2 j q) = part m c (t.val / 2) 0 j q + part m c (t.val / 2) 1 j q := by
  have hp : t.val - 1 < cfg0.N := lt_of_le_of_lt (Nat.sub_le _ _) t.isLt
  have ep : (outsAt0 m c (t.val - 1) hp).2 (ix2 j q) = part m c (t.val / 2) 0 j q := by
    have := first m c ⟨t.val - 1, hp⟩ (by show (t.val - 1) % 2 = 0; omega) j q
    rwa [show (t.val - 1) / 2 = t.val / 2 from by omega] at this
  rw [← ep]
  unfold part
  rcases Nat.lt_or_ge t.val 4 with h1 | h1
  · have e : (outsAt0 m c t.val t.isLt).1 = k0_pay2 (k0_pay4 (outsAt0 m c (t.val - 1) hp).2 (iblk m c 0 t) (iblk m c 1 t)) := by
      rw [outsAt0_B m c t (by omega) h1 (by omega) h0]; frame_out; rw [read_unread_whole]
    rw [e, pay2_at, pay4_at]
    exact congrArg _ (Finset.sum_congr rfl fun r _ => by rw [blk0, blk1 m c t h1, h0])
  · have e : (outsAt0 m c t.val t.isLt).1 = k0_pay2 (k0_pay1 (outsAt0 m c (t.val - 1) hp).2 (iblk m c 0 t) (iblk m c 2 t)) := by
      rw [outsAt0_D m c t (by omega) (by omega) h1 h0]; frame_out; rw [read_unread_whole]
    rw [e, pay2_at, pay1_at]
    exact congrArg _ (Finset.sum_congr rfl fun r _ => by rw [blk0, blk2 m c t h1, h0])

/-- The two halves are all rows. -/
theorem sum_rows (f : Fin 2048 → EReal) : ∑ r, f (row 0 r) + ∑ r, f (row 1 r) = ∑ R, f R := by
  rw [show ∑ R, f R = _ from Fin.sum_univ_add (a := 1024) (b := 1024) f]
  refine congrArg₂ (· + ·) (Finset.sum_congr rfl fun r _ => congrArg f (Fin.ext ?_)) (Finset.sum_congr rfl fun r _ => congrArg f (Fin.ext ?_))
  · have := r.isLt; show (0 * 1024 + r.val) % 2048 = r.val; omega
  · have := r.isLt; show (1 * 1024 + r.val) % 2048 = 1024 + r.val; omega

/-- The result. -/
theorem final : (dats m 0 c).arrAt 3 (cfgs 0).N = fun i => ∑ R, H m c (ix2 R (i 0)) * Y m c (ix2 R (i 1)) := by
  refine (dats m 0 c).arrAt_eq_of_covers 3 _ (by decide +kernel) fun t hf y => ?_
  have h0 : t.val % 2 = 1 := (flush0_3 t).mp hf
  blk_simp
  rw [after0_3]
  obtain ⟨j, q, rfl⟩ : ∃ j q, y = ix2 j q := ⟨y 0, y 1, by blk_ext⟩
  rw [second m c t h0]
  have e0 : (((cfg0.win 3).blk t).view.emb (ix2 j q)) 0 = j := by
    apply Fin.ext; blk_simp [idx t]
  have e1 : (((cfg0.win 3).blk t).view.emb (ix2 j q)) 1 = col (t.val / 2) q := by
    apply Fin.ext; have := col_val t q; blk_simp [idx t]; omega
  rw [e0, e1]
  exact sum_rows fun R => H m c (ix2 R j) * Y m c (ix2 R (col (t.val / 2) q))

end Cert.DwIdeal.Rows
-- ==== Proof.DwClaim.lean ====
/- The value claim for the gradient of w_up: the call's sum over two tiles of the rows is the reference's one product. -/
module
public import proofs.«01_k».proof.Defs
public import proofs.«01_k».proof.Proof.DwValue
public import proofs.«01_k».proof.Proof.Gen.RefDwIdeal.Run
@[expose] public section
set_option maxRecDepth 16384
noncomputable section
namespace Cert.DwIdeal.Rows
open Idealize.ShloMosaic Idealize.ShloMosaic.TcCoe Idealize.SL.Sem

/-- The reference's product, entry by entry: the rows' sum, with the factors in the other order. -/
theorem ref_at (x0 : (⟨⟨2, ![2048, 1024]⟩, .f32⟩ : BufTy).Contents (Elt Ideal)) (x1 : (⟨⟨2, ![1, 1024]⟩, .f32⟩ : BufTy).Contents (Elt Ideal))
    (x2 x3 : (⟨⟨2, ![2048, 2816]⟩, .bf16⟩ : BufTy).Contents (Elt Ideal)) (j : Fin 1024) (k : Fin 5632) :
    Cert.RefDwIdeal.Read.val_main_v18 (F := Ideal) x0 x1 x2 x3 (ix2 j k)
      = ∑ R : Fin 2048, Cert.RefDwIdeal.Read.val_main_v14 (F := Ideal) x0 x1 (ix2 R j) * Cert.RefDwIdeal.Read.val_main_v0 (F := Ideal) x2 x3 (ix2 R k) := by
  have e : Cert.RefDwIdeal.Read.idx_main_v17 (ix2 j k) = ix2 k j := by blk_ext
  have h : Cert.RefDwIdeal.Read.val_main_v18 (F := Ideal) x0 x1 x2 x3 (ix2 j k) = Cert.RefDwIdeal.Read.val_main_v16 (F := Ideal) x0 x1 x2 x3 (ix2 k j) := by
    rw [Cert.RefDwIdeal.Read.val_main_v18_apply, Cert.RefDwIdeal.Read.val_main_v17_apply, e]; rfl
  rw [h, Cert.RefDwIdeal.Read.val_main_v16_apply]
  refine Finset.sum_congr rfl fun R _ => ?_
  have el : Cert.RefDwIdeal.Read.lidx_main_v16 (ix2 k j) R = ix2 R k := by blk_ext
  have er : Cert.RefDwIdeal.Read.ridx_main_v16 (ix2 k j) R = ix2 R j := by blk_ext
  rw [el, er, mul_comm]
  rfl

/-- The value claim. -/
theorem algebraic : Cert.algebraic_DwIdeal_RefDwIdeal := by
  intro m g m' g' _ heq
  refine ⟨fun c => (Gen.dats m 0 c).arrAt 3 (cfgs 0).N, ?_, ?_⟩
  · exact Cert.DwIdeal.Value.run_blocks m g
  · refine (θ_run Cert.RefDwIdeal.defs _ _).mono (fun r h c => ?_) (Cert.RefDwIdeal.Value.run (F := Ideal) m' g')
    obtain ⟨r0, rk⟩ := h c
    obtain ⟨e0, e1, e2, e3⟩ := heq c
    refine ⟨r0.trans ?_, rk⟩
    show _ = (Gen.dats m 0 c).arrAt 3 (cfgs 0).N
    rw [Cert.RefDwIdeal.Read.val_main_v18_eq, final, e0, e1, e2, e3]
    funext i
    obtain ⟨j, k, rfl⟩ : ∃ (j : Fin 1024) (k : Fin 5632), i = ix2 j k := ⟨i 0, i 1, by blk_ext⟩
    exact ref_at _ _ _ _ j k

end Cert.DwIdeal.Rows
-- ==== Proof.DownClaim.lean ====
/- The gradient through the product with w_down: the call's tiles of rows are the reference's one product. -/
module
public import proofs.«01_k».proof.Defs
public import proofs.«01_k».proof.Proof.Gen.DownIdeal.Value
public import proofs.«01_k».proof.Proof.Gen.RefDownIdeal.Run
public import proofs.«01_k».proof.Proof.Gen.RefDownIdeal.Read
public import Idealize.ShloMosaic.Lib.Pipeline.ValueKit
public import Idealize.ShloMosaic.Lib.Pipeline.ReadBack
@[expose] public section
set_option maxRecDepth 16384
noncomputable section
namespace Cert.DownIdeal.Rows
open Cert.DownIdeal Cert.DownIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- Row `r` of tile `u`. -/
def row (u : ℕ) (r : Fin 512) : Fin 2048 := ⟨(u * 512 + r.val) % 2048, Nat.mod_lt _ (by norm_num)⟩

theorem row_val (t : Fin cfg0.N) (r : Fin 512) : (row t.val r).val = t.val * 512 + r.val := by
  have := t.isLt
  have hN : cfg0.N = 4 := rfl
  have := r.isLt
  show (t.val * 512 + r.val) % 2048 = _
  omega

/-- The argument arrays. -/
def A0 : (⟨2, ![2048, 1024]⟩ : Shape).Idx → EReal := m ((c : Thread nD τ).loc main_arg0)
@[inherit_doc A0] def A1 : (⟨2, ![2816, 1024]⟩ : Shape).Idx → EReal := m ((c : Thread nD τ).loc main_arg1)

theorem blk0 (t : Fin cfg0.N) (r : Fin 512) (k : Fin 1024) : iblk m c 0 t (ix2 r k) = A0 m c (ix2 (row t.val r) k) := by
  have := row_val t r; unfold A0; rw [← V_main_arg0 m c]; blk_ext [iblk, idx t]
theorem blk1 (t : Fin cfg0.N) (r : Fin 2816) (k : Fin 1024) : iblk m c 1 t (ix2 r k) = A1 m c (ix2 r k) := by
  unfold A1; rw [← V_main_arg1 m c]; blk_ext [iblk, idx t]

theorem pay_at (a : Vec Ideal S512x1024 .f32) (b : Vec Ideal S2816x1024 .bf16) (r : Fin 512) (j : Fin 2816) :
    k0_pay1 a b (ix2 r j) = ∑ k : Fin 1024, a (ix2 r k) * b (ix2 j k) := by
  pointwise [k0_pay1]

/-- A grid point's block is the body's product of its blocks. -/
theorem out (t : Fin cfg0.N) : out0_2 (iblk m c 0 t) (iblk m c 1 t) = k0_pay1 (iblk m c 0 t) (iblk m c 1 t) := by
  unfold out0_2; frame_out

/-- The result. -/
theorem final : (dats m 0 c).arrAt 2 (cfgs 0).N = fun i => ∑ k : Fin 1024, A0 m c (ix2 (i 0) k) * A1 m c (ix2 (i 1) k) := by
  refine (dats m 0 c).arrAt_eq_of_covers 2 _ (by decide +kernel) fun t _ y => ?_
  blk_simp
  rw [after0_2, out]
  obtain ⟨r, j, rfl⟩ : ∃ r j, y = ix2 r j := ⟨y 0, y 1, by blk_ext⟩
  rw [pay_at]
  have e0 : (((cfg0.win 2).blk t).view.emb (ix2 r j)) 0 = row t.val r := by
    apply Fin.ext; have := row_val t r; blk_simp [idx t]; omega
  have e1 : (((cfg0.win 2).blk t).view.emb (ix2 r j)) 1 = j := by
    apply Fin.ext; blk_simp [idx t]
  rw [e0, e1]
  exact Finset.sum_congr (M := EReal) rfl fun k _ => by rw [blk0, blk1]

/-- The reference's product, entry by entry. -/
theorem ref_at (x0 : (⟨⟨2, ![2048, 1024]⟩, .f32⟩ : BufTy).Contents (Elt Ideal)) (x1 : (⟨⟨2, ![2816, 1024]⟩, .bf16⟩ : BufTy).Contents (Elt Ideal))
    (R : Fin 2048) (j : Fin 2816) : Cert.RefDownIdeal.Read.val_main_v4 (F := Ideal) x0 x1 (ix2 R j) = ∑ k : Fin 1024, x0 (ix2 R k) * x1 (ix2 j k) := by
  have h : Cert.RefDownIdeal.Read.val_main_v4 (F := Ideal) x0 x1 (ix2 R j) = Cert.RefDownIdeal.Read.val_main_v3 (F := Ideal) x0 x1 (ix2 R j) := rfl
  rw [h, Cert.RefDownIdeal.Read.val_main_v3_apply]
  refine Finset.sum_congr rfl fun k _ => ?_
  have el : Cert.RefDownIdeal.Read.lidx_main_v3 (ix2 R j) k = ix2 R k := by blk_ext
  have er : Cert.RefDownIdeal.Read.ridx_main_v3 (ix2 R j) k = ix2 j k := by blk_ext
  rw [el, er]
  rfl

/-- The value claim. -/
theorem algebraic : Cert.algebraic_DownIdeal_RefDownIdeal := by
  intro m g m' g' _ heq
  refine ⟨fun c => (Gen.dats m 0 c).arrAt 2 (cfgs 0).N, ?_, ?_⟩
  · exact Cert.DownIdeal.Value.run_blocks m g
  · refine (θ_run Cert.RefDownIdeal.defs _ _).mono (fun r h c => ?_) (Cert.RefDownIdeal.Value.run (F := Ideal) m' g')
    obtain ⟨r0, rk⟩ := h c
    obtain ⟨e0, e1⟩ := heq c
    refine ⟨r0.trans ?_, rk⟩
    show _ = (Gen.dats m 0 c).arrAt 2 (cfgs 0).N
    rw [Cert.RefDownIdeal.Read.val_main_v4_eq, final, e0, e1]
    funext i
    obtain ⟨R, j, rfl⟩ : ∃ (R : Fin 2048) (j : Fin 2816), i = ix2 R j := ⟨i 0, i 1, by blk_ext⟩
    exact ref_at _ _ R j

end Cert.DownIdeal.Rows
-- ==== Proof.DownDwClaim.lean ====
/- The gradient of w_down: the call's sum over two tiles of the rows is the reference's one product. -/
module
public import proofs.«01_k».proof.Defs
public import proofs.«01_k».proof.Proof.Gen.DownDwIdeal.Value
public import proofs.«01_k».proof.Proof.Gen.RefDownDwIdeal.Run
public import proofs.«01_k».proof.Proof.Gen.RefDownDwIdeal.Read
public import Idealize.ShloMosaic.Lib.Pipeline.ValueKit
public import Idealize.ShloMosaic.Lib.Pipeline.ReadBack
@[expose] public section
set_option maxRecDepth 16384
noncomputable section
namespace Cert.DownDwIdeal.Rows
open Cert.DownDwIdeal Cert.DownDwIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- Row `r` of half `s`. -/
def row (s : ℕ) (r : Fin 1024) : Fin 2048 := ⟨(s * 1024 + r.val) % 2048, Nat.mod_lt _ (by norm_num)⟩

theorem row_val (t : ℕ) (r : Fin 1024) : (row (t % 2) r).val = t % 2 * 1024 + r.val := by
  have := r.isLt
  show (t % 2 * 1024 + r.val) % 2048 = _
  omega

/-- The two halves are all rows. -/
theorem sum_rows (f : Fin 2048 → EReal) : ∑ r, f (row 0 r) + ∑ r, f (row 1 r) = ∑ R, f R := by
  rw [show ∑ R, f R = _ from Fin.sum_univ_add (a := 1024) (b := 1024) f]
  refine congrArg₂ (· + ·) (Finset.sum_congr rfl fun r _ => congrArg f (Fin.ext ?_)) (Finset.sum_congr rfl fun r _ => congrArg f (Fin.ext ?_))
  · have := r.isLt; show (0 * 1024 + r.val) % 2048 = r.val; omega
  · have := r.isLt; show (1 * 1024 + r.val) % 2048 = 1024 + r.val; omega

/-- Index `j` of the result's tile `n`. -/
def tile (n : ℕ) (j : Fin 1408) : Fin 2816 := ⟨(n * 1408 + j.val) % 2816, Nat.mod_lt _ (by norm_num)⟩

theorem tile_val (t : Fin cfg0.N) (j : Fin 1408) : (tile (t.val / 2) j).val = t.val / 2 * 1408 + j.val := by
  have := j.isLt
  have := t.isLt
  have hN : cfg0.N = 4 := rfl
  show (t.val / 2 * 1408 + j.val) % 2816 = _
  omega

variable (m : (ℓ : Loc nD τ sig) → Buf (Elt Ideal) ℓ) (c : Dev nD)

/-- The layer's inputs and the incoming gradient. -/
def L : (⟨2, ![2048, 2816]⟩ : Shape).Idx → EReal := m ((c : Thread nD τ).loc main_arg0)
@[inherit_doc L] def Y : (⟨2, ![2048, 1024]⟩ : Shape).Idx → EReal := m ((c : Thread nD τ).loc main_arg1)

theorem blk0 (t : Fin cfg0.N) (r : Fin 1024) (j : Fin 1408) : iblk m c 0 t (ix2 r j) = L m c (ix2 (row (t.val % 2) r) (tile (t.val / 2) j)) := by
  have := row_val t.val r; have := tile_val t j; unfold L; rw [← V_main_arg0 m c]; blk_ext [iblk, idx t]
theorem blk1 (t : Fin cfg0.N) (r : Fin 1024) (q : Fin 1024) : iblk m c 1 t (ix2 r q) = Y m c (ix2 (row (t.val % 2) r) q) := by
  have := row_val t.val r; unfold Y; rw [← V_main_arg1 m c]; blk_ext [iblk, idx t]

/-- What a half of the rows adds to the result's block. -/
def part (n s : ℕ) (j : Fin 1408) (q : Fin 1024) : EReal := ∑ r, L m c (ix2 (row s r) (tile n j)) * Y m c (ix2 (row s r) q)

theorem pay1_at (a : Vec Ideal S1408x1024 .f32) (b : Vec Ideal S1024x1408 .bf16) (d : Vec Ideal S1024x1024 .f32) (j : Fin 1408) (q : Fin 1024) :
    k0_pay1 a b d (ix2 j q) = a (ix2 j q) + ∑ r : Fin 1024, b (ix2 r j) * d (ix2 r q) := by
  pointwise [k0_pay1]
theorem pay3_at (j : Fin 1408) (q : Fin 1024) : k0_pay3 (F := Ideal) (ix2 j q) = 0 := by pointwise [k0_pay3]
theorem pay2_at (a : Vec Ideal S1408x1024 .f32) (j : Fin 1408) (q : Fin 1024) : k0_pay2 a (ix2 j q) = a (ix2 j q) := by pointwise [k0_pay2]

/-- The scratch after a block's first half. -/
theorem first (t : Fin cfg0.N) (h0 : t.val % 2 = 0) (j : Fin 1408) (q : Fin 1024) :
    (outsAt0 m c t.val t.isLt).2 (ix2 j q) = part m c (t.val / 2) 0 j q := by
  unfold part
  have e : (outsAt0 m c t.val t.isLt).2 = k0_pay1 (k0_pay3 : FVec Ideal S1408x1024 .f32) (iblk m c 0 t) (iblk m c 1 t) := by
    rw [outsAt0_A m c t h0 (by omega)]; frame_out
  rw [e, pay1_at, pay3_at, zero_add]
  exact Finset.sum_congr rfl fun r _ => by rw [blk0, blk1, h0]

/-- The result's block after its second half. -/
theorem second (t : Fin cfg0.N) (h0 : t.val % 2 = 1) (j : Fin 1408) (q : Fin 1024) :
    (outsAt0 m c t.val t.isLt).1 (ix2 j q) = part m c (t.val / 2) 0 j q + part m c (t.val / 2) 1 j q := by
  have hp : t.val - 1 < cfg0.N := lt_of_le_of_lt (Nat.sub_le _ _) t.isLt
  have ep : (outsAt0 m c (t.val - 1) hp).2 (ix2 j q) = part m c (t.val / 2) 0 j q := by
    have := first m c ⟨t.val - 1, hp⟩ (by show (t.val - 1) % 2 = 0; omega) j q
    rwa [show (t.val - 1) / 2 = t.val / 2 from by omega] at this
  rw [← ep]
  unfold part
  have e : (outsAt0 m c t.val t.isLt).1 = k0_pay2 (k0_pay1 (outsAt0 m c (t.val - 1) hp).2 (iblk m c 0 t) (iblk m c 1 t)) := by
    rw [outsAt0_B m c t (by omega) h0]; frame_out; rw [read_unread_whole]
  rw [e, pay2_at, pay1_at]
  exact congrArg _ (Finset.sum_congr rfl fun r _ => by rw [blk0, blk1, h0])

/-- The result. -/
theorem final : (dats m 0 c).arrAt 2 (cfgs 0).N = fun i => ∑ R, L m c (ix2 R (i 0)) * Y m c (ix2 R (i 1)) := by
  refine (dats m 0 c).arrAt_eq_of_covers 2 _ (by decide +kernel) fun t hf y => ?_
  have h0 : t.val % 2 = 1 := (flush0_2 t).mp hf
  blk_simp
  rw [after0_2]
  obtain ⟨j, q, rfl⟩ : ∃ j q, y = ix2 j q := ⟨y 0, y 1, by blk_ext⟩
  rw [second m c t h0]
  have e0 : (((cfg0.win 2).blk t).view.emb (ix2 j q)) 0 = tile (t.val / 2) j := by
    apply Fin.ext; have := tile_val t j; blk_simp [idx t]; omega
  have e1 : (((cfg0.win 2).blk t).view.emb (ix2 j q)) 1 = q := by
    apply Fin.ext; blk_simp [idx t]
  rw [e0, e1]
  exact sum_rows fun R => L m c (ix2 R (tile (t.val / 2) j)) * Y m c (ix2 R (q))

open Cert.RefDownDwIdeal.Read in
/-- The reference's product, entry by entry: the rows' sum, with the factors in the other order. -/
theorem ref_at (x0 : (⟨⟨2, ![2048, 2816]⟩, .bf16⟩ : BufTy).Contents (Elt Ideal)) (x1 : (⟨⟨2, ![2048, 1024]⟩, .f32⟩ : BufTy).Contents (Elt Ideal)) (j : Fin 2816) (k : Fin 1024) :
    val_main_v5 (F := Ideal) x0 x1 (ix2 j k) = ∑ R : Fin 2048, x0 (ix2 R j) * x1 (ix2 R k) := by
  have e : idx_main_v4 (ix2 j k) = ix2 k j := by blk_ext
  have h : val_main_v5 (F := Ideal) x0 x1 (ix2 j k) = val_main_v3 (F := Ideal) x0 x1 (ix2 k j) := by
    rw [val_main_v5_apply, val_main_v4_apply, e]; rfl
  rw [h, val_main_v3_apply]
  refine Finset.sum_congr rfl fun R _ => ?_
  have el : lidx_main_v3 (ix2 k j) R = ix2 R k := by blk_ext
  have er : ridx_main_v3 (ix2 k j) R = ix2 R j := by blk_ext
  rw [el, er, mul_comm]
  rfl

/-- The value claim. -/
theorem algebraic : Cert.algebraic_DownDwIdeal_RefDownDwIdeal := by
  intro m g m' g' _ heq
  refine ⟨fun c => (Gen.dats m 0 c).arrAt 2 (cfgs 0).N, ?_, ?_⟩
  · exact Cert.DownDwIdeal.Value.run_blocks m g
  · refine (θ_run Cert.RefDownDwIdeal.defs _ _).mono (fun r h c => ?_) (Cert.RefDownDwIdeal.Value.run (F := Ideal) m' g')
    obtain ⟨r0, rk⟩ := h c
    obtain ⟨e0, e1⟩ := heq c
    refine ⟨r0.trans ?_, rk⟩
    show _ = (Gen.dats m 0 c).arrAt 2 (cfgs 0).N
    rw [Cert.RefDownDwIdeal.Read.val_main_v5_eq, final, e0, e1]
    funext i
    obtain ⟨j, k, rfl⟩ : ∃ (j : Fin 2816) (k : Fin 1024), i = ix2 j k := ⟨i 0, i 1, by blk_ext⟩
    exact ref_at _ _ j k

end Cert.DownDwIdeal.Rows
-- ==== Proof.UpFwdClaim.lean ====
/- The normalisation and the product with w_up: the call's tiles of rows against the reference's lines. -/
module
public import proofs.«01_k».proof.Defs
public import proofs.«01_k».proof.Proof.Gen.UpFwdIdeal.Value
public import proofs.«01_k».proof.Proof.Gen.RefUpFwdIdeal.Run
public import proofs.«01_k».proof.Proof.Gen.RefUpFwdIdeal.Read
public import Idealize.ShloMosaic.Lib.Pipeline.ValueKit
public import Idealize.ShloMosaic.Lib.Pipeline.ReadBack
@[expose] public section
set_option maxRecDepth 16384
noncomputable section
namespace Cert.UpFwdIdeal.Rows
open Cert.UpFwdIdeal Cert.UpFwdIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![0, 0] ∧ win0_3.index t = ![0, t.val] ∧ win0_4.index t = ![t.val, 0] :=
  (by decide +kernel : ∀ t : Fin grid0.N, _)

variable (m : (ℓ : Loc nD τ sig) → Buf (Elt Ideal) ℓ) (c : Dev nD)

/-- Row `r` of tile `u`. -/
def row (u : ℕ) (r : Fin 256) : Fin 2048 := ⟨(u * 256 + r.val) % 2048, Nat.mod_lt _ (by norm_num)⟩

theorem row_val (t : Fin cfg0.N) (r : Fin 256) : (row t.val r).val = t.val * 256 + r.val := by
  have := t.isLt
  have hN : cfg0.N = 8 := rfl
  have := r.isLt
  show (t.val * 256 + r.val) % 2048 = _
  omega

/-- The argument arrays. -/
def A0 : (⟨2, ![2048, 1024]⟩ : Shape).Idx → EReal := m ((c : Thread nD τ).loc main_arg0)
@[inherit_doc A0] def A1 : (⟨2, ![1, 1024]⟩ : Shape).Idx → EReal := m ((c : Thread nD τ).loc main_arg1)
@[inherit_doc A0] def A2 : (⟨2, ![1024, 5632]⟩ : Shape).Idx → EReal := m ((c : Thread nD τ).loc main_arg2)

theorem blk0 (t : Fin cfg0.N) (r : Fin 256) (k : Fin 1024) : iblk m c 0 t (ix2 r k) = A0 m c (ix2 (row t.val r) k) := by
  have := row_val t r; unfold A0; rw [← V_main_arg0 m c]; blk_ext [iblk, idx t]
theorem blk1 (t : Fin cfg0.N) (k : Fin 1024) : iblk m c 1 t (ix2 0 k) = A1 m c (ix2 0 k) := by
  unfold A1; rw [← V_main_arg1 m c]; blk_ext [iblk, idx t]
theorem blk2 (t : Fin cfg0.N) (k : Fin 1024) (j : Fin 5632) : iblk m c 2 t (ix2 k j) = A2 m c (ix2 k j) := by
  unfold A2; rw [← V_main_arg2 m c]; blk_ext [iblk, idx t]

/-- A row normalised and scaled. -/
def normed (x g : Fin 1024 → EReal) (k : Fin 1024) : EReal :=
  x k * Ideal.rsqrt (Ideal.div (∑ q : Fin 1024, x q * x q) (Ideal.ofBits .f32 1149239296#32) + Ideal.ofBits .f32 897988541#32) * g k

/-- The normalised rows. -/
def H (R : Fin 2048) (k : Fin 1024) : EReal := normed (fun q => A0 m c (ix2 R q)) (fun q => A1 m c (ix2 0 q)) k

theorem pay1_at (a : Vec Ideal S256x1024 .f32) (g : Vec Ideal S1x1024 .f32) (r : Fin 256) (k : Fin 1024) :
    k0_pay1 a g (ix2 r k) = normed (fun q => a (ix2 r q)) (fun q => g (ix2 0 q)) k := by
  unfold normed; pointwise [k0_pay1]
theorem pay2_at (a : Vec Ideal S256x1024 .f32) (g : Vec Ideal S1x1024 .f32) (r : Fin 256) (k : Fin 1024) :
    k0_pay2 a g (ix2 k r) = k0_pay1 a g (ix2 r k) := by
  pointwise [k0_pay2]
theorem pay3_at (a : Vec Ideal S256x1024 .f32) (g : Vec Ideal S1x1024 .f32) (b : Vec Ideal S1024x5632 .bf16) (r : Fin 256) (j : Fin 5632) :
    k0_pay3 a g b (ix2 r j) = ∑ k : Fin 1024, k0_pay1 a g (ix2 r k) * b (ix2 k j) := by
  pointwise [k0_pay3]

theorem tile_at (t : Fin cfg0.N) (r : Fin 256) (k : Fin 1024) : k0_pay1 (iblk m c 0 t) (iblk m c 1 t) (ix2 r k) = H m c (row t.val r) k := by
  rw [pay1_at]; unfold H
  exact congrArg₂ (fun x g => normed x g k) (funext fun q => blk0 m c t r q) (funext fun q => blk1 m c t q)

theorem out3 (t : Fin cfg0.N) : out0_3 (iblk m c 0 t) (iblk m c 1 t) (iblk m c 2 t) = k0_pay2 (iblk m c 0 t) (iblk m c 1 t) := by
  unfold out0_3; frame_out
theorem out4 (t : Fin cfg0.N) : out0_4 (iblk m c 0 t) (iblk m c 1 t) (iblk m c 2 t) = k0_pay3 (iblk m c 0 t) (iblk m c 1 t) (iblk m c 2 t) := by
  unfold out0_4; frame_out

/-- The first result: the normalised rows, transposed. -/
theorem final3 : (dats m 0 c).arrAt 3 (cfgs 0).N = fun i => H m c (i 1) (i 0) := by
  refine (dats m 0 c).arrAt_eq_of_covers 3 _ (by decide +kernel) fun t _ y => ?_
  blk_simp
  rw [after0_3, out3]
  obtain ⟨k, r, rfl⟩ : ∃ k r, y = ix2 k r := ⟨y 0, y 1, by blk_ext⟩
  rw [pay2_at, tile_at]
  have e0 : (((cfg0.win 3).blk t).view.emb (ix2 k r)) 1 = row t.val r := by
    apply Fin.ext; have := row_val t r; blk_simp [idx t]; omega
  have e1 : (((cfg0.win 3).blk t).view.emb (ix2 k r)) 0 = k := by
    apply Fin.ext; blk_simp [idx t]
  rw [e0, e1]

/-- The second result: the product. -/
theorem final4 : (dats m 0 c).arrAt 4 (cfgs 0).N = fun i => ∑ k : Fin 1024, H m c (i 0) k * A2 m c (ix2 k (i 1)) := by
  refine (dats m 0 c).arrAt_eq_of_covers 4 _ (by decide +kernel) fun t _ y => ?_
  blk_simp
  rw [after0_4, out4]
  obtain ⟨r, j, rfl⟩ : ∃ r j, y = ix2 r j := ⟨y 0, y 1, by blk_ext⟩
  rw [pay3_at]
  have e0 : (((cfg0.win 4).blk t).view.emb (ix2 r j)) 0 = row t.val r := by
    apply Fin.ext; have := row_val t r; blk_simp [idx t]; omega
  have e1 : (((cfg0.win 4).blk t).view.emb (ix2 r j)) 1 = j := by
    apply Fin.ext; blk_simp [idx t]
  rw [e0, e1]
  exact Finset.sum_congr (M := EReal) rfl fun k _ => by rw [tile_at, blk2]

open Cert.RefUpFwdIdeal.Read in
/-- The reference's normalised rows. -/
theorem ref_row (x0 : (⟨⟨2, ![2048, 1024]⟩, .f32⟩ : BufTy).Contents (Elt Ideal)) (x1 : (⟨⟨2, ![1, 1024]⟩, .f32⟩ : BufTy).Contents (Elt Ideal)) (R : Fin 2048) (k : Fin 1024) :
    val_main_v11 (F := Ideal) x0 x1 (ix2 R k) = normed (fun q => x0 (ix2 R q)) (fun q => x1 (ix2 0 q)) k := by
  have e8 : idx_main_v8 (ix2 R k) = ix2 R 0 := by blk_ext
  have e10 : idx_main_v10 (ix2 R k) = ix2 0 k := by blk_ext
  have e1 : ∀ q, idx_main_v1 (idx_main_v2 (ix2 R 0)) q = ix2 R q := fun q => by blk_ext
  have h1 : val_main_v1 (F := Ideal) x0 (idx_main_v2 (ix2 R 0)) = ∑ q : Fin 1024, x0 (ix2 R q) * x0 (ix2 R q) := by
    rw [val_main_v1_apply]
    refine (congrArg₂ (· + ·) Ideal.ofBits_zero_f32 (Finset.sum_congr rfl fun q _ => ?_)).trans (zero_add _)
    rw [e1]; rfl
  have h7 : val_main_v7 (F := Ideal) x0 (ix2 R 0) = Ideal.rsqrt (Ideal.div (val_main_v1 (F := Ideal) x0 (idx_main_v2 (ix2 R 0))) (Ideal.ofBits .f32 1149239296#32) + Ideal.ofBits .f32 897988541#32) := by
    rw [val_main_v7_apply, val_main_v6_apply, val_main_v4_apply, val_main_v2_apply, val_main_v3_apply, val_main_v5_apply]; rfl
  rw [val_main_v11_apply, val_main_v9_apply, val_main_v8_apply, val_main_v10_apply, e8, e10, h7, h1]
  rfl

open Cert.RefUpFwdIdeal.Read in
theorem ref_t (x0 : (⟨⟨2, ![2048, 1024]⟩, .f32⟩ : BufTy).Contents (Elt Ideal)) (x1 : (⟨⟨2, ![1, 1024]⟩, .f32⟩ : BufTy).Contents (Elt Ideal)) (k : Fin 1024) (R : Fin 2048) :
    val_main_v13 (F := Ideal) x0 x1 (ix2 k R) = normed (fun q => x0 (ix2 R q)) (fun q => x1 (ix2 0 q)) k := by
  have e : idx_main_v12 (ix2 k R) = ix2 R k := by blk_ext
  rw [val_main_v13_apply, val_main_v12_apply, e, ← ref_row]; rfl

open Cert.RefUpFwdIdeal.Read in
theorem ref_y (x0 : (⟨⟨2, ![2048, 1024]⟩, .f32⟩ : BufTy).Contents (Elt Ideal)) (x1 : (⟨⟨2, ![1, 1024]⟩, .f32⟩ : BufTy).Contents (Elt Ideal))
    (x2 : (⟨⟨2, ![1024, 5632]⟩, .bf16⟩ : BufTy).Contents (Elt Ideal)) (R : Fin 2048) (j : Fin 5632) :
    val_main_v15 (F := Ideal) x0 x1 x2 (ix2 R j) = ∑ k : Fin 1024, normed (fun q => x0 (ix2 R q)) (fun q => x1 (ix2 0 q)) k * x2 (ix2 k j) := by
  rw [val_main_v15_apply]
  refine Finset.sum_congr rfl fun k _ => ?_
  have el : lidx_main_v15 (ix2 R j) k = ix2 R k := by blk_ext
  have er : ridx_main_v15 (ix2 R j) k = ix2 k j := by blk_ext
  rw [el, er, ref_row]; rfl

/-- The value claim. -/
theorem algebraic : Cert.algebraic_UpFwdIdeal_RefUpFwdIdeal := by
  intro m g m' g' _ heq
  refine ⟨fun c => (Gen.dats m 0 c).arrAt 3 (cfgs 0).N, fun c => (Gen.dats m 0 c).arrAt 4 (cfgs 0).N, ?_, ?_⟩
  · exact Cert.UpFwdIdeal.Value.run_blocks m g
  · refine (θ_run Cert.RefUpFwdIdeal.defs _ _).mono (fun r h c => ?_) (Cert.RefUpFwdIdeal.Value.run (F := Ideal) m' g')
    obtain ⟨r0, r1, rk⟩ := h c
    obtain ⟨e0, e1, e2⟩ := heq c
    refine ⟨r0.trans ?_, r1.trans ?_, rk⟩
    · show _ = (Gen.dats m 0 c).arrAt 3 (cfgs 0).N
      rw [Cert.RefUpFwdIdeal.Read.val_main_v13_eq, final3, e0, e1]
      funext i
      obtain ⟨k, R, rfl⟩ : ∃ (k : Fin 1024) (R : Fin 2048), i = ix2 k R := ⟨i 0, i 1, by blk_ext⟩
      exact ref_t _ _ k R
    · show _ = (Gen.dats m 0 c).arrAt 4 (cfgs 0).N
      rw [Cert.RefUpFwdIdeal.Read.val_main_v15_eq, final4, e0, e1, e2]
      funext i
      obtain ⟨R, j, rfl⟩ : ∃ (R : Fin 2048) (j : Fin 5632), i = ix2 R j := ⟨i 0, i 1, by blk_ext⟩
      exact ref_y _ _ _ R j

end Cert.UpFwdIdeal.Rows
-- ==== Proof.DownFwdClaim.lean ====
/- The product with w_down and the residual: the call's tiles of rows are the reference's one product. -/
module
public import proofs.«01_k».proof.Defs
public import proofs.«01_k».proof.Proof.Gen.DownFwdIdeal.Value
public import proofs.«01_k».proof.Proof.Gen.RefDownFwdIdeal.Run
public import proofs.«01_k».proof.Proof.Gen.RefDownFwdIdeal.Read
public import Idealize.ShloMosaic.Lib.Pipeline.ValueKit
public import Idealize.ShloMosaic.Lib.Pipeline.ReadBack
@[expose] public section
set_option maxRecDepth 16384
noncomputable section
namespace Cert.DownFwdIdeal.Rows
open Cert.DownFwdIdeal Cert.DownFwdIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ) (c : Dev nD)

/-- Row `r` of tile `u`. -/
def row (u : ℕ) (r : Fin 512) : Fin 2048 := ⟨(u * 512 + r.val) % 2048, Nat.mod_lt _ (by norm_num)⟩

theorem row_val (t : Fin cfg0.N) (r : Fin 512) : (row t.val r).val = t.val * 512 + r.val := by
  have := t.isLt
  have hN : cfg0.N = 4 := rfl
  have := r.isLt
  show (t.val * 512 + r.val) % 2048 = _
  omega

/-- The argument arrays. -/
def A0 : (⟨2, ![2048, 2816]⟩ : Shape).Idx → EReal := m ((c : Thread nD τ).loc main_arg0)
@[inherit_doc A0] def A1 : (⟨2, ![2816, 1024]⟩ : Shape).Idx → EReal := m ((c : Thread nD τ).loc main_arg1)
@[inherit_doc A0] def A2 : (⟨2, ![2048, 1024]⟩ : Shape).Idx → EReal := m ((c : Thread nD τ).loc main_arg2)

theorem blk0 (t : Fin cfg0.N) (r : Fin 512) (k : Fin 2816) : iblk m c 0 t (ix2 r k) = A0 m c (ix2 (row t.val r) k) := by
  have := row_val t r; unfold A0; rw [← V_main_arg0 m c]; blk_ext [iblk, idx t]
theorem blk1 (t : Fin cfg0.N) (k : Fin 2816) (j : Fin 1024) : iblk m c 1 t (ix2 k j) = A1 m c (ix2 k j) := by
  unfold A1; rw [← V_main_arg1 m c]; blk_ext [iblk, idx t]
theorem blk2 (t : Fin cfg0.N) (r : Fin 512) (j : Fin 1024) : iblk m c 2 t (ix2 r j) = A2 m c (ix2 (row t.val r) j) := by
  have := row_val t r; unfold A2; rw [← V_main_arg2 m c]; blk_ext [iblk, idx t]

theorem pay_at (d : Vec Ideal S512x1024 .f32) (a : Vec Ideal S512x2816 .bf16) (b : Vec Ideal S2816x1024 .bf16) (r : Fin 512) (j : Fin 1024) :
    k0_pay1 d a b (ix2 r j) = d (ix2 r j) + ∑ k : Fin 2816, a (ix2 r k) * b (ix2 k j) := by
  pointwise [k0_pay1]

/-- A grid point's block is the body's sum over its blocks. -/
theorem out (t : Fin cfg0.N) : out0_3 (iblk m c 0 t) (iblk m c 1 t) (iblk m c 2 t) = k0_pay1 (iblk m c 2 t) (iblk m c 0 t) (iblk m c 1 t) := by
  unfold out0_3; frame_out

/-- The result. -/
theorem final : (dats m 0 c).arrAt 3 (cfgs 0).N = fun i => A2 m c (ix2 (i 0) (i 1)) + ∑ k : Fin 2816, A0 m c (ix2 (i 0) k) * A1 m c (ix2 k (i 1)) := by
  refine (dats m 0 c).arrAt_eq_of_covers 3 _ (by decide +kernel) fun t _ y => ?_
  blk_simp
  rw [after0_3, out]
  obtain ⟨r, j, rfl⟩ : ∃ r j, y = ix2 r j := ⟨y 0, y 1, by blk_ext⟩
  rw [pay_at]
  have e0 : (((cfg0.win 3).blk t).view.emb (ix2 r j)) 0 = row t.val r := by
    apply Fin.ext; have := row_val t r; blk_simp [idx t]; omega
  have e1 : (((cfg0.win 3).blk t).view.emb (ix2 r j)) 1 = j := by
    apply Fin.ext; blk_simp [idx t]
  rw [e0, e1, blk2]
  exact congrArg _ (Finset.sum_congr (M := EReal) rfl fun k _ => by rw [blk0, blk1])

/-- The reference's result, entry by entry. -/
theorem ref_at (x0 : (⟨⟨2, ![2048, 2816]⟩, .bf16⟩ : BufTy).Contents (Elt Ideal)) (x1 : (⟨⟨2, ![2816, 1024]⟩, .bf16⟩ : BufTy).Contents (Elt Ideal))
    (x2 : (⟨⟨2, ![2048, 1024]⟩, .f32⟩ : BufTy).Contents (Elt Ideal)) (R : Fin 2048) (j : Fin 1024) :
    Cert.RefDownFwdIdeal.Read.val_main_v3 (F := Ideal) x0 x1 x2 (ix2 R j) = x2 (ix2 R j) + ∑ k : Fin 2816, x0 (ix2 R k) * x1 (ix2 k j) := by
  have h : Cert.RefDownFwdIdeal.Read.val_main_v3 (F := Ideal) x0 x1 x2 (ix2 R j) = x2 (ix2 R j) + Cert.RefDownFwdIdeal.Read.val_main_v2 (F := Ideal) x0 x1 (ix2 R j) := rfl
  rw [h, Cert.RefDownFwdIdeal.Read.val_main_v2_apply]
  refine congrArg _ (Finset.sum_congr rfl fun k _ => ?_)
  have el : Cert.RefDownFwdIdeal.Read.lidx_main_v2 (ix2 R j) k = ix2 R k := by blk_ext
  have er : Cert.RefDownFwdIdeal.Read.ridx_main_v2 (ix2 R j) k = ix2 k j := by blk_ext
  rw [el, er]
  rfl

/-- The value claim. -/
theorem algebraic : Cert.algebraic_DownFwdIdeal_RefDownFwdIdeal := by
  intro m g m' g' _ heq
  refine ⟨fun c => (Gen.dats m 0 c).arrAt 3 (cfgs 0).N, ?_, ?_⟩
  · exact Cert.DownFwdIdeal.Value.run_blocks m g
  · refine (θ_run Cert.RefDownFwdIdeal.defs _ _).mono (fun r h c => ?_) (Cert.RefDownFwdIdeal.Value.run (F := Ideal) m' g')
    obtain ⟨r0, rk⟩ := h c
    obtain ⟨e0, e1, e2⟩ := heq c
    refine ⟨r0.trans ?_, rk⟩
    show _ = (Gen.dats m 0 c).arrAt 3 (cfgs 0).N
    rw [Cert.RefDownFwdIdeal.Read.val_main_v3_eq, final, e0, e1, e2]
    funext i
    obtain ⟨R, j, rfl⟩ : ∃ (R : Fin 2048) (j : Fin 1024), i = ix2 R j := ⟨i 0, i 1, by blk_ext⟩
    exact ref_at _ _ _ R j

end Cert.DownFwdIdeal.Rows
-- ==== Proof.InValue.lean ====
/- What the call that carries the gradient through the product with w_in and the normalisation before it leaves in its
   two results: the rows' gradient, and the sum over all rows that is the gain's gradient. -/
module
public import proofs.«01_k».proof.Proof.UpReal
public import proofs.«01_k».proof.Proof.Gen.InIdeal.Value
public import proofs.«01_k».proof.Proof.Gen.RefInIdeal.Read
@[expose] public section
set_option maxRecDepth 16384
noncomputable section
namespace Cert.InIdeal.Rows
open Cert.InIdeal Cert.InIdeal.Gen
open Idealize.ShloMosaic Idealize.ShloMosaic.TcCoe Idealize.SL.Sem
open Idealize.ShloMosaic.Pipeline (Dat)
open Cert.UpIdeal.Rows (sum_real word_1024 eps word_eps div_1024 rsqrt_pos msq msq_pos rstd dxRow)

section
variable {v19 : Vec Ideal S256x1024 .f32} {x : Fin 256 → Fin 1024 → ℝ} (hx : ∀ r j, v19 (ix2 r j) = ((x r j : ℝ) : EReal))
include hx

theorem pay6_real (r : Fin 256) : k0_pay6 (F := Ideal) v19 (ix2 r 0) = ((rstd (x r) : ℝ) : EReal) := by
  have h : k0_pay6 (F := Ideal) v19 (ix2 r 0) = Ideal.rsqrt (Ideal.div (∑ k : Fin 1024, v19 (ix2 r k) * v19 (ix2 r k)) (Ideal.ofBits .f32 1149239296#32) + Ideal.ofBits .f32 897988541#32) := by
    pointwise [k0_pay6]
  rw [h]
  simp only [hx, word_1024, word_eps.1, ← EReal.coe_mul, sum_real, div_1024, ← EReal.coe_add]
  exact rsqrt_pos (msq_pos (x r))

/-- The normalised rows of a tile. -/
theorem pay1_real (r : Fin 256) (j : Fin 1024) : k0_pay1 (F := Ideal) v19 (k0_pay7 v19) (ix2 r j) = ((x r j * rstd (x r) : ℝ) : EReal) := by
  have h : k0_pay1 (F := Ideal) v19 (k0_pay7 v19) (ix2 r j) = v19 (ix2 r j) * k0_pay6 (F := Ideal) v19 (ix2 r 0) := by
    pointwise [k0_pay1, k0_pay7]
  rw [h, hx, pay6_real hx, EReal.coe_mul]

variable {v18 : Vec Ideal S256x1024 .f32} {dh : Fin 256 → Fin 1024 → ℝ} (hh : ∀ r j, v18 (ix2 r j) = ((dh r j : ℝ) : EReal))
include hh

/-- What one tile adds to the gain's gradient. -/
theorem pay4_real {v49 : Vec Ideal S1x1024 .f32} {s : Fin 1024 → ℝ} (hs : ∀ j, v49 (ix2 0 j) = ((s j : ℝ) : EReal)) (j : Fin 1024) :
    k0_pay4 (F := Ideal) v18 v19 (k0_pay7 v19) v49 (ix2 0 j) = ((s j + ∑ r, dh r j * (x r j * rstd (x r)) : ℝ) : EReal) := by
  have h : k0_pay4 (F := Ideal) v18 v19 (k0_pay7 v19) v49 (ix2 0 j) = v49 (ix2 0 j) + ∑ r : Fin 256, v18 (ix2 r j) * k0_pay1 (F := Ideal) v19 (k0_pay7 v19) (ix2 r j) := by
    pointwise [k0_pay4]
  rw [h]
  simp only [hh, pay1_real hx, hs, ← EReal.coe_mul, sum_real, ← EReal.coe_add]

variable {v33 : Vec Ideal S256x1024 .f32} {v30 : Vec Ideal S1x1024 .f32} {d : Fin 256 → Fin 1024 → ℝ} {g : Fin 1024 → ℝ}
  (hd : ∀ r j, v33 (ix2 r j) = ((d r j : ℝ) : EReal)) (hg : ∀ j, v30 (ix2 0 j) = ((g j : ℝ) : EReal))
include hd hg

theorem pay2_real (r : Fin 256) (j : Fin 1024) :
    k0_pay2 (F := Ideal) v18 v19 (k0_pay6 v19) (k0_pay7 v19) v30 v33 (ix2 r j) = ((dxRow (d r) (x r) g (dh r) j : ℝ) : EReal) := by
  have h : k0_pay2 (F := Ideal) v18 v19 (k0_pay6 v19) (k0_pay7 v19) v30 v33 (ix2 r j) = v33 (ix2 r j) + k0_pay6 (F := Ideal) v19 (ix2 r 0) *
      (v18 (ix2 r j) * v30 (ix2 0 j) - k0_pay1 (F := Ideal) v19 (k0_pay7 v19) (ix2 r j) *
        Ideal.div (∑ k : Fin 1024, v18 (ix2 r k) * v30 (ix2 0 k) * k0_pay1 (F := Ideal) v19 (k0_pay7 v19) (ix2 r k)) (Ideal.ofBits .f32 1149239296#32)) := by
    pointwise [k0_pay2]
  rw [h]
  simp only [hh, pay6_real hx, pay1_real hx, hd, hg, word_1024, ← EReal.coe_mul, sum_real, div_1024, ← EReal.coe_sub, ← EReal.coe_add]
  rfl

end

/-- Column `k` of piece `p`. -/
def col (p : Fin 5) (k : Fin 512) : Fin 2560 := ⟨p.val * 512 + k.val, by omega⟩

/-- A sum over all columns, piece by piece. -/
theorem sum_pieces (f : Fin 2560 → EReal) : ∑ k, f (col 0 k) + ∑ k, f (col 1 k) + ∑ k, f (col 2 k) + ∑ k, f (col 3 k) + ∑ k, f (col 4 k) = ∑ k, f k := by
  rw [← Fintype.sum_equiv (finProdFinEquiv (m := 5) (n := 512)) (fun p : Fin 5 × Fin 512 => f (col p.1 p.2)) f fun p => congrArg f (Fin.ext ?_)]
  · rw [Fintype.sum_prod_type, Fin.sum_univ_five]
  · show p.1.val * 512 + p.2.val = p.2.val + 512 * p.1.val
    omega

theorem pay5_at (a0 : Vec Ideal S256x512 .bf16) (b0 : Vec Ideal S1024x512 .bf16) (a1 : Vec Ideal S256x512 .bf16) (b1 : Vec Ideal S1024x512 .bf16) (a2 : Vec Ideal S256x512 .bf16) (b2 : Vec Ideal S1024x512 .bf16) (a3 : Vec Ideal S256x512 .bf16) (b3 : Vec Ideal S1024x512 .bf16) (a4 : Vec Ideal S256x512 .bf16) (b4 : Vec Ideal S1024x512 .bf16) (r : Fin 256) (j : Fin 1024) :
    k0_pay5 a0 b0 a1 b1 a2 b2 a3 b3 a4 b4 (ix2 r j) = ∑ k : Fin 512, a0 (ix2 r k) * b0 (ix2 j k) + ∑ k : Fin 512, a1 (ix2 r k) * b1 (ix2 j k) + ∑ k : Fin 512, a2 (ix2 r k) * b2 (ix2 j k) + ∑ k : Fin 512, a3 (ix2 r k) * b3 (ix2 j k) + ∑ k : Fin 512, a4 (ix2 r k) * b4 (ix2 j k) := by
  pointwise [k0_pay5]

/-- Every window's block at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0]
    ∧ win0_6.index t = ![t.val, 0] ∧ win0_7.index t = ![0, 0] ∧ win0_8.index t = ![t.val, 0] ∧ win0_9.index t = ![t.val, 0] ∧ win0_10.index t = ![0, 0] :=
  (by decide +kernel : ∀ t : Fin grid0.N, _)

variable (m : (ℓ : Loc nD τ sig) → Buf (Elt Ideal) ℓ) (c : Dev nD)

/-- Row `r` of tile `u`. -/
def row (u : ℕ) (r : Fin 256) : Fin 2048 := ⟨(u * 256 + r.val) % 2048, Nat.mod_lt _ (by norm_num)⟩

theorem row_val (t : Fin cfg0.N) (r : Fin 256) : (row t.val r).val = t.val * 256 + r.val := by
  have := t.isLt
  have h8 : cfg0.N = 8 := rfl
  have := r.isLt
  show (t.val * 256 + r.val) % 2048 = _
  omega

/-- The five pieces of the incoming gradient side by side. -/
def Y : (⟨2, ![2048, 2560]⟩ : Shape).Idx → EReal := Cert.RefInIdeal.Read.val_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The matrix w_in. -/
def W : (⟨2, ![1024, 2560]⟩ : Shape).Idx → EReal := m ((c : Thread nD τ).loc main_arg5)

theorem Y_0 (R : Fin 2048) (k : Fin 512) : Y m c (ix2 R (col 0 k)) = m ((c : Thread nD τ).loc main_arg0) (ix2 R k) :=
  concatenate_apply_piece (α := EReal) 1 [⟨Cert.RefInIdeal.S2048x512, m ((c : Thread nD τ).loc main_arg0)⟩, ⟨Cert.RefInIdeal.S2048x512, m ((c : Thread nD τ).loc main_arg1)⟩, ⟨Cert.RefInIdeal.S2048x512, m ((c : Thread nD τ).loc main_arg2)⟩, ⟨Cert.RefInIdeal.S2048x512, m ((c : Thread nD τ).loc main_arg3)⟩, ⟨Cert.RefInIdeal.S2048x512, m ((c : Thread nD τ).loc main_arg4)⟩] Cert.RefInIdeal.Facts₀.concatenates_S2048x512_S2048x512_S2048x512_S2048x512_S2048x512_S2048x2560_d1 (ix2 R (col 0 k)) 0 (by simp) ⟨2, ![2048, 512]⟩ _ rfl rfl 0 rfl (ix2 R k) (fun b hb => match b with
    | ⟨0, _⟩ => rfl
    | ⟨1, _⟩ => absurd rfl hb) rfl
theorem blk0 (t : Fin cfg0.N) (r : Fin 256) (k : Fin 512) : iblk m c 0 t (ix2 r k) = Y m c (ix2 (row t.val r) (col 0 k)) := by
  have := row_val t r
  rw [Y_0, ← V_main_arg0 m c]; blk_ext [iblk, idx t]
theorem blkW0 (t : Fin cfg0.N) (j : Fin 1024) (k : Fin 512) : View.ld (iblk m c 5 t) (Rect.unit ![0, 0] ![1024, 512] inb_S1024x2560_S1024x512_0_0) (ix2 j k) = W m c (ix2 j (col 0 k)) := by
  unfold W col; rw [← V_main_arg5 m c, View.ld_apply]; blk_ext [iblk, idx t] <;> simp [Rect.idx_unit_val]
theorem Y_1 (R : Fin 2048) (k : Fin 512) : Y m c (ix2 R (col 1 k)) = m ((c : Thread nD τ).loc main_arg1) (ix2 R k) :=
  concatenate_apply_piece (α := EReal) 1 [⟨Cert.RefInIdeal.S2048x512, m ((c : Thread nD τ).loc main_arg0)⟩, ⟨Cert.RefInIdeal.S2048x512, m ((c : Thread nD τ).loc main_arg1)⟩, ⟨Cert.RefInIdeal.S2048x512, m ((c : Thread nD τ).loc main_arg2)⟩, ⟨Cert.RefInIdeal.S2048x512, m ((c : Thread nD τ).loc main_arg3)⟩, ⟨Cert.RefInIdeal.S2048x512, m ((c : Thread nD τ).loc main_arg4)⟩] Cert.RefInIdeal.Facts₀.concatenates_S2048x512_S2048x512_S2048x512_S2048x512_S2048x512_S2048x2560_d1 (ix2 R (col 1 k)) 1 (by simp) ⟨2, ![2048, 512]⟩ _ rfl rfl 512 rfl (ix2 R k) (fun b hb => match b with
    | ⟨0, _⟩ => rfl
    | ⟨1, _⟩ => absurd rfl hb) rfl
theorem blk1 (t : Fin cfg0.N) (r : Fin 256) (k : Fin 512) : iblk m c 1 t (ix2 r k) = Y m c (ix2 (row t.val r) (col 1 k)) := by
  have := row_val t r
  rw [Y_1, ← V_main_arg1 m c]; blk_ext [iblk, idx t]
theorem blkW1 (t : Fin cfg0.N) (j : Fin 1024) (k : Fin 512) : View.ld (iblk m c 5 t) (Rect.unit ![0, 512] ![1024, 512] inb_S1024x2560_S1024x512_0_512) (ix2 j k) = W m c (ix2 j (col 1 k)) := by
  unfold W col; rw [← V_main_arg5 m c, View.ld_apply]; blk_ext [iblk, idx t] <;> simp [Rect.idx_unit_val]
theorem Y_2 (R : Fin 2048) (k : Fin 512) : Y m c (ix2 R (col 2 k)) = m ((c : Thread nD τ).loc main_arg2) (ix2 R k) :=
  concatenate_apply_piece (α := EReal) 1 [⟨Cert.RefInIdeal.S2048x512, m ((c : Thread nD τ).loc main_arg0)⟩, ⟨Cert.RefInIdeal.S2048x512, m ((c : Thread nD τ).loc main_arg1)⟩, ⟨Cert.RefInIdeal.S2048x512, m ((c : Thread nD τ).loc main_arg2)⟩, ⟨Cert.RefInIdeal.S2048x512, m ((c : Thread nD τ).loc main_arg3)⟩, ⟨Cert.RefInIdeal.S2048x512, m ((c : Thread nD τ).loc main_arg4)⟩] Cert.RefInIdeal.Facts₀.concatenates_S2048x512_S2048x512_S2048x512_S2048x512_S2048x512_S2048x2560_d1 (ix2 R (col 2 k)) 2 (by simp) ⟨2, ![2048, 512]⟩ _ rfl rfl 1024 rfl (ix2 R k) (fun b hb => match b with
    | ⟨0, _⟩ => rfl
    | ⟨1, _⟩ => absurd rfl hb) rfl
theorem blk2 (t : Fin cfg0.N) (r : Fin 256) (k : Fin 512) : iblk m c 2 t (ix2 r k) = Y m c (ix2 (row t.val r) (col 2 k)) := by
  have := row_val t r
  rw [Y_2, ← V_main_arg2 m c]; blk_ext [iblk, idx t]
theorem blkW2 (t : Fin cfg0.N) (j : Fin 1024) (k : Fin 512) : View.ld (iblk m c 5 t) (Rect.unit ![0, 1024] ![1024, 512] inb_S1024x2560_S1024x512_0_1024) (ix2 j k) = W m c (ix2 j (col 2 k)) := by
  unfold W col; rw [← V_main_arg5 m c, View.ld_apply]; blk_ext [iblk, idx t] <;> simp [Rect.idx_unit_val]
theorem Y_3 (R : Fin 2048) (k : Fin 512) : Y m c (ix2 R (col 3 k)) = m ((c : Thread nD τ).loc main_arg3) (ix2 R k) :=
  concatenate_apply_piece (α := EReal) 1 [⟨Cert.RefInIdeal.S2048x512, m ((c : Thread nD τ).loc main_arg0)⟩, ⟨Cert.RefInIdeal.S2048x512, m ((c : Thread nD τ).loc main_arg1)⟩, ⟨Cert.RefInIdeal.S2048x512, m ((c : Thread nD τ).loc main_arg2)⟩, ⟨Cert.RefInIdeal.S2048x512, m ((c : Thread nD τ).loc main_arg3)⟩, ⟨Cert.RefInIdeal.S2048x512, m ((c : Thread nD τ).loc main_arg4)⟩] Cert.RefInIdeal.Facts₀.concatenates_S2048x512_S2048x512_S2048x512_S2048x512_S2048x512_S2048x2560_d1 (ix2 R (col 3 k)) 3 (by simp) ⟨2, ![2048, 512]⟩ _ rfl rfl 1536 rfl (ix2 R k) (fun b hb => match b with
    | ⟨0, _⟩ => rfl
    | ⟨1, _⟩ => absurd rfl hb) rfl
theorem blk3 (t : Fin cfg0.N) (r : Fin 256) (k : Fin 512) : iblk m c 3 t (ix2 r k) = Y m c (ix2 (row t.val r) (col 3 k)) := by
  have := row_val t r
  rw [Y_3, ← V_main_arg3 m c]; blk_ext [iblk, idx t]
theorem blkW3 (t : Fin cfg0.N) (j : Fin 1024) (k : Fin 512) : View.ld (iblk m c 5 t) (Rect.unit ![0, 1536] ![1024, 512] inb_S1024x2560_S1024x512_0_1536) (ix2 j k) = W m c (ix2 j (col 3 k)) := by
  unfold W col; rw [← V_main_arg5 m c, View.ld_apply]; blk_ext [iblk, idx t] <;> simp [Rect.idx_unit_val]
theorem Y_4 (R : Fin 2048) (k : Fin 512) : Y m c (ix2 R (col 4 k)) = m ((c : Thread nD τ).loc main_arg4) (ix2 R k) :=
  concatenate_apply_piece (α := EReal) 1 [⟨Cert.RefInIdeal.S2048x512, m ((c : Thread nD τ).loc main_arg0)⟩, ⟨Cert.RefInIdeal.S2048x512, m ((c : Thread nD τ).loc main_arg1)⟩, ⟨Cert.RefInIdeal.S2048x512, m ((c : Thread nD τ).loc main_arg2)⟩, ⟨Cert.RefInIdeal.S2048x512, m ((c : Thread nD τ).loc main_arg3)⟩, ⟨Cert.RefInIdeal.S2048x512, m ((c : Thread nD τ).loc main_arg4)⟩] Cert.RefInIdeal.Facts₀.concatenates_S2048x512_S2048x512_S2048x512_S2048x512_S2048x512_S2048x2560_d1 (ix2 R (col 4 k)) 4 (by simp) ⟨2, ![2048, 512]⟩ _ rfl rfl 2048 rfl (ix2 R k) (fun b hb => match b with
    | ⟨0, _⟩ => rfl
    | ⟨1, _⟩ => absurd rfl hb) rfl
theorem blk4 (t : Fin cfg0.N) (r : Fin 256) (k : Fin 512) : iblk m c 4 t (ix2 r k) = Y m c (ix2 (row t.val r) (col 4 k)) := by
  have := row_val t r
  rw [Y_4, ← V_main_arg4 m c]; blk_ext [iblk, idx t]
theorem blkW4 (t : Fin cfg0.N) (j : Fin 1024) (k : Fin 512) : View.ld (iblk m c 5 t) (Rect.unit ![0, 2048] ![1024, 512] inb_S1024x2560_S1024x512_0_2048) (ix2 j k) = W m c (ix2 j (col 4 k)) := by
  unfold W col; rw [← V_main_arg5 m c, View.ld_apply]; blk_ext [iblk, idx t] <;> simp [Rect.idx_unit_val]

/-- A tile of the product. -/
theorem tile_at (t : Fin cfg0.N) (r : Fin 256) (j : Fin 1024) : k0_pay5 (iblk m c 0 t) (View.ld (iblk m c 5 t) (Rect.unit ![0, 0] ![1024, 512] inb_S1024x2560_S1024x512_0_0)) (iblk m c 1 t) (View.ld (iblk m c 5 t) (Rect.unit ![0, 512] ![1024, 512] inb_S1024x2560_S1024x512_0_512)) (iblk m c 2 t) (View.ld (iblk m c 5 t) (Rect.unit ![0, 1024] ![1024, 512] inb_S1024x2560_S1024x512_0_1024)) (iblk m c 3 t) (View.ld (iblk m c 5 t) (Rect.unit ![0, 1536] ![1024, 512] inb_S1024x2560_S1024x512_0_1536)) (iblk m c 4 t) (View.ld (iblk m c 5 t) (Rect.unit ![0, 2048] ![1024, 512] inb_S1024x2560_S1024x512_0_2048)) (ix2 r j)
    = ∑ k : Fin 2560, Y m c (ix2 (row t.val r) k) * W m c (ix2 j k) := by
  rw [pay5_at, ← sum_pieces]
  simp only [blk0, blk1, blk2, blk3, blk4, blkW0, blkW1, blkW2, blkW3, blkW4]

/-- What a point leaves in the first result's buffer. -/
theorem out9 (t : Fin cfg0.N) : (outsAt0 m c t.val t.isLt).1 =
    k0_pay2 (k0_pay5 (iblk m c 0 t) (View.ld (iblk m c 5 t) (Rect.unit ![0, 0] ![1024, 512] inb_S1024x2560_S1024x512_0_0)) (iblk m c 1 t) (View.ld (iblk m c 5 t) (Rect.unit ![0, 512] ![1024, 512] inb_S1024x2560_S1024x512_0_512)) (iblk m c 2 t) (View.ld (iblk m c 5 t) (Rect.unit ![0, 1024] ![1024, 512] inb_S1024x2560_S1024x512_0_1024)) (iblk m c 3 t) (View.ld (iblk m c 5 t) (Rect.unit ![0, 1536] ![1024, 512] inb_S1024x2560_S1024x512_0_1536)) (iblk m c 4 t) (View.ld (iblk m c 5 t) (Rect.unit ![0, 2048] ![1024, 512] inb_S1024x2560_S1024x512_0_2048))) (iblk m c 6 t) (k0_pay6 (iblk m c 6 t)) (k0_pay7 (iblk m c 6 t)) (iblk m c 7 t) (iblk m c 8 t) := by
  by_cases h0 : t.val % 8 = 0
  · rw [outsAt0_A m c t h0]; frame_out; rfl
  · rw [outsAt0_B m c t h0]; frame_out; rfl

variable {m} {c} {DH X D : Fin 2048 → Fin 1024 → ℝ} {g : Fin 1024 → ℝ}

section
variable (h6 : ∀ R k, m ((c : Thread nD τ).loc main_arg6) (ix2 R k) = ((X R k : ℝ) : EReal))
include h6
theorem blk6 (t : Fin cfg0.N) (r : Fin 256) (k : Fin 1024) : iblk m c 6 t (ix2 r k) = ((X (row t.val r) k : ℝ) : EReal) := by
  rw [← h6]; have := row_val t r; blk_ext [iblk, V, idx t]
end
section
variable (h7 : ∀ k, m ((c : Thread nD τ).loc main_arg7) (ix2 0 k) = ((g k : ℝ) : EReal))
include h7
theorem blk7 (t : Fin cfg0.N) (k : Fin 1024) : iblk m c 7 t (ix2 0 k) = ((g k : ℝ) : EReal) := by
  rw [← h7]; blk_ext [iblk, V, idx t]
end
section
variable (h8 : ∀ R k, m ((c : Thread nD τ).loc main_arg8) (ix2 R k) = ((D R k : ℝ) : EReal))
include h8
theorem blk8 (t : Fin cfg0.N) (r : Fin 256) (k : Fin 1024) : iblk m c 8 t (ix2 r k) = ((D (row t.val r) k : ℝ) : EReal) := by
  rw [← h8]; have := row_val t r; blk_ext [iblk, V, idx t]
end

/-- Row `R`'s part of the gain's gradient. -/
def gainRow (DH X : Fin 2048 → Fin 1024 → ℝ) (j : Fin 1024) (R : Fin 2048) : ℝ := DH R j * (X R j * rstd (X R))

/-- The tiles' rows are all rows. -/
theorem sum_rows (f : Fin 2048 → ℝ) : ∑ u ∈ Finset.range 8, ∑ r, f (row u r) = ∑ R, f R := by
  rw [Finset.sum_range, ← Finset.sum_product', ← Equiv.sum_comp (finProdFinEquiv (m := 8) (n := 256)) f]
  refine Finset.sum_congr rfl fun p _ => congrArg f (Fin.ext ?_)
  have := p.1.isLt
  have := p.2.isLt
  show (p.1.val * 256 + p.2.val) % 2048 = p.2.val + 256 * p.1.val
  omega

section
variable (hD : ∀ R j, ∑ k : Fin 2560, Y m c (ix2 R k) * W m c (ix2 j k) = ((DH R j : ℝ) : EReal))
  (h6 : ∀ R k, m ((c : Thread nD τ).loc main_arg6) (ix2 R k) = ((X R k : ℝ) : EReal))
include hD h6

/-- What a point adds to what the second result's buffer holds. -/
theorem step10 (t : Fin cfg0.N) {v : Vec Ideal S1x1024 .f32} {s : Fin 1024 → ℝ} (hs : ∀ j, v (ix2 0 j) = ((s j : ℝ) : EReal)) (j : Fin 1024) :
    k0_pay4 (k0_pay5 (iblk m c 0 t) (View.ld (iblk m c 5 t) (Rect.unit ![0, 0] ![1024, 512] inb_S1024x2560_S1024x512_0_0)) (iblk m c 1 t) (View.ld (iblk m c 5 t) (Rect.unit ![0, 512] ![1024, 512] inb_S1024x2560_S1024x512_0_512)) (iblk m c 2 t) (View.ld (iblk m c 5 t) (Rect.unit ![0, 1024] ![1024, 512] inb_S1024x2560_S1024x512_0_1024)) (iblk m c 3 t) (View.ld (iblk m c 5 t) (Rect.unit ![0, 1536] ![1024, 512] inb_S1024x2560_S1024x512_0_1536)) (iblk m c 4 t) (View.ld (iblk m c 5 t) (Rect.unit ![0, 2048] ![1024, 512] inb_S1024x2560_S1024x512_0_2048))) (iblk m c 6 t) (k0_pay7 (iblk m c 6 t)) v (ix2 0 j) = ((s j + ∑ r, gainRow DH X j (row t.val r) : ℝ) : EReal) :=
  pay4_real (blk6 h6 t) (fun r j => (tile_at m c t r j).trans (hD (row t.val r) j)) hs j

/-- The second result's buffer after point `n`: the sum over the tiles so far. -/
theorem sum10 : ∀ (n : ℕ) (hn : n < cfg0.N) (j : Fin 1024),
    (outsAt0 m c n hn).2 (ix2 0 j) = ((∑ u ∈ Finset.range (n + 1), ∑ r, gainRow DH X j (row u r) : ℝ) : EReal)
  | 0, hn, j => by
    have e : (outsAt0 m c 0 hn).2 = k0_pay4 (k0_pay5 (iblk m c 0 ⟨0, hn⟩) (View.ld (iblk m c 5 ⟨0, hn⟩) (Rect.unit ![0, 0] ![1024, 512] inb_S1024x2560_S1024x512_0_0)) (iblk m c 1 ⟨0, hn⟩) (View.ld (iblk m c 5 ⟨0, hn⟩) (Rect.unit ![0, 512] ![1024, 512] inb_S1024x2560_S1024x512_0_512)) (iblk m c 2 ⟨0, hn⟩) (View.ld (iblk m c 5 ⟨0, hn⟩) (Rect.unit ![0, 1024] ![1024, 512] inb_S1024x2560_S1024x512_0_1024)) (iblk m c 3 ⟨0, hn⟩) (View.ld (iblk m c 5 ⟨0, hn⟩) (Rect.unit ![0, 1536] ![1024, 512] inb_S1024x2560_S1024x512_0_1536)) (iblk m c 4 ⟨0, hn⟩) (View.ld (iblk m c 5 ⟨0, hn⟩) (Rect.unit ![0, 2048] ![1024, 512] inb_S1024x2560_S1024x512_0_2048))) (iblk m c 6 ⟨0, hn⟩) (k0_pay7 (iblk m c 6 ⟨0, hn⟩)) (k0_pay3 : FVec Ideal S1x1024 .f32) := by
      rw [show outsAt0 m c 0 hn = _ from outsAt0_A m c ⟨0, hn⟩ (Nat.zero_mod _)]; frame_out; rfl
    rw [e, step10 hD h6 ⟨0, hn⟩ (s := fun _ => 0) (fun j => by pointwise [k0_pay3]; exact EReal.coe_zero.symm) j]
    simp
  | n + 1, hn, j => by
    have hN : cfg0.N = 8 := rfl
    have hm : ¬ (n + 1) % 8 = 0 := by omega
    have e : (outsAt0 m c (n + 1) hn).2 = k0_pay4 (k0_pay5 (iblk m c 0 ⟨n + 1, hn⟩) (View.ld (iblk m c 5 ⟨n + 1, hn⟩) (Rect.unit ![0, 0] ![1024, 512] inb_S1024x2560_S1024x512_0_0)) (iblk m c 1 ⟨n + 1, hn⟩) (View.ld (iblk m c 5 ⟨n + 1, hn⟩) (Rect.unit ![0, 512] ![1024, 512] inb_S1024x2560_S1024x512_0_512)) (iblk m c 2 ⟨n + 1, hn⟩) (View.ld (iblk m c 5 ⟨n + 1, hn⟩) (Rect.unit ![0, 1024] ![1024, 512] inb_S1024x2560_S1024x512_0_1024)) (iblk m c 3 ⟨n + 1, hn⟩) (View.ld (iblk m c 5 ⟨n + 1, hn⟩) (Rect.unit ![0, 1536] ![1024, 512] inb_S1024x2560_S1024x512_0_1536)) (iblk m c 4 ⟨n + 1, hn⟩) (View.ld (iblk m c 5 ⟨n + 1, hn⟩) (Rect.unit ![0, 2048] ![1024, 512] inb_S1024x2560_S1024x512_0_2048))) (iblk m c 6 ⟨n + 1, hn⟩) (k0_pay7 (iblk m c 6 ⟨n + 1, hn⟩)) (outsAt0 m c n (Nat.lt_of_succ_lt hn)).2 := by
      rw [show outsAt0 m c (n + 1) hn = _ from outsAt0_B m c ⟨n + 1, hn⟩ hm]; frame_out; rfl
    rw [e, step10 hD h6 ⟨n + 1, hn⟩ (sum10 n (Nat.lt_of_succ_lt hn)) j, ← Finset.sum_range_succ]

/-- The second result: every row's part of the gain's gradient, summed. -/
theorem final10 : (dats m 0 c).arrAt 10 (cfgs 0).N = fun i => ((∑ R, gainRow DH X (i 1) R : ℝ) : EReal) := by
  refine (dats m 0 c).arrAt_eq_of_after_last 10 t0_7 (by decide +kernel) _ fun j => ?_
  blk_simp
  rw [after0_10]
  obtain ⟨q, rfl⟩ : ∃ q, j = ix2 0 q := ⟨j 1, by blk_ext⟩
  rw [sum10 hD h6, ← sum_rows]
  rfl

variable (h7 : ∀ k, m ((c : Thread nD τ).loc main_arg7) (ix2 0 k) = ((g k : ℝ) : EReal))
  (h8 : ∀ R k, m ((c : Thread nD τ).loc main_arg8) (ix2 R k) = ((D R k : ℝ) : EReal))
include h7 h8

/-- The first result: every row's gradient. -/
theorem final9 : (dats m 0 c).arrAt 9 (cfgs 0).N = fun i => ((dxRow (D (i 0)) (X (i 0)) g (DH (i 0)) (i 1) : ℝ) : EReal) := by
  refine (dats m 0 c).arrAt_eq_of_covers 9 _ (by decide +kernel) fun t _ y => ?_
  blk_simp
  rw [after0_9, out9]
  obtain ⟨r, j, rfl⟩ : ∃ r j, y = ix2 r j := ⟨y 0, y 1, by blk_ext⟩
  rw [pay2_real (blk6 h6 t) (fun r j => (tile_at m c t r j).trans (hD (row t.val r) j)) (blk8 h8 t) (blk7 h7 t)]
  have e0 : (((cfg0.win 9).blk t).view.emb (ix2 r j)) 0 = row t.val r := by
    apply Fin.ext; have := row_val t r; blk_simp [idx t]; omega
  have e1 : (((cfg0.win 9).blk t).view.emb (ix2 r j)) 1 = j := by
    apply Fin.ext; blk_simp [idx t]
  rw [e0, e1]

end
end Cert.InIdeal.Rows
-- ==== Proof.InRef.lean ====
/- The reference of the gradient through the product with w_in and the normalisation before it: with finite arrays its
   two results are the same real numbers as the kernel's. -/
module
public import proofs.«01_k».proof.Proof.InValue
public import proofs.«01_k».proof.Proof.UpRef
@[expose] public section
set_option maxRecDepth 16384
noncomputable section
namespace Cert.RefInIdeal.Rows
open Cert.RefInIdeal Cert.RefInIdeal.Gen Cert.RefInIdeal.Read
open Idealize.ShloMosaic Idealize.ShloMosaic.TcCoe
open Cert.UpIdeal.Rows (sum_real word_1024 eps word_eps div_1024 rsqrt_pos msq msq_pos rstd dxRow)
open Cert.RefUpIdeal.Rows (mul_i add_i div_i rsqrt_i ext_i word_i word_neg_half div_real)
open Cert.InIdeal.Rows (gainRow)

variable {x0 x1 x2 x3 x4 : (⟨S2048x512, .bf16⟩ : BufTy).Contents (Elt Ideal)} {x5 : (⟨S1024x2560, .bf16⟩ : BufTy).Contents (Elt Ideal)}
  {x6 x8 : (⟨S2048x1024, .f32⟩ : BufTy).Contents (Elt Ideal)} {x7 : (⟨S1x1024, .f32⟩ : BufTy).Contents (Elt Ideal)}
  {DH X D : Fin 2048 → Fin 1024 → ℝ} {g : Fin 1024 → ℝ}

section
variable (h6 : ∀ R j, x6 (ix2 R j) = ((X R j : ℝ) : EReal))
include h6

theorem v9_real (R : Fin 2048) : val_main_v9 x6 (ix2 R 0) = ((msq (X R) : ℝ) : EReal) := by
  have e : ∀ k, idx_main_v4 (idx_main_v5 (ix2 R 0)) k = ix2 R k := fun k => by blk_ext
  simp only [val_main_v9_apply, val_main_v7_apply, val_main_v8_apply, val_main_v6_apply, val_main_v5_apply, val_main_v4_apply, val_main_v3_apply,
    val_main_cst_apply, val_main_cst_0_apply, val_main_cst_1_apply, mul_i, add_i, div_i, word_i, e, h6, word_1024, word_eps.1, Ideal.ofBits_zero_f32,
    zero_add, ← EReal.coe_mul, sum_real, div_1024, ← EReal.coe_add]
  rfl

theorem v10_real (R : Fin 2048) : val_main_v10 x6 (ix2 R 0) = ((rstd (X R) : ℝ) : EReal) := by
  rw [val_main_v10_apply, v9_real h6, rsqrt_i, rsqrt_pos (msq_pos _)]; rfl

theorem v13_real (R : Fin 2048) : val_main_v13 x6 (ix2 R 0) = ((-(1 / 2) * (rstd (X R) / msq (X R)) : ℝ) : EReal) := by
  simp only [val_main_v13_apply, val_main_v12_apply, val_main_v11_apply, val_main_cst_2_apply, v10_real h6, v9_real h6, mul_i, div_i, word_i, word_neg_half,
    div_real _ (msq_pos _).ne', ← EReal.coe_mul]

theorem v15_real (R : Fin 2048) (j : Fin 1024) : val_main_v15 x6 (ix2 R j) = ((X R j * rstd (X R) : ℝ) : EReal) := by
  have e : idx_main_v14 (ix2 R j) = ix2 R 0 := by blk_ext
  simp only [val_main_v15_apply, val_main_v14_apply, e, v10_real h6, h6, mul_i, ← EReal.coe_mul]
end

/-- The product of the incoming gradient with w_in. -/
theorem v19_at (R : Fin 2048) (j : Fin 1024) : val_main_v19 (F := Ideal) x0 x1 x2 x3 x4 x5 (ix2 R j) = ∑ k : Fin 2560, val_main_v1 (F := Ideal) x0 x1 x2 x3 x4 (ix2 R k) * x5 (ix2 j k) := by
  rw [val_main_v19_apply]
  refine Finset.sum_congr rfl fun k _ => ?_
  have hl : lidx_main_v19 (ix2 R j) k = ix2 R k := by blk_ext
  have hr : ridx_main_v19 (ix2 R j) k = ix2 j k := by blk_ext
  rw [hl, hr]
  rfl

section
variable (hD : ∀ R j, ∑ k : Fin 2560, val_main_v1 (F := Ideal) x0 x1 x2 x3 x4 (ix2 R k) * x5 (ix2 j k) = ((DH R j : ℝ) : EReal))
include hD

theorem v19_real (R : Fin 2048) (j : Fin 1024) : val_main_v19 (F := Ideal) x0 x1 x2 x3 x4 x5 (ix2 R j) = ((DH R j : ℝ) : EReal) := (v19_at R j).trans (hD R j)

variable (h6 : ∀ R j, x6 (ix2 R j) = ((X R j : ℝ) : EReal))
include h6

/-- The gain's gradient. -/
theorem v22_real (j : Fin 1024) : val_main_v22 x0 x1 x2 x3 x4 x5 x6 (ix2 0 j) = ((∑ R, gainRow DH X j R : ℝ) : EReal) := by
  have e : ∀ R, idx_main_v21 (idx_main_v22 (ix2 0 j)) R = ix2 R j := fun R => by blk_ext
  simp only [val_main_v22_apply, val_main_v21_apply, val_main_v20_apply, val_main_cst_3_apply, e, v15_real h6, v19_real hD, mul_i, word_i,
    Ideal.ofBits_zero_f32, zero_add, ← EReal.coe_mul, sum_real]
  exact congrArg _ (Finset.sum_congr rfl fun R _ => mul_comm (X R j * rstd (X R)) (DH R j))

variable (h7 : ∀ j, x7 (ix2 0 j) = ((g j : ℝ) : EReal)) (h8 : ∀ R j, x8 (ix2 R j) = ((D R j : ℝ) : EReal))
include h7

omit h6 in
/-- The incoming gradient scaled by the gain. -/
theorem v24_real (R : Fin 2048) (j : Fin 1024) : val_main_v24 x0 x1 x2 x3 x4 x5 x7 (ix2 R j) = ((DH R j * g j : ℝ) : EReal) := by
  have e : idx_main_v23 (ix2 R j) = ix2 0 j := by blk_ext
  simp only [val_main_v24_apply, val_main_v23_apply, e, v19_real hD, h7, mul_i, ← EReal.coe_mul]

/-- The sum over a row that the normalisation's gradient takes, halved, with its factors. -/
theorem v34_real (R : Fin 2048) (j : Fin 1024) : val_main_v34 x0 x1 x2 x3 x4 x5 x6 x7 (ix2 R j) = (((∑ k, X R k * (DH R k * g k))
    * (-(1 / 2) * (rstd (X R) / msq (X R))) / 1024 : ℝ) : EReal) := by
  have e : ∀ q, idx_main_v33 (idx_main_v34 (ix2 R j)) q = ix2 R 0 := fun q => by blk_ext
  have e' : ∀ k, idx_main_v26 (idx_main_v27 (ix2 R 0)) k = ix2 R k := fun k => by blk_ext
  simp only [val_main_v34_apply, val_main_v33_apply, e, val_main_v32_apply, val_main_v31_apply, val_main_v30_apply, val_main_v27_apply, val_main_v26_apply, e',
    val_main_v25_apply, v24_real hD h7, val_main_cst_4_apply, val_main_cst_5_apply, val_main_cst_6_apply, v13_real h6,
    h6, mul_i, div_i, word_i, Ideal.ofBits_zero_f32, word_1024, zero_add, ← EReal.coe_mul, sum_real, div_1024,
    Finset.univ_unique, Finset.sum_singleton]

include h8

/-- The rows' gradient. -/
theorem v39_real (R : Fin 2048) (j : Fin 1024) : val_main_v39 x0 x1 x2 x3 x4 x5 x6 x7 x8 (ix2 R j) = ((dxRow (D R) (X R) g (DH R) j : ℝ) : EReal) := by
  have e : idx_main_v28 (ix2 R j) = ix2 R 0 := by blk_ext
  simp only [val_main_v39_apply, val_main_v38_apply, val_main_v37_apply, val_main_v36_apply, val_main_v35_apply, val_main_v29_apply, val_main_v28_apply,
    e, v24_real hD h7, v34_real hD h6 h7, v10_real h6, h6, h8, mul_i, add_i, ← EReal.coe_mul, ← EReal.coe_add]
  have hq := msq_pos (X R)
  have hr : rstd (X R) / msq (X R) = rstd (X R) * (rstd (X R) * rstd (X R)) := by
    unfold rstd
    rw [div_eq_mul_inv, ← mul_inv (Real.sqrt _) (Real.sqrt _), Real.mul_self_sqrt hq.le]
  have hs : ∑ k, DH R k * g k * (X R k * rstd (X R)) = (∑ k, X R k * (DH R k * g k)) * rstd (X R) := by
    rw [Finset.sum_mul]; exact Finset.sum_congr rfl fun k _ => by ring
  unfold dxRow
  rw [hr, hs]
  generalize (∑ k, X R k * (DH R k * g k)) = S
  congr 1
  ring

end
end Cert.RefInIdeal.Rows
-- ==== Proof.InClaim.lean ====
/- The value claim of the gradient through the product with w_in: on finite arrays the call and its reference give the
   same real numbers. -/
module
public import proofs.«01_k».proof.Defs
public import proofs.«01_k».proof.Proof.UpClaim
public import proofs.«01_k».proof.Proof.InRef
public import proofs.«01_k».proof.Proof.Gen.RefInIdeal.Run
@[expose] public section
set_option maxRecDepth 16384
noncomputable section
namespace Cert.InIdeal.Rows
open Idealize.ShloMosaic Idealize.ShloMosaic.TcCoe Idealize.SL.Sem
open Cert.UpIdeal.Rows (real_of_bit sum_real)

/-- The side conditions that the precondition's text states. -/
instance pre_facts : Cert.Pre_finite_in.Facts := ⟨by decide, by decide, by decide, by decide, by decide⟩

/-- A product of rows of reals is real. -/
theorem dot_real {n : ℕ} (a b : Fin n → EReal) (ha : ∀ k, a k = ((a k).toReal : EReal)) (hb : ∀ k, b k = ((b k).toReal : EReal)) :
    ∑ k, a k * b k = (((∑ k, a k * b k).toReal : ℝ) : EReal) := by
  have e : ∑ k, a k * b k = ((∑ k, (a k).toReal * (b k).toReal : ℝ) : EReal) := by
    rw [← sum_real]; exact Finset.sum_congr rfl fun k _ => by rw [EReal.coe_mul, ← ha, ← hb]
  rw [e, EReal.toReal_coe]

/-- The arrays' real numbers, where the precondition holds. -/
theorem reals (m : (ℓ : Loc Cert.InIdeal.nD Cert.InIdeal.τ Cert.InIdeal.sig) → Buf (Elt Ideal) ℓ) (h : Cert.Pre_InIdeal_finite_in m) (c : Dev Cert.InIdeal.nD) :
    ∃ (DH X D : Fin 2048 → Fin 1024 → ℝ) (g : Fin 1024 → ℝ),
      (∀ R j, ∑ k : Fin 2560, Y m c (ix2 R k) * W m c (ix2 j k) = ((DH R j : ℝ) : EReal))
      ∧ (∀ R k, m ((c : Thread nD τ).loc main_arg6) (ix2 R k) = ((X R k : ℝ) : EReal))
      ∧ (∀ k, m ((c : Thread nD τ).loc main_arg7) (ix2 0 k) = ((g k : ℝ) : EReal)) ∧ (∀ R k, m ((c : Thread nD τ).loc main_arg8) (ix2 R k) = ((D R k : ℝ) : EReal)) := by
  obtain ⟨p0, p1, p2, p3, p4, p5, p6, p7, p8⟩ := h c
  have hY : ∀ R k, Y m c (ix2 R k) = ((Y m c (ix2 R k)).toReal : EReal) := fun R k => by
    obtain ⟨p, k', rfl⟩ : ∃ p k', k = col p k' := ⟨⟨k.val / 512, by omega⟩, ⟨k.val % 512, by omega⟩, Fin.ext (by show k.val = k.val / 512 * 512 + k.val % 512; omega)⟩
    have e0 : Y m c (ix2 R (col 0 k')) = m ((c : Thread nD τ).loc main_arg0) (ix2 R k') := Y_0 m c R k'
    have e1 : Y m c (ix2 R (col 1 k')) = m ((c : Thread nD τ).loc main_arg1) (ix2 R k') := Y_1 m c R k'
    have e2 : Y m c (ix2 R (col 2 k')) = m ((c : Thread nD τ).loc main_arg2) (ix2 R k') := Y_2 m c R k'
    have e3 : Y m c (ix2 R (col 3 k')) = m ((c : Thread nD τ).loc main_arg3) (ix2 R k') := Y_3 m c R k'
    have e4 : Y m c (ix2 R (col 4 k')) = m ((c : Thread nD τ).loc main_arg4) (ix2 R k') := Y_4 m c R k'
    fin_cases p
    · show Y m c (ix2 R (col 0 k')) = ((Y m c (ix2 R (col 0 k'))).toReal : EReal)
      rw [e0]; exact real_of_bit _ (congrFun p0 (ix2 R k'))
    · show Y m c (ix2 R (col 1 k')) = ((Y m c (ix2 R (col 1 k'))).toReal : EReal)
      rw [e1]; exact real_of_bit _ (congrFun p1 (ix2 R k'))
    · show Y m c (ix2 R (col 2 k')) = ((Y m c (ix2 R (col 2 k'))).toReal : EReal)
      rw [e2]; exact real_of_bit _ (congrFun p2 (ix2 R k'))
    · show Y m c (ix2 R (col 3 k')) = ((Y m c (ix2 R (col 3 k'))).toReal : EReal)
      rw [e3]; exact real_of_bit _ (congrFun p3 (ix2 R k'))
    · show Y m c (ix2 R (col 4 k')) = ((Y m c (ix2 R (col 4 k'))).toReal : EReal)
      rw [e4]; exact real_of_bit _ (congrFun p4 (ix2 R k'))
  exact ⟨fun R j => (∑ k : Fin 2560, Y m c (ix2 R k) * W m c (ix2 j k)).toReal, fun R k => EReal.toReal (m ((c : Thread nD τ).loc main_arg6) (ix2 R k)),
    fun R k => EReal.toReal (m ((c : Thread nD τ).loc main_arg8) (ix2 R k)), fun k => EReal.toReal (m ((c : Thread nD τ).loc main_arg7) (ix2 0 k)),
    fun R j => dot_real _ _ (hY R) fun k => real_of_bit _ (congrFun p5 (ix2 j k)),
    fun R k => real_of_bit _ (congrFun p6 (ix2 R k)), fun k => real_of_bit _ (congrFun p7 (ix2 0 k)), fun R k => real_of_bit _ (congrFun p8 (ix2 R k))⟩

/-- The value claim. -/
theorem algebraic : Cert.algebraic_InIdeal_RefInIdeal_pre_finite_in := by
  intro m g m' g' hpre heq
  refine ⟨fun c => (Gen.dats m 0 c).arrAt 9 (cfgs 0).N, fun c => (Gen.dats m 0 c).arrAt 10 (cfgs 0).N, ?_, ?_⟩
  · exact Cert.InIdeal.Value.run_blocks m g
  · refine (θ_run Cert.RefInIdeal.defs _ _).mono (fun r h c => ?_) (Cert.RefInIdeal.Value.run (F := Ideal) m' g')
    obtain ⟨r0, r1, rk⟩ := h c
    obtain ⟨e0, e1, e2, e3, e4, e5, e6, e7, e8⟩ := heq c
    obtain ⟨DH, X, D, gg, hD, h6, h7, h8⟩ := reals m hpre c
    refine ⟨r0.trans ?_, r1.trans ?_, rk⟩
    · show _ = (Gen.dats m 0 c).arrAt 9 (cfgs 0).N
      rw [Cert.RefInIdeal.Read.val_main_v39_eq, final9 hD h6 h7 h8, e0, e1, e2, e3, e4, e5, e6, e7, e8]
      funext i
      obtain ⟨R, j, rfl⟩ : ∃ (R : Fin 2048) (j : Fin 1024), i = ix2 R j := ⟨i 0, i 1, by blk_ext⟩
      exact Cert.RefInIdeal.Rows.v39_real hD h6 h7 h8 R j
    · show _ = (Gen.dats m 0 c).arrAt 10 (cfgs 0).N
      rw [Cert.RefInIdeal.Read.val_main_v22_eq, final10 hD h6, e0, e1, e2, e3, e4, e5, e6]
      funext i
      obtain ⟨j, rfl⟩ : ∃ (j : Fin 1024), i = ix2 0 j := ⟨i 1, by blk_ext⟩
      exact Cert.RefInIdeal.Rows.v22_real hD h6 j

end Cert.InIdeal.Rows
-- ==== Proof.InDwClaim.lean ====
/- The gradient of w_in: the call's sums over two tiles of the rows, piece by piece of the incoming gradient, are the reference's one product. -/
module
public import proofs.«01_k».proof.Defs
public import proofs.«01_k».proof.Proof.Gen.InDwIdeal.Frame
public import proofs.«01_k».proof.Proof.Gen.RefInDwIdeal.Run
public import proofs.«01_k».proof.Proof.Gen.RefInDwIdeal.Read
public import Idealize.ShloMosaic.Lib.Pipeline.ValueKit
public import Idealize.ShloMosaic.Lib.Pipeline.ReadBack
@[expose] public section
set_option maxRecDepth 16384
noncomputable section
namespace Cert.InDwIdeal.Rows
open Cert.InDwIdeal Cert.InDwIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![0, t.val % 2] ∧ win0_6.index t = ![0, t.val / 2] :=
  (by decide +kernel : ∀ t : Fin grid0.N, _)
theorem idxs : ∀ t : Fin cfg0.N, (t.val / 2 = 0 → win0_1.index t = ![t.val % 2, 0]) ∧ (t.val / 2 = 1 → win0_2.index t = ![t.val % 2, 0]) ∧ (t.val / 2 = 2 → win0_3.index t = ![t.val % 2, 0]) ∧ (t.val / 2 = 3 → win0_4.index t = ![t.val % 2, 0]) ∧ (t.val / 2 = 4 → win0_5.index t = ![t.val % 2, 0]) :=
  (by decide +kernel : ∀ t : Fin grid0.N, _)

/-- Row `r` of half `s`. -/
def row (s : ℕ) (r : Fin 1024) : Fin 2048 := ⟨(s * 1024 + r.val) % 2048, Nat.mod_lt _ (by norm_num)⟩

theorem row_val (t : ℕ) (r : Fin 1024) : (row (t % 2) r).val = t % 2 * 1024 + r.val := by
  have := r.isLt
  show (t % 2 * 1024 + r.val) % 2048 = _
  omega

/-- The two halves are all rows. -/
theorem sum_rows (f : Fin 2048 → EReal) : ∑ r, f (row 0 r) + ∑ r, f (row 1 r) = ∑ R, f R := by
  rw [show ∑ R, f R = _ from Fin.sum_univ_add (a := 1024) (b := 1024) f]
  refine congrArg₂ (· + ·) (Finset.sum_congr rfl fun r _ => congrArg f (Fin.ext ?_)) (Finset.sum_congr rfl fun r _ => congrArg f (Fin.ext ?_))
  · have := r.isLt; show (0 * 1024 + r.val) % 2048 = r.val; omega
  · have := r.isLt; show (1 * 1024 + r.val) % 2048 = 1024 + r.val; omega

/-- Index `j` of the result's tile `n`. -/
def tile (n : ℕ) (j : Fin 512) : Fin 2560 := ⟨(n * 512 + j.val) % 2560, Nat.mod_lt _ (by norm_num)⟩

theorem tile_val (t : Fin cfg0.N) (j : Fin 512) : (tile (t.val / 2) j).val = t.val / 2 * 512 + j.val := by
  have := j.isLt
  have := t.isLt
  have hN : cfg0.N = 10 := rfl
  show (t.val / 2 * 512 + j.val) % 2560 = _
  omega

variable (m : (ℓ : Loc nD τ sig) → Buf (Elt Ideal) ℓ) (c : Dev nD)

/-- The normalised rows that the host prepares, transposed. -/
theorem host : V m c main_v13 = transpose S1024x2048 [1, 0] (Cert.RefInDwIdeal.Read.val_main_v14 (F := Ideal) (m ((c : Thread nD τ).loc main_arg0)) (m ((c : Thread nD τ).loc main_arg1))) transposes_S2048x1024_S1024x2048_1_0 := by
  unfold V hostOps0
  after_results_simp
  rfl

/-- The normalised rows. -/
def L : (⟨2, ![2048, 1024]⟩ : Shape).Idx → EReal := Cert.RefInDwIdeal.Read.val_main_v14 (F := Ideal) (m ((c : Thread nD τ).loc main_arg0)) (m ((c : Thread nD τ).loc main_arg1))
/-- The five pieces of the incoming gradient side by side. -/
def Y : (⟨2, ![2048, 2560]⟩ : Shape).Idx → EReal := Cert.RefInDwIdeal.Read.val_main_v0 (F := Ideal) (m ((c : Thread nD τ).loc main_arg2)) (m ((c : Thread nD τ).loc main_arg3)) (m ((c : Thread nD τ).loc main_arg4)) (m ((c : Thread nD τ).loc main_arg5)) (m ((c : Thread nD τ).loc main_arg6))

theorem Y_0 (R : Fin 2048) (k : Fin 2560) (k' : Fin 512) (h : k.val = 0 + k'.val) : Y m c (ix2 R k) = m ((c : Thread nD τ).loc main_arg2) (ix2 R k') :=
  concatenate_apply_piece (α := EReal) 1 [⟨Cert.RefInDwIdeal.S2048x512, m ((c : Thread nD τ).loc main_arg2)⟩, ⟨Cert.RefInDwIdeal.S2048x512, m ((c : Thread nD τ).loc main_arg3)⟩, ⟨Cert.RefInDwIdeal.S2048x512, m ((c : Thread nD τ).loc main_arg4)⟩, ⟨Cert.RefInDwIdeal.S2048x512, m ((c : Thread nD τ).loc main_arg5)⟩, ⟨Cert.RefInDwIdeal.S2048x512, m ((c : Thread nD τ).loc main_arg6)⟩] Cert.RefInDwIdeal.Facts₀.concatenates_S2048x512_S2048x512_S2048x512_S2048x512_S2048x512_S2048x2560_d1 (ix2 R k) 0 (by simp) ⟨2, ![2048, 512]⟩ _ rfl rfl 0 rfl (ix2 R k') (fun b hb => match b with
    | ⟨0, _⟩ => rfl
    | ⟨1, _⟩ => absurd rfl hb) h.symm
theorem Y_1 (R : Fin 2048) (k : Fin 2560) (k' : Fin 512) (h : k.val = 512 + k'.val) : Y m c (ix2 R k) = m ((c : Thread nD τ).loc main_arg3) (ix2 R k') :=
  concatenate_apply_piece (α := EReal) 1 [⟨Cert.RefInDwIdeal.S2048x512, m ((c : Thread nD τ).loc main_arg2)⟩, ⟨Cert.RefInDwIdeal.S2048x512, m ((c : Thread nD τ).loc main_arg3)⟩, ⟨Cert.RefInDwIdeal.S2048x512, m ((c : Thread nD τ).loc main_arg4)⟩, ⟨Cert.RefInDwIdeal.S2048x512, m ((c : Thread nD τ).loc main_arg5)⟩, ⟨Cert.RefInDwIdeal.S2048x512, m ((c : Thread nD τ).loc main_arg6)⟩] Cert.RefInDwIdeal.Facts₀.concatenates_S2048x512_S2048x512_S2048x512_S2048x512_S2048x512_S2048x2560_d1 (ix2 R k) 1 (by simp) ⟨2, ![2048, 512]⟩ _ rfl rfl 512 rfl (ix2 R k') (fun b hb => match b with
    | ⟨0, _⟩ => rfl
    | ⟨1, _⟩ => absurd rfl hb) h.symm
theorem Y_2 (R : Fin 2048) (k : Fin 2560) (k' : Fin 512) (h : k.val = 1024 + k'.val) : Y m c (ix2 R k) = m ((c : Thread nD τ).loc main_arg4) (ix2 R k') :=
  concatenate_apply_piece (α := EReal) 1 [⟨Cert.RefInDwIdeal.S2048x512, m ((c : Thread nD τ).loc main_arg2)⟩, ⟨Cert.RefInDwIdeal.S2048x512, m ((c : Thread nD τ).loc main_arg3)⟩, ⟨Cert.RefInDwIdeal.S2048x512, m ((c : Thread nD τ).loc main_arg4)⟩, ⟨Cert.RefInDwIdeal.S2048x512, m ((c : Thread nD τ).loc main_arg5)⟩, ⟨Cert.RefInDwIdeal.S2048x512, m ((c : Thread nD τ).loc main_arg6)⟩] Cert.RefInDwIdeal.Facts₀.concatenates_S2048x512_S2048x512_S2048x512_S2048x512_S2048x512_S2048x2560_d1 (ix2 R k) 2 (by simp) ⟨2, ![2048, 512]⟩ _ rfl rfl 1024 rfl (ix2 R k') (fun b hb => match b with
    | ⟨0, _⟩ => rfl
    | ⟨1, _⟩ => absurd rfl hb) h.symm
theorem Y_3 (R : Fin 2048) (k : Fin 2560) (k' : Fin 512) (h : k.val = 1536 + k'.val) : Y m c (ix2 R k) = m ((c : Thread nD τ).loc main_arg5) (ix2 R k') :=
  concatenate_apply_piece (α := EReal) 1 [⟨Cert.RefInDwIdeal.S2048x512, m ((c : Thread nD τ).loc main_arg2)⟩, ⟨Cert.RefInDwIdeal.S2048x512, m ((c : Thread nD τ).loc main_arg3)⟩, ⟨Cert.RefInDwIdeal.S2048x512, m ((c : Thread nD τ).loc main_arg4)⟩, ⟨Cert.RefInDwIdeal.S2048x512, m ((c : Thread nD τ).loc main_arg5)⟩, ⟨Cert.RefInDwIdeal.S2048x512, m ((c : Thread nD τ).loc main_arg6)⟩] Cert.RefInDwIdeal.Facts₀.concatenates_S2048x512_S2048x512_S2048x512_S2048x512_S2048x512_S2048x2560_d1 (ix2 R k) 3 (by simp) ⟨2, ![2048, 512]⟩ _ rfl rfl 1536 rfl (ix2 R k') (fun b hb => match b with
    | ⟨0, _⟩ => rfl
    | ⟨1, _⟩ => absurd rfl hb) h.symm
theorem Y_4 (R : Fin 2048) (k : Fin 2560) (k' : Fin 512) (h : k.val = 2048 + k'.val) : Y m c (ix2 R k) = m ((c : Thread nD τ).loc main_arg6) (ix2 R k') :=
  concatenate_apply_piece (α := EReal) 1 [⟨Cert.RefInDwIdeal.S2048x512, m ((c : Thread nD τ).loc main_arg2)⟩, ⟨Cert.RefInDwIdeal.S2048x512, m ((c : Thread nD τ).loc main_arg3)⟩, ⟨Cert.RefInDwIdeal.S2048x512, m ((c : Thread nD τ).loc main_arg4)⟩, ⟨Cert.RefInDwIdeal.S2048x512, m ((c : Thread nD τ).loc main_arg5)⟩, ⟨Cert.RefInDwIdeal.S2048x512, m ((c : Thread nD τ).loc main_arg6)⟩] Cert.RefInDwIdeal.Facts₀.concatenates_S2048x512_S2048x512_S2048x512_S2048x512_S2048x512_S2048x2560_d1 (ix2 R k) 4 (by simp) ⟨2, ![2048, 512]⟩ _ rfl rfl 2048 rfl (ix2 R k') (fun b hb => match b with
    | ⟨0, _⟩ => rfl
    | ⟨1, _⟩ => absurd rfl hb) h.symm

theorem blk0 (t : Fin cfg0.N) (j : Fin 1024) (r : Fin 1024) : iblk m c 0 t (ix2 j r) = L m c (ix2 (row (t.val % 2) r) j) := by
  have e : iblk m c 0 t (ix2 j r) = V m c main_v13 (ix2 j (row (t.val % 2) r)) := by
    have := row_val t.val r
    blk_ext [iblk, idx t]
  rw [e, host]
  unfold L
  generalize Cert.RefInDwIdeal.Read.val_main_v14 (F := Ideal) (m ((c : Thread nD τ).loc main_arg0)) (m ((c : Thread nD τ).loc main_arg1)) = y
  exact transpose_apply [1, 0] y transposes_S2048x1024_S1024x2048_1_0 _ _ fun b => match b with
    | ⟨0, _⟩ => rfl
    | ⟨1, _⟩ => rfl

theorem blk1 (t : Fin cfg0.N) (h : t.val / 2 = 0) (r : Fin 1024) (q : Fin 512) : iblk m c 1 t (ix2 r q) = Y m c (ix2 (row (t.val % 2) r) (tile (t.val / 2) q)) := by
  have := row_val t.val r
  have := tile_val t q
  have hi := (idxs t).1 h
  rw [Y_0 m c _ _ q (by omega), ← V_main_arg2 m c]
  blk_ext [iblk, hi]
theorem blk2 (t : Fin cfg0.N) (h : t.val / 2 = 1) (r : Fin 1024) (q : Fin 512) : iblk m c 2 t (ix2 r q) = Y m c (ix2 (row (t.val % 2) r) (tile (t.val / 2) q)) := by
  have := row_val t.val r
  have := tile_val t q
  have hi := (idxs t).2.1 h
  rw [Y_1 m c _ _ q (by omega), ← V_main_arg3 m c]
  blk_ext [iblk, hi]
theorem blk3 (t : Fin cfg0.N) (h : t.val / 2 = 2) (r : Fin 1024) (q : Fin 512) : iblk m c 3 t (ix2 r q) = Y m c (ix2 (row (t.val % 2) r) (tile (t.val / 2) q)) := by
  have := row_val t.val r
  have := tile_val t q
  have hi := (idxs t).2.2.1 h
  rw [Y_2 m c _ _ q (by omega), ← V_main_arg4 m c]
  blk_ext [iblk, hi]
theorem blk4 (t : Fin cfg0.N) (h : t.val / 2 = 3) (r : Fin 1024) (q : Fin 512) : iblk m c 4 t (ix2 r q) = Y m c (ix2 (row (t.val % 2) r) (tile (t.val / 2) q)) := by
  have := row_val t.val r
  have := tile_val t q
  have hi := (idxs t).2.2.2.1 h
  rw [Y_3 m c _ _ q (by omega), ← V_main_arg5 m c]
  blk_ext [iblk, hi]
theorem blk5 (t : Fin cfg0.N) (h : t.val / 2 = 4) (r : Fin 1024) (q : Fin 512) : iblk m c 5 t (ix2 r q) = Y m c (ix2 (row (t.val % 2) r) (tile (t.val / 2) q)) := by
  have := row_val t.val r
  have := tile_val t q
  have hi := (idxs t).2.2.2.2 h
  rw [Y_4 m c _ _ q (by omega), ← V_main_arg6 m c]
  blk_ext [iblk, hi]

/-- What a half of the rows adds to the result's block. -/
def part (n s : ℕ) (j : Fin 1024) (q : Fin 512) : EReal := ∑ r, L m c (ix2 (row s r) j) * Y m c (ix2 (row s r) (tile n q))

theorem pay2_at (a : Vec Ideal S1024x512 .f32) (b : Vec Ideal S1024x1024 .bf16) (d : Vec Ideal S1024x512 .bf16) (j : Fin 1024) (q : Fin 512) :
    k0_pay2 a b d (ix2 j q) = a (ix2 j q) + ∑ r : Fin 1024, b (ix2 j r) * d (ix2 r q) := by
  pointwise [k0_pay2]
theorem pay3_at (a : Vec Ideal S1024x512 .f32) (b : Vec Ideal S1024x1024 .bf16) (d : Vec Ideal S1024x512 .bf16) (j : Fin 1024) (q : Fin 512) :
    k0_pay3 a b d (ix2 j q) = a (ix2 j q) + ∑ r : Fin 1024, b (ix2 j r) * d (ix2 r q) := by
  pointwise [k0_pay3]
theorem pay4_at (a : Vec Ideal S1024x512 .f32) (b : Vec Ideal S1024x1024 .bf16) (d : Vec Ideal S1024x512 .bf16) (j : Fin 1024) (q : Fin 512) :
    k0_pay4 a b d (ix2 j q) = a (ix2 j q) + ∑ r : Fin 1024, b (ix2 j r) * d (ix2 r q) := by
  pointwise [k0_pay4]
theorem pay5_at (a : Vec Ideal S1024x512 .f32) (b : Vec Ideal S1024x1024 .bf16) (d : Vec Ideal S1024x512 .bf16) (j : Fin 1024) (q : Fin 512) :
    k0_pay5 a b d (ix2 j q) = a (ix2 j q) + ∑ r : Fin 1024, b (ix2 j r) * d (ix2 r q) := by
  pointwise [k0_pay5]
theorem pay6_at (a : Vec Ideal S1024x512 .f32) (b : Vec Ideal S1024x1024 .bf16) (d : Vec Ideal S1024x512 .bf16) (j : Fin 1024) (q : Fin 512) :
    k0_pay6 a b d (ix2 j q) = a (ix2 j q) + ∑ r : Fin 1024, b (ix2 j r) * d (ix2 r q) := by
  pointwise [k0_pay6]
theorem pay1_at (j : Fin 1024) (q : Fin 512) : k0_pay1 (F := Ideal) (ix2 j q) = 0 := by pointwise [k0_pay1]
theorem pay7_at (a : Vec Ideal S1024x512 .f32) (j : Fin 1024) (q : Fin 512) : k0_pay7 a (ix2 j q) = a (ix2 j q) := by pointwise [k0_pay7]

theorem first0 (t : Fin cfg0.N) (h0 : t.val % 2 = 0) (h : t.val / 2 = 0) (j : Fin 1024) (q : Fin 512) :
    (outsAt0 m c t.val t.isLt).2 (ix2 j q) = part m c (t.val / 2) 0 j q := by
  have e : (outsAt0 m c t.val t.isLt).2 = k0_pay2 (k0_pay1 : FVec Ideal S1024x512 .f32) (iblk m c 0 t) (iblk m c 1 t) := by
    rw [outsAt0_A m c t (by omega) (by omega) (by omega) (by omega) (by omega) (by omega) (by omega)]; frame_out
  rw [e, pay2_at, pay1_at, zero_add]
  exact Finset.sum_congr rfl fun r _ => by rw [blk0, blk1 m c t h, h0]
theorem second0 (t : Fin cfg0.N) (h0 : t.val % 2 = 1) (h : t.val / 2 = 0) (hp : t.val - 1 < cfg0.N) (j : Fin 1024) (q : Fin 512) :
    (outsAt0 m c t.val t.isLt).1 (ix2 j q) = (outsAt0 m c (t.val - 1) hp).2 (ix2 j q) + part m c (t.val / 2) 1 j q := by
  have e : (outsAt0 m c t.val t.isLt).1 = k0_pay7 (k0_pay2 (outsAt0 m c (t.val - 1) hp).2 (iblk m c 0 t) (iblk m c 1 t)) := by
    rw [outsAt0_B m c t (by omega) (by omega) (by omega) (by omega) (by omega) (by omega) (by omega)]; frame_out; rw [read_unread_whole]
  rw [e, pay7_at, pay2_at]
  exact congrArg _ (Finset.sum_congr rfl fun r _ => by rw [blk0, blk1 m c t h, h0])
theorem first1 (t : Fin cfg0.N) (h0 : t.val % 2 = 0) (h : t.val / 2 = 1) (j : Fin 1024) (q : Fin 512) :
    (outsAt0 m c t.val t.isLt).2 (ix2 j q) = part m c (t.val / 2) 0 j q := by
  have e : (outsAt0 m c t.val t.isLt).2 = k0_pay3 (k0_pay1 : FVec Ideal S1024x512 .f32) (iblk m c 0 t) (iblk m c 2 t) := by
    rw [outsAt0_C m c t (by omega) (by omega) (by omega) (by omega) (by omega) (by omega) (by omega)]; frame_out
  rw [e, pay3_at, pay1_at, zero_add]
  exact Finset.sum_congr rfl fun r _ => by rw [blk0, blk2 m c t h, h0]
theorem second1 (t : Fin cfg0.N) (h0 : t.val % 2 = 1) (h : t.val / 2 = 1) (hp : t.val - 1 < cfg0.N) (j : Fin 1024) (q : Fin 512) :
    (outsAt0 m c t.val t.isLt).1 (ix2 j q) = (outsAt0 m c (t.val - 1) hp).2 (ix2 j q) + part m c (t.val / 2) 1 j q := by
  have e : (outsAt0 m c t.val t.isLt).1 = k0_pay7 (k0_pay3 (outsAt0 m c (t.val - 1) hp).2 (iblk m c 0 t) (iblk m c 2 t)) := by
    rw [outsAt0_D m c t (by omega) (by omega) (by omega) (by omega) (by omega) (by omega) (by omega)]; frame_out; rw [read_unread_whole]
  rw [e, pay7_at, pay3_at]
  exact congrArg _ (Finset.sum_congr rfl fun r _ => by rw [blk0, blk2 m c t h, h0])
theorem first2 (t : Fin cfg0.N) (h0 : t.val % 2 = 0) (h : t.val / 2 = 2) (j : Fin 1024) (q : Fin 512) :
    (outsAt0 m c t.val t.isLt).2 (ix2 j q) = part m c (t.val / 2) 0 j q := by
  have e : (outsAt0 m c t.val t.isLt).2 = k0_pay4 (k0_pay1 : FVec Ideal S1024x512 .f32) (iblk m c 0 t) (iblk m c 3 t) := by
    rw [outsAt0_E m c t (by omega) (by omega) (by omega) (by omega) (by omega) (by omega) (by omega)]; frame_out
  rw [e, pay4_at, pay1_at, zero_add]
  exact Finset.sum_congr rfl fun r _ => by rw [blk0, blk3 m c t h, h0]
theorem second2 (t : Fin cfg0.N) (h0 : t.val % 2 = 1) (h : t.val / 2 = 2) (hp : t.val - 1 < cfg0.N) (j : Fin 1024) (q : Fin 512) :
    (outsAt0 m c t.val t.isLt).1 (ix2 j q) = (outsAt0 m c (t.val - 1) hp).2 (ix2 j q) + part m c (t.val / 2) 1 j q := by
  have e : (outsAt0 m c t.val t.isLt).1 = k0_pay7 (k0_pay4 (outsAt0 m c (t.val - 1) hp).2 (iblk m c 0 t) (iblk m c 3 t)) := by
    rw [outsAt0_F m c t (by omega) (by omega) (by omega) (by omega) (by omega) (by omega) (by omega)]; frame_out; rw [read_unread_whole]
  rw [e, pay7_at, pay4_at]
  exact congrArg _ (Finset.sum_congr rfl fun r _ => by rw [blk0, blk3 m c t h, h0])
theorem first3 (t : Fin cfg0.N) (h0 : t.val % 2 = 0) (h : t.val / 2 = 3) (j : Fin 1024) (q : Fin 512) :
    (outsAt0 m c t.val t.isLt).2 (ix2 j q) = part m c (t.val / 2) 0 j q := by
  have e : (outsAt0 m c t.val t.isLt).2 = k0_pay5 (k0_pay1 : FVec Ideal S1024x512 .f32) (iblk m c 0 t) (iblk m c 4 t) := by
    rw [outsAt0_G m c t (by omega) (by omega) (by omega) (by omega) (by omega) (by omega) (by omega)]; frame_out
  rw [e, pay5_at, pay1_at, zero_add]
  exact Finset.sum_congr rfl fun r _ => by rw [blk0, blk4 m c t h, h0]
theorem second3 (t : Fin cfg0.N) (h0 : t.val % 2 = 1) (h : t.val / 2 = 3) (hp : t.val - 1 < cfg0.N) (j : Fin 1024) (q : Fin 512) :
    (outsAt0 m c t.val t.isLt).1 (ix2 j q) = (outsAt0 m c (t.val - 1) hp).2 (ix2 j q) + part m c (t.val / 2) 1 j q := by
  have e : (outsAt0 m c t.val t.isLt).1 = k0_pay7 (k0_pay5 (outsAt0 m c (t.val - 1) hp).2 (iblk m c 0 t) (iblk m c 4 t)) := by
    rw [outsAt0_H m c t (by omega) (by omega) (by omega) (by omega) (by omega) (by omega) (by omega)]; frame_out; rw [read_unread_whole]
  rw [e, pay7_at, pay5_at]
  exact congrArg _ (Finset.sum_congr rfl fun r _ => by rw [blk0, blk4 m c t h, h0])
theorem first4 (t : Fin cfg0.N) (h0 : t.val % 2 = 0) (h : t.val / 2 = 4) (j : Fin 1024) (q : Fin 512) :
    (outsAt0 m c t.val t.isLt).2 (ix2 j q) = part m c (t.val / 2) 0 j q := by
  have e : (outsAt0 m c t.val t.isLt).2 = k0_pay6 (k0_pay1 : FVec Ideal S1024x512 .f32) (iblk m c 0 t) (iblk m c 5 t) := by
    rw [outsAt0_I m c t (by omega) (by omega) (by omega) (by omega) (by omega) (by omega) (by omega)]; frame_out
  rw [e, pay6_at, pay1_at, zero_add]
  exact Finset.sum_congr rfl fun r _ => by rw [blk0, blk5 m c t h, h0]
theorem second4 (t : Fin cfg0.N) (h0 : t.val % 2 = 1) (h : t.val / 2 = 4) (hp : t.val - 1 < cfg0.N) (j : Fin 1024) (q : Fin 512) :
    (outsAt0 m c t.val t.isLt).1 (ix2 j q) = (outsAt0 m c (t.val - 1) hp).2 (ix2 j q) + part m c (t.val / 2) 1 j q := by
  have e : (outsAt0 m c t.val t.isLt).1 = k0_pay7 (k0_pay6 (outsAt0 m c (t.val - 1) hp).2 (iblk m c 0 t) (iblk m c 5 t)) := by
    rw [outsAt0_J m c t (by omega) (by omega) (by omega) (by omega) (by omega) (by omega) (by omega)]; frame_out; rw [read_unread_whole]
  rw [e, pay7_at, pay6_at]
  exact congrArg _ (Finset.sum_congr rfl fun r _ => by rw [blk0, blk5 m c t h, h0])

/-- The scratch after a block's first half. -/
theorem first (t : Fin cfg0.N) (h0 : t.val % 2 = 0) (j : Fin 1024) (q : Fin 512) :
    (outsAt0 m c t.val t.isLt).2 (ix2 j q) = part m c (t.val / 2) 0 j q := by
  have := t.isLt
  have hN : cfg0.N = 10 := rfl
  obtain h | h | h | h | h : t.val / 2 = 0 ∨ t.val / 2 = 1 ∨ t.val / 2 = 2 ∨ t.val / 2 = 3 ∨ t.val / 2 = 4 := by omega
  · exact first0 m c t h0 h j q
  · exact first1 m c t h0 h j q
  · exact first2 m c t h0 h j q
  · exact first3 m c t h0 h j q
  · exact first4 m c t h0 h j q

/-- The result's block after its second half. -/
theorem second (t : Fin cfg0.N) (h0 : t.val % 2 = 1) (j : Fin 1024) (q : Fin 512) :
    (outsAt0 m c t.val t.isLt).1 (ix2 j q) = part m c (t.val / 2) 0 j q + part m c (t.val / 2) 1 j q := by
  have hp : t.val - 1 < cfg0.N := lt_of_le_of_lt (Nat.sub_le _ _) t.isLt
  have ep : (outsAt0 m c (t.val - 1) hp).2 (ix2 j q) = part m c (t.val / 2) 0 j q := by
    have := first m c ⟨t.val - 1, hp⟩ (by show (t.val - 1) % 2 = 0; omega) j q
    rwa [show (t.val - 1) / 2 = t.val / 2 from by omega] at this
  rw [← ep]
  have := t.isLt
  have hN : cfg0.N = 10 := rfl
  obtain h | h | h | h | h : t.val / 2 = 0 ∨ t.val / 2 = 1 ∨ t.val / 2 = 2 ∨ t.val / 2 = 3 ∨ t.val / 2 = 4 := by omega
  · exact second0 m c t h0 h hp j q
  · exact second1 m c t h0 h hp j q
  · exact second2 m c t h0 h hp j q
  · exact second3 m c t h0 h hp j q
  · exact second4 m c t h0 h hp j q

/-- The result. -/
theorem final : (dats m 0 c).arrAt 6 (cfgs 0).N = fun i => ∑ R, L m c (ix2 R (i 0)) * Y m c (ix2 R (i 1)) := by
  refine (dats m 0 c).arrAt_eq_of_covers 6 _ (by decide +kernel) fun t hf y => ?_
  have h0 : t.val % 2 = 1 := (flush0_6 t).mp hf
  blk_simp
  rw [after0_6]
  obtain ⟨j, q, rfl⟩ : ∃ j q, y = ix2 j q := ⟨y 0, y 1, by blk_ext⟩
  rw [second m c t h0]
  have e0 : (((cfg0.win 6).blk t).view.emb (ix2 j q)) 0 = j := by
    apply Fin.ext; blk_simp [idx t]
  have e1 : (((cfg0.win 6).blk t).view.emb (ix2 j q)) 1 = tile (t.val / 2) q := by
    apply Fin.ext; have := tile_val t q; blk_simp [idx t]; omega
  rw [e0, e1]
  exact sum_rows fun R => L m c (ix2 R (j)) * Y m c (ix2 R (tile (t.val / 2) q))

open Cert.RefInDwIdeal.Read in
/-- The reference's product, entry by entry: the rows' sum, with the factors in the other order. -/
theorem ref_at (x0 : (⟨⟨2, ![2048, 1024]⟩, .f32⟩ : BufTy).Contents (Elt Ideal)) (x1 : (⟨⟨2, ![1, 1024]⟩, .f32⟩ : BufTy).Contents (Elt Ideal)) (x2 x3 x4 x5 x6 : (⟨⟨2, ![2048, 512]⟩, .bf16⟩ : BufTy).Contents (Elt Ideal)) (j : Fin 1024) (k : Fin 2560) :
    val_main_v18 (F := Ideal) x0 x1 x2 x3 x4 x5 x6 (ix2 j k) = ∑ R : Fin 2048, val_main_v14 (F := Ideal) x0 x1 (ix2 R j) * val_main_v0 (F := Ideal) x2 x3 x4 x5 x6 (ix2 R k) := by
  have e : idx_main_v17 (ix2 j k) = ix2 k j := by blk_ext
  have h : val_main_v18 (F := Ideal) x0 x1 x2 x3 x4 x5 x6 (ix2 j k) = val_main_v16 (F := Ideal) x0 x1 x2 x3 x4 x5 x6 (ix2 k j) := by
    rw [val_main_v18_apply, val_main_v17_apply, e]; rfl
  rw [h, val_main_v16_apply]
  refine Finset.sum_congr rfl fun R _ => ?_
  have el : lidx_main_v16 (ix2 k j) R = ix2 R k := by blk_ext
  have er : ridx_main_v16 (ix2 k j) R = ix2 R j := by blk_ext
  rw [el, er, mul_comm]
  rfl

/-- The run, with the result's array named and the arguments unchanged. -/
theorem run_result (ρ : Dev nD → PrngReg) : θ_run defs (onTc (τ := τ) (main (F := Ideal))) ⟨m, fun _ => 0, ρ⟩ fun r => ∀ c : Dev nD,
      r.2.mem ((c : Thread nD τ).loc main_v14) = (dats m 0 c).arrAt 6 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)

/-- The value claim. -/
theorem algebraic : Cert.algebraic_InDwIdeal_RefInDwIdeal := by
  intro m g m' g' _ heq
  refine ⟨fun c => (Gen.dats m 0 c).arrAt 6 (cfgs 0).N, ?_, ?_⟩
  · exact run_result m g
  · refine (θ_run Cert.RefInDwIdeal.defs _ _).mono (fun r h c => ?_) (Cert.RefInDwIdeal.Value.run (F := Ideal) m' g')
    obtain ⟨r0, rk⟩ := h c
    obtain ⟨e0, e1, e2, e3, e4, e5, e6⟩ := heq c
    refine ⟨r0.trans ?_, rk⟩
    show _ = (Gen.dats m 0 c).arrAt 6 (cfgs 0).N
    rw [Cert.RefInDwIdeal.Read.val_main_v18_eq, final, e0, e1, e2, e3, e4, e5, e6]
    funext i
    obtain ⟨j, k, rfl⟩ : ∃ (j : Fin 1024) (k : Fin 2560), i = ix2 j k := ⟨i 0, i 1, by blk_ext⟩
    exact ref_at _ _ _ _ _ _ _ j k

end Cert.InDwIdeal.Rows
-- ==== Proof.InFwdClaim.lean ====
/- The normalisation and the product with w_in: the call's tiles of rows against the reference's lines. -/
module
public import proofs.«01_k».proof.Defs
public import proofs.«01_k».proof.Proof.Gen.InFwdIdeal.Value
public import proofs.«01_k».proof.Proof.Gen.RefInFwdIdeal.Run
public import proofs.«01_k».proof.Proof.Gen.RefInFwdIdeal.Read
public import Idealize.ShloMosaic.Lib.Pipeline.ValueKit
public import Idealize.ShloMosaic.Lib.Pipeline.ReadBack
@[expose] public section
set_option maxRecDepth 16384
noncomputable section
namespace Cert.InFwdIdeal.Rows
open Cert.InFwdIdeal Cert.InFwdIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![0, 0] ∧ win0_3.index t = ![0, t.val] ∧ win0_4.index t = ![t.val, 0] :=
  (by decide +kernel : ∀ t : Fin grid0.N, _)

variable (m : (ℓ : Loc nD τ sig) → Buf (Elt Ideal) ℓ) (c : Dev nD)

/-- Row `r` of tile `u`. -/
def row (u : ℕ) (r : Fin 256) : Fin 2048 := ⟨(u * 256 + r.val) % 2048, Nat.mod_lt _ (by norm_num)⟩

theorem row_val (t : Fin cfg0.N) (r : Fin 256) : (row t.val r).val = t.val * 256 + r.val := by
  have := t.isLt
  have hN : cfg0.N = 8 := rfl
  have := r.isLt
  show (t.val * 256 + r.val) % 2048 = _
  omega

/-- The argument arrays. -/
def A0 : (⟨2, ![2048, 1024]⟩ : Shape).Idx → EReal := m ((c : Thread nD τ).loc main_arg0)
@[inherit_doc A0] def A1 : (⟨2, ![1, 1024]⟩ : Shape).Idx → EReal := m ((c : Thread nD τ).loc main_arg1)
@[inherit_doc A0] def A2 : (⟨2, ![1024, 2560]⟩ : Shape).Idx → EReal := m ((c : Thread nD τ).loc main_arg2)

theorem blk0 (t : Fin cfg0.N) (r : Fin 256) (k : Fin 1024) : iblk m c 0 t (ix2 r k) = A0 m c (ix2 (row t.val r) k) := by
  have := row_val t r; unfold A0; rw [← V_main_arg0 m c]; blk_ext [iblk, idx t]
theorem blk1 (t : Fin cfg0.N) (k : Fin 1024) : iblk m c 1 t (ix2 0 k) = A1 m c (ix2 0 k) := by
  unfold A1; rw [← V_main_arg1 m c]; blk_ext [iblk, idx t]
theorem blk2 (t : Fin cfg0.N) (k : Fin 1024) (j : Fin 2560) : iblk m c 2 t (ix2 k j) = A2 m c (ix2 k j) := by
  unfold A2; rw [← V_main_arg2 m c]; blk_ext [iblk, idx t]

/-- A row normalised and scaled. -/
def normed (x g : Fin 1024 → EReal) (k : Fin 1024) : EReal :=
  x k * Ideal.rsqrt (Ideal.div (∑ q : Fin 1024, x q * x q) (Ideal.ofBits .f32 1149239296#32) + Ideal.ofBits .f32 897988541#32) * g k

/-- The normalised rows. -/
def H (R : Fin 2048) (k : Fin 1024) : EReal := normed (fun q => A0 m c (ix2 R q)) (fun q => A1 m c (ix2 0 q)) k

theorem pay1_at (a : Vec Ideal S256x1024 .f32) (g : Vec Ideal S1x1024 .f32) (r : Fin 256) (k : Fin 1024) :
    k0_pay1 a g (ix2 r k) = normed (fun q => a (ix2 r q)) (fun q => g (ix2 0 q)) k := by
  unfold normed; pointwise [k0_pay1]
theorem pay2_at (a : Vec Ideal S256x1024 .f32) (g : Vec Ideal S1x1024 .f32) (r : Fin 256) (k : Fin 1024) :
    k0_pay2 a g (ix2 k r) = k0_pay1 a g (ix2 r k) := by
  pointwise [k0_pay2]
theorem pay3_at (a : Vec Ideal S256x1024 .f32) (g : Vec Ideal S1x1024 .f32) (b : Vec Ideal S1024x2560 .bf16) (r : Fin 256) (j : Fin 2560) :
    k0_pay3 a g b (ix2 r j) = ∑ k : Fin 1024, k0_pay1 a g (ix2 r k) * b (ix2 k j) := by
  pointwise [k0_pay3]

theorem tile_at (t : Fin cfg0.N) (r : Fin 256) (k : Fin 1024) : k0_pay1 (iblk m c 0 t) (iblk m c 1 t) (ix2 r k) = H m c (row t.val r) k := by
  rw [pay1_at]; unfold H
  exact congrArg₂ (fun x g => normed x g k) (funext fun q => blk0 m c t r q) (funext fun q => blk1 m c t q)

theorem out3 (t : Fin cfg0.N) : out0_3 (iblk m c 0 t) (iblk m c 1 t) (iblk m c 2 t) = k0_pay2 (iblk m c 0 t) (iblk m c 1 t) := by
  unfold out0_3; frame_out
theorem out4 (t : Fin cfg0.N) : out0_4 (iblk m c 0 t) (iblk m c 1 t) (iblk m c 2 t) = k0_pay3 (iblk m c 0 t) (iblk m c 1 t) (iblk m c 2 t) := by
  unfold out0_4; frame_out

/-- The first result: the normalised rows, transposed. -/
theorem final3 : (dats m 0 c).arrAt 3 (cfgs 0).N = fun i => H m c (i 1) (i 0) := by
  refine (dats m 0 c).arrAt_eq_of_covers 3 _ (by decide +kernel) fun t _ y => ?_
  blk_simp
  rw [after0_3, out3]
  obtain ⟨k, r, rfl⟩ : ∃ k r, y = ix2 k r := ⟨y 0, y 1, by blk_ext⟩
  rw [pay2_at, tile_at]
  have e0 : (((cfg0.win 3).blk t).view.emb (ix2 k r)) 1 = row t.val r := by
    apply Fin.ext; have := row_val t r; blk_simp [idx t]; omega
  have e1 : (((cfg0.win 3).blk t).view.emb (ix2 k r)) 0 = k := by
    apply Fin.ext; blk_simp [idx t]
  rw [e0, e1]

/-- The second result: the product. -/
theorem final4 : (dats m 0 c).arrAt 4 (cfgs 0).N = fun i => ∑ k : Fin 1024, H m c (i 0) k * A2 m c (ix2 k (i 1)) := by
  refine (dats m 0 c).arrAt_eq_of_covers 4 _ (by decide +kernel) fun t _ y => ?_
  blk_simp
  rw [after0_4, out4]
  obtain ⟨r, j, rfl⟩ : ∃ r j, y = ix2 r j := ⟨y 0, y 1, by blk_ext⟩
  rw [pay3_at]
  have e0 : (((cfg0.win 4).blk t).view.emb (ix2 r j)) 0 = row t.val r := by
    apply Fin.ext; have := row_val t r; blk_simp [idx t]; omega
  have e1 : (((cfg0.win 4).blk t).view.emb (ix2 r j)) 1 = j := by
    apply Fin.ext; blk_simp [idx t]
  rw [e0, e1]
  exact Finset.sum_congr (M := EReal) rfl fun k _ => by rw [tile_at, blk2]

open Cert.RefInFwdIdeal.Read in
/-- The reference's normalised rows. -/
theorem ref_row (x0 : (⟨⟨2, ![2048, 1024]⟩, .f32⟩ : BufTy).Contents (Elt Ideal)) (x1 : (⟨⟨2, ![1, 1024]⟩, .f32⟩ : BufTy).Contents (Elt Ideal)) (R : Fin 2048) (k : Fin 1024) :
    val_main_v11 (F := Ideal) x0 x1 (ix2 R k) = normed (fun q => x0 (ix2 R q)) (fun q => x1 (ix2 0 q)) k := by
  have e8 : idx_main_v8 (ix2 R k) = ix2 R 0 := by blk_ext
  have e10 : idx_main_v10 (ix2 R k) = ix2 0 k := by blk_ext
  have e1 : ∀ q, idx_main_v1 (idx_main_v2 (ix2 R 0)) q = ix2 R q := fun q => by blk_ext
  have h1 : val_main_v1 (F := Ideal) x0 (idx_main_v2 (ix2 R 0)) = ∑ q : Fin 1024, x0 (ix2 R q) * x0 (ix2 R q) := by
    rw [val_main_v1_apply]
    refine (congrArg₂ (· + ·) Ideal.ofBits_zero_f32 (Finset.sum_congr rfl fun q _ => ?_)).trans (zero_add _)
    rw [e1]; rfl
  have h7 : val_main_v7 (F := Ideal) x0 (ix2 R 0) = Ideal.rsqrt (Ideal.div (val_main_v1 (F := Ideal) x0 (idx_main_v2 (ix2 R 0))) (Ideal.ofBits .f32 1149239296#32) + Ideal.ofBits .f32 897988541#32) := by
    rw [val_main_v7_apply, val_main_v6_apply, val_main_v4_apply, val_main_v2_apply, val_main_v3_apply, val_main_v5_apply]; rfl
  rw [val_main_v11_apply, val_main_v9_apply, val_main_v8_apply, val_main_v10_apply, e8, e10, h7, h1]
  rfl

open Cert.RefInFwdIdeal.Read in
theorem ref_t (x0 : (⟨⟨2, ![2048, 1024]⟩, .f32⟩ : BufTy).Contents (Elt Ideal)) (x1 : (⟨⟨2, ![1, 1024]⟩, .f32⟩ : BufTy).Contents (Elt Ideal)) (k : Fin 1024) (R : Fin 2048) :
    val_main_v13 (F := Ideal) x0 x1 (ix2 k R) = normed (fun q => x0 (ix2 R q)) (fun q => x1 (ix2 0 q)) k := by
  have e : idx_main_v12 (ix2 k R) = ix2 R k := by blk_ext
  rw [val_main_v13_apply, val_main_v12_apply, e, ← ref_row]; rfl

open Cert.RefInFwdIdeal.Read in
theorem ref_y (x0 : (⟨⟨2, ![2048, 1024]⟩, .f32⟩ : BufTy).Contents (Elt Ideal)) (x1 : (⟨⟨2, ![1, 1024]⟩, .f32⟩ : BufTy).Contents (Elt Ideal))
    (x2 : (⟨⟨2, ![1024, 2560]⟩, .bf16⟩ : BufTy).Contents (Elt Ideal)) (R : Fin 2048) (j : Fin 2560) :
    val_main_v15 (F := Ideal) x0 x1 x2 (ix2 R j) = ∑ k : Fin 1024, normed (fun q => x0 (ix2 R q)) (fun q => x1 (ix2 0 q)) k * x2 (ix2 k j) := by
  rw [val_main_v15_apply]
  refine Finset.sum_congr rfl fun k _ => ?_
  have el : lidx_main_v15 (ix2 R j) k = ix2 R k := by blk_ext
  have er : ridx_main_v15 (ix2 R j) k = ix2 k j := by blk_ext
  rw [el, er, ref_row]; rfl

/-- The value claim. -/
theorem algebraic : Cert.algebraic_InFwdIdeal_RefInFwdIdeal := by
  intro m g m' g' _ heq
  refine ⟨fun c => (Gen.dats m 0 c).arrAt 3 (cfgs 0).N, fun c => (Gen.dats m 0 c).arrAt 4 (cfgs 0).N, ?_, ?_⟩
  · exact Cert.InFwdIdeal.Value.run_blocks m g
  · refine (θ_run Cert.RefInFwdIdeal.defs _ _).mono (fun r h c => ?_) (Cert.RefInFwdIdeal.Value.run (F := Ideal) m' g')
    obtain ⟨r0, r1, rk⟩ := h c
    obtain ⟨e0, e1, e2⟩ := heq c
    refine ⟨r0.trans ?_, r1.trans ?_, rk⟩
    · show _ = (Gen.dats m 0 c).arrAt 3 (cfgs 0).N
      rw [Cert.RefInFwdIdeal.Read.val_main_v13_eq, final3, e0, e1]
      funext i
      obtain ⟨k, R, rfl⟩ : ∃ (k : Fin 1024) (R : Fin 2048), i = ix2 k R := ⟨i 0, i 1, by blk_ext⟩
      exact ref_t _ _ k R
    · show _ = (Gen.dats m 0 c).arrAt 4 (cfgs 0).N
      rw [Cert.RefInFwdIdeal.Read.val_main_v15_eq, final4, e0, e1, e2]
      funext i
      obtain ⟨R, j, rfl⟩ : ∃ (R : Fin 2048) (j : Fin 2560), i = ix2 R j := ⟨i 0, i 1, by blk_ext⟩
      exact ref_y _ _ _ R j

end Cert.InFwdIdeal.Rows
-- ==== Proof.OutClaim.lean ====
/- The gradient through the product with w_out: the call's tiles of rows are the reference's one product. -/
module
public import proofs.«01_k».proof.Defs
public import proofs.«01_k».proof.Proof.Gen.OutIdeal.Value
public import proofs.«01_k».proof.Proof.Gen.RefOutIdeal.Run
public import proofs.«01_k».proof.Proof.Gen.RefOutIdeal.Read
public import Idealize.ShloMosaic.Lib.Pipeline.ValueKit
public import Idealize.ShloMosaic.Lib.Pipeline.ReadBack
@[expose] public section
set_option maxRecDepth 16384
noncomputable section
namespace Cert.OutIdeal.Rows
open Cert.OutIdeal Cert.OutIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- Row `r` of tile `u`. -/
def row (u : ℕ) (r : Fin 512) : Fin 2048 := ⟨(u * 512 + r.val) % 2048, Nat.mod_lt _ (by norm_num)⟩

theorem row_val (t : Fin cfg0.N) (r : Fin 512) : (row t.val r).val = t.val * 512 + r.val := by
  have := t.isLt
  have hN : cfg0.N = 4 := rfl
  have := r.isLt
  show (t.val * 512 + r.val) % 2048 = _
  omega

/-- The argument arrays. -/
def A0 : (⟨2, ![2048, 1024]⟩ : Shape).Idx → EReal := m ((c : Thread nD τ).loc main_arg0)
@[inherit_doc A0] def A1 : (⟨2, ![1024, 1024]⟩ : Shape).Idx → EReal := m ((c : Thread nD τ).loc main_arg1)

theorem blk0 (t : Fin cfg0.N) (r : Fin 512) (k : Fin 1024) : iblk m c 0 t (ix2 r k) = A0 m c (ix2 (row t.val r) k) := by
  have := row_val t r; unfold A0; rw [← V_main_arg0 m c]; blk_ext [iblk, idx t]
theorem blk1 (t : Fin cfg0.N) (r : Fin 1024) (k : Fin 1024) : iblk m c 1 t (ix2 r k) = A1 m c (ix2 r k) := by
  unfold A1; rw [← V_main_arg1 m c]; blk_ext [iblk, idx t]

theorem pay_at (a : Vec Ideal S512x1024 .f32) (b : Vec Ideal S1024x1024 .bf16) (r : Fin 512) (j : Fin 1024) :
    k0_pay1 a b (ix2 r j) = ∑ k : Fin 1024, a (ix2 r k) * b (ix2 j k) := by
  pointwise [k0_pay1]

/-- A grid point's block is the body's product of its blocks. -/
theorem out (t : Fin cfg0.N) : out0_2 (iblk m c 0 t) (iblk m c 1 t) = k0_pay1 (iblk m c 0 t) (iblk m c 1 t) := by
  unfold out0_2; frame_out

/-- The result. -/
theorem final : (dats m 0 c).arrAt 2 (cfgs 0).N = fun i => ∑ k : Fin 1024, A0 m c (ix2 (i 0) k) * A1 m c (ix2 (i 1) k) := by
  refine (dats m 0 c).arrAt_eq_of_covers 2 _ (by decide +kernel) fun t _ y => ?_
  blk_simp
  rw [after0_2, out]
  obtain ⟨r, j, rfl⟩ : ∃ r j, y = ix2 r j := ⟨y 0, y 1, by blk_ext⟩
  rw [pay_at]
  have e0 : (((cfg0.win 2).blk t).view.emb (ix2 r j)) 0 = row t.val r := by
    apply Fin.ext; have := row_val t r; blk_simp [idx t]; omega
  have e1 : (((cfg0.win 2).blk t).view.emb (ix2 r j)) 1 = j := by
    apply Fin.ext; blk_simp [idx t]
  rw [e0, e1]
  exact Finset.sum_congr (M := EReal) rfl fun k _ => by rw [blk0, blk1]

/-- The reference's product, entry by entry. -/
theorem ref_at (x0 : (⟨⟨2, ![2048, 1024]⟩, .f32⟩ : BufTy).Contents (Elt Ideal)) (x1 : (⟨⟨2, ![1024, 1024]⟩, .bf16⟩ : BufTy).Contents (Elt Ideal))
    (R : Fin 2048) (j : Fin 1024) : Cert.RefOutIdeal.Read.val_main_v3 (F := Ideal) x0 x1 (ix2 R j) = ∑ k : Fin 1024, x0 (ix2 R k) * x1 (ix2 j k) := by
  have h : Cert.RefOutIdeal.Read.val_main_v3 (F := Ideal) x0 x1 (ix2 R j) = Cert.RefOutIdeal.Read.val_main_v3 (F := Ideal) x0 x1 (ix2 R j) := rfl
  rw [h, Cert.RefOutIdeal.Read.val_main_v3_apply]
  refine Finset.sum_congr rfl fun k _ => ?_
  have el : Cert.RefOutIdeal.Read.lidx_main_v3 (ix2 R j) k = ix2 R k := by blk_ext
  have er : Cert.RefOutIdeal.Read.ridx_main_v3 (ix2 R j) k = ix2 j k := by blk_ext
  rw [el, er]
  rfl

/-- The value claim. -/
theorem algebraic : Cert.algebraic_OutIdeal_RefOutIdeal := by
  intro m g m' g' _ heq
  refine ⟨fun c => (Gen.dats m 0 c).arrAt 2 (cfgs 0).N, ?_, ?_⟩
  · exact Cert.OutIdeal.Value.run_blocks m g
  · refine (θ_run Cert.RefOutIdeal.defs _ _).mono (fun r h c => ?_) (Cert.RefOutIdeal.Value.run (F := Ideal) m' g')
    obtain ⟨r0, rk⟩ := h c
    obtain ⟨e0, e1⟩ := heq c
    refine ⟨r0.trans ?_, rk⟩
    show _ = (Gen.dats m 0 c).arrAt 2 (cfgs 0).N
    rw [Cert.RefOutIdeal.Read.val_main_v3_eq, final, e0, e1]
    funext i
    obtain ⟨R, j, rfl⟩ : ∃ (R : Fin 2048) (j : Fin 1024), i = ix2 R j := ⟨i 0, i 1, by blk_ext⟩
    exact ref_at _ _ R j

end Cert.OutIdeal.Rows
-- ==== Proof.OutDwClaim.lean ====
/- The gradient of w_out: the call's sums over two tiles of the rows, for the attention's columns and for the convolution module's, are the reference's one product. -/
module
public import proofs.«01_k».proof.Defs
public import proofs.«01_k».proof.Proof.Gen.OutDwIdeal.Value
public import proofs.«01_k».proof.Proof.Gen.RefOutDwIdeal.Run
public import proofs.«01_k».proof.Proof.Gen.RefOutDwIdeal.Read
public import Idealize.ShloMosaic.Lib.Pipeline.ValueKit
public import Idealize.ShloMosaic.Lib.Pipeline.ReadBack
@[expose] public section
set_option maxRecDepth 16384
noncomputable section
namespace Cert.OutDwIdeal.Rows
open Cert.OutDwIdeal Cert.OutDwIdeal.Gen
open Idealize.ShloMosaic Idealize.ShloMosaic.TcCoe Idealize.SL.Sem
open Idealize.ShloMosaic.Pipeline (Dat)

/-- Every window's block at a grid point. -/
theorem idx : ∀ t : Fin cfg0.N, (t.val < 2 → win0_0.index t = ![0, t.val % 2]) ∧ (2 ≤ t.val → win0_1.index t = ![0, t.val % 2])
    ∧ win0_2.index t = ![t.val % 2, 0] ∧ win0_3.index t = ![t.val / 2, 0] :=
  (by decide +kernel : ∀ t : Fin grid0.N, _)

/-- Row `r` of half `s`. -/
def row (s : ℕ) (r : Fin 1024) : Fin 2048 := ⟨(s * 1024 + r.val) % 2048, Nat.mod_lt _ (by norm_num)⟩

theorem row_val (t : ℕ) (r : Fin 1024) : (row (t % 2) r).val = t % 2 * 1024 + r.val := by
  have := r.isLt
  show (t % 2 * 1024 + r.val) % 2048 = _
  omega

/-- The two halves are all rows. -/
theorem sum_rows (f : Fin 2048 → EReal) : ∑ r, f (row 0 r) + ∑ r, f (row 1 r) = ∑ R, f R := by
  rw [show ∑ R, f R = _ from Fin.sum_univ_add (a := 1024) (b := 1024) f]
  refine congrArg₂ (· + ·) (Finset.sum_congr rfl fun r _ => congrArg f (Fin.ext ?_)) (Finset.sum_congr rfl fun r _ => congrArg f (Fin.ext ?_))
  · have := r.isLt; show (0 * 1024 + r.val) % 2048 = r.val; omega
  · have := r.isLt; show (1 * 1024 + r.val) % 2048 = 1024 + r.val; omega

/-- Index `j` of the result's tile `n`. -/
def tile (n : ℕ) (j : Fin 512) : Fin 1024 := ⟨(n * 512 + j.val) % 1024, Nat.mod_lt _ (by norm_num)⟩

theorem tile_val (t : Fin cfg0.N) (j : Fin 512) : (tile (t.val / 2) j).val = t.val / 2 * 512 + j.val := by
  have := j.isLt
  have := t.isLt
  have hN : cfg0.N = 4 := rfl
  show (t.val / 2 * 512 + j.val) % 1024 = _
  omega

variable (m : (ℓ : Loc nD τ sig) → Buf (Elt Ideal) ℓ) (c : Dev nD)

/-- The attention's and the convolution module's rows side by side, and the incoming gradient. -/
def L : (⟨2, ![2048, 1024]⟩ : Shape).Idx → EReal := Cert.RefOutDwIdeal.Read.val_main_v0 (F := Ideal) (m ((c : Thread nD τ).loc main_arg0)) (m ((c : Thread nD τ).loc main_arg1))
@[inherit_doc L] def Y : (⟨2, ![2048, 1024]⟩ : Shape).Idx → EReal := m ((c : Thread nD τ).loc main_arg2)

theorem host0 : V m c main_v0 = transpose S512x2048 [1, 0] (m ((c : Thread nD τ).loc main_arg0)) transposes_S2048x512_S512x2048_1_0 := by
  unfold V hostOps0; after_results_simp
theorem host1 : V m c main_v1 = transpose S512x2048 [1, 0] (m ((c : Thread nD τ).loc main_arg1)) transposes_S2048x512_S512x2048_1_0 := by
  unfold V hostOps0; after_results_simp

theorem L_lo (R : Fin 2048) (k : Fin 1024) (k' : Fin 512) (h : k.val = k'.val) : L m c (ix2 R k) = m ((c : Thread nD τ).loc main_arg0) (ix2 R k') :=
  concatenate_pair_apply_left 1 _ _ Cert.RefOutDwIdeal.Gen.concatenates_S2048x512_S2048x512_S2048x1024_d1 _ rfl (ix2 R k') fun b => match b with
    | ⟨0, _⟩ => rfl
    | ⟨1, _⟩ => h.symm
theorem L_hi (R : Fin 2048) (k : Fin 1024) (k' : Fin 512) (h : k.val = k'.val + 512) : L m c (ix2 R k) = m ((c : Thread nD τ).loc main_arg1) (ix2 R k') :=
  concatenate_pair_apply_right 1 _ _ Cert.RefOutDwIdeal.Gen.concatenates_S2048x512_S2048x512_S2048x1024_d1 _ rfl rfl (ix2 R k') (fun b hb => match b with
    | ⟨0, _⟩ => rfl
    | ⟨1, _⟩ => absurd rfl hb) h.symm

theorem flip (y : (⟨2, ![2048, 512]⟩ : Shape).Idx → EReal) (j : Fin 512) (R : Fin 2048) :
    transpose S512x2048 [1, 0] y transposes_S2048x512_S512x2048_1_0 (ix2 j R) = y (ix2 R j) :=
  transpose_apply [1, 0] y transposes_S2048x512_S512x2048_1_0 _ _ fun b => match b with
    | ⟨0, _⟩ => rfl
    | ⟨1, _⟩ => rfl

theorem blk0 (t : Fin cfg0.N) (h : t.val < 2) (j : Fin 512) (r : Fin 1024) : iblk m c 0 t (ix2 j r) = L m c (ix2 (row (t.val % 2) r) (tile (t.val / 2) j)) := by
  have hi := (idx t).1 h
  have e : iblk m c 0 t (ix2 j r) = V m c main_v0 (ix2 j (row (t.val % 2) r)) := by
    have := row_val t.val r
    blk_ext [iblk, hi]
  have := tile_val t j
  rw [e, host0, flip, L_lo m c _ _ j (by omega)]
theorem blk1 (t : Fin cfg0.N) (h : 2 ≤ t.val) (j : Fin 512) (r : Fin 1024) : iblk m c 1 t (ix2 j r) = L m c (ix2 (row (t.val % 2) r) (tile (t.val / 2) j)) := by
  have hi := (idx t).2.1 h
  have e : iblk m c 1 t (ix2 j r) = V m c main_v1 (ix2 j (row (t.val % 2) r)) := by
    have := row_val t.val r
    blk_ext [iblk, hi]
  have := tile_val t j
  have := t.isLt
  have hN : cfg0.N = 4 := rfl
  rw [e, host1, flip, L_hi m c _ _ j (by omega)]
theorem blk2 (t : Fin cfg0.N) (r : Fin 1024) (q : Fin 1024) : iblk m c 2 t (ix2 r q) = Y m c (ix2 (row (t.val % 2) r) q) := by
  have := row_val t.val r; unfold Y; rw [← V_main_arg2 m c]; blk_ext [iblk, idx t]

/-- What a half of the rows adds to the result's block. -/
def part (n s : ℕ) (j : Fin 512) (q : Fin 1024) : EReal := ∑ r, L m c (ix2 (row s r) (tile n j)) * Y m c (ix2 (row s r) q)

theorem pay1_at (a : Vec Ideal S512x1024 .f32) (b : Vec Ideal S512x1024 .bf16) (d : Vec Ideal S1024x1024 .f32) (j : Fin 512) (q : Fin 1024) :
    k0_pay1 a b d (ix2 j q) = a (ix2 j q) + ∑ r : Fin 1024, b (ix2 j r) * d (ix2 r q) := by
  pointwise [k0_pay1]
theorem pay4_at (a : Vec Ideal S512x1024 .f32) (b : Vec Ideal S512x1024 .bf16) (d : Vec Ideal S1024x1024 .f32) (j : Fin 512) (q : Fin 1024) :
    k0_pay4 a b d (ix2 j q) = a (ix2 j q) + ∑ r : Fin 1024, b (ix2 j r) * d (ix2 r q) := by
  pointwise [k0_pay4]
theorem pay3_at (j : Fin 512) (q : Fin 1024) : k0_pay3 (F := Ideal) (ix2 j q) = 0 := by pointwise [k0_pay3]
theorem pay2_at (a : Vec Ideal S512x1024 .f32) (j : Fin 512) (q : Fin 1024) : k0_pay2 a (ix2 j q) = a (ix2 j q) := by pointwise [k0_pay2]

/-- The scratch after a block's first half. -/
theorem first (t : Fin cfg0.N) (h0 : t.val % 2 = 0) (j : Fin 512) (q : Fin 1024) :
    (outsAt0 m c t.val t.isLt).2 (ix2 j q) = part m c (t.val / 2) 0 j q := by
  unfold part
  rcases Nat.lt_or_ge t.val 2 with h1 | h1
  · have e : (outsAt0 m c t.val t.isLt).2 = k0_pay4 (k0_pay3 : FVec Ideal S512x1024 .f32) (iblk m c 0 t) (iblk m c 2 t) := by
      rw [outsAt0_A m c t h0 h1 (by omega) (by omega)]; frame_out
    rw [e, pay4_at, pay3_at, zero_add]
    exact Finset.sum_congr rfl fun r _ => by rw [blk0 m c t h1, blk2, h0]
  · have e : (outsAt0 m c t.val t.isLt).2 = k0_pay1 (k0_pay3 : FVec Ideal S512x1024 .f32) (iblk m c 1 t) (iblk m c 2 t) := by
      rw [outsAt0_C m c t h0 (by omega) h1 (by omega)]; frame_out
    rw [e, pay1_at, pay3_at, zero_add]
    exact Finset.sum_congr rfl fun r _ => by rw [blk1 m c t h1, blk2, h0]

/-- The result's block after its second half. -/
theorem second (t : Fin cfg0.N) (h0 : t.val % 2 = 1) (j : Fin 512) (q : Fin 1024) :
    (outsAt0 m c t.val t.isLt).1 (ix2 j q) = part m c (t.val / 2) 0 j q + part m c (t.val / 2) 1 j q := by
  have hp : t.val - 1 < cfg0.N := lt_of_le_of_lt (Nat.sub_le _ _) t.isLt
  have ep : (outsAt0 m c (t.val - 1) hp).2 (ix2 j q) = part m c (t.val / 2) 0 j q := by
    have := first m c ⟨t.val - 1, hp⟩ (by show (t.val - 1) % 2 = 0; omega) j q
    rwa [show (t.val - 1) / 2 = t.val / 2 from by omega] at this
  rw [← ep]
  unfold part
  rcases Nat.lt_or_ge t.val 2 with h1 | h1
  · have e : (outsAt0 m c t.val t.isLt).1 = k0_pay2 (k0_pay4 (outsAt0 m c (t.val - 1) hp).2 (iblk m c 0 t) (iblk m c 2 t)) := by
      rw [outsAt0_B m c t (by omega) h1 (by omega) h0]; frame_out; rw [read_unread_whole]
    rw [e, pay2_at, pay4_at]
    exact congrArg _ (Finset.sum_congr rfl fun r _ => by rw [blk0 m c t h1, blk2, h0])
  · have e : (outsAt0 m c t.val t.isLt).1 = k0_pay2 (k0_pay1 (outsAt0 m c (t.val - 1) hp).2 (iblk m c 1 t) (iblk m c 2 t)) := by
      rw [outsAt0_D m c t (by omega) (by omega) h1 h0]; frame_out; rw [read_unread_whole]
    rw [e, pay2_at, pay1_at]
    exact congrArg _ (Finset.sum_congr rfl fun r _ => by rw [blk1 m c t h1, blk2, h0])

/-- The result. -/
theorem final : (dats m 0 c).arrAt 3 (cfgs 0).N = fun i => ∑ R, L m c (ix2 R (i 0)) * Y m c (ix2 R (i 1)) := by
  refine (dats m 0 c).arrAt_eq_of_covers 3 _ (by decide +kernel) fun t hf y => ?_
  have h0 : t.val % 2 = 1 := (flush0_3 t).mp hf
  blk_simp
  rw [after0_3]
  obtain ⟨j, q, rfl⟩ : ∃ j q, y = ix2 j q := ⟨y 0, y 1, by blk_ext⟩
  rw [second m c t h0]
  have e0 : (((cfg0.win 3).blk t).view.emb (ix2 j q)) 0 = tile (t.val / 2) j := by
    apply Fin.ext; have := tile_val t j; blk_simp [idx t]; omega
  have e1 : (((cfg0.win 3).blk t).view.emb (ix2 j q)) 1 = q := by
    apply Fin.ext; blk_simp [idx t]
  rw [e0, e1]
  exact sum_rows fun R => L m c (ix2 R (tile (t.val / 2) j)) * Y m c (ix2 R (q))

open Cert.RefOutDwIdeal.Read in
/-- The reference's product, entry by entry: the rows' sum, with the factors in the other order. -/
theorem ref_at (x0 x1 : (⟨⟨2, ![2048, 512]⟩, .bf16⟩ : BufTy).Contents (Elt Ideal)) (x2 : (⟨⟨2, ![2048, 1024]⟩, .f32⟩ : BufTy).Contents (Elt Ideal)) (j : Fin 1024) (k : Fin 1024) :
    val_main_v6 (F := Ideal) x0 x1 x2 (ix2 j k) = ∑ R : Fin 2048, val_main_v0 (F := Ideal) x0 x1 (ix2 R j) * x2 (ix2 R k) := by
  have e : idx_main_v5 (ix2 j k) = ix2 k j := by blk_ext
  have h : val_main_v6 (F := Ideal) x0 x1 x2 (ix2 j k) = val_main_v4 (F := Ideal) x0 x1 x2 (ix2 k j) := by
    rw [val_main_v6_apply, val_main_v5_apply, e]; rfl
  rw [h, val_main_v4_apply]
  refine Finset.sum_congr rfl fun R _ => ?_
  have el : lidx_main_v4 (ix2 k j) R = ix2 R k := by blk_ext
  have er : ridx_main_v4 (ix2 k j) R = ix2 R j := by blk_ext
  rw [el, er, mul_comm]
  rfl

/-- The value claim. -/
theorem algebraic : Cert.algebraic_OutDwIdeal_RefOutDwIdeal := by
  intro m g m' g' _ heq
  refine ⟨fun c => (Gen.dats m 0 c).arrAt 3 (cfgs 0).N, ?_, ?_⟩
  · exact Cert.OutDwIdeal.Value.run_blocks m g
  · refine (θ_run Cert.RefOutDwIdeal.defs _ _).mono (fun r h c => ?_) (Cert.RefOutDwIdeal.Value.run (F := Ideal) m' g')
    obtain ⟨r0, rk⟩ := h c
    obtain ⟨e0, e1, e2⟩ := heq c
    refine ⟨r0.trans ?_, rk⟩
    show _ = (Gen.dats m 0 c).arrAt 3 (cfgs 0).N
    rw [Cert.RefOutDwIdeal.Read.val_main_v6_eq, final, e0, e1, e2]
    funext i
    obtain ⟨j, k, rfl⟩ : ∃ (j : Fin 1024) (k : Fin 1024), i = ix2 j k := ⟨i 0, i 1, by blk_ext⟩
    exact ref_at _ _ _ j k

end Cert.OutDwIdeal.Rows
-- ==== Proof.OutFwdClaim.lean ====
/- The product with w_out and the residual: the call adds the products of the two halves of the mixed rows, the reference takes one product. -/
module
public import proofs.«01_k».proof.Defs
public import proofs.«01_k».proof.Proof.Gen.OutFwdIdeal.Value
public import proofs.«01_k».proof.Proof.Gen.RefOutFwdIdeal.Run
public import proofs.«01_k».proof.Proof.Gen.RefOutFwdIdeal.Read
public import Idealize.ShloMosaic.Lib.Pipeline.ValueKit
public import Idealize.ShloMosaic.Lib.Pipeline.ReadBack
@[expose] public section
set_option maxRecDepth 16384
noncomputable section
namespace Cert.OutFwdIdeal.Rows
open Cert.OutFwdIdeal Cert.OutFwdIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ) (c : Dev nD)

/-- Row `r` of tile `u`. -/
def row (u : ℕ) (r : Fin 512) : Fin 2048 := ⟨(u * 512 + r.val) % 2048, Nat.mod_lt _ (by norm_num)⟩

theorem row_val (t : Fin cfg0.N) (r : Fin 512) : (row t.val r).val = t.val * 512 + r.val := by
  have := t.isLt
  have hN : cfg0.N = 4 := rfl
  have := r.isLt
  show (t.val * 512 + r.val) % 2048 = _
  omega

/-- The argument arrays. -/
def A0 : (⟨2, ![2048, 512]⟩ : Shape).Idx → EReal := m ((c : Thread nD τ).loc main_arg0)
@[inherit_doc A0] def A1 : (⟨2, ![2048, 512]⟩ : Shape).Idx → EReal := m ((c : Thread nD τ).loc main_arg1)
@[inherit_doc A0] def A2 : (⟨2, ![1024, 1024]⟩ : Shape).Idx → EReal := m ((c : Thread nD τ).loc main_arg2)
@[inherit_doc A0] def A3 : (⟨2, ![2048, 1024]⟩ : Shape).Idx → EReal := m ((c : Thread nD τ).loc main_arg3)

/-- The attention's and the convolution module's rows side by side. -/
def M : (⟨2, ![2048, 1024]⟩ : Shape).Idx → EReal := Cert.RefOutFwdIdeal.Read.val_main_v0 (F := Ideal) (m ((c : Thread nD τ).loc main_arg0)) (m ((c : Thread nD τ).loc main_arg1))

/-- Column `k` of the lower and of the upper half. -/
def lo (k : Fin 512) : Fin 1024 := ⟨k.val, by omega⟩
@[inherit_doc lo] def hi (k : Fin 512) : Fin 1024 := ⟨512 + k.val, by omega⟩

theorem M_lo (R : Fin 2048) (k : Fin 512) : M m c (ix2 R (lo k)) = A0 m c (ix2 R k) :=
  concatenate_pair_apply_left 1 _ _ Cert.RefOutFwdIdeal.Gen.concatenates_S2048x512_S2048x512_S2048x1024_d1 _ rfl (ix2 R k) fun b => match b with
    | ⟨0, _⟩ => rfl
    | ⟨1, _⟩ => rfl
theorem M_hi (R : Fin 2048) (k : Fin 512) : M m c (ix2 R (hi k)) = A1 m c (ix2 R k) :=
  concatenate_pair_apply_right 1 _ _ Cert.RefOutFwdIdeal.Gen.concatenates_S2048x512_S2048x512_S2048x1024_d1 _ rfl rfl (ix2 R k) (fun b hb => match b with
    | ⟨0, _⟩ => rfl
    | ⟨1, _⟩ => absurd rfl hb) (Nat.add_comm _ _)

theorem blk0 (t : Fin cfg0.N) (r : Fin 512) (k : Fin 512) : iblk m c 0 t (ix2 r k) = M m c (ix2 (row t.val r) (lo k)) := by
  have := row_val t r; rw [M_lo]; unfold A0; rw [← V_main_arg0 m c]; blk_ext [iblk, idx t]
theorem blk1 (t : Fin cfg0.N) (r : Fin 512) (k : Fin 512) : iblk m c 1 t (ix2 r k) = M m c (ix2 (row t.val r) (hi k)) := by
  have := row_val t r; rw [M_hi]; unfold A1; rw [← V_main_arg1 m c]; blk_ext [iblk, idx t]
theorem blk2_lo (t : Fin cfg0.N) (k : Fin 512) (j : Fin 1024) :
    View.ld (iblk m c 2 t) (Rect.unit ![0, 0] ![512, 1024] inb_S1024x1024_S512x1024_0_0) (ix2 k j) = A2 m c (ix2 (lo k) j) := by
  unfold A2 lo; rw [← V_main_arg2 m c, View.ld_apply]; blk_ext [iblk, idx t] <;> simp [Rect.idx_unit_val]
theorem blk2_hi (t : Fin cfg0.N) (k : Fin 512) (j : Fin 1024) :
    View.ld (iblk m c 2 t) (Rect.unit ![512, 0] ![512, 1024] inb_S1024x1024_S512x1024_512_0) (ix2 k j) = A2 m c (ix2 (hi k) j) := by
  unfold A2 hi; rw [← V_main_arg2 m c, View.ld_apply]; blk_ext [iblk, idx t] <;> simp [Rect.idx_unit_val]
theorem blk3 (t : Fin cfg0.N) (r : Fin 512) (j : Fin 1024) : iblk m c 3 t (ix2 r j) = A3 m c (ix2 (row t.val r) j) := by
  have := row_val t r; unfold A3; rw [← V_main_arg3 m c]; blk_ext [iblk, idx t]

theorem pay_at (d : Vec Ideal S512x1024 .f32) (a0 : Vec Ideal S512x512 .bf16) (b0 : Vec Ideal S512x1024 .bf16) (a1 : Vec Ideal S512x512 .bf16) (b1 : Vec Ideal S512x1024 .bf16)
    (r : Fin 512) (j : Fin 1024) : k0_pay1 d a0 b0 a1 b1 (ix2 r j) = d (ix2 r j) + ∑ k : Fin 512, a0 (ix2 r k) * b0 (ix2 k j) + ∑ k : Fin 512, a1 (ix2 r k) * b1 (ix2 k j) := by
  pointwise [k0_pay1]

/-- A grid point's block is the body's sum over its blocks. -/
theorem out (t : Fin cfg0.N) : out0_4 (iblk m c 0 t) (iblk m c 1 t) (iblk m c 2 t) (iblk m c 3 t) =
    k0_pay1 (iblk m c 3 t) (iblk m c 0 t) (View.ld (iblk m c 2 t) (Rect.unit ![0, 0] ![512, 1024] inb_S1024x1024_S512x1024_0_0))
      (iblk m c 1 t) (View.ld (iblk m c 2 t) (Rect.unit ![512, 0] ![512, 1024] inb_S1024x1024_S512x1024_512_0)) := by
  unfold out0_4; frame_out; rfl

/-- A sum over all columns is the sum over the lower ones and the sum over the upper ones. -/
theorem sum_halves (f : Fin 1024 → EReal) : ∑ k, f (lo k) + ∑ k, f (hi k) = ∑ k, f k :=
  (Fin.sum_univ_add (a := 512) (b := 512) f).symm

/-- The result. -/
theorem final : (dats m 0 c).arrAt 4 (cfgs 0).N = fun i => A3 m c (ix2 (i 0) (i 1)) + ∑ k : Fin 1024, M m c (ix2 (i 0) k) * A2 m c (ix2 k (i 1)) := by
  refine (dats m 0 c).arrAt_eq_of_covers 4 _ (by decide +kernel) fun t _ y => ?_
  blk_simp
  rw [after0_4, out]
  obtain ⟨r, j, rfl⟩ : ∃ r j, y = ix2 r j := ⟨y 0, y 1, by blk_ext⟩
  rw [pay_at]
  have e0 : (((cfg0.win 4).blk t).view.emb (ix2 r j)) 0 = row t.val r := by
    apply Fin.ext; have := row_val t r; blk_simp [idx t]; omega
  have e1 : (((cfg0.win 4).blk t).view.emb (ix2 r j)) 1 = j := by
    apply Fin.ext; blk_simp [idx t]
  rw [e0, e1, blk3, ← sum_halves, add_assoc]
  refine congrArg _ (congrArg₂ (· + ·) (Finset.sum_congr (M := EReal) rfl fun k _ => ?_) (Finset.sum_congr (M := EReal) rfl fun k _ => ?_))
  · rw [blk0, blk2_lo]
  · rw [blk1, blk2_hi]

/-- The reference's result, entry by entry. -/
theorem ref_at (x0 x1 : (⟨⟨2, ![2048, 512]⟩, .bf16⟩ : BufTy).Contents (Elt Ideal)) (x2 : (⟨⟨2, ![1024, 1024]⟩, .bf16⟩ : BufTy).Contents (Elt Ideal))
    (x3 : (⟨⟨2, ![2048, 1024]⟩, .f32⟩ : BufTy).Contents (Elt Ideal)) (R : Fin 2048) (j : Fin 1024) :
    Cert.RefOutFwdIdeal.Read.val_main_v4 (F := Ideal) x0 x1 x2 x3 (ix2 R j)
      = x3 (ix2 R j) + ∑ k : Fin 1024, Cert.RefOutFwdIdeal.Read.val_main_v0 (F := Ideal) x0 x1 (ix2 R k) * x2 (ix2 k j) := by
  have h : Cert.RefOutFwdIdeal.Read.val_main_v4 (F := Ideal) x0 x1 x2 x3 (ix2 R j) = x3 (ix2 R j) + Cert.RefOutFwdIdeal.Read.val_main_v3 (F := Ideal) x0 x1 x2 (ix2 R j) := rfl
  rw [h, Cert.RefOutFwdIdeal.Read.val_main_v3_apply]
  refine congrArg _ (Finset.sum_congr rfl fun k _ => ?_)
  have el : Cert.RefOutFwdIdeal.Read.lidx_main_v3 (ix2 R j) k = ix2 R k := by blk_ext
  have er : Cert.RefOutFwdIdeal.Read.ridx_main_v3 (ix2 R j) k = ix2 k j := by blk_ext
  rw [el, er]
  rfl

/-- The value claim. -/
theorem algebraic : Cert.algebraic_OutFwdIdeal_RefOutFwdIdeal := by
  intro m g m' g' _ heq
  refine ⟨fun c => (Gen.dats m 0 c).arrAt 4 (cfgs 0).N, ?_, ?_⟩
  · exact Cert.OutFwdIdeal.Value.run_blocks m g
  · refine (θ_run Cert.RefOutFwdIdeal.defs _ _).mono (fun r h c => ?_) (Cert.RefOutFwdIdeal.Value.run (F := Ideal) m' g')
    obtain ⟨r0, rk⟩ := h c
    obtain ⟨e0, e1, e2, e3⟩ := heq c
    refine ⟨r0.trans ?_, rk⟩
    show _ = (Gen.dats m 0 c).arrAt 4 (cfgs 0).N
    rw [Cert.RefOutFwdIdeal.Read.val_main_v4_eq, final, e0, e1, e2, e3]
    funext i
    obtain ⟨R, j, rfl⟩ : ∃ (R : Fin 2048) (j : Fin 1024), i = ix2 R j := ⟨i 0, i 1, by blk_ext⟩
    exact ref_at _ _ _ _ R j

end Cert.OutFwdIdeal.Rows
-- ==== Proof.LnValue.lean ====
/- The gradient through the convolution module's layer norm and activation: the row arithmetic over the reals, and what
   the call leaves in its three results. -/
module
public import proofs.«01_k».proof.Proof.UpReal
public import proofs.«01_k».proof.Proof.Gen.LnIdeal.Value
@[expose] public section
set_option maxRecDepth 16384
noncomputable section
namespace Cert.LnIdeal.Rows
open Cert.LnIdeal Cert.LnIdeal.Gen
open Idealize.ShloMosaic Idealize.ShloMosaic.TcCoe Idealize.SL.Sem
open Idealize.ShloMosaic.Pipeline (Dat)
open Cert.UpIdeal.Rows (sum_real eps word_eps rsqrt_pos)

/-- The word of 512. -/
theorem word_512 : Ideal.ofBits .f32 0x44000000#32 = ((512 : ℝ) : EReal) := by
  simp [Ideal.ofBits, Ideal.ieee, -EReal.coe_mul]; norm_num

/-- The word of 1. -/
theorem word_one : Ideal.ofBits .f32 0x3F800000#32 = ((1 : ℝ) : EReal) := Ideal.ofBits_one_f32.trans EReal.coe_one.symm

/-- A quotient by a nonzero real of a real. -/
theorem div_real (a : ℝ) {b : ℝ} (hb : b ≠ 0) : Ideal.div (a : EReal) (b : EReal) = ((a / b : ℝ) : EReal) := by
  rw [Ideal.div_coe hb, ← EReal.coe_mul]; congr 1; ring

theorem div_512 (a : ℝ) : Ideal.div (a : EReal) ((512 : ℝ) : EReal) = ((a / 512 : ℝ) : EReal) := div_real a (by norm_num)

/-- A row less its mean. -/
def cen (x : Fin 512 → ℝ) (j : Fin 512) : ℝ := x j - (∑ k, x k) / 512

/-- The mean square of the centred row, with the small number added. -/
def var (x : Fin 512 → ℝ) : ℝ := (∑ k, cen x k * cen x k) / 512 + eps

theorem var_pos (x : Fin 512 → ℝ) : 0 < var x :=
  add_pos_of_nonneg_of_pos (div_nonneg (Finset.sum_nonneg fun k _ => mul_self_nonneg _) (by norm_num)) word_eps.2

/-- The factor that normalises a row. -/
def rstd (x : Fin 512 → ℝ) : ℝ := (Real.sqrt (var x))⁻¹

/-- The normalised row, scaled and shifted. -/
def lin (x g b : Fin 512 → ℝ) (j : Fin 512) : ℝ := cen x j * rstd x * g j + b j

/-- The sigmoid. -/
def sg (y : ℝ) : ℝ := 1 / (1 + Real.exp (-y))

theorem one_add_exp (y : ℝ) : (1 + Real.exp (-y) : ℝ) ≠ 0 := (add_pos one_pos (Real.exp_pos _)).ne'

/-- The gradient through the activation. -/
def dy (x g b d : Fin 512 → ℝ) (j : Fin 512) : ℝ := d j * (sg (lin x g b j) * (1 + lin x g b j * (1 - sg (lin x g b j))))

/-- The gradient of a row through the layer norm. -/
def dxRow (x g e : Fin 512 → ℝ) (j : Fin 512) : ℝ :=
  rstd x * (e j * g j - (∑ k, e k * g k) / 512 - cen x j * rstd x * ((∑ k, e k * g k * (cen x k * rstd x)) / 512))

section
variable {v0 : Vec Ideal S512x512 .f32} {x : Fin 512 → Fin 512 → ℝ} (hx : ∀ r j, v0 (ix2 r j) = ((x r j : ℝ) : EReal))
include hx

theorem pay6_real (r j : Fin 512) : k0_pay6 (F := Ideal) v0 (ix2 r j) = ((cen (x r) j : ℝ) : EReal) := by
  have h : k0_pay6 (F := Ideal) v0 (ix2 r j) = v0 (ix2 r j) - Ideal.div (∑ k : Fin 512, v0 (ix2 r k)) (Ideal.ofBits .f32 0x44000000#32) := by
    pointwise [k0_pay6]
  rw [h]
  simp only [hx, word_512, sum_real, div_512, ← EReal.coe_sub]
  rfl

theorem pay7_real (r : Fin 512) : k0_pay7 (F := Ideal) v0 (ix2 r 0) = ((rstd (x r) : ℝ) : EReal) := by
  have h : k0_pay7 (F := Ideal) v0 (ix2 r 0) = Ideal.rsqrt (Ideal.div (∑ k : Fin 512, k0_pay6 (F := Ideal) v0 (ix2 r k) * k0_pay6 (F := Ideal) v0 (ix2 r k)) (Ideal.ofBits .f32 0x44000000#32) + Ideal.ofBits .f32 897988541#32) := by
    pointwise [k0_pay7]
  rw [h]
  simp only [pay6_real hx, word_512, word_eps.1, ← EReal.coe_mul, sum_real, div_512, ← EReal.coe_add]
  exact rsqrt_pos (var_pos (x r))

theorem pay8_real (r j : Fin 512) : k0_pay8 (F := Ideal) v0 (ix2 r j) = ((cen (x r) j * rstd (x r) : ℝ) : EReal) := by
  have h : k0_pay8 (F := Ideal) v0 (ix2 r j) = k0_pay6 (F := Ideal) v0 (ix2 r j) * k0_pay7 (F := Ideal) v0 (ix2 r 0) := by
    pointwise [k0_pay8]
  rw [h, pay6_real hx, pay7_real hx, EReal.coe_mul]

section
variable {v17 v20 : Vec Ideal S1x512 .f32} {v30 : Vec Ideal S512x512 .f32} {g b : Fin 512 → ℝ} {d : Fin 512 → Fin 512 → ℝ}
  (hg : ∀ j, v17 (ix2 0 j) = ((g j : ℝ) : EReal)) (hb : ∀ j, v20 (ix2 0 j) = ((b j : ℝ) : EReal)) (hd : ∀ r j, v30 (ix2 r j) = ((d r j : ℝ) : EReal))
include hg hb hd

theorem pay9_real (r j : Fin 512) : k0_pay9 (F := Ideal) v0 v17 v20 v30 (ix2 r j) = ((dy (x r) g b (d r) j : ℝ) : EReal) := by
  have hy : k0_pay8 (F := Ideal) v0 (ix2 r j) * v17 (ix2 0 j) + v20 (ix2 0 j) = ((lin (x r) g b j : ℝ) : EReal) := by
    rw [pay8_real hx, hg, hb, ← EReal.coe_mul, ← EReal.coe_add]; rfl
  have h : ∀ y s : EReal, y = k0_pay8 (F := Ideal) v0 (ix2 r j) * v17 (ix2 0 j) + v20 (ix2 0 j) → s = Ideal.div 1 (1 + Ideal.exp (0 - y)) →
      k0_pay9 (F := Ideal) v0 v17 v20 v30 (ix2 r j) = v30 (ix2 r j) * (s * (1 + y * (1 - s))) := by
    rintro y s rfl rfl
    pointwise [k0_pay9]
  have hs : ((sg (lin (x r) g b j) : ℝ) : EReal) = Ideal.div 1 (1 + Ideal.exp (0 - ((lin (x r) g b j : ℝ) : EReal))) := by
    rw [← EReal.coe_zero, ← EReal.coe_one, ← EReal.coe_sub, Ideal.exp_coe, ← EReal.coe_add, zero_sub, div_real _ (one_add_exp _)]; rfl
  rw [h _ _ hy.symm hs, hd, ← EReal.coe_one]
  simp only [← EReal.coe_mul, ← EReal.coe_sub, ← EReal.coe_add]
  rfl
end

section
variable {v16 v37 : Vec Ideal S512x512 .f32} {yh e : Fin 512 → Fin 512 → ℝ}
  (h37 : ∀ r j, v37 (ix2 r j) = ((e r j : ℝ) : EReal))
include h37

/-- What one tile adds to the gain's gradient. -/
theorem pay4_real {v61 : Vec Ideal S1x512 .f32} {s : Fin 512 → ℝ} (hs : ∀ j, v61 (ix2 0 j) = ((s j : ℝ) : EReal)) (j : Fin 512) :
    k0_pay4 (F := Ideal) (k0_pay8 v0) v37 v61 (ix2 0 j) = ((s j + ∑ r, e r j * (cen (x r) j * rstd (x r)) : ℝ) : EReal) := by
  have h : k0_pay4 (F := Ideal) (k0_pay8 v0) v37 v61 (ix2 0 j) = v61 (ix2 0 j) + ∑ r : Fin 512, v37 (ix2 r j) * k0_pay8 (F := Ideal) v0 (ix2 r j) := by
    pointwise [k0_pay4]
  rw [h]
  simp only [h37, pay8_real hx, hs, ← EReal.coe_mul, sum_real, ← EReal.coe_add]

omit hx in
/-- What one tile adds to the shift's gradient. -/
theorem pay5_real {v68 : Vec Ideal S1x512 .f32} {s : Fin 512 → ℝ} (hs : ∀ j, v68 (ix2 0 j) = ((s j : ℝ) : EReal)) (j : Fin 512) :
    k0_pay5 (F := Ideal) v37 v68 (ix2 0 j) = ((s j + ∑ r, e r j : ℝ) : EReal) := by
  have h : k0_pay5 (F := Ideal) v37 v68 (ix2 0 j) = v68 (ix2 0 j) + ∑ r : Fin 512, v37 (ix2 r j) := by
    pointwise [k0_pay5]
  rw [h]
  simp only [h37, hs, sum_real, ← EReal.coe_add]

variable {v38 : Vec Ideal S1x512 .f32} {g : Fin 512 → ℝ} (hg : ∀ j, v38 (ix2 0 j) = ((g j : ℝ) : EReal))
include hg

theorem pay1_real (r j : Fin 512) : k0_pay1 (F := Ideal) (k0_pay7 v0) (k0_pay8 v0) v37 v38 (ix2 r j) = ((dxRow (x r) g (e r) j : ℝ) : EReal) := by
  have h : k0_pay1 (F := Ideal) (k0_pay7 v0) (k0_pay8 v0) v37 v38 (ix2 r j) = k0_pay7 (F := Ideal) v0 (ix2 r 0) *
      (v37 (ix2 r j) * v38 (ix2 0 j) - Ideal.div (∑ k : Fin 512, v37 (ix2 r k) * v38 (ix2 0 k)) (Ideal.ofBits .f32 0x44000000#32)
        - k0_pay8 (F := Ideal) v0 (ix2 r j) * Ideal.div (∑ k : Fin 512, v37 (ix2 r k) * v38 (ix2 0 k) * k0_pay8 (F := Ideal) v0 (ix2 r k)) (Ideal.ofBits .f32 0x44000000#32)) := by
    pointwise [k0_pay1]
  rw [h]
  simp only [h37, hg, pay7_real hx, pay8_real hx, word_512, ← EReal.coe_mul, sum_real, div_512, ← EReal.coe_sub]
  rfl
end
end

/-- Every window's block at a grid point. -/
theorem idx : ∀ t : Fin cfg0.N, win0_0.index t = ![t.val, 0] ∧ win0_1.index t = ![0, 0] ∧ win0_2.index t = ![0, 0] ∧ win0_3.index t = ![t.val, 1]
    ∧ win0_4.index t = ![t.val, 0] ∧ win0_5.index t = ![0, 0] ∧ win0_6.index t = ![0, 0] :=
  (by decide +kernel : ∀ t : Fin grid0.N, _)

/-- Row `r` of tile `u`. -/
def row (u : ℕ) (r : Fin 512) : Fin 2048 := ⟨(u * 512 + r.val) % 2048, Nat.mod_lt _ (by norm_num)⟩

theorem row_val (t : Fin cfg0.N) (r : Fin 512) : (row t.val r).val = t.val * 512 + r.val := by
  have := t.isLt
  have h8 : cfg0.N = 4 := rfl
  have := r.isLt
  show (t.val * 512 + r.val) % 2048 = _
  omega

/-- The tiles' rows are all rows. -/
theorem sum_rows (f : Fin 2048 → ℝ) : ∑ u ∈ Finset.range 4, ∑ r, f (row u r) = ∑ R, f R := by
  rw [Finset.sum_range, ← Finset.sum_product', ← Equiv.sum_comp (finProdFinEquiv (m := 4) (n := 512)) f]
  refine Finset.sum_congr rfl fun p _ => congrArg f (Fin.ext ?_)
  have := p.1.isLt
  have := p.2.isLt
  show (p.1.val * 512 + p.2.val) % 2048 = p.2.val + 512 * p.1.val
  omega

/-- Column `k` of the half of the incoming gradient that belongs to the convolution module. -/
def hi (k : Fin 512) : Fin 1024 := ⟨512 + k.val, by omega⟩

/-- Row `R`'s part of the shift's gradient, and of the gain's. -/
def dyAt (X D : Fin 2048 → Fin 512 → ℝ) (g b : Fin 512 → ℝ) (R : Fin 2048) : Fin 512 → ℝ := dy (X R) g b (D R)
@[inherit_doc dyAt] def gainRow (X D : Fin 2048 → Fin 512 → ℝ) (g b : Fin 512 → ℝ) (j : Fin 512) (R : Fin 2048) : ℝ := dyAt X D g b R j * (cen (X R) j * rstd (X R))

variable {m : (ℓ : Loc nD τ sig) → Buf (Elt Ideal) ℓ} {c : Dev nD} {X D : Fin 2048 → Fin 512 → ℝ} {g b : Fin 512 → ℝ}

section
variable (h0 : ∀ R k, m ((c : Thread nD τ).loc main_arg0) (ix2 R k) = ((X R k : ℝ) : EReal))
include h0
theorem blk0 (t : Fin cfg0.N) (r k : Fin 512) : iblk m c 0 t (ix2 r k) = ((X (row t.val r) k : ℝ) : EReal) := by
  rw [← h0]; have := row_val t r; blk_ext [iblk, V, idx t]
end
section
variable (h1 : ∀ k, m ((c : Thread nD τ).loc main_arg1) (ix2 0 k) = ((g k : ℝ) : EReal))
include h1
theorem blk1 (t : Fin cfg0.N) (k : Fin 512) : iblk m c 1 t (ix2 0 k) = ((g k : ℝ) : EReal) := by
  rw [← h1]; blk_ext [iblk, V, idx t]
end
section
variable (h2 : ∀ k, m ((c : Thread nD τ).loc main_arg2) (ix2 0 k) = ((b k : ℝ) : EReal))
include h2
theorem blk2 (t : Fin cfg0.N) (k : Fin 512) : iblk m c 2 t (ix2 0 k) = ((b k : ℝ) : EReal) := by
  rw [← h2]; blk_ext [iblk, V, idx t]
end
section
variable (h3 : ∀ R k, m ((c : Thread nD τ).loc main_arg3) (ix2 R (hi k)) = ((D R k : ℝ) : EReal))
include h3
theorem blk3 (t : Fin cfg0.N) (r k : Fin 512) : iblk m c 3 t (ix2 r k) = ((D (row t.val r) k : ℝ) : EReal) := by
  rw [← h3]; unfold hi; have := row_val t r; blk_ext [iblk, V, idx t]
end

/-- What a point leaves in the first result's buffer. -/
theorem out4 (m : (ℓ : Loc nD τ sig) → Buf (Elt Ideal) ℓ) (c : Dev nD) (t : Fin cfg0.N) : (outsAt0 m c t.val t.isLt).1 =
    k0_pay1 (k0_pay7 (iblk m c 0 t)) (k0_pay8 (iblk m c 0 t)) (k0_pay9 (iblk m c 0 t) (iblk m c 1 t) (iblk m c 2 t) (iblk m c 3 t)) (iblk m c 1 t) := by
  by_cases h0 : t.val % 4 = 0
  · rw [outsAt0_A m c t h0]; frame_out
  · rw [outsAt0_B m c t h0]; frame_out

section
variable (h0 : ∀ R k, m ((c : Thread nD τ).loc main_arg0) (ix2 R k) = ((X R k : ℝ) : EReal))
  (h1 : ∀ k, m ((c : Thread nD τ).loc main_arg1) (ix2 0 k) = ((g k : ℝ) : EReal))
  (h2 : ∀ k, m ((c : Thread nD τ).loc main_arg2) (ix2 0 k) = ((b k : ℝ) : EReal))
  (h3 : ∀ R k, m ((c : Thread nD τ).loc main_arg3) (ix2 R (hi k)) = ((D R k : ℝ) : EReal))
include h0 h1 h2 h3

theorem tile_real (t : Fin cfg0.N) (r j : Fin 512) : (k0_pay9 (iblk m c 0 t) (iblk m c 1 t) (iblk m c 2 t) (iblk m c 3 t)) (ix2 r j) = ((dyAt X D g b (row t.val r) j : ℝ) : EReal) :=
  pay9_real (blk0 h0 t) (blk1 h1 t) (blk2 h2 t) (blk3 h3 t) r j

/-- The second and the third result's buffers after point `n`: the sums over the tiles so far. -/
theorem sum56 : ∀ (n : ℕ) (hn : n < cfg0.N), (∀ j : Fin 512,
    (outsAt0 m c n hn).2.1 (ix2 0 j) = ((∑ u ∈ Finset.range (n + 1), ∑ r, gainRow X D g b j (row u r) : ℝ) : EReal))
    ∧ ∀ j : Fin 512, (outsAt0 m c n hn).2.2 (ix2 0 j) = ((∑ u ∈ Finset.range (n + 1), ∑ r, dyAt X D g b (row u r) j : ℝ) : EReal)
  | 0, hn => by
    have e5 : (outsAt0 m c 0 hn).2.1 = k0_pay4 (k0_pay8 (iblk m c 0 ⟨0, hn⟩)) (k0_pay9 (iblk m c 0 ⟨0, hn⟩) (iblk m c 1 ⟨0, hn⟩) (iblk m c 2 ⟨0, hn⟩) (iblk m c 3 ⟨0, hn⟩)) (k0_pay2 : FVec Ideal S1x512 .f32) := by
      rw [show outsAt0 m c 0 hn = _ from outsAt0_A m c ⟨0, hn⟩ (Nat.zero_mod _)]; frame_out
    have e6 : (outsAt0 m c 0 hn).2.2 = k0_pay5 (k0_pay9 (iblk m c 0 ⟨0, hn⟩) (iblk m c 1 ⟨0, hn⟩) (iblk m c 2 ⟨0, hn⟩) (iblk m c 3 ⟨0, hn⟩)) (k0_pay3 : FVec Ideal S1x512 .f32) := by
      rw [show outsAt0 m c 0 hn = _ from outsAt0_A m c ⟨0, hn⟩ (Nat.zero_mod _)]; frame_out
    refine ⟨fun j => ?_, fun j => ?_⟩
    · rw [e5, pay4_real (blk0 h0 ⟨0, hn⟩) (tile_real h0 h1 h2 h3 ⟨0, hn⟩) (s := fun _ => 0) (fun j => by pointwise [k0_pay2]; exact EReal.coe_zero.symm) j]
      simp [gainRow]
    · rw [e6, pay5_real (tile_real h0 h1 h2 h3 ⟨0, hn⟩) (s := fun _ => 0) (fun j => by pointwise [k0_pay3]; exact EReal.coe_zero.symm) j]
      simp
  | n + 1, hn => by
    have hN : cfg0.N = 4 := rfl
    have hm : ¬ (n + 1) % 4 = 0 := by omega
    obtain ⟨i5, i6⟩ := sum56 n (Nat.lt_of_succ_lt hn)
    have e5 : (outsAt0 m c (n + 1) hn).2.1 = k0_pay4 (k0_pay8 (iblk m c 0 ⟨n + 1, hn⟩)) (k0_pay9 (iblk m c 0 ⟨n + 1, hn⟩) (iblk m c 1 ⟨n + 1, hn⟩) (iblk m c 2 ⟨n + 1, hn⟩) (iblk m c 3 ⟨n + 1, hn⟩)) (outsAt0 m c n (Nat.lt_of_succ_lt hn)).2.1 := by
      rw [show outsAt0 m c (n + 1) hn = _ from outsAt0_B m c ⟨n + 1, hn⟩ hm]; frame_out; rfl
    have e6 : (outsAt0 m c (n + 1) hn).2.2 = k0_pay5 (k0_pay9 (iblk m c 0 ⟨n + 1, hn⟩) (iblk m c 1 ⟨n + 1, hn⟩) (iblk m c 2 ⟨n + 1, hn⟩) (iblk m c 3 ⟨n + 1, hn⟩)) (outsAt0 m c n (Nat.lt_of_succ_lt hn)).2.2 := by
      rw [show outsAt0 m c (n + 1) hn = _ from outsAt0_B m c ⟨n + 1, hn⟩ hm]; frame_out; rfl
    refine ⟨fun j => ?_, fun j => ?_⟩
    · rw [e5, pay4_real (blk0 h0 ⟨n + 1, hn⟩) (tile_real h0 h1 h2 h3 ⟨n + 1, hn⟩) i5 j, Finset.sum_range_succ _ (n + 1)]
      rfl
    · rw [e6, pay5_real (tile_real h0 h1 h2 h3 ⟨n + 1, hn⟩) i6 j, Finset.sum_range_succ _ (n + 1)]

/-- The gain's gradient. -/
theorem final5 : (dats m 0 c).arrAt 5 (cfgs 0).N = fun i => ((∑ R, gainRow X D g b (i 1) R : ℝ) : EReal) := by
  refine (dats m 0 c).arrAt_eq_of_after_last 5 t0_3 (by decide +kernel) _ fun j => ?_
  blk_simp
  rw [after0_5]
  obtain ⟨q, rfl⟩ : ∃ q, j = ix2 0 q := ⟨j 1, by blk_ext⟩
  rw [(sum56 h0 h1 h2 h3 _ _).1, ← sum_rows]
  rfl

/-- The shift's gradient. -/
theorem final6 : (dats m 0 c).arrAt 6 (cfgs 0).N = fun i => ((∑ R, dyAt X D g b R (i 1) : ℝ) : EReal) := by
  refine (dats m 0 c).arrAt_eq_of_after_last 6 t0_3 (by decide +kernel) _ fun j => ?_
  blk_simp
  rw [after0_6]
  obtain ⟨q, rfl⟩ : ∃ q, j = ix2 0 q := ⟨j 1, by blk_ext⟩
  rw [(sum56 h0 h1 h2 h3 _ _).2]
  exact congrArg _ (sum_rows (fun R => dyAt X D g b R q))

/-- Every row's gradient. -/
theorem final4 : (dats m 0 c).arrAt 4 (cfgs 0).N = fun i => ((dxRow (X (i 0)) g (dyAt X D g b (i 0)) (i 1) : ℝ) : EReal) := by
  refine (dats m 0 c).arrAt_eq_of_covers 4 _ (by decide +kernel) fun t _ y => ?_
  blk_simp
  rw [after0_4, out4]
  obtain ⟨r, j, rfl⟩ : ∃ r j, y = ix2 r j := ⟨y 0, y 1, by blk_ext⟩
  rw [pay1_real (blk0 h0 t) (tile_real h0 h1 h2 h3 t) (blk1 h1 t)]
  have e0 : (((cfg0.win 4).blk t).view.emb (ix2 r j)) 0 = row t.val r := by
    apply Fin.ext; have := row_val t r; blk_simp [idx t]; omega
  have e1 : (((cfg0.win 4).blk t).view.emb (ix2 r j)) 1 = j := by
    apply Fin.ext; blk_simp [idx t]
  rw [e0, e1]

end
end Cert.LnIdeal.Rows
-- ==== Proof.LnRef.lean ====
/- The reference of the gradient through the layer norm and the activation: with finite arrays its three results are the
   same real numbers as the kernel's. -/
module
public import proofs.«01_k».proof.Proof.LnValue
public import proofs.«01_k».proof.Proof.Gen.RefLnIdeal.Read
@[expose] public section
set_option maxRecDepth 16384
noncomputable section
namespace Cert.RefLnIdeal.Rows
open Cert.RefLnIdeal Cert.RefLnIdeal.Gen Cert.RefLnIdeal.Read
open Idealize.ShloMosaic Idealize.ShloMosaic.TcCoe
open Cert.UpIdeal.Rows (sum_real eps word_eps rsqrt_pos)
open Cert.LnIdeal.Rows

theorem mul_i (a b : EReal) : (FloatOps.mulf (F := Ideal) (φ := .f32) a b) = a * b := rfl
theorem add_i (a b : EReal) : (FloatOps.addf (F := Ideal) (φ := .f32) a b) = a + b := rfl
theorem sub_i (a b : EReal) : (FloatOps.subf (F := Ideal) (φ := .f32) a b) = a - b := rfl
theorem neg_i (a : EReal) : (FloatOps.hostNegf (F := Ideal) (φ := .f32) a) = -a := rfl
theorem div_i (a b : EReal) : (FloatOps.hostDivf (F := Ideal) (φ := .f32) a b) = Ideal.div a b := rfl
theorem rsqrt_i (a : EReal) : (FloatOps.hostUnary (F := Ideal) (φ := .f32) .rsqrt a) = Ideal.rsqrt a := rfl
theorem exp_i (a : EReal) : (FloatOps.hostUnary (F := Ideal) (φ := .f32) .exp a) = Ideal.exp a := rfl
theorem word_i (w : BitVec 32) : (FloatOps.ofBits (F := Ideal) .f32 w) = Ideal.ofBits .f32 w := rfl

/-- The word of −1/2. -/
theorem word_neg_half : Ideal.ofBits .f32 0xBF000000#32 = ((-(1 / 2) : ℝ) : EReal) := by
  simp [Ideal.ofBits, Ideal.ieee, -EReal.coe_mul]; norm_num

/-- A centred row sums to nothing. -/
theorem sum_cen (x : Fin 512 → ℝ) : ∑ k, cen x k = 0 := by
  unfold cen
  rw [Finset.sum_sub_distrib, Finset.sum_const, Finset.card_univ, Fintype.card_fin, nsmul_eq_mul]
  push_cast
  ring

variable {x0 : (⟨S2048x512, .f32⟩ : BufTy).Contents (Elt Ideal)} {x1 x2 : (⟨S1x512, .f32⟩ : BufTy).Contents (Elt Ideal)}
  {x3 : (⟨S2048x1024, .f32⟩ : BufTy).Contents (Elt Ideal)} {X D : Fin 2048 → Fin 512 → ℝ} {g b : Fin 512 → ℝ}

section
variable (h0 : ∀ R j, x0 (ix2 R j) = ((X R j : ℝ) : EReal))
include h0

theorem v5_real (R : Fin 2048) (j : Fin 512) : val_main_v5 x0 (ix2 R j) = ((cen (X R) j : ℝ) : EReal) := by
  have e : idx_main_v4 (ix2 R j) = ix2 R 0 := by blk_ext
  have e' : ∀ k, idx_main_v0 (idx_main_v1 (ix2 R 0)) k = ix2 R k := fun k => by blk_ext
  simp only [val_main_v5_apply, val_main_v4_apply, e, val_main_v3_apply, val_main_v2_apply, val_main_v1_apply, val_main_v0_apply, e', val_main_cst_apply,
    val_main_cst_0_apply, sub_i, div_i, word_i, h0, word_512, Ideal.ofBits_zero_f32, zero_add, sum_real, div_512, ← EReal.coe_sub]
  rfl

theorem v12_real (R : Fin 2048) : val_main_v12 x0 (ix2 R 0) = ((var (X R) : ℝ) : EReal) := by
  have e : ∀ k, idx_main_v7 (idx_main_v8 (ix2 R 0)) k = ix2 R k := fun k => by blk_ext
  simp only [val_main_v12_apply, val_main_v11_apply, val_main_v10_apply, val_main_v9_apply, val_main_v8_apply, val_main_v7_apply, val_main_v6_apply, e,
    val_main_cst_1_apply, val_main_cst_2_apply, val_main_cst_3_apply, mul_i, add_i, div_i, word_i, v5_real h0, word_512, word_eps.1, Ideal.ofBits_zero_f32,
    zero_add, ← EReal.coe_mul, sum_real, div_512, ← EReal.coe_add]
  rfl

theorem v13_real (R : Fin 2048) : val_main_v13 x0 (ix2 R 0) = ((rstd (X R) : ℝ) : EReal) := by
  rw [val_main_v13_apply, v12_real h0, rsqrt_i, rsqrt_pos (var_pos _)]; rfl

theorem v16_real (R : Fin 2048) : val_main_v16 x0 (ix2 R 0) = ((-(1 / 2) * (rstd (X R) / var (X R)) : ℝ) : EReal) := by
  simp only [val_main_v16_apply, val_main_v15_apply, val_main_v14_apply, val_main_cst_4_apply, v13_real h0, v12_real h0, mul_i, div_i, word_i, word_neg_half,
    div_real _ (var_pos _).ne', ← EReal.coe_mul]

theorem v18_real (R : Fin 2048) (j : Fin 512) : val_main_v18 x0 (ix2 R j) = ((cen (X R) j * rstd (X R) : ℝ) : EReal) := by
  have e : idx_main_v17 (ix2 R j) = ix2 R 0 := by blk_ext
  simp only [val_main_v18_apply, val_main_v17_apply, e, v13_real h0, v5_real h0, mul_i, ← EReal.coe_mul]

section
variable (h1 : ∀ j, x1 (ix2 0 j) = ((g j : ℝ) : EReal)) (h2 : ∀ j, x2 (ix2 0 j) = ((b j : ℝ) : EReal))
include h1 h2

theorem v22_real (R : Fin 2048) (j : Fin 512) : val_main_v22 x0 x1 x2 (ix2 R j) = ((lin (X R) g b j : ℝ) : EReal) := by
  have e1 : idx_main_v19 (ix2 R j) = ix2 0 j := by blk_ext
  have e2 : idx_main_v21 (ix2 R j) = ix2 0 j := by blk_ext
  simp only [val_main_v22_apply, val_main_v21_apply, val_main_v20_apply, val_main_v19_apply, e1, e2, h1, h2, v18_real h0, mul_i, add_i, ← EReal.coe_mul, ← EReal.coe_add]
  rfl

theorem sg_real (R : Fin 2048) (j : Fin 512) : val_main_v23_2 x0 x1 x2 (ix2 R j) = ((sg (lin (X R) g b j) : ℝ) : EReal) := by
  simp only [val_main_v23_2_apply, val_main_call0_v4_apply, val_main_call0_v3_apply, val_main_call0_v2_apply, val_main_call0_v1_apply, val_main_call0_v0_apply,
    val_main_call0_cst_apply, val_main_call0_cst_0_apply, v22_real h0 h1 h2, word_i, word_one, neg_i, exp_i, add_i, div_i, ← EReal.coe_neg, Ideal.exp_coe, ← EReal.coe_add,
    div_real _ (one_add_exp _)]
  rfl

variable (h3 : ∀ R j, x3 (ix2 R (hi j)) = ((D R j : ℝ) : EReal))
include h3

/-- The gradient through the activation. -/
theorem v25_real (R : Fin 2048) (j : Fin 512) : val_main_v25 x0 x1 x2 x3 (ix2 R j) = ((dyAt X D g b R j : ℝ) : EReal) := by
  have e : val_main_v24 x3 (ix2 R j) = ((D R j : ℝ) : EReal) := by
    rw [val_main_v24_apply, ← h3]
    congr 1
    unfold hi; blk_ext
  simp only [val_main_v25_apply, val_main_call1_v2_apply, val_main_call1_v1_apply, val_main_call1_v0_apply, val_main_v23_1_apply, val_main_call0_v7_apply,
    val_main_call0_v6_apply, val_main_call0_cst_1_apply, sg_real h0 h1 h2, v22_real h0 h1 h2, e, word_i, word_one, mul_i, add_i, sub_i,
    ← EReal.coe_mul, ← EReal.coe_sub, ← EReal.coe_add]
  unfold dyAt dy
  congr 1
  ring

/-- The shift's gradient. -/
theorem v27_real (j : Fin 512) : val_main_v27 x0 x1 x2 x3 (ix2 0 j) = ((∑ R, dyAt X D g b R j : ℝ) : EReal) := by
  have e : ∀ R, idx_main_v26 (idx_main_v27 (ix2 0 j)) R = ix2 R j := fun R => by blk_ext
  simp only [val_main_v27_apply, val_main_v26_apply, val_main_cst_5_apply, e, v25_real h0 h1 h2 h3, word_i, Ideal.ofBits_zero_f32, zero_add, sum_real]

/-- The gain's gradient. -/
theorem v30_real (j : Fin 512) : val_main_v30 x0 x1 x2 x3 (ix2 0 j) = ((∑ R, gainRow X D g b j R : ℝ) : EReal) := by
  have e : ∀ R, idx_main_v29 (idx_main_v30 (ix2 0 j)) R = ix2 R j := fun R => by blk_ext
  simp only [val_main_v30_apply, val_main_v29_apply, val_main_v28_apply, val_main_cst_6_apply, e, v18_real h0, v25_real h0 h1 h2 h3, mul_i, word_i,
    Ideal.ofBits_zero_f32, zero_add, ← EReal.coe_mul, sum_real]
  exact congrArg _ (Finset.sum_congr rfl fun R _ => mul_comm (cen (X R) j * rstd (X R)) (dyAt X D g b R j))

theorem v32_real (R : Fin 2048) (j : Fin 512) : val_main_v32 x0 x1 x2 x3 (ix2 R j) = ((dyAt X D g b R j * g j : ℝ) : EReal) := by
  have e : idx_main_v31 (ix2 R j) = ix2 0 j := by blk_ext
  simp only [val_main_v32_apply, val_main_v31_apply, e, v25_real h0 h1 h2 h3, h1, mul_i, ← EReal.coe_mul]

/-- The sum over a row that the normalisation's gradient takes, halved, with its factors. -/
theorem v42_real (R : Fin 2048) (j : Fin 512) : val_main_v42 x0 x1 x2 x3 (ix2 R j) = (((∑ k, cen (X R) k * (dyAt X D g b R k * g k))
    * (-(1 / 2) * (rstd (X R) / var (X R))) / 512 : ℝ) : EReal) := by
  have e : ∀ q, idx_main_v41 (idx_main_v42 (ix2 R j)) q = ix2 R 0 := fun q => by blk_ext
  have e' : ∀ k, idx_main_v34 (idx_main_v35 (ix2 R 0)) k = ix2 R k := fun k => by blk_ext
  simp only [val_main_v42_apply, val_main_v41_apply, e, val_main_v40_apply, val_main_v39_apply, val_main_v38_apply, val_main_v35_apply, val_main_v34_apply, e',
    val_main_v33_apply, v32_real h0 h1 h2 h3, val_main_cst_7_apply, val_main_cst_8_apply, val_main_cst_9_apply, v16_real h0, v5_real h0,
    mul_i, div_i, word_i, Ideal.ofBits_zero_f32, word_512, zero_add, ← EReal.coe_mul, sum_real, div_512,
    Finset.univ_unique, Finset.sum_singleton]

/-- A row's gradient before the mean is taken off. -/
def pre (x g e : Fin 512 → ℝ) (j : Fin 512) : ℝ := rstd x * (e j * g j) - cen x j * (rstd x * (rstd x * rstd x)) * ((∑ k, cen x k * (e k * g k)) / 512)

theorem v46_real (R : Fin 2048) (j : Fin 512) : val_main_v46 x0 x1 x2 x3 (ix2 R j) = ((pre (X R) g (dyAt X D g b R) j : ℝ) : EReal) := by
  have e : idx_main_v36 (ix2 R j) = ix2 R 0 := by blk_ext
  simp only [val_main_v46_apply, val_main_v45_apply, val_main_v44_apply, val_main_v43_apply, val_main_v37_apply, val_main_v36_apply, e, v42_real h0 h1 h2 h3,
    v32_real h0 h1 h2 h3, v13_real h0, v5_real h0, mul_i, add_i, ← EReal.coe_mul, ← EReal.coe_add]
  have hq := var_pos (X R)
  have hr : rstd (X R) / var (X R) = rstd (X R) * (rstd (X R) * rstd (X R)) := by
    unfold rstd
    rw [div_eq_mul_inv, ← mul_inv (Real.sqrt _) (Real.sqrt _), Real.mul_self_sqrt hq.le]
  unfold pre
  rw [hr]
  generalize (∑ k, cen (X R) k * (dyAt X D g b R k * g k)) = S
  congr 1
  ring

/-- The rows' gradient. -/
theorem v54_real (R : Fin 2048) (j : Fin 512) : val_main_v54 x0 x1 x2 x3 (ix2 R j) = ((dxRow (X R) g (dyAt X D g b R) j : ℝ) : EReal) := by
  have e : ∀ q, idx_main_v52 (idx_main_v53 (ix2 R j)) q = ix2 R 0 := fun q => by blk_ext
  have e' : ∀ k, idx_main_v48 (idx_main_v49 (ix2 R 0)) k = ix2 R k := fun k => by blk_ext
  simp only [val_main_v54_apply, val_main_v53_apply, val_main_v52_apply, e, val_main_v51_apply, val_main_v50_apply, val_main_v49_apply, val_main_v48_apply, e',
    val_main_v47_apply, v46_real h0 h1 h2 h3, val_main_cst_10_apply, val_main_cst_11_apply, val_main_cst_12_apply, neg_i, add_i, div_i, word_i,
    Ideal.ofBits_zero_f32, word_512, zero_add, ← EReal.coe_neg, sum_real, div_512, ← EReal.coe_add, Finset.univ_unique, Finset.sum_singleton]
  have hs : ∑ k, pre (X R) g (dyAt X D g b R) k = rstd (X R) * ∑ k, dyAt X D g b R k * g k := by
    unfold pre
    rw [Finset.sum_sub_distrib, ← Finset.mul_sum, ← Finset.sum_mul, ← Finset.sum_mul, sum_cen]
    ring
  have ht : ∑ k, dyAt X D g b R k * g k * (cen (X R) k * rstd (X R)) = (∑ k, cen (X R) k * (dyAt X D g b R k * g k)) * rstd (X R) := by
    rw [Finset.sum_mul]; exact Finset.sum_congr rfl fun k _ => by ring
  rw [Finset.sum_neg_distrib, hs]
  unfold pre dxRow
  rw [ht]
  congr 1
  ring

end
end
end Cert.RefLnIdeal.Rows
-- ==== Proof.LnClaim.lean ====
/- The value claim of the gradient through the layer norm and the activation: on finite arrays the call and its
   reference give the same real numbers. -/
module
public import proofs.«01_k».proof.Defs
public import proofs.«01_k».proof.Proof.UpClaim
public import proofs.«01_k».proof.Proof.LnRef
public import proofs.«01_k».proof.Proof.Gen.RefLnIdeal.Run
@[expose] public section
set_option maxRecDepth 16384
noncomputable section
namespace Cert.LnIdeal.Rows
open Idealize.ShloMosaic Idealize.ShloMosaic.TcCoe Idealize.SL.Sem
open Cert.UpIdeal.Rows (real_of_bit)

/-- The side conditions that the precondition's text states. -/
instance pre_facts : Cert.Pre_finite_ln.Facts := ⟨by decide, by decide, by decide, by decide⟩

/-- The arrays' real numbers, where the precondition holds. -/
theorem reals (m : (ℓ : Loc Cert.LnIdeal.nD Cert.LnIdeal.τ Cert.LnIdeal.sig) → Buf (Elt Ideal) ℓ) (h : Cert.Pre_LnIdeal_finite_ln m) (c : Dev Cert.LnIdeal.nD) :
    ∃ (X D : Fin 2048 → Fin 512 → ℝ) (g b : Fin 512 → ℝ), (∀ R k, m ((c : Thread nD τ).loc main_arg0) (ix2 R k) = ((X R k : ℝ) : EReal))
      ∧ (∀ k, m ((c : Thread nD τ).loc main_arg1) (ix2 0 k) = ((g k : ℝ) : EReal)) ∧ (∀ k, m ((c : Thread nD τ).loc main_arg2) (ix2 0 k) = ((b k : ℝ) : EReal))
      ∧ (∀ R k, m ((c : Thread nD τ).loc main_arg3) (ix2 R (hi k)) = ((D R k : ℝ) : EReal)) := by
  obtain ⟨p0, p1, p2, p3⟩ := h c
  exact ⟨fun R k => EReal.toReal (m ((c : Thread nD τ).loc main_arg0) (ix2 R k)), fun R k => EReal.toReal (m ((c : Thread nD τ).loc main_arg3) (ix2 R (hi k))),
    fun k => EReal.toReal (m ((c : Thread nD τ).loc main_arg1) (ix2 0 k)), fun k => EReal.toReal (m ((c : Thread nD τ).loc main_arg2) (ix2 0 k)),
    fun R k => real_of_bit _ (congrFun p0 (ix2 R k)), fun k => real_of_bit _ (congrFun p1 (ix2 0 k)), fun k => real_of_bit _ (congrFun p2 (ix2 0 k)),
    fun R k => real_of_bit _ (congrFun p3 (ix2 R (hi k)))⟩

/-- The value claim. -/
theorem algebraic : Cert.algebraic_LnIdeal_RefLnIdeal_pre_finite_ln := by
  intro m g m' g' hpre heq
  refine ⟨fun c => (Gen.dats m 0 c).arrAt 4 (cfgs 0).N, fun c => (Gen.dats m 0 c).arrAt 5 (cfgs 0).N, fun c => (Gen.dats m 0 c).arrAt 6 (cfgs 0).N, ?_, ?_⟩
  · exact Cert.LnIdeal.Value.run_blocks m g
  · refine (θ_run Cert.RefLnIdeal.defs _ _).mono (fun r h c => ?_) (Cert.RefLnIdeal.Value.run (F := Ideal) m' g')
    obtain ⟨r0, r1, r2, rk⟩ := h c
    obtain ⟨e0, e1, e2, e3⟩ := heq c
    obtain ⟨X, D, gg, b, h0, h1, h2, h3⟩ := reals m hpre c
    refine ⟨r0.trans ?_, r1.trans ?_, r2.trans ?_, rk⟩
    · show _ = (Gen.dats m 0 c).arrAt 4 (cfgs 0).N
      rw [Cert.RefLnIdeal.Read.val_main_v54_eq, final4 h0 h1 h2 h3, e0, e1, e2, e3]
      funext i
      obtain ⟨R, j, rfl⟩ : ∃ (R : Fin 2048) (j : Fin 512), i = ix2 R j := ⟨i 0, i 1, by blk_ext⟩
      exact Cert.RefLnIdeal.Rows.v54_real h0 h1 h2 h3 R j
    · show _ = (Gen.dats m 0 c).arrAt 5 (cfgs 0).N
      rw [Cert.RefLnIdeal.Read.val_main_v30_eq, final5 h0 h1 h2 h3, e0, e1, e2, e3]
      funext i
      obtain ⟨j, rfl⟩ : ∃ (j : Fin 512), i = ix2 0 j := ⟨i 1, by blk_ext⟩
      exact Cert.RefLnIdeal.Rows.v30_real h0 h1 h2 h3 j
    · show _ = (Gen.dats m 0 c).arrAt 6 (cfgs 0).N
      rw [Cert.RefLnIdeal.Read.val_main_v27_eq, final6 h0 h1 h2 h3, e0, e1, e2, e3]
      funext i
      obtain ⟨j, rfl⟩ : ∃ (j : Fin 512), i = ix2 0 j := ⟨i 1, by blk_ext⟩
      exact Cert.RefLnIdeal.Rows.v27_real h0 h1 h2 h3 j

end Cert.LnIdeal.Rows
-- ==== Proof.LnFwdValue.lean ====
/- The convolution module's layer norm and activation, forward: what the call leaves in its two results, and the
   reference's results entry by entry. -/
module
public import proofs.«01_k».proof.Proof.Gen.LnFwdIdeal.Value
public import proofs.«01_k».proof.Proof.Gen.RefLnFwdIdeal.Read
public import Idealize.ShloMosaic.Lib.Pipeline.ValueKit
public import Idealize.ShloMosaic.Lib.Pipeline.ReadBack
@[expose] public section
set_option maxRecDepth 16384
noncomputable section
namespace Cert.LnFwdIdeal.Rows
open Cert.LnFwdIdeal Cert.LnFwdIdeal.Gen
open Idealize.ShloMosaic Idealize.ShloMosaic.TcCoe Idealize.SL.Sem
open Idealize.ShloMosaic.Pipeline (Dat)

/-- A row less its mean. -/
def cen (x : Fin 512 → EReal) (j : Fin 512) : EReal := x j - Ideal.div (∑ k, x k) (Ideal.ofBits .f32 0x44000000#32)

/-- The factor that normalises a row. -/
def rstd (x : Fin 512 → EReal) : EReal := Ideal.rsqrt (Ideal.div (∑ k, cen x k * cen x k) (Ideal.ofBits .f32 0x44000000#32) + Ideal.ofBits .f32 0x358637BD#32)

/-- The normalised row, scaled and shifted. -/
def lin (x g b : Fin 512 → EReal) (j : Fin 512) : EReal := cen x j * rstd x * g j + b j

/-- The activation. -/
def act (y : EReal) : EReal := y * Ideal.div 1 (1 + Ideal.exp (0 - y))

section
variable (x : Vec Ideal S512x512 .f32) (g b : Vec Ideal S1x512 .f32) (r j : Fin 512)

theorem pay2_at : k0_pay2 x g b (ix2 r j) = act (lin (fun k => x (ix2 r k)) (fun k => g (ix2 0 k)) (fun k => b (ix2 0 k)) j) := by
  unfold act lin rstd cen; pointwise [k0_pay2, k0_pay1]

theorem pay3_at : k0_pay3 x g b (ix2 j r) = act (lin (fun k => x (ix2 r k)) (fun k => g (ix2 0 k)) (fun k => b (ix2 0 k)) j) := by
  unfold act lin rstd cen; pointwise [k0_pay3, k0_pay1]
end

/-- Every window's block at a grid point. -/
theorem idx : ∀ t : Fin cfg0.N, win0_0.index t = ![t.val, 0] ∧ win0_1.index t = ![0, 0] ∧ win0_2.index t = ![0, 0] ∧ win0_3.index t = ![t.val, 0] ∧ win0_4.index t = ![0, t.val] :=
  (by decide +kernel : ∀ t : Fin grid0.N, _)

/-- Row `r` of tile `u`. -/
def row (u : ℕ) (r : Fin 512) : Fin 2048 := ⟨(u * 512 + r.val) % 2048, Nat.mod_lt _ (by norm_num)⟩

theorem row_val (t : Fin cfg0.N) (r : Fin 512) : (row t.val r).val = t.val * 512 + r.val := by
  have := t.isLt
  have hN : cfg0.N = 4 := rfl
  have := r.isLt
  show (t.val * 512 + r.val) % 2048 = _
  omega

variable (m : (ℓ : Loc nD τ sig) → Buf (Elt Ideal) ℓ) (c : Dev nD)

/-- The argument arrays. -/
def A0 : (⟨2, ![2048, 512]⟩ : Shape).Idx → EReal := m ((c : Thread nD τ).loc main_arg0)
@[inherit_doc A0] def A1 : (⟨2, ![1, 512]⟩ : Shape).Idx → EReal := m ((c : Thread nD τ).loc main_arg1)
@[inherit_doc A0] def A2 : (⟨2, ![1, 512]⟩ : Shape).Idx → EReal := m ((c : Thread nD τ).loc main_arg2)

/-- One entry of the result. -/
def res (x : (⟨2, ![2048, 512]⟩ : Shape).Idx → EReal) (g b : (⟨2, ![1, 512]⟩ : Shape).Idx → EReal) (R : Fin 2048) (j : Fin 512) : EReal :=
  act (lin (fun k => x (ix2 R k)) (fun k => g (ix2 0 k)) (fun k => b (ix2 0 k)) j)

theorem blk0 (t : Fin cfg0.N) (r k : Fin 512) : iblk m c 0 t (ix2 r k) = A0 m c (ix2 (row t.val r) k) := by
  have := row_val t r; unfold A0; rw [← V_main_arg0 m c]; blk_ext [iblk, idx t]
theorem blk1 (t : Fin cfg0.N) (k : Fin 512) : iblk m c 1 t (ix2 0 k) = A1 m c (ix2 0 k) := by
  unfold A1; rw [← V_main_arg1 m c]; blk_ext [iblk, idx t]
theorem blk2 (t : Fin cfg0.N) (k : Fin 512) : iblk m c 2 t (ix2 0 k) = A2 m c (ix2 0 k) := by
  unfold A2; rw [← V_main_arg2 m c]; blk_ext [iblk, idx t]

/-- What a grid point leaves in its two results' buffers. -/
theorem out3 (t : Fin cfg0.N) : out0_3 (iblk m c 0 t) (iblk m c 1 t) (iblk m c 2 t) = k0_pay2 (iblk m c 0 t) (iblk m c 1 t) (iblk m c 2 t) := by
  unfold out0_3; frame_out
@[inherit_doc out3] theorem out4 (t : Fin cfg0.N) : out0_4 (iblk m c 0 t) (iblk m c 1 t) (iblk m c 2 t) = k0_pay3 (iblk m c 0 t) (iblk m c 1 t) (iblk m c 2 t) := by
  unfold out0_4; frame_out

/-- The result. -/
theorem final3 : (dats m 0 c).arrAt 3 (cfgs 0).N = fun i => res (A0 m c) (A1 m c) (A2 m c) (i 0) (i 1) := by
  refine (dats m 0 c).arrAt_eq_of_covers 3 _ (by decide +kernel) fun t _ y => ?_
  blk_simp
  rw [after0_3, out3]
  obtain ⟨r, j, rfl⟩ : ∃ r j, y = ix2 r j := ⟨y 0, y 1, by blk_ext⟩
  rw [pay2_at]
  have e0 : (((cfg0.win 3).blk t).view.emb (ix2 r j)) 0 = row t.val r := by
    apply Fin.ext; have := row_val t r; blk_simp [idx t]; omega
  have e1 : (((cfg0.win 3).blk t).view.emb (ix2 r j)) 1 = j := by
    apply Fin.ext; blk_simp [idx t]
  rw [e0, e1]
  simp only [blk0, blk1, blk2]
  rfl

/-- The result transposed. -/
theorem final4 : (dats m 0 c).arrAt 4 (cfgs 0).N = fun i => res (A0 m c) (A1 m c) (A2 m c) (i 1) (i 0) := by
  refine (dats m 0 c).arrAt_eq_of_covers 4 _ (by decide +kernel) fun t _ y => ?_
  blk_simp
  rw [after0_4, out4]
  obtain ⟨j, r, rfl⟩ : ∃ j r, y = ix2 j r := ⟨y 0, y 1, by blk_ext⟩
  rw [pay3_at]
  have e0 : (((cfg0.win 4).blk t).view.emb (ix2 j r)) 1 = row t.val r := by
    apply Fin.ext; have := row_val t r; blk_simp [idx t]; omega
  have e1 : (((cfg0.win 4).blk t).view.emb (ix2 j r)) 0 = j := by
    apply Fin.ext; blk_simp [idx t]
  rw [e0, e1]
  simp only [blk0, blk1, blk2]
  rfl

end Cert.LnFwdIdeal.Rows

namespace Cert.RefLnFwdIdeal.Rows
open Cert.RefLnFwdIdeal Cert.RefLnFwdIdeal.Gen Cert.RefLnFwdIdeal.Read
open Idealize.ShloMosaic Idealize.ShloMosaic.TcCoe
open Cert.LnFwdIdeal.Rows (cen rstd lin act res)

theorem mul_i (a b : EReal) : (FloatOps.mulf (F := Ideal) (φ := .f32) a b) = a * b := rfl
theorem add_i (a b : EReal) : (FloatOps.addf (F := Ideal) (φ := .f32) a b) = a + b := rfl
theorem sub_i (a b : EReal) : (FloatOps.subf (F := Ideal) (φ := .f32) a b) = a - b := rfl
theorem neg_i (a : EReal) : (FloatOps.hostNegf (F := Ideal) (φ := .f32) a) = -a := rfl
theorem div_i (a b : EReal) : (FloatOps.hostDivf (F := Ideal) (φ := .f32) a b) = Ideal.div a b := rfl
theorem rsqrt_i (a : EReal) : (FloatOps.hostUnary (F := Ideal) (φ := .f32) .rsqrt a) = Ideal.rsqrt a := rfl
theorem exp_i (a : EReal) : (FloatOps.hostUnary (F := Ideal) (φ := .f32) .exp a) = Ideal.exp a := rfl
theorem word_i (w : BitVec 32) : (FloatOps.ofBits (F := Ideal) .f32 w) = Ideal.ofBits .f32 w := rfl

variable (x0 : (⟨S2048x512, .f32⟩ : BufTy).Contents (Elt Ideal)) (x1 x2 : (⟨S1x512, .f32⟩ : BufTy).Contents (Elt Ideal)) (R : Fin 2048) (j : Fin 512)

theorem v5_at : val_main_v5 x0 (ix2 R j) = cen (fun k => x0 (ix2 R k)) j := by
  have e : idx_main_v4 (ix2 R j) = ix2 R 0 := by blk_ext
  have e' : ∀ k, idx_main_v0 (idx_main_v1 (ix2 R 0)) k = ix2 R k := fun k => by blk_ext
  simp only [val_main_v5_apply, val_main_v4_apply, e, val_main_v3_apply, val_main_v2_apply, val_main_v1_apply, val_main_v0_apply, e', val_main_cst_apply,
    val_main_cst_0_apply, sub_i, div_i, word_i, Ideal.ofBits_zero_f32, zero_add]
  rfl

theorem v13_at : val_main_v13 x0 (ix2 R 0) = rstd (fun k => x0 (ix2 R k)) := by
  have e : ∀ k, idx_main_v7 (idx_main_v8 (ix2 R 0)) k = ix2 R k := fun k => by blk_ext
  simp only [val_main_v13_apply, val_main_v12_apply, val_main_v11_apply, val_main_v10_apply, val_main_v9_apply, val_main_v8_apply, val_main_v7_apply, val_main_v6_apply, e,
    val_main_cst_1_apply, val_main_cst_2_apply, val_main_cst_3_apply, mul_i, add_i, div_i, rsqrt_i, word_i, v5_at, Ideal.ofBits_zero_f32, zero_add]
  rfl

theorem v19_at : val_main_v19 x0 x1 x2 (ix2 R j) = lin (fun k => x0 (ix2 R k)) (fun k => x1 (ix2 0 k)) (fun k => x2 (ix2 0 k)) j := by
  have e0 : idx_main_v14 (ix2 R j) = ix2 R 0 := by blk_ext
  have e1 : idx_main_v16 (ix2 R j) = ix2 0 j := by blk_ext
  have e2 : idx_main_v18 (ix2 R j) = ix2 0 j := by blk_ext
  simp only [val_main_v19_apply, val_main_v18_apply, val_main_v17_apply, val_main_v16_apply, val_main_v15_apply, val_main_v14_apply, e0, e1, e2, v5_at, v13_at, mul_i, add_i]
  rfl

/-- The result, entry by entry. -/
theorem v21_at : val_main_v21 x0 x1 x2 (ix2 R j) = res x0 x1 x2 R j := by
  have h : val_main_v21 x0 x1 x2 (ix2 R j) = val_main_v20 x0 x1 x2 (ix2 R j) := rfl
  rw [h]
  simp only [val_main_v20_apply, val_main_call0_v5_apply, val_main_call0_v4_apply, val_main_call0_v3_apply, val_main_call0_v2_apply, val_main_call0_v1_apply, val_main_call0_v0_apply,
    val_main_call0_cst_apply, val_main_call0_cst_0_apply, v19_at, mul_i, add_i, div_i, exp_i, neg_i, word_i, Ideal.ofBits_one_f32]
  unfold res act
  rw [zero_sub]

/-- The transposed result, entry by entry. -/
theorem v22_at : val_main_v22 x0 x1 x2 (ix2 j R) = res x0 x1 x2 R j := by
  have e : idx_main_v22 (ix2 j R) = ix2 R j := by blk_ext
  rw [val_main_v22_apply, e, v21_at]

end Cert.RefLnFwdIdeal.Rows
-- ==== Proof.LnFwdClaim.lean ====
/- The value claim of the layer norm and activation, forward: the call's tiles of rows are the reference's rows. -/
module
public import proofs.«01_k».proof.Defs
public import proofs.«01_k».proof.Proof.LnFwdValue
public import proofs.«01_k».proof.Proof.Gen.RefLnFwdIdeal.Run
@[expose] public section
set_option maxRecDepth 16384
noncomputable section
namespace Cert.LnFwdIdeal.Rows
open Idealize.ShloMosaic Idealize.ShloMosaic.TcCoe Idealize.SL.Sem

/-- The value claim: the result and its transpose. -/
theorem algebraic : Cert.algebraic_LnFwdIdeal_RefLnFwdIdeal := by
  intro m g m' g' _ heq
  refine ⟨fun c => (Gen.dats m 0 c).arrAt 3 (cfgs 0).N, fun c => (Gen.dats m 0 c).arrAt 4 (cfgs 0).N, ?_, ?_⟩
  · exact Cert.LnFwdIdeal.Value.run_blocks m g
  · refine (θ_run Cert.RefLnFwdIdeal.defs _ _).mono (fun r h c => ?_) (Cert.RefLnFwdIdeal.Value.run (F := Ideal) m' g')
    obtain ⟨r0, r1, rk⟩ := h c
    obtain ⟨e0, e1, e2⟩ := heq c
    refine ⟨r0.trans ?_, r1.trans ?_, rk⟩
    · show _ = (Gen.dats m 0 c).arrAt 3 (cfgs 0).N
      rw [Cert.RefLnFwdIdeal.Read.val_main_v21_eq, final3, e0, e1, e2]
      funext i
      obtain ⟨R, j, rfl⟩ : ∃ (R : Fin 2048) (j : Fin 512), i = ix2 R j := ⟨i 0, i 1, by blk_ext⟩
      exact Cert.RefLnFwdIdeal.Rows.v21_at _ _ _ R j
    · show _ = (Gen.dats m 0 c).arrAt 4 (cfgs 0).N
      rw [Cert.RefLnFwdIdeal.Read.val_main_v22_eq, final4, e0, e1, e2]
      funext i
      obtain ⟨j, R, rfl⟩ : ∃ (j : Fin 512) (R : Fin 2048), i = ix2 j R := ⟨i 0, i 1, by blk_ext⟩
      exact Cert.RefLnFwdIdeal.Rows.v22_at _ _ _ R j

end Cert.LnFwdIdeal.Rows
-- ==== Proof.LossValue.lean ====
/- The loss of one device's example and its gradient: what the call leaves in its two results, and the reference's
   results. -/
module
public import proofs.«01_k».proof.Proof.Gen.LossIdeal.Value
public import proofs.«01_k».proof.Proof.Gen.RefLossIdeal.Read
public import Idealize.ShloMosaic.Lib.Pipeline.ValueKit
public import Idealize.ShloMosaic.Lib.Pipeline.ReadBack
@[expose] public section
set_option maxRecDepth 16384
noncomputable section
namespace Cert.LossIdeal.Rows
open Cert.LossIdeal Cert.LossIdeal.Gen
open Idealize.ShloMosaic Idealize.ShloMosaic.TcCoe Idealize.SL.Sem
open Idealize.ShloMosaic.Pipeline (Dat)

/-- The word of 1/2. -/
theorem word_half : Ideal.ofBits .f32 0x3F000000#32 = ((1 / 2 : ℝ) : EReal) := by
  simp [Ideal.ofBits, Ideal.ieee, -EReal.coe_mul]; norm_num

/-- The word of 2. -/
theorem word_two : Ideal.ofBits .f32 0x40000000#32 = ((2 : ℝ) : EReal) := by
  simp [Ideal.ofBits, Ideal.ieee, -EReal.coe_mul]; norm_num

/-- The word of 1024. -/
theorem word_1024 : Ideal.ofBits .f32 0x44800000#32 = ((1024 : ℝ) : EReal) := by
  simp [Ideal.ofBits, Ideal.ieee, -EReal.coe_mul]; norm_num

/-- The word of 1/1024. -/
theorem word_inv : Ideal.ofBits .f32 0x3A800000#32 = ((1 / 1024 : ℝ) : EReal) := by
  simp [Ideal.ofBits, Ideal.ieee, -EReal.coe_mul]; norm_num

/-- Halving distributes over a sum. -/
theorem half_add (x y : EReal) : Ideal.ofBits .f32 0x3F000000#32 * (x + y) = Ideal.ofBits .f32 0x3F000000#32 * x + Ideal.ofBits .f32 0x3F000000#32 * y := by
  rw [word_half]
  exact EReal.left_distrib_of_nonneg_of_ne_top (EReal.coe_nonneg.mpr (by norm_num)) (EReal.coe_ne_top _) x y

theorem half_sum (n : ℕ) (f : ℕ → EReal) : ∑ u ∈ Finset.range n, Ideal.ofBits .f32 0x3F000000#32 * f u = Ideal.ofBits .f32 0x3F000000#32 * ∑ u ∈ Finset.range n, f u := by
  induction n with
  | zero => simp
  | succ n ih => rw [Finset.sum_range_succ, Finset.sum_range_succ, ih, half_add]

section
variable (a b : Vec Ideal S512x1024 .f32) (r : Fin 512) (j : Fin 1024)

theorem pay2_at : k0_pay2 a b (ix2 r j) = (a (ix2 r j) - b (ix2 r j)) * Ideal.ofBits .f32 0x3A800000#32 := by
  pointwise [k0_pay2, k0_pay1]

theorem pay4_at (s : Vec Ideal S8x128 .f32) (p : Fin 8) (q : Fin 128) : k0_pay4 a b s (ix2 p q) = s (ix2 p q) + Ideal.ofBits .f32 0x3F000000#32 *
    ∑ r : Fin 512, Ideal.div (∑ k : Fin 1024, (a (ix2 r k) - b (ix2 r k)) * (a (ix2 r k) - b (ix2 r k))) (Ideal.ofBits .f32 0x44800000#32) := by
  pointwise [k0_pay4, k0_pay1]
end

/-- Every window's block at a grid point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- Row `r` of tile `u`. -/
def row (u : ℕ) (r : Fin 512) : Fin 2048 := ⟨(u * 512 + r.val) % 2048, Nat.mod_lt _ (by norm_num)⟩

theorem row_val (t : Fin cfg0.N) (r : Fin 512) : (row t.val r).val = t.val * 512 + r.val := by
  have := t.isLt
  have hN : cfg0.N = 4 := rfl
  have := r.isLt
  show (t.val * 512 + r.val) % 2048 = _
  omega

/-- The tiles' rows are all rows. -/
theorem sum_rows (f : Fin 2048 → EReal) : ∑ u ∈ Finset.range 4, ∑ r, f (row u r) = ∑ R, f R := by
  rw [Finset.sum_range, ← Finset.sum_product', ← Equiv.sum_comp (finProdFinEquiv (m := 4) (n := 512)) f]
  refine Finset.sum_congr rfl fun p _ => congrArg f (Fin.ext ?_)
  have := p.1.isLt
  have := p.2.isLt
  show (p.1.val * 512 + p.2.val) % 2048 = p.2.val + 512 * p.1.val
  omega

variable (m : (ℓ : Loc nD τ sig) → Buf (Elt Ideal) ℓ) (c : Dev nD)

/-- The argument arrays. -/
def A0 : (⟨2, ![2048, 1024]⟩ : Shape).Idx → EReal := m ((c : Thread nD τ).loc main_arg0)
@[inherit_doc A0] def A1 : (⟨2, ![2048, 1024]⟩ : Shape).Idx → EReal := m ((c : Thread nD τ).loc main_arg1)

/-- The mean square of a row's error. -/
def err (x y : (⟨2, ![2048, 1024]⟩ : Shape).Idx → EReal) (R : Fin 2048) : EReal :=
  Ideal.div (∑ k : Fin 1024, (x (ix2 R k) - y (ix2 R k)) * (x (ix2 R k) - y (ix2 R k))) (Ideal.ofBits .f32 0x44800000#32)

theorem blk0 (t : Fin cfg0.N) (r : Fin 512) (k : Fin 1024) : iblk m c 0 t (ix2 r k) = A0 m c (ix2 (row t.val r) k) := by
  have := row_val t r; unfold A0; rw [← V_main_arg0 m c]; blk_ext [iblk, idx t]
theorem blk1 (t : Fin cfg0.N) (r : Fin 512) (k : Fin 1024) : iblk m c 1 t (ix2 r k) = A1 m c (ix2 (row t.val r) k) := by
  have := row_val t r; unfold A1; rw [← V_main_arg1 m c]; blk_ext [iblk, idx t]

/-- What a point leaves in the gradient's buffer. -/
theorem out2 (t : Fin cfg0.N) : (outsAt0 m c t.val t.isLt).1 = k0_pay2 (iblk m c 0 t) (iblk m c 1 t) := by
  by_cases h0 : t.val % 4 = 0
  · rw [outsAt0_A m c t h0]; frame_out
  · rw [outsAt0_B m c t h0]; frame_out

/-- What one tile adds to the loss. -/
theorem tile_at (t : Fin cfg0.N) (s : Vec Ideal S8x128 .f32) (p : Fin 8) (q : Fin 128) : k0_pay4 (iblk m c 0 t) (iblk m c 1 t) s (ix2 p q)
    = s (ix2 p q) + Ideal.ofBits .f32 0x3F000000#32 * ∑ r : Fin 512, err (A0 m c) (A1 m c) (row t.val r) := by
  rw [pay4_at]; simp only [blk0, blk1]; rfl

/-- The loss's buffer after point `n`: half the sum over the tiles so far. -/
theorem sum3 : ∀ (n : ℕ) (hn : n < cfg0.N) (p : Fin 8) (q : Fin 128),
    (outsAt0 m c n hn).2 (ix2 p q) = ∑ u ∈ Finset.range (n + 1), Ideal.ofBits .f32 0x3F000000#32 * ∑ r : Fin 512, err (A0 m c) (A1 m c) (row u r)
  | 0, hn, p, q => by
    have e3 : (outsAt0 m c 0 hn).2 = k0_pay4 (iblk m c 0 ⟨0, hn⟩) (iblk m c 1 ⟨0, hn⟩) (k0_pay3 : FVec Ideal S8x128 .f32) := by
      rw [show outsAt0 m c 0 hn = _ from outsAt0_A m c ⟨0, hn⟩ (Nat.zero_mod _)]; frame_out
    have z : (k0_pay3 : FVec Ideal S8x128 .f32) (ix2 p q) = 0 := by pointwise [k0_pay3]
    rw [e3, tile_at m c ⟨0, hn⟩, z, zero_add, Finset.sum_range_one]
  | n + 1, hn, p, q => by
    have hN : cfg0.N = 4 := rfl
    have hm : ¬ (n + 1) % 4 = 0 := by omega
    have e3 : (outsAt0 m c (n + 1) hn).2 = k0_pay4 (iblk m c 0 ⟨n + 1, hn⟩) (iblk m c 1 ⟨n + 1, hn⟩) (outsAt0 m c n (Nat.lt_of_succ_lt hn)).2 := by
      rw [show outsAt0 m c (n + 1) hn = _ from outsAt0_B m c ⟨n + 1, hn⟩ hm]; frame_out; rfl
    rw [e3, tile_at m c ⟨n + 1, hn⟩, sum3 n, Finset.sum_range_succ _ (n + 1)]

/-- The gradient. -/
theorem final2 : (dats m 0 c).arrAt 2 (cfgs 0).N = fun i => (A0 m c (ix2 (i 0) (i 1)) - A1 m c (ix2 (i 0) (i 1))) * Ideal.ofBits .f32 0x3A800000#32 := by
  refine (dats m 0 c).arrAt_eq_of_covers 2 _ (by decide +kernel) fun t _ y => ?_
  blk_simp
  rw [after0_2, out2]
  obtain ⟨r, j, rfl⟩ : ∃ r j, y = ix2 r j := ⟨y 0, y 1, by blk_ext⟩
  rw [pay2_at, blk0, blk1]
  have e0 : (((cfg0.win 2).blk t).view.emb (ix2 r j)) 0 = row t.val r := by
    apply Fin.ext; have := row_val t r; blk_simp [idx t]; omega
  have e1 : (((cfg0.win 2).blk t).view.emb (ix2 r j)) 1 = j := by
    apply Fin.ext; blk_simp [idx t]
  rw [e0, e1]

/-- The loss, in every entry of the tile. -/
theorem final3 : (dats m 0 c).arrAt 3 (cfgs 0).N = fun _ => Ideal.ofBits .f32 0x3F000000#32 * ∑ R, err (A0 m c) (A1 m c) R := by
  refine (dats m 0 c).arrAt_eq_of_after_last 3 t0_3 (by decide +kernel) _ fun j => ?_
  blk_simp
  rw [after0_3]
  obtain ⟨p, q, rfl⟩ : ∃ p q, j = ix2 p q := ⟨j 0, j 1, by blk_ext⟩
  rw [sum3, half_sum]
  exact congrArg _ (sum_rows _)

end Cert.LossIdeal.Rows

namespace Cert.RefLossIdeal.Rows
open Cert.RefLossIdeal Cert.RefLossIdeal.Gen Cert.RefLossIdeal.Read
open Idealize.ShloMosaic Idealize.ShloMosaic.TcCoe
open Cert.LossIdeal.Rows (err word_half word_two word_1024 word_inv)

theorem mul_i (a b : EReal) : (FloatOps.mulf (F := Ideal) (φ := .f32) a b) = a * b := rfl
theorem add_i (a b : EReal) : (FloatOps.addf (F := Ideal) (φ := .f32) a b) = a + b := rfl
theorem sub_i (a b : EReal) : (FloatOps.subf (F := Ideal) (φ := .f32) a b) = a - b := rfl
theorem neg_i (a : EReal) : (FloatOps.hostNegf (F := Ideal) (φ := .f32) a) = -a := rfl
theorem div_i (a b : EReal) : (FloatOps.hostDivf (F := Ideal) (φ := .f32) a b) = Ideal.div a b := rfl
theorem rsqrt_i (a : EReal) : (FloatOps.hostUnary (F := Ideal) (φ := .f32) .rsqrt a) = Ideal.rsqrt a := rfl
theorem exp_i (a : EReal) : (FloatOps.hostUnary (F := Ideal) (φ := .f32) .exp a) = Ideal.exp a := rfl
theorem word_i (w : BitVec 32) : (FloatOps.ofBits (F := Ideal) .f32 w) = Ideal.ofBits .f32 w := rfl

variable (x0 x1 : (⟨S2048x1024, .f32⟩ : BufTy).Contents (Elt Ideal)) (R : Fin 2048) (j : Fin 1024)

/-- The gradient, entry by entry. -/
theorem v14_at : val_main_v14 x0 x1 (ix2 R j) = (x0 (ix2 R j) - x1 (ix2 R j)) * Ideal.ofBits .f32 0x3A800000#32 := by
  have hd : Ideal.div (((1 / 2 : ℝ) : EReal) * ((1 : ℝ) : EReal)) ((1024 : ℝ) : EReal) = ((1 / 2048 : ℝ) : EReal) := by
    rw [← EReal.coe_mul, Ideal.div_coe (by norm_num), ← EReal.coe_mul]; congr 1; norm_num
  simp only [val_main_v14_apply, val_main_v13_apply, val_main_v12_apply, val_main_v11_apply, val_main_v10_apply, val_main_v9_apply, val_main_v3_apply, val_main_v2_apply, val_main_v0_apply,
    val_main_cst_apply, val_main_cst_4_apply, val_main_cst_5_apply, val_main_cst_6_apply, mul_i, sub_i, div_i, word_i, word_half, word_two, word_1024, word_inv, Ideal.ofBits_one_f32]
  rw [← EReal.coe_one, hd, ← mul_assoc, ← EReal.coe_mul, mul_comm]
  congr 2
  norm_num

theorem v6_at (i : S2048.Idx) : val_main_v6 x0 x1 i = err x0 x1 (i 0) := by
  have e : ∀ k, idx_main_v4 i k = ix2 (i 0) k := fun k => by blk_ext
  simp only [val_main_v6_apply, val_main_v5_apply, val_main_v4_apply, val_main_v1_apply, val_main_v0_apply, e, val_main_cst_0_apply, val_main_cst_1_apply, mul_i, sub_i, div_i, word_i,
    Ideal.ofBits_zero_f32, zero_add]
  rfl

/-- A list's index is its one coordinate. -/
def one : S2048.Idx ≃ Fin 2048 where
  toFun i := i 0
  invFun R := ix1 R
  left_inv i := by blk_ext
  right_inv _ := rfl

/-- The loss, in every entry of the tile. -/
theorem v15_at (i : S8x128.Idx) : val_main_v15 x0 x1 i = Ideal.ofBits .f32 0x3F000000#32 * ∑ R, err x0 x1 R := by
  have h : ∑ i : S2048.Idx, val_main_v6 x0 x1 i = ∑ R, err x0 x1 R := by
    rw [← Equiv.sum_comp one (err x0 x1)]
    exact Finset.sum_congr (M := EReal) rfl fun i _ => v6_at x0 x1 i
  rw [val_main_v15_apply, val_main_v8_apply, val_main_v7_apply, val_main_cst_2_apply, val_main_cst_3_apply, mul_i, word_i, word_i, Ideal.ofBits_zero_f32, zero_add, h]

end Cert.RefLossIdeal.Rows
-- ==== Proof.LossClaim.lean ====
/- The value claim of the loss and its gradient: the call's tiles of rows are the reference's rows. -/
module
public import proofs.«01_k».proof.Defs
public import proofs.«01_k».proof.Proof.LossValue
public import proofs.«01_k».proof.Proof.Gen.RefLossIdeal.Run
@[expose] public section
set_option maxRecDepth 16384
noncomputable section
namespace Cert.LossIdeal.Rows
open Idealize.ShloMosaic Idealize.ShloMosaic.TcCoe Idealize.SL.Sem

/-- The value claim: the gradient, and the loss in every entry of its tile. -/
theorem algebraic : Cert.algebraic_LossIdeal_RefLossIdeal := by
  intro m g m' g' _ heq
  refine ⟨fun c => (Gen.dats m 0 c).arrAt 2 (cfgs 0).N, fun c => (Gen.dats m 0 c).arrAt 3 (cfgs 0).N, ?_, ?_⟩
  · exact Cert.LossIdeal.Value.run_blocks m g
  · refine (θ_run Cert.RefLossIdeal.defs _ _).mono (fun r h c => ?_) (Cert.RefLossIdeal.Value.run (F := Ideal) m' g')
    obtain ⟨r0, r1, rk⟩ := h c
    obtain ⟨e0, e1⟩ := heq c
    refine ⟨r0.trans ?_, r1.trans ?_, rk⟩
    · show _ = (Gen.dats m 0 c).arrAt 2 (cfgs 0).N
      rw [Cert.RefLossIdeal.Read.val_main_v14_eq, final2, e0, e1]
      funext i
      obtain ⟨R, j, rfl⟩ : ∃ (R : Fin 2048) (j : Fin 1024), i = ix2 R j := ⟨i 0, i 1, by blk_ext⟩
      exact Cert.RefLossIdeal.Rows.v14_at _ _ R j
    · show _ = (Gen.dats m 0 c).arrAt 3 (cfgs 0).N
      rw [Cert.RefLossIdeal.Read.val_main_v15_eq, final3, e0, e1]
      funext i
      exact Cert.RefLossIdeal.Rows.v15_at _ _ i

end Cert.LossIdeal.Rows
-- ==== Proof.AdamNormClaim.lean ====
/- The optimiser's step at the shape of norm1_g and norm2_g: entry by entry the call's operations are the reference's. -/
module
public import proofs.«01_k».proof.Defs
public import proofs.«01_k».proof.Proof.Gen.AdamNormIdeal.Value
public import proofs.«01_k».proof.Proof.Gen.RefAdamNormIdeal.Run
@[expose] public section
noncomputable section
namespace Cert.AdamNormIdeal.Rows
open Idealize.ShloMosaic Idealize.ShloMosaic.TcCoe Idealize.SL.Sem
open Cert.AdamNormIdeal.Value

/-- The value claim: the update and both moments. -/
theorem algebraic : Cert.algebraic_AdamNormIdeal_RefAdamNormIdeal := by
  intro m g m' g' _ heq
  refine ⟨fun c : Dev nD => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)), Cert.AdamNormIdeal.Value.run m g, ?_⟩
  refine (θ_run Cert.RefAdamNormIdeal.defs _ _).mono (fun r h c => ?_) (Cert.RefAdamNormIdeal.Value.run (F := Ideal) m' g')
  obtain ⟨r0, r1, r2, rk⟩ := h c
  obtain ⟨e0, e1, e2, e3⟩ := heq c
  refine ⟨r0.trans ?_, r1.trans ?_, r2.trans ?_, rk⟩
  · rw [e0, e1, e2, e3]; rfl
  · rw [e1, e2]; rfl
  · rw [e1, e3]; rfl

end Cert.AdamNormIdeal.Rows
-- ==== Proof.AdamQkClaim.lean ====
/- The optimiser's step at the shape of q_norm_g and k_norm_g: entry by entry the call's operations are the reference's. -/
module
public import proofs.«01_k».proof.Defs
public import proofs.«01_k».proof.Proof.Gen.AdamQkIdeal.Value
public import proofs.«01_k».proof.Proof.Gen.RefAdamQkIdeal.Run
@[expose] public section
noncomputable section
namespace Cert.AdamQkIdeal.Rows
open Idealize.ShloMosaic Idealize.ShloMosaic.TcCoe Idealize.SL.Sem
open Cert.AdamQkIdeal.Value

/-- The value claim: the update and both moments. -/
theorem algebraic : Cert.algebraic_AdamQkIdeal_RefAdamQkIdeal := by
  intro m g m' g' _ heq
  refine ⟨fun c : Dev nD => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)), Cert.AdamQkIdeal.Value.run m g, ?_⟩
  refine (θ_run Cert.RefAdamQkIdeal.defs _ _).mono (fun r h c => ?_) (Cert.RefAdamQkIdeal.Value.run (F := Ideal) m' g')
  obtain ⟨r0, r1, r2, rk⟩ := h c
  obtain ⟨e0, e1, e2, e3⟩ := heq c
  refine ⟨r0.trans ?_, r1.trans ?_, r2.trans ?_, rk⟩
  · rw [e0, e1, e2, e3]; rfl
  · rw [e1, e2]; rfl
  · rw [e1, e3]; rfl

end Cert.AdamQkIdeal.Rows
-- ==== Proof.AdamConvWClaim.lean ====
/- The optimiser's step at the shape of conv_dw_w: entry by entry the call's operations are the reference's. -/
module
public import proofs.«01_k».proof.Defs
public import proofs.«01_k».proof.Proof.Gen.AdamConvWIdeal.Value
public import proofs.«01_k».proof.Proof.Gen.RefAdamConvWIdeal.Run
@[expose] public section
noncomputable section
namespace Cert.AdamConvWIdeal.Rows
open Idealize.ShloMosaic Idealize.ShloMosaic.TcCoe Idealize.SL.Sem
open Cert.AdamConvWIdeal.Value

/-- The value claim: the update and both moments. -/
theorem algebraic : Cert.algebraic_AdamConvWIdeal_RefAdamConvWIdeal := by
  intro m g m' g' _ heq
  refine ⟨fun c : Dev nD => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)), Cert.AdamConvWIdeal.Value.run m g, ?_⟩
  refine (θ_run Cert.RefAdamConvWIdeal.defs _ _).mono (fun r h c => ?_) (Cert.RefAdamConvWIdeal.Value.run (F := Ideal) m' g')
  obtain ⟨r0, r1, r2, rk⟩ := h c
  obtain ⟨e0, e1, e2, e3⟩ := heq c
  refine ⟨r0.trans ?_, r1.trans ?_, r2.trans ?_, rk⟩
  · rw [e0, e1, e2, e3]; rfl
  · rw [e1, e2]; rfl
  · rw [e1, e3]; rfl

end Cert.AdamConvWIdeal.Rows
-- ==== Proof.AdamConvBClaim.lean ====
/- The optimiser's step at the shape of conv_dw_b, conv_ln_g and conv_ln_b: entry by entry the call's operations are the reference's. -/
module
public import proofs.«01_k».proof.Defs
public import proofs.«01_k».proof.Proof.Gen.AdamConvBIdeal.Value
public import proofs.«01_k».proof.Proof.Gen.RefAdamConvBIdeal.Run
@[expose] public section
noncomputable section
namespace Cert.AdamConvBIdeal.Rows
open Idealize.ShloMosaic Idealize.ShloMosaic.TcCoe Idealize.SL.Sem
open Cert.AdamConvBIdeal.Value

/-- The value claim: the update and both moments. -/
theorem algebraic : Cert.algebraic_AdamConvBIdeal_RefAdamConvBIdeal := by
  intro m g m' g' _ heq
  refine ⟨fun c : Dev nD => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)), Cert.AdamConvBIdeal.Value.run m g, ?_⟩
  refine (θ_run Cert.RefAdamConvBIdeal.defs _ _).mono (fun r h c => ?_) (Cert.RefAdamConvBIdeal.Value.run (F := Ideal) m' g')
  obtain ⟨r0, r1, r2, rk⟩ := h c
  obtain ⟨e0, e1, e2, e3⟩ := heq c
  refine ⟨r0.trans ?_, r1.trans ?_, r2.trans ?_, rk⟩
  · rw [e0, e1, e2, e3]; rfl
  · rw [e1, e2]; rfl
  · rw [e1, e3]; rfl

end Cert.AdamConvBIdeal.Rows
-- ==== Proof.AdamFfnWClaim.lean ====
/- The optimiser's step at the shape of ffn_dw_w: entry by entry the call's operations are the reference's. -/
module
public import proofs.«01_k».proof.Defs
public import proofs.«01_k».proof.Proof.Gen.AdamFfnWIdeal.Value
public import proofs.«01_k».proof.Proof.Gen.RefAdamFfnWIdeal.Run
@[expose] public section
noncomputable section
namespace Cert.AdamFfnWIdeal.Rows
open Idealize.ShloMosaic Idealize.ShloMosaic.TcCoe Idealize.SL.Sem
open Cert.AdamFfnWIdeal.Value

/-- The value claim: the update and both moments. -/
theorem algebraic : Cert.algebraic_AdamFfnWIdeal_RefAdamFfnWIdeal := by
  intro m g m' g' _ heq
  refine ⟨fun c : Dev nD => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)), Cert.AdamFfnWIdeal.Value.run m g, ?_⟩
  refine (θ_run Cert.RefAdamFfnWIdeal.defs _ _).mono (fun r h c => ?_) (Cert.RefAdamFfnWIdeal.Value.run (F := Ideal) m' g')
  obtain ⟨r0, r1, r2, rk⟩ := h c
  obtain ⟨e0, e1, e2, e3⟩ := heq c
  refine ⟨r0.trans ?_, r1.trans ?_, r2.trans ?_, rk⟩
  · rw [e0, e1, e2, e3]; rfl
  · rw [e1, e2]; rfl
  · rw [e1, e3]; rfl

end Cert.AdamFfnWIdeal.Rows
-- ==== Proof.AdamFfnBClaim.lean ====
/- The optimiser's step at the shape of ffn_dw_b: entry by entry the call's operations are the reference's. -/
module
public import proofs.«01_k».proof.Defs
public import proofs.«01_k».proof.Proof.Gen.AdamFfnBIdeal.Value
public import proofs.«01_k».proof.Proof.Gen.RefAdamFfnBIdeal.Run
@[expose] public section
noncomputable section
namespace Cert.AdamFfnBIdeal.Rows
open Idealize.ShloMosaic Idealize.ShloMosaic.TcCoe Idealize.SL.Sem
open Cert.AdamFfnBIdeal.Value

/-- The value claim: the update and both moments. -/
theorem algebraic : Cert.algebraic_AdamFfnBIdeal_RefAdamFfnBIdeal := by
  intro m g m' g' _ heq
  refine ⟨fun c : Dev nD => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)), Cert.AdamFfnBIdeal.Value.run m g, ?_⟩
  refine (θ_run Cert.RefAdamFfnBIdeal.defs _ _).mono (fun r h c => ?_) (Cert.RefAdamFfnBIdeal.Value.run (F := Ideal) m' g')
  obtain ⟨r0, r1, r2, rk⟩ := h c
  obtain ⟨e0, e1, e2, e3⟩ := heq c
  refine ⟨r0.trans ?_, r1.trans ?_, r2.trans ?_, rk⟩
  · rw [e0, e1, e2, e3]; rfl
  · rw [e1, e2]; rfl
  · rw [e1, e3]; rfl

end Cert.AdamFfnBIdeal.Rows
-- ==== Proof.AdamInValue.lean ====
/- The stacked Adam update of w_in: what a grid point leaves in its four results' buffers, the results as functions of the
   arguments, and the reference's results entry by entry. -/
module
public import proofs.«01_k».proof.Proof.Gen.AdamInIdeal.Value
public import proofs.«01_k».proof.Proof.Gen.RefAdamInIdeal.Read
public import Idealize.ShloMosaic.Lib.Pipeline.ValueKit
public import Idealize.ShloMosaic.Lib.Pipeline.ReadBack
@[expose] public section
set_option maxRecDepth 16384
noncomputable section
namespace Cert.AdamInIdeal.Rows
open Cert.AdamInIdeal Cert.AdamInIdeal.Gen
open Idealize.ShloMosaic Idealize.ShloMosaic.TcCoe Idealize.SL.Sem
open Idealize.ShloMosaic.Pipeline (Dat)

/-- The first moment's step. -/
def mom (a g : EReal) : EReal := Ideal.ofBits .f32 0x3F666666#32 * a + Ideal.ofBits .f32 0x3DCCCCCD#32 * g

/-- The second moment's step. -/
def sq (a g : EReal) : EReal := Ideal.ofBits .f32 0x3F7FBE77#32 * a + Ideal.ofBits .f32 0x3A83126F#32 * (g * g)

/-- The update of a weight. -/
def upd (w a b g : EReal) : EReal := Ideal.ofBits .f32 0xBA83126F#32 * (Ideal.div (Ideal.div (mom a g) (Ideal.ofBits .f32 0x3F26BD02#32))
  (Ideal.sqrt (Ideal.div (sq b g) (Ideal.ofBits .f32 0x3C231ACC#32)) + Ideal.ofBits .f32 0x322BCC77#32) + Ideal.ofBits .f32 0x3C23D70A#32 * w)

section
variable (g : Vec Ideal S256x640 .f32) (w a b : Vec Ideal S1x256x640 .f32) (r : Fin 256) (j : Fin 640)

theorem pay13_at : k0_pay13 g (ix3 0 r j) = g (ix2 r j) := by pointwise [k0_pay13]

theorem pay14_at : k0_pay14 g a (ix2 r j) = mom (a (ix3 0 r j)) (g (ix2 r j)) := by
  unfold mom; pointwise [k0_pay14]

theorem pay15_at : k0_pay15 g b (ix2 r j) = sq (b (ix3 0 r j)) (g (ix2 r j)) := by
  unfold sq; pointwise [k0_pay15]

theorem pay16_at : k0_pay16 g w a b (ix2 r j) = upd (w (ix3 0 r j)) (a (ix3 0 r j)) (b (ix3 0 r j)) (g (ix2 r j)) := by
  unfold upd; rw [← pay14_at, ← pay15_at]; pointwise [k0_pay16]

theorem pay2_at : k0_pay2 (k0_pay14 g a) (ix3 0 r j) = mom (a (ix3 0 r j)) (g (ix2 r j)) := by
  rw [← pay14_at]; pointwise [k0_pay2]

theorem pay3_at : k0_pay3 (k0_pay15 g b) (ix3 0 r j) = sq (b (ix3 0 r j)) (g (ix2 r j)) := by
  rw [← pay15_at]; pointwise [k0_pay3]

theorem pay1_at : k0_pay1 (k0_pay16 g w a b) (ix3 0 r j) = upd (w (ix3 0 r j)) (a (ix3 0 r j)) (b (ix3 0 r j)) (g (ix2 r j)) := by
  rw [← pay16_at]; pointwise [k0_pay1]
end

/-- The block of every stacked window at a grid point. -/
theorem idx : ∀ t : Fin cfg0.N, win0_0.index t = ![t.val / 4, t.val % 4, 0] ∧ win0_1.index t = ![t.val / 4, t.val % 4, 0] ∧ win0_2.index t = ![t.val / 4, t.val % 4, 0]
    ∧ win0_7.index t = ![t.val / 4, t.val % 4, 0] ∧ win0_8.index t = ![t.val / 4, t.val % 4, 0] ∧ win0_9.index t = ![t.val / 4, t.val % 4, 0] ∧ win0_10.index t = ![t.val / 4, t.val % 4, 0] :=
  (by decide +kernel : ∀ t : Fin grid0.N, _)

/-- The block of layer 0's gradient at that layer's points. -/
theorem idx3 : ∀ t : Fin cfg0.N, t.val < 4 → win0_3.index t = ![t.val % 4, 0] :=
  (by decide +kernel : ∀ t : Fin grid0.N, t.val < 4 → win0_3.index t = ![t.val % 4, 0])
/-- The block of layer 1's gradient at that layer's points. -/
theorem idx4 : ∀ t : Fin cfg0.N, t.val / 4 % 4 = 1 → win0_4.index t = ![t.val % 4, 0] :=
  (by decide +kernel : ∀ t : Fin grid0.N, t.val / 4 % 4 = 1 → win0_4.index t = ![t.val % 4, 0])
/-- The block of layer 2's gradient at that layer's points. -/
theorem idx5 : ∀ t : Fin cfg0.N, t.val / 4 % 4 = 2 → win0_5.index t = ![t.val % 4, 0] :=
  (by decide +kernel : ∀ t : Fin grid0.N, t.val / 4 % 4 = 2 → win0_5.index t = ![t.val % 4, 0])
/-- The block of layer 3's gradient at that layer's points. -/
theorem idx6 : ∀ t : Fin cfg0.N, 12 ≤ t.val → win0_6.index t = ![t.val % 4, 0] :=
  (by decide +kernel : ∀ t : Fin grid0.N, 12 ≤ t.val → win0_6.index t = ![t.val % 4, 0])

/-- A grid point's layer, and row `r` of its block. -/
def lay (t : ℕ) : Fin 4 := ⟨t / 4 % 4, Nat.mod_lt _ (by norm_num)⟩
@[inherit_doc lay] def row (t : ℕ) (r : Fin 256) : Fin 1024 := ⟨(t % 4 * 256 + r.val) % 1024, Nat.mod_lt _ (by norm_num)⟩

theorem lay_val (t : Fin cfg0.N) : (lay t.val).val = t.val / 4 := by
  have := t.isLt
  have hN : cfg0.N = 16 := rfl
  show t.val / 4 % 4 = _
  omega

theorem row_val (t : Fin cfg0.N) (r : Fin 256) : (row t.val r).val = t.val % 4 * 256 + r.val := by
  have := r.isLt
  show (t.val % 4 * 256 + r.val) % 1024 = _
  omega

variable (m : (ℓ : Loc nD τ sig) → Buf (Elt Ideal) ℓ) (c : Dev nD)

/-- The weights and the two moments. -/
def W : (⟨3, ![4, 1024, 640]⟩ : Shape).Idx → EReal := m ((c : Thread nD τ).loc main_arg0)
@[inherit_doc W] def M1 : (⟨3, ![4, 1024, 640]⟩ : Shape).Idx → EReal := m ((c : Thread nD τ).loc main_arg5)
@[inherit_doc W] def M2 : (⟨3, ![4, 1024, 640]⟩ : Shape).Idx → EReal := m ((c : Thread nD τ).loc main_arg6)

/-- The gradient of a layer. -/
def G (l : Fin 4) : (⟨2, ![1024, 640]⟩ : Shape).Idx → EReal := match l with
  | 0 => m ((c : Thread nD τ).loc main_arg1)
  | 1 => m ((c : Thread nD τ).loc main_arg2)
  | 2 => m ((c : Thread nD τ).loc main_arg3)
  | 3 => m ((c : Thread nD τ).loc main_arg4)

variable (t : Fin cfg0.N) (r : Fin 256) (j : Fin 640)

theorem blkW : iblk m c 0 t (ix3 0 r j) = W m c (ix3 (lay t.val) (row t.val r) j) := by
  have := row_val t r; have := lay_val t; unfold W; rw [← V_main_arg0 m c]; blk_ext [iblk, idx t]
theorem blkM1 : iblk m c 1 t (ix3 0 r j) = M1 m c (ix3 (lay t.val) (row t.val r) j) := by
  have := row_val t r; have := lay_val t; unfold M1; rw [← V_main_arg5 m c]; blk_ext [iblk, idx t]
theorem blkM2 : iblk m c 2 t (ix3 0 r j) = M2 m c (ix3 (lay t.val) (row t.val r) j) := by
  have := row_val t r; have := lay_val t; unfold M2; rw [← V_main_arg6 m c]; blk_ext [iblk, idx t]
theorem blkG0 (h : t.val < 4) : iblk m c 3 t (ix2 r j) = G m c (lay t.val) (ix2 (row t.val r) j) := by
  have hl : lay t.val = 0 := Fin.ext (by have := lay_val t; have := t.isLt; have hN : cfg0.N = 16 := rfl; show (lay t.val).val = 0; omega)
  have := row_val t r; rw [hl]; show _ = m ((c : Thread nD τ).loc main_arg1) _; rw [← V_main_arg1 m c]; blk_ext [iblk, idx3 t h]
theorem blkG1 (h : t.val / 4 % 4 = 1) : iblk m c 4 t (ix2 r j) = G m c (lay t.val) (ix2 (row t.val r) j) := by
  have hl : lay t.val = 1 := Fin.ext (by have := lay_val t; have := t.isLt; have hN : cfg0.N = 16 := rfl; show (lay t.val).val = 1; omega)
  have := row_val t r; rw [hl]; show _ = m ((c : Thread nD τ).loc main_arg2) _; rw [← V_main_arg2 m c]; blk_ext [iblk, idx4 t h]
theorem blkG2 (h : t.val / 4 % 4 = 2) : iblk m c 5 t (ix2 r j) = G m c (lay t.val) (ix2 (row t.val r) j) := by
  have hl : lay t.val = 2 := Fin.ext (by have := lay_val t; have := t.isLt; have hN : cfg0.N = 16 := rfl; show (lay t.val).val = 2; omega)
  have := row_val t r; rw [hl]; show _ = m ((c : Thread nD τ).loc main_arg3) _; rw [← V_main_arg3 m c]; blk_ext [iblk, idx5 t h]
theorem blkG3 (h : 12 ≤ t.val) : iblk m c 6 t (ix2 r j) = G m c (lay t.val) (ix2 (row t.val r) j) := by
  have hl : lay t.val = 3 := Fin.ext (by have := lay_val t; have := t.isLt; have hN : cfg0.N = 16 := rfl; show (lay t.val).val = 3; omega)
  have := row_val t r; rw [hl]; show _ = m ((c : Thread nD τ).loc main_arg4) _; rw [← V_main_arg4 m c]; blk_ext [iblk, idx6 t h]

/-- What a grid point leaves in its four results' buffers: the layer's gradient, and the step of its blocks. -/
theorem out : ∃ g : Vec Ideal S256x640 .f32, (∀ r j, g (ix2 r j) = G m c (lay t.val) (ix2 (row t.val r) j))
    ∧ (outsAt0 m c t.val t.isLt).1 = k0_pay13 g
    ∧ (outsAt0 m c t.val t.isLt).2.1 = k0_pay1 (k0_pay16 g (iblk m c 0 t) (iblk m c 1 t) (iblk m c 2 t))
    ∧ (outsAt0 m c t.val t.isLt).2.2.1 = k0_pay2 (k0_pay14 g (iblk m c 1 t))
    ∧ (outsAt0 m c t.val t.isLt).2.2.2 = k0_pay3 (k0_pay15 g (iblk m c 2 t)) := by
  have hN : cfg0.N = 16 := rfl
  have := t.isLt
  by_cases h0 : t.val < 4
  · have h1 : ¬t.val / 4 % 4 = 1 := by omega
    have h2 : ¬t.val / 4 % 4 = 2 := by omega
    have h3 : ¬12 ≤ t.val := by omega
    refine ⟨iblk m c 3 t, fun r j => blkG0 m c t r j h0, ?_, ?_, ?_, ?_⟩
    · rw [outsAt0_A m c t h0 h1 h2 h3]; frame_out; try rfl
    · rw [outsAt0_A m c t h0 h1 h2 h3]; frame_out; try rfl
    · rw [outsAt0_A m c t h0 h1 h2 h3]; frame_out; try rfl
    · rw [outsAt0_A m c t h0 h1 h2 h3]; frame_out; try rfl
  by_cases h1 : t.val / 4 % 4 = 1
  · have h2 : ¬t.val / 4 % 4 = 2 := by omega
    have h3 : ¬12 ≤ t.val := by omega
    refine ⟨iblk m c 4 t, fun r j => blkG1 m c t r j h1, ?_, ?_, ?_, ?_⟩
    · rw [outsAt0_B m c t h0 h1 h2 h3]; frame_out; try rfl
    · rw [outsAt0_B m c t h0 h1 h2 h3]; frame_out; try rfl
    · rw [outsAt0_B m c t h0 h1 h2 h3]; frame_out; try rfl
    · rw [outsAt0_B m c t h0 h1 h2 h3]; frame_out; try rfl
  by_cases h2 : t.val / 4 % 4 = 2
  · have h3 : ¬12 ≤ t.val := by omega
    refine ⟨iblk m c 5 t, fun r j => blkG2 m c t r j h2, ?_, ?_, ?_, ?_⟩
    · rw [outsAt0_C m c t h0 h1 h2 h3]; frame_out; try rfl
    · rw [outsAt0_C m c t h0 h1 h2 h3]; frame_out; try rfl
    · rw [outsAt0_C m c t h0 h1 h2 h3]; frame_out; try rfl
    · rw [outsAt0_C m c t h0 h1 h2 h3]; frame_out; try rfl
  have h3 : 12 ≤ t.val := by omega
  refine ⟨iblk m c 6 t, fun r j => blkG3 m c t r j h3, ?_, ?_, ?_, ?_⟩
  · rw [outsAt0_D m c t h0 h1 h2 h3]; frame_out; try rfl
  · rw [outsAt0_D m c t h0 h1 h2 h3]; frame_out; try rfl
  · rw [outsAt0_D m c t h0 h1 h2 h3]; frame_out; try rfl
  · rw [outsAt0_D m c t h0 h1 h2 h3]; frame_out; try rfl

/-- The gradients, stacked. -/
theorem final7 : (dats m 0 c).arrAt 7 (cfgs 0).N = fun i => G m c (i 0) (ix2 (i 1) (i 2)) := by
  refine (dats m 0 c).arrAt_eq_of_covers 7 _ (by decide +kernel) fun t _ y => ?_
  blk_simp
  obtain ⟨g, hg, o0, o1, o2, o3⟩ := out m c t
  rw [after0_7, o0]
  obtain ⟨r, j, rfl⟩ : ∃ r j, y = ix3 0 r j := ⟨y 1, y 2, by blk_ext⟩
  have e0 : (((cfg0.win 7).blk t).view.emb (ix3 0 r j)) 0 = lay t.val := by
    apply Fin.ext; have := lay_val t; blk_simp [idx t]; omega
  have e1 : (((cfg0.win 7).blk t).view.emb (ix3 0 r j)) 1 = row t.val r := by
    apply Fin.ext; have := row_val t r; blk_simp [idx t]; omega
  have e2 : (((cfg0.win 7).blk t).view.emb (ix3 0 r j)) 2 = j := by
    apply Fin.ext; blk_simp [idx t]
  rw [e0, e1, e2, pay13_at, hg]

/-- The updates. -/
theorem final8 : (dats m 0 c).arrAt 8 (cfgs 0).N = fun i => upd (W m c (ix3 (i 0) (i 1) (i 2))) (M1 m c (ix3 (i 0) (i 1) (i 2))) (M2 m c (ix3 (i 0) (i 1) (i 2))) (G m c (i 0) (ix2 (i 1) (i 2))) := by
  refine (dats m 0 c).arrAt_eq_of_covers 8 _ (by decide +kernel) fun t _ y => ?_
  blk_simp
  obtain ⟨g, hg, o0, o1, o2, o3⟩ := out m c t
  rw [after0_8, o1]
  obtain ⟨r, j, rfl⟩ : ∃ r j, y = ix3 0 r j := ⟨y 1, y 2, by blk_ext⟩
  have e0 : (((cfg0.win 8).blk t).view.emb (ix3 0 r j)) 0 = lay t.val := by
    apply Fin.ext; have := lay_val t; blk_simp [idx t]; omega
  have e1 : (((cfg0.win 8).blk t).view.emb (ix3 0 r j)) 1 = row t.val r := by
    apply Fin.ext; have := row_val t r; blk_simp [idx t]; omega
  have e2 : (((cfg0.win 8).blk t).view.emb (ix3 0 r j)) 2 = j := by
    apply Fin.ext; blk_simp [idx t]
  rw [e0, e1, e2, pay1_at, blkW, blkM1, blkM2, hg]

/-- The first moments. -/
theorem final9 : (dats m 0 c).arrAt 9 (cfgs 0).N = fun i => mom (M1 m c (ix3 (i 0) (i 1) (i 2))) (G m c (i 0) (ix2 (i 1) (i 2))) := by
  refine (dats m 0 c).arrAt_eq_of_covers 9 _ (by decide +kernel) fun t _ y => ?_
  blk_simp
  obtain ⟨g, hg, o0, o1, o2, o3⟩ := out m c t
  rw [after0_9, o2]
  obtain ⟨r, j, rfl⟩ : ∃ r j, y = ix3 0 r j := ⟨y 1, y 2, by blk_ext⟩
  have e0 : (((cfg0.win 9).blk t).view.emb (ix3 0 r j)) 0 = lay t.val := by
    apply Fin.ext; have := lay_val t; blk_simp [idx t]; omega
  have e1 : (((cfg0.win 9).blk t).view.emb (ix3 0 r j)) 1 = row t.val r := by
    apply Fin.ext; have := row_val t r; blk_simp [idx t]; omega
  have e2 : (((cfg0.win 9).blk t).view.emb (ix3 0 r j)) 2 = j := by
    apply Fin.ext; blk_simp [idx t]
  rw [e0, e1, e2, pay2_at, blkM1, hg]

/-- The second moments. -/
theorem final10 : (dats m 0 c).arrAt 10 (cfgs 0).N = fun i => sq (M2 m c (ix3 (i 0) (i 1) (i 2))) (G m c (i 0) (ix2 (i 1) (i 2))) := by
  refine (dats m 0 c).arrAt_eq_of_covers 10 _ (by decide +kernel) fun t _ y => ?_
  blk_simp
  obtain ⟨g, hg, o0, o1, o2, o3⟩ := out m c t
  rw [after0_10, o3]
  obtain ⟨r, j, rfl⟩ : ∃ r j, y = ix3 0 r j := ⟨y 1, y 2, by blk_ext⟩
  have e0 : (((cfg0.win 10).blk t).view.emb (ix3 0 r j)) 0 = lay t.val := by
    apply Fin.ext; have := lay_val t; blk_simp [idx t]; omega
  have e1 : (((cfg0.win 10).blk t).view.emb (ix3 0 r j)) 1 = row t.val r := by
    apply Fin.ext; have := row_val t r; blk_simp [idx t]; omega
  have e2 : (((cfg0.win 10).blk t).view.emb (ix3 0 r j)) 2 = j := by
    apply Fin.ext; blk_simp [idx t]
  rw [e0, e1, e2, pay3_at, blkM2, hg]

section
open Cert.RefAdamInIdeal.Read
variable (x0 x5 x6 : (⟨⟨3, ![4, 1024, 640]⟩, .f32⟩ : BufTy).Contents (Elt Ideal)) (x1 x2 x3 x4 : (⟨⟨2, ![1024, 640]⟩, .f32⟩ : BufTy).Contents (Elt Ideal))
  (l : Fin 4) (R : Fin 1024) (j : Fin 640)

theorem v4_0 : val_main_v4 (F := Ideal) x1 x2 x3 x4 (ix3 0 R j) = x1 (ix2 R j) :=
  (concatenate_apply_piece (α := EReal) 0 [⟨Cert.RefAdamInIdeal.S1x1024x640, val_main_v0 (F := Ideal) x1⟩, ⟨Cert.RefAdamInIdeal.S1x1024x640, val_main_v1 (F := Ideal) x2⟩, ⟨Cert.RefAdamInIdeal.S1x1024x640, val_main_v2 (F := Ideal) x3⟩, ⟨Cert.RefAdamInIdeal.S1x1024x640, val_main_v3 (F := Ideal) x4⟩] Cert.RefAdamInIdeal.Facts₀.concatenates_S1x1024x640_S1x1024x640_S1x1024x640_S1x1024x640_S4x1024x640_d0 (ix3 0 R j) 0 (by simp) ⟨3, ![1, 1024, 640]⟩ _ rfl rfl 0 rfl (ix3 0 R j) (fun b hb => match b with
    | ⟨0, _⟩ => absurd rfl hb
    | ⟨1, _⟩ => rfl
    | ⟨2, _⟩ => rfl) rfl).trans ((val_main_v0_apply x1 (ix3 0 R j)).trans (congrArg x1 (by blk_ext)))
theorem v4_1 : val_main_v4 (F := Ideal) x1 x2 x3 x4 (ix3 1 R j) = x2 (ix2 R j) :=
  (concatenate_apply_piece (α := EReal) 0 [⟨Cert.RefAdamInIdeal.S1x1024x640, val_main_v0 (F := Ideal) x1⟩, ⟨Cert.RefAdamInIdeal.S1x1024x640, val_main_v1 (F := Ideal) x2⟩, ⟨Cert.RefAdamInIdeal.S1x1024x640, val_main_v2 (F := Ideal) x3⟩, ⟨Cert.RefAdamInIdeal.S1x1024x640, val_main_v3 (F := Ideal) x4⟩] Cert.RefAdamInIdeal.Facts₀.concatenates_S1x1024x640_S1x1024x640_S1x1024x640_S1x1024x640_S4x1024x640_d0 (ix3 1 R j) 1 (by simp) ⟨3, ![1, 1024, 640]⟩ _ rfl rfl 1 rfl (ix3 0 R j) (fun b hb => match b with
    | ⟨0, _⟩ => absurd rfl hb
    | ⟨1, _⟩ => rfl
    | ⟨2, _⟩ => rfl) rfl).trans ((val_main_v1_apply x2 (ix3 0 R j)).trans (congrArg x2 (by blk_ext)))
theorem v4_2 : val_main_v4 (F := Ideal) x1 x2 x3 x4 (ix3 2 R j) = x3 (ix2 R j) :=
  (concatenate_apply_piece (α := EReal) 0 [⟨Cert.RefAdamInIdeal.S1x1024x640, val_main_v0 (F := Ideal) x1⟩, ⟨Cert.RefAdamInIdeal.S1x1024x640, val_main_v1 (F := Ideal) x2⟩, ⟨Cert.RefAdamInIdeal.S1x1024x640, val_main_v2 (F := Ideal) x3⟩, ⟨Cert.RefAdamInIdeal.S1x1024x640, val_main_v3 (F := Ideal) x4⟩] Cert.RefAdamInIdeal.Facts₀.concatenates_S1x1024x640_S1x1024x640_S1x1024x640_S1x1024x640_S4x1024x640_d0 (ix3 2 R j) 2 (by simp) ⟨3, ![1, 1024, 640]⟩ _ rfl rfl 2 rfl (ix3 0 R j) (fun b hb => match b with
    | ⟨0, _⟩ => absurd rfl hb
    | ⟨1, _⟩ => rfl
    | ⟨2, _⟩ => rfl) rfl).trans ((val_main_v2_apply x3 (ix3 0 R j)).trans (congrArg x3 (by blk_ext)))
theorem v4_3 : val_main_v4 (F := Ideal) x1 x2 x3 x4 (ix3 3 R j) = x4 (ix2 R j) :=
  (concatenate_apply_piece (α := EReal) 0 [⟨Cert.RefAdamInIdeal.S1x1024x640, val_main_v0 (F := Ideal) x1⟩, ⟨Cert.RefAdamInIdeal.S1x1024x640, val_main_v1 (F := Ideal) x2⟩, ⟨Cert.RefAdamInIdeal.S1x1024x640, val_main_v2 (F := Ideal) x3⟩, ⟨Cert.RefAdamInIdeal.S1x1024x640, val_main_v3 (F := Ideal) x4⟩] Cert.RefAdamInIdeal.Facts₀.concatenates_S1x1024x640_S1x1024x640_S1x1024x640_S1x1024x640_S4x1024x640_d0 (ix3 3 R j) 3 (by simp) ⟨3, ![1, 1024, 640]⟩ _ rfl rfl 3 rfl (ix3 0 R j) (fun b hb => match b with
    | ⟨0, _⟩ => absurd rfl hb
    | ⟨1, _⟩ => rfl
    | ⟨2, _⟩ => rfl) rfl).trans ((val_main_v3_apply x4 (ix3 0 R j)).trans (congrArg x4 (by blk_ext)))

theorem v9_at : val_main_v9 (F := Ideal) x1 x2 x3 x4 x5 (ix3 l R j) = mom (x5 (ix3 l R j)) (val_main_v4 (F := Ideal) x1 x2 x3 x4 (ix3 l R j)) := rfl

theorem v15_at : val_main_v15 (F := Ideal) x1 x2 x3 x4 x6 (ix3 l R j) = sq (x6 (ix3 l R j)) (val_main_v4 (F := Ideal) x1 x2 x3 x4 (ix3 l R j)) := rfl

theorem v28_at : val_main_v28 (F := Ideal) x0 x1 x2 x3 x4 x5 x6 (ix3 l R j) = upd (x0 (ix3 l R j)) (x5 (ix3 l R j)) (x6 (ix3 l R j)) (val_main_v4 (F := Ideal) x1 x2 x3 x4 (ix3 l R j)) := rfl

/-- The stacked gradients are the layers' gradients. -/
theorem v4_at : val_main_v4 (F := Ideal) (m ((c : Thread nD τ).loc main_arg1)) (m ((c : Thread nD τ).loc main_arg2)) (m ((c : Thread nD τ).loc main_arg3)) (m ((c : Thread nD τ).loc main_arg4)) (ix3 l R j)
    = G m c l (ix2 R j) := by
  match l with
  | 0 => exact v4_0 _ _ _ _ R j
  | 1 => exact v4_1 _ _ _ _ R j
  | 2 => exact v4_2 _ _ _ _ R j
  | 3 => exact v4_3 _ _ _ _ R j
end

end Cert.AdamInIdeal.Rows
-- ==== Proof.AdamInClaim.lean ====
/- The value claim of the stacked Adam update of w_in. -/
module
public import proofs.«01_k».proof.Defs
public import proofs.«01_k».proof.Proof.AdamInValue
public import proofs.«01_k».proof.Proof.Gen.RefAdamInIdeal.Run
@[expose] public section
set_option maxRecDepth 16384
noncomputable section
namespace Cert.AdamInIdeal.Rows
open Idealize.ShloMosaic Idealize.ShloMosaic.TcCoe Idealize.SL.Sem

/-- The value claim: the stacked gradients, the updates and both moments. -/
theorem algebraic : Cert.algebraic_AdamInIdeal_RefAdamInIdeal := by
  intro m g m' g' _ heq
  refine ⟨fun c => (Gen.dats m 0 c).arrAt 7 (cfgs 0).N, fun c => (Gen.dats m 0 c).arrAt 8 (cfgs 0).N, fun c => (Gen.dats m 0 c).arrAt 9 (cfgs 0).N, fun c => (Gen.dats m 0 c).arrAt 10 (cfgs 0).N, ?_, ?_⟩
  · exact Cert.AdamInIdeal.Value.run_blocks m g
  · refine (θ_run Cert.RefAdamInIdeal.defs _ _).mono (fun r h c => ?_) (Cert.RefAdamInIdeal.Value.run (F := Ideal) m' g')
    obtain ⟨r0, r1, r2, r3, rk⟩ := h c
    obtain ⟨e0, e1, e2, e3, e4, e5, e6⟩ := heq c
    refine ⟨r0.trans ?_, r1.trans ?_, r2.trans ?_, r3.trans ?_, rk⟩
    · show _ = (Gen.dats m 0 c).arrAt 7 (cfgs 0).N
      rw [Cert.RefAdamInIdeal.Read.val_main_v4_eq, final7, e1, e2, e3, e4]
      funext i
      obtain ⟨l, R, j, rfl⟩ : ∃ (l : Fin 4) (R : Fin 1024) (j : Fin 640), i = ix3 l R j := ⟨i 0, i 1, i 2, by blk_ext⟩
      rw [v4_at m c]
      rfl
    · show _ = (Gen.dats m 0 c).arrAt 8 (cfgs 0).N
      rw [Cert.RefAdamInIdeal.Read.val_main_v28_eq, final8, e0, e1, e2, e3, e4, e5, e6]
      funext i
      obtain ⟨l, R, j, rfl⟩ : ∃ (l : Fin 4) (R : Fin 1024) (j : Fin 640), i = ix3 l R j := ⟨i 0, i 1, i 2, by blk_ext⟩
      rw [v28_at, v4_at m c]
      rfl
    · show _ = (Gen.dats m 0 c).arrAt 9 (cfgs 0).N
      rw [Cert.RefAdamInIdeal.Read.val_main_v9_eq, final9, e1, e2, e3, e4, e5]
      funext i
      obtain ⟨l, R, j, rfl⟩ : ∃ (l : Fin 4) (R : Fin 1024) (j : Fin 640), i = ix3 l R j := ⟨i 0, i 1, i 2, by blk_ext⟩
      rw [v9_at, v4_at m c]
      rfl
    · show _ = (Gen.dats m 0 c).arrAt 10 (cfgs 0).N
      rw [Cert.RefAdamInIdeal.Read.val_main_v15_eq, final10, e1, e2, e3, e4, e6]
      funext i
      obtain ⟨l, R, j, rfl⟩ : ∃ (l : Fin 4) (R : Fin 1024) (j : Fin 640), i = ix3 l R j := ⟨i 0, i 1, i 2, by blk_ext⟩
      rw [v15_at, v4_at m c]
      rfl

end Cert.AdamInIdeal.Rows
-- ==== Proof.AdamOutValue.lean ====
/- The stacked Adam update of w_out: what a grid point leaves in its four results' buffers, the results as functions of the
   arguments, and the reference's results entry by entry. -/
module
public import proofs.«01_k».proof.Proof.Gen.AdamOutIdeal.Value
public import proofs.«01_k».proof.Proof.Gen.RefAdamOutIdeal.Read
public import Idealize.ShloMosaic.Lib.Pipeline.ValueKit
public import Idealize.ShloMosaic.Lib.Pipeline.ReadBack
@[expose] public section
set_option maxRecDepth 16384
noncomputable section
namespace Cert.AdamOutIdeal.Rows
open Cert.AdamOutIdeal Cert.AdamOutIdeal.Gen
open Idealize.ShloMosaic Idealize.ShloMosaic.TcCoe Idealize.SL.Sem
open Idealize.ShloMosaic.Pipeline (Dat)

/-- The first moment's step. -/
def mom (a g : EReal) : EReal := Ideal.ofBits .f32 0x3F666666#32 * a + Ideal.ofBits .f32 0x3DCCCCCD#32 * g

/-- The second moment's step. -/
def sq (a g : EReal) : EReal := Ideal.ofBits .f32 0x3F7FBE77#32 * a + Ideal.ofBits .f32 0x3A83126F#32 * (g * g)

/-- The update of a weight. -/
def upd (w a b g : EReal) : EReal := Ideal.ofBits .f32 0xBA83126F#32 * (Ideal.div (Ideal.div (mom a g) (Ideal.ofBits .f32 0x3F26BD02#32))
  (Ideal.sqrt (Ideal.div (sq b g) (Ideal.ofBits .f32 0x3C231ACC#32)) + Ideal.ofBits .f32 0x322BCC77#32) + Ideal.ofBits .f32 0x3C23D70A#32 * w)

section
variable (g : Vec Ideal S256x1024 .f32) (w a b : Vec Ideal S1x256x1024 .f32) (r : Fin 256) (j : Fin 1024)

theorem pay13_at : k0_pay13 g (ix3 0 r j) = g (ix2 r j) := by pointwise [k0_pay13]

theorem pay14_at : k0_pay14 g a (ix2 r j) = mom (a (ix3 0 r j)) (g (ix2 r j)) := by
  unfold mom; pointwise [k0_pay14]

theorem pay15_at : k0_pay15 g b (ix2 r j) = sq (b (ix3 0 r j)) (g (ix2 r j)) := by
  unfold sq; pointwise [k0_pay15]

theorem pay16_at : k0_pay16 g w a b (ix2 r j) = upd (w (ix3 0 r j)) (a (ix3 0 r j)) (b (ix3 0 r j)) (g (ix2 r j)) := by
  unfold upd; rw [← pay14_at, ← pay15_at]; pointwise [k0_pay16]

theorem pay2_at : k0_pay2 (k0_pay14 g a) (ix3 0 r j) = mom (a (ix3 0 r j)) (g (ix2 r j)) := by
  rw [← pay14_at]; pointwise [k0_pay2]

theorem pay3_at : k0_pay3 (k0_pay15 g b) (ix3 0 r j) = sq (b (ix3 0 r j)) (g (ix2 r j)) := by
  rw [← pay15_at]; pointwise [k0_pay3]

theorem pay1_at : k0_pay1 (k0_pay16 g w a b) (ix3 0 r j) = upd (w (ix3 0 r j)) (a (ix3 0 r j)) (b (ix3 0 r j)) (g (ix2 r j)) := by
  rw [← pay16_at]; pointwise [k0_pay1]
end

/-- The block of every stacked window at a grid point. -/
theorem idx : ∀ t : Fin cfg0.N, win0_0.index t = ![t.val, 0, 0] ∧ win0_1.index t = ![t.val, 0, 0] ∧ win0_2.index t = ![t.val, 0, 0]
    ∧ win0_7.index t = ![t.val, 0, 0] ∧ win0_8.index t = ![t.val, 0, 0] ∧ win0_9.index t = ![t.val, 0, 0] ∧ win0_10.index t = ![t.val, 0, 0] :=
  (by decide +kernel : ∀ t : Fin grid0.N, _)

/-- The block of layer 0's gradient at that layer's points. -/
theorem idx3 : ∀ t : Fin cfg0.N, t.val % 4 = 0 → win0_3.index t = ![0, 0] :=
  (by decide +kernel : ∀ t : Fin grid0.N, t.val % 4 = 0 → win0_3.index t = ![0, 0])
/-- The block of layer 1's gradient at that layer's points. -/
theorem idx4 : ∀ t : Fin cfg0.N, t.val % 4 = 1 → win0_4.index t = ![0, 0] :=
  (by decide +kernel : ∀ t : Fin grid0.N, t.val % 4 = 1 → win0_4.index t = ![0, 0])
/-- The block of layer 2's gradient at that layer's points. -/
theorem idx5 : ∀ t : Fin cfg0.N, t.val % 4 = 2 → win0_5.index t = ![0, 0] :=
  (by decide +kernel : ∀ t : Fin grid0.N, t.val % 4 = 2 → win0_5.index t = ![0, 0])
/-- The block of layer 3's gradient at that layer's points. -/
theorem idx6 : ∀ t : Fin cfg0.N, t.val % 4 = 3 → win0_6.index t = ![0, 0] :=
  (by decide +kernel : ∀ t : Fin grid0.N, t.val % 4 = 3 → win0_6.index t = ![0, 0])

/-- A grid point's layer, and row `r` of its block. -/
def lay (t : ℕ) : Fin 4 := ⟨t % 4, Nat.mod_lt _ (by norm_num)⟩
@[inherit_doc lay] def row (t : ℕ) (r : Fin 256) : Fin 256 := ⟨(0 * 256 + r.val) % 256, Nat.mod_lt _ (by norm_num)⟩

theorem lay_val (t : Fin cfg0.N) : (lay t.val).val = t.val := by
  have := t.isLt
  have hN : cfg0.N = 4 := rfl
  show t.val % 4 = _
  omega

theorem row_val (t : Fin cfg0.N) (r : Fin 256) : (row t.val r).val = 0 * 256 + r.val := by
  have := r.isLt
  show (0 * 256 + r.val) % 256 = _
  omega

variable (m : (ℓ : Loc nD τ sig) → Buf (Elt Ideal) ℓ) (c : Dev nD)

/-- The weights and the two moments. -/
def W : (⟨3, ![4, 256, 1024]⟩ : Shape).Idx → EReal := m ((c : Thread nD τ).loc main_arg0)
@[inherit_doc W] def M1 : (⟨3, ![4, 256, 1024]⟩ : Shape).Idx → EReal := m ((c : Thread nD τ).loc main_arg5)
@[inherit_doc W] def M2 : (⟨3, ![4, 256, 1024]⟩ : Shape).Idx → EReal := m ((c : Thread nD τ).loc main_arg6)

/-- The gradient of a layer. -/
def G (l : Fin 4) : (⟨2, ![256, 1024]⟩ : Shape).Idx → EReal := match l with
  | 0 => m ((c : Thread nD τ).loc main_arg1)
  | 1 => m ((c : Thread nD τ).loc main_arg2)
  | 2 => m ((c : Thread nD τ).loc main_arg3)
  | 3 => m ((c : Thread nD τ).loc main_arg4)

variable (t : Fin cfg0.N) (r : Fin 256) (j : Fin 1024)

theorem blkW : iblk m c 0 t (ix3 0 r j) = W m c (ix3 (lay t.val) (row t.val r) j) := by
  have := row_val t r; have := lay_val t; unfold W; rw [← V_main_arg0 m c]; blk_ext [iblk, idx t]
theorem blkM1 : iblk m c 1 t (ix3 0 r j) = M1 m c (ix3 (lay t.val) (row t.val r) j) := by
  have := row_val t r; have := lay_val t; unfold M1; rw [← V_main_arg5 m c]; blk_ext [iblk, idx t]
theorem blkM2 : iblk m c 2 t (ix3 0 r j) = M2 m c (ix3 (lay t.val) (row t.val r) j) := by
  have := row_val t r; have := lay_val t; unfold M2; rw [← V_main_arg6 m c]; blk_ext [iblk, idx t]
theorem blkG0 (h : t.val % 4 = 0) : iblk m c 3 t (ix2 r j) = G m c (lay t.val) (ix2 (row t.val r) j) := by
  have hl : lay t.val = 0 := Fin.ext (by have := lay_val t; have := t.isLt; have hN : cfg0.N = 4 := rfl; show (lay t.val).val = 0; omega)
  have := row_val t r; rw [hl]; show _ = m ((c : Thread nD τ).loc main_arg1) _; rw [← V_main_arg1 m c]; blk_ext [iblk, idx3 t h]
theorem blkG1 (h : t.val % 4 = 1) : iblk m c 4 t (ix2 r j) = G m c (lay t.val) (ix2 (row t.val r) j) := by
  have hl : lay t.val = 1 := Fin.ext (by have := lay_val t; have := t.isLt; have hN : cfg0.N = 4 := rfl; show (lay t.val).val = 1; omega)
  have := row_val t r; rw [hl]; show _ = m ((c : Thread nD τ).loc main_arg2) _; rw [← V_main_arg2 m c]; blk_ext [iblk, idx4 t h]
theorem blkG2 (h : t.val % 4 = 2) : iblk m c 5 t (ix2 r j) = G m c (lay t.val) (ix2 (row t.val r) j) := by
  have hl : lay t.val = 2 := Fin.ext (by have := lay_val t; have := t.isLt; have hN : cfg0.N = 4 := rfl; show (lay t.val).val = 2; omega)
  have := row_val t r; rw [hl]; show _ = m ((c : Thread nD τ).loc main_arg3) _; rw [← V_main_arg3 m c]; blk_ext [iblk, idx5 t h]
theorem blkG3 (h : t.val % 4 = 3) : iblk m c 6 t (ix2 r j) = G m c (lay t.val) (ix2 (row t.val r) j) := by
  have hl : lay t.val = 3 := Fin.ext (by have := lay_val t; have := t.isLt; have hN : cfg0.N = 4 := rfl; show (lay t.val).val = 3; omega)
  have := row_val t r; rw [hl]; show _ = m ((c : Thread nD τ).loc main_arg4) _; rw [← V_main_arg4 m c]; blk_ext [iblk, idx6 t h]

/-- What a grid point leaves in its four results' buffers: the layer's gradient, and the step of its blocks. -/
theorem out : ∃ g : Vec Ideal S256x1024 .f32, (∀ r j, g (ix2 r j) = G m c (lay t.val) (ix2 (row t.val r) j))
    ∧ (outsAt0 m c t.val t.isLt).1 = k0_pay13 g
    ∧ (outsAt0 m c t.val t.isLt).2.1 = k0_pay1 (k0_pay16 g (iblk m c 0 t) (iblk m c 1 t) (iblk m c 2 t))
    ∧ (outsAt0 m c t.val t.isLt).2.2.1 = k0_pay2 (k0_pay14 g (iblk m c 1 t))
    ∧ (outsAt0 m c t.val t.isLt).2.2.2 = k0_pay3 (k0_pay15 g (iblk m c 2 t)) := by
  have hN : cfg0.N = 4 := rfl
  have := t.isLt
  by_cases h0 : t.val % 4 = 0
  · have h1 : ¬t.val % 4 = 1 := by omega
    have h2 : ¬t.val % 4 = 2 := by omega
    have h3 : ¬t.val % 4 = 3 := by omega
    refine ⟨iblk m c 3 t, fun r j => blkG0 m c t r j h0, ?_, ?_, ?_, ?_⟩
    · rw [outsAt0_A m c t h0 h1 h2 h3]; frame_out; try rfl
    · rw [outsAt0_A m c t h0 h1 h2 h3]; frame_out; try rfl
    · rw [outsAt0_A m c t h0 h1 h2 h3]; frame_out; try rfl
    · rw [outsAt0_A m c t h0 h1 h2 h3]; frame_out; try rfl
  by_cases h1 : t.val % 4 = 1
  · have h2 : ¬t.val % 4 = 2 := by omega
    have h3 : ¬t.val % 4 = 3 := by omega
    refine ⟨iblk m c 4 t, fun r j => blkG1 m c t r j h1, ?_, ?_, ?_, ?_⟩
    · rw [outsAt0_B m c t h0 h1 h2 h3]; frame_out; try rfl
    · rw [outsAt0_B m c t h0 h1 h2 h3]; frame_out; try rfl
    · rw [outsAt0_B m c t h0 h1 h2 h3]; frame_out; try rfl
    · rw [outsAt0_B m c t h0 h1 h2 h3]; frame_out; try rfl
  by_cases h2 : t.val % 4 = 2
  · have h3 : ¬t.val % 4 = 3 := by omega
    refine ⟨iblk m c 5 t, fun r j => blkG2 m c t r j h2, ?_, ?_, ?_, ?_⟩
    · rw [outsAt0_C m c t h0 h1 h2 h3]; frame_out; try rfl
    · rw [outsAt0_C m c t h0 h1 h2 h3]; frame_out; try rfl
    · rw [outsAt0_C m c t h0 h1 h2 h3]; frame_out; try rfl
    · rw [outsAt0_C m c t h0 h1 h2 h3]; frame_out; try rfl
  have h3 : t.val % 4 = 3 := by omega
  refine ⟨iblk m c 6 t, fun r j => blkG3 m c t r j h3, ?_, ?_, ?_, ?_⟩
  · rw [outsAt0_D m c t h0 h1 h2 h3]; frame_out; try rfl
  · rw [outsAt0_D m c t h0 h1 h2 h3]; frame_out; try rfl
  · rw [outsAt0_D m c t h0 h1 h2 h3]; frame_out; try rfl
  · rw [outsAt0_D m c t h0 h1 h2 h3]; frame_out; try rfl

/-- The gradients, stacked. -/
theorem final7 : (dats m 0 c).arrAt 7 (cfgs 0).N = fun i => G m c (i 0) (ix2 (i 1) (i 2)) := by
  refine (dats m 0 c).arrAt_eq_of_covers 7 _ (by decide +kernel) fun t _ y => ?_
  blk_simp
  obtain ⟨g, hg, o0, o1, o2, o3⟩ := out m c t
  rw [after0_7, o0]
  obtain ⟨r, j, rfl⟩ : ∃ r j, y = ix3 0 r j := ⟨y 1, y 2, by blk_ext⟩
  have e0 : (((cfg0.win 7).blk t).view.emb (ix3 0 r j)) 0 = lay t.val := by
    apply Fin.ext; have := lay_val t; blk_simp [idx t]; omega
  have e1 : (((cfg0.win 7).blk t).view.emb (ix3 0 r j)) 1 = row t.val r := by
    apply Fin.ext; have := row_val t r; blk_simp [idx t]; omega
  have e2 : (((cfg0.win 7).blk t).view.emb (ix3 0 r j)) 2 = j := by
    apply Fin.ext; blk_simp [idx t]
  rw [e0, e1, e2, pay13_at, hg]

/-- The updates. -/
theorem final8 : (dats m 0 c).arrAt 8 (cfgs 0).N = fun i => upd (W m c (ix3 (i 0) (i 1) (i 2))) (M1 m c (ix3 (i 0) (i 1) (i 2))) (M2 m c (ix3 (i 0) (i 1) (i 2))) (G m c (i 0) (ix2 (i 1) (i 2))) := by
  refine (dats m 0 c).arrAt_eq_of_covers 8 _ (by decide +kernel) fun t _ y => ?_
  blk_simp
  obtain ⟨g, hg, o0, o1, o2, o3⟩ := out m c t
  rw [after0_8, o1]
  obtain ⟨r, j, rfl⟩ : ∃ r j, y = ix3 0 r j := ⟨y 1, y 2, by blk_ext⟩
  have e0 : (((cfg0.win 8).blk t).view.emb (ix3 0 r j)) 0 = lay t.val := by
    apply Fin.ext; have := lay_val t; blk_simp [idx t]; omega
  have e1 : (((cfg0.win 8).blk t).view.emb (ix3 0 r j)) 1 = row t.val r := by
    apply Fin.ext; have := row_val t r; blk_simp [idx t]; omega
  have e2 : (((cfg0.win 8).blk t).view.emb (ix3 0 r j)) 2 = j := by
    apply Fin.ext; blk_simp [idx t]
  rw [e0, e1, e2, pay1_at, blkW, blkM1, blkM2, hg]

/-- The first moments. -/
theorem final9 : (dats m 0 c).arrAt 9 (cfgs 0).N = fun i => mom (M1 m c (ix3 (i 0) (i 1) (i 2))) (G m c (i 0) (ix2 (i 1) (i 2))) := by
  refine (dats m 0 c).arrAt_eq_of_covers 9 _ (by decide +kernel) fun t _ y => ?_
  blk_simp
  obtain ⟨g, hg, o0, o1, o2, o3⟩ := out m c t
  rw [after0_9, o2]
  obtain ⟨r, j, rfl⟩ : ∃ r j, y = ix3 0 r j := ⟨y 1, y 2, by blk_ext⟩
  have e0 : (((cfg0.win 9).blk t).view.emb (ix3 0 r j)) 0 = lay t.val := by
    apply Fin.ext; have := lay_val t; blk_simp [idx t]; omega
  have e1 : (((cfg0.win 9).blk t).view.emb (ix3 0 r j)) 1 = row t.val r := by
    apply Fin.ext; have := row_val t r; blk_simp [idx t]; omega
  have e2 : (((cfg0.win 9).blk t).view.emb (ix3 0 r j)) 2 = j := by
    apply Fin.ext; blk_simp [idx t]
  rw [e0, e1, e2, pay2_at, blkM1, hg]

/-- The second moments. -/
theorem final10 : (dats m 0 c).arrAt 10 (cfgs 0).N = fun i => sq (M2 m c (ix3 (i 0) (i 1) (i 2))) (G m c (i 0) (ix2 (i 1) (i 2))) := by
  refine (dats m 0 c).arrAt_eq_of_covers 10 _ (by decide +kernel) fun t _ y => ?_
  blk_simp
  obtain ⟨g, hg, o0, o1, o2, o3⟩ := out m c t
  rw [after0_10, o3]
  obtain ⟨r, j, rfl⟩ : ∃ r j, y = ix3 0 r j := ⟨y 1, y 2, by blk_ext⟩
  have e0 : (((cfg0.win 10).blk t).view.emb (ix3 0 r j)) 0 = lay t.val := by
    apply Fin.ext; have := lay_val t; blk_simp [idx t]; omega
  have e1 : (((cfg0.win 10).blk t).view.emb (ix3 0 r j)) 1 = row t.val r := by
    apply Fin.ext; have := row_val t r; blk_simp [idx t]; omega
  have e2 : (((cfg0.win 10).blk t).view.emb (ix3 0 r j)) 2 = j := by
    apply Fin.ext; blk_simp [idx t]
  rw [e0, e1, e2, pay3_at, blkM2, hg]

section
open Cert.RefAdamOutIdeal.Read
variable (x0 x5 x6 : (⟨⟨3, ![4, 256, 1024]⟩, .f32⟩ : BufTy).Contents (Elt Ideal)) (x1 x2 x3 x4 : (⟨⟨2, ![256, 1024]⟩, .f32⟩ : BufTy).Contents (Elt Ideal))
  (l : Fin 4) (R : Fin 256) (j : Fin 1024)

theorem v4_0 : val_main_v4 (F := Ideal) x1 x2 x3 x4 (ix3 0 R j) = x1 (ix2 R j) :=
  (concatenate_apply_piece (α := EReal) 0 [⟨Cert.RefAdamOutIdeal.S1x256x1024, val_main_v0 (F := Ideal) x1⟩, ⟨Cert.RefAdamOutIdeal.S1x256x1024, val_main_v1 (F := Ideal) x2⟩, ⟨Cert.RefAdamOutIdeal.S1x256x1024, val_main_v2 (F := Ideal) x3⟩, ⟨Cert.RefAdamOutIdeal.S1x256x1024, val_main_v3 (F := Ideal) x4⟩] Cert.RefAdamOutIdeal.Facts₀.concatenates_S1x256x1024_S1x256x1024_S1x256x1024_S1x256x1024_S4x256x1024_d0 (ix3 0 R j) 0 (by simp) ⟨3, ![1, 256, 1024]⟩ _ rfl rfl 0 rfl (ix3 0 R j) (fun b hb => match b with
    | ⟨0, _⟩ => absurd rfl hb
    | ⟨1, _⟩ => rfl
    | ⟨2, _⟩ => rfl) rfl).trans ((val_main_v0_apply x1 (ix3 0 R j)).trans (congrArg x1 (by blk_ext)))
theorem v4_1 : val_main_v4 (F := Ideal) x1 x2 x3 x4 (ix3 1 R j) = x2 (ix2 R j) :=
  (concatenate_apply_piece (α := EReal) 0 [⟨Cert.RefAdamOutIdeal.S1x256x1024, val_main_v0 (F := Ideal) x1⟩, ⟨Cert.RefAdamOutIdeal.S1x256x1024, val_main_v1 (F := Ideal) x2⟩, ⟨Cert.RefAdamOutIdeal.S1x256x1024, val_main_v2 (F := Ideal) x3⟩, ⟨Cert.RefAdamOutIdeal.S1x256x1024, val_main_v3 (F := Ideal) x4⟩] Cert.RefAdamOutIdeal.Facts₀.concatenates_S1x256x1024_S1x256x1024_S1x256x1024_S1x256x1024_S4x256x1024_d0 (ix3 1 R j) 1 (by simp) ⟨3, ![1, 256, 1024]⟩ _ rfl rfl 1 rfl (ix3 0 R j) (fun b hb => match b with
    | ⟨0, _⟩ => absurd rfl hb
    | ⟨1, _⟩ => rfl
    | ⟨2, _⟩ => rfl) rfl).trans ((val_main_v1_apply x2 (ix3 0 R j)).trans (congrArg x2 (by blk_ext)))
theorem v4_2 : val_main_v4 (F := Ideal) x1 x2 x3 x4 (ix3 2 R j) = x3 (ix2 R j) :=
  (concatenate_apply_piece (α := EReal) 0 [⟨Cert.RefAdamOutIdeal.S1x256x1024, val_main_v0 (F := Ideal) x1⟩, ⟨Cert.RefAdamOutIdeal.S1x256x1024, val_main_v1 (F := Ideal) x2⟩, ⟨Cert.RefAdamOutIdeal.S1x256x1024, val_main_v2 (F := Ideal) x3⟩, ⟨Cert.RefAdamOutIdeal.S1x256x1024, val_main_v3 (F := Ideal) x4⟩] Cert.RefAdamOutIdeal.Facts₀.concatenates_S1x256x1024_S1x256x1024_S1x256x1024_S1x256x1024_S4x256x1024_d0 (ix3 2 R j) 2 (by simp) ⟨3, ![1, 256, 1024]⟩ _ rfl rfl 2 rfl (ix3 0 R j) (fun b hb => match b with
    | ⟨0, _⟩ => absurd rfl hb
    | ⟨1, _⟩ => rfl
    | ⟨2, _⟩ => rfl) rfl).trans ((val_main_v2_apply x3 (ix3 0 R j)).trans (congrArg x3 (by blk_ext)))
theorem v4_3 : val_main_v4 (F := Ideal) x1 x2 x3 x4 (ix3 3 R j) = x4 (ix2 R j) :=
  (concatenate_apply_piece (α := EReal) 0 [⟨Cert.RefAdamOutIdeal.S1x256x1024, val_main_v0 (F := Ideal) x1⟩, ⟨Cert.RefAdamOutIdeal.S1x256x1024, val_main_v1 (F := Ideal) x2⟩, ⟨Cert.RefAdamOutIdeal.S1x256x1024, val_main_v2 (F := Ideal) x3⟩, ⟨Cert.RefAdamOutIdeal.S1x256x1024, val_main_v3 (F := Ideal) x4⟩] Cert.RefAdamOutIdeal.Facts₀.concatenates_S1x256x1024_S1x256x1024_S1x256x1024_S1x256x1024_S4x256x1024_d0 (ix3 3 R j) 3 (by simp) ⟨3, ![1, 256, 1024]⟩ _ rfl rfl 3 rfl (ix3 0 R j) (fun b hb => match b with
    | ⟨0, _⟩ => absurd rfl hb
    | ⟨1, _⟩ => rfl
    | ⟨2, _⟩ => rfl) rfl).trans ((val_main_v3_apply x4 (ix3 0 R j)).trans (congrArg x4 (by blk_ext)))

theorem v9_at : val_main_v9 (F := Ideal) x1 x2 x3 x4 x5 (ix3 l R j) = mom (x5 (ix3 l R j)) (val_main_v4 (F := Ideal) x1 x2 x3 x4 (ix3 l R j)) := rfl

theorem v15_at : val_main_v15 (F := Ideal) x1 x2 x3 x4 x6 (ix3 l R j) = sq (x6 (ix3 l R j)) (val_main_v4 (F := Ideal) x1 x2 x3 x4 (ix3 l R j)) := rfl

theorem v28_at : val_main_v28 (F := Ideal) x0 x1 x2 x3 x4 x5 x6 (ix3 l R j) = upd (x0 (ix3 l R j)) (x5 (ix3 l R j)) (x6 (ix3 l R j)) (val_main_v4 (F := Ideal) x1 x2 x3 x4 (ix3 l R j)) := rfl

/-- The stacked gradients are the layers' gradients. -/
theorem v4_at : val_main_v4 (F := Ideal) (m ((c : Thread nD τ).loc main_arg1)) (m ((c : Thread nD τ).loc main_arg2)) (m ((c : Thread nD τ).loc main_arg3)) (m ((c : Thread nD τ).loc main_arg4)) (ix3 l R j)
    = G m c l (ix2 R j) := by
  match l with
  | 0 => exact v4_0 _ _ _ _ R j
  | 1 => exact v4_1 _ _ _ _ R j
  | 2 => exact v4_2 _ _ _ _ R j
  | 3 => exact v4_3 _ _ _ _ R j
end

end Cert.AdamOutIdeal.Rows
-- ==== Proof.AdamOutClaim.lean ====
/- The value claim of the stacked Adam update of w_out. -/
module
public import proofs.«01_k».proof.Defs
public import proofs.«01_k».proof.Proof.AdamOutValue
public import proofs.«01_k».proof.Proof.Gen.RefAdamOutIdeal.Run
@[expose] public section
set_option maxRecDepth 16384
noncomputable section
namespace Cert.AdamOutIdeal.Rows
open Idealize.ShloMosaic Idealize.ShloMosaic.TcCoe Idealize.SL.Sem

/-- The value claim: the stacked gradients, the updates and both moments. -/
theorem algebraic : Cert.algebraic_AdamOutIdeal_RefAdamOutIdeal := by
  intro m g m' g' _ heq
  refine ⟨fun c => (Gen.dats m 0 c).arrAt 7 (cfgs 0).N, fun c => (Gen.dats m 0 c).arrAt 8 (cfgs 0).N, fun c => (Gen.dats m 0 c).arrAt 9 (cfgs 0).N, fun c => (Gen.dats m 0 c).arrAt 10 (cfgs 0).N, ?_, ?_⟩
  · exact Cert.AdamOutIdeal.Value.run_blocks m g
  · refine (θ_run Cert.RefAdamOutIdeal.defs _ _).mono (fun r h c => ?_) (Cert.RefAdamOutIdeal.Value.run (F := Ideal) m' g')
    obtain ⟨r0, r1, r2, r3, rk⟩ := h c
    obtain ⟨e0, e1, e2, e3, e4, e5, e6⟩ := heq c
    refine ⟨r0.trans ?_, r1.trans ?_, r2.trans ?_, r3.trans ?_, rk⟩
    · show _ = (Gen.dats m 0 c).arrAt 7 (cfgs 0).N
      rw [Cert.RefAdamOutIdeal.Read.val_main_v4_eq, final7, e1, e2, e3, e4]
      funext i
      obtain ⟨l, R, j, rfl⟩ : ∃ (l : Fin 4) (R : Fin 256) (j : Fin 1024), i = ix3 l R j := ⟨i 0, i 1, i 2, by blk_ext⟩
      rw [v4_at m c]
      rfl
    · show _ = (Gen.dats m 0 c).arrAt 8 (cfgs 0).N
      rw [Cert.RefAdamOutIdeal.Read.val_main_v28_eq, final8, e0, e1, e2, e3, e4, e5, e6]
      funext i
      obtain ⟨l, R, j, rfl⟩ : ∃ (l : Fin 4) (R : Fin 256) (j : Fin 1024), i = ix3 l R j := ⟨i 0, i 1, i 2, by blk_ext⟩
      rw [v28_at, v4_at m c]
      rfl
    · show _ = (Gen.dats m 0 c).arrAt 9 (cfgs 0).N
      rw [Cert.RefAdamOutIdeal.Read.val_main_v9_eq, final9, e1, e2, e3, e4, e5]
      funext i
      obtain ⟨l, R, j, rfl⟩ : ∃ (l : Fin 4) (R : Fin 256) (j : Fin 1024), i = ix3 l R j := ⟨i 0, i 1, i 2, by blk_ext⟩
      rw [v9_at, v4_at m c]
      rfl
    · show _ = (Gen.dats m 0 c).arrAt 10 (cfgs 0).N
      rw [Cert.RefAdamOutIdeal.Read.val_main_v15_eq, final10, e1, e2, e3, e4, e6]
      funext i
      obtain ⟨l, R, j, rfl⟩ : ∃ (l : Fin 4) (R : Fin 256) (j : Fin 1024), i = ix3 l R j := ⟨i 0, i 1, i 2, by blk_ext⟩
      rw [v15_at, v4_at m c]
      rfl

end Cert.AdamOutIdeal.Rows
-- ==== Proof.AdamUpValue.lean ====
/- The stacked Adam update of w_up: what a grid point leaves in its four results' buffers, the results as functions of the
   arguments, and the reference's results entry by entry. -/
module
public import proofs.«01_k».proof.Proof.Gen.AdamUpIdeal.Value
public import proofs.«01_k».proof.Proof.Gen.RefAdamUpIdeal.Read
public import Idealize.ShloMosaic.Lib.Pipeline.ValueKit
public import Idealize.ShloMosaic.Lib.Pipeline.ReadBack
@[expose] public section
set_option maxRecDepth 16384
noncomputable section
namespace Cert.AdamUpIdeal.Rows
open Cert.AdamUpIdeal Cert.AdamUpIdeal.Gen
open Idealize.ShloMosaic Idealize.ShloMosaic.TcCoe Idealize.SL.Sem
open Idealize.ShloMosaic.Pipeline (Dat)

/-- The first moment's step. -/
def mom (a g : EReal) : EReal := Ideal.ofBits .f32 0x3F666666#32 * a + Ideal.ofBits .f32 0x3DCCCCCD#32 * g

/-- The second moment's step. -/
def sq (a g : EReal) : EReal := Ideal.ofBits .f32 0x3F7FBE77#32 * a + Ideal.ofBits .f32 0x3A83126F#32 * (g * g)

/-- The update of a weight. -/
def upd (w a b g : EReal) : EReal := Ideal.ofBits .f32 0xBA83126F#32 * (Ideal.div (Ideal.div (mom a g) (Ideal.ofBits .f32 0x3F26BD02#32))
  (Ideal.sqrt (Ideal.div (sq b g) (Ideal.ofBits .f32 0x3C231ACC#32)) + Ideal.ofBits .f32 0x322BCC77#32) + Ideal.ofBits .f32 0x3C23D70A#32 * w)

section
variable (g : Vec Ideal S256x1408 .f32) (w a b : Vec Ideal S1x256x1408 .f32) (r : Fin 256) (j : Fin 1408)

theorem pay13_at : k0_pay13 g (ix3 0 r j) = g (ix2 r j) := by pointwise [k0_pay13]

theorem pay14_at : k0_pay14 g a (ix2 r j) = mom (a (ix3 0 r j)) (g (ix2 r j)) := by
  unfold mom; pointwise [k0_pay14]

theorem pay15_at : k0_pay15 g b (ix2 r j) = sq (b (ix3 0 r j)) (g (ix2 r j)) := by
  unfold sq; pointwise [k0_pay15]

theorem pay16_at : k0_pay16 g w a b (ix2 r j) = upd (w (ix3 0 r j)) (a (ix3 0 r j)) (b (ix3 0 r j)) (g (ix2 r j)) := by
  unfold upd; rw [← pay14_at, ← pay15_at]; pointwise [k0_pay16]

theorem pay2_at : k0_pay2 (k0_pay14 g a) (ix3 0 r j) = mom (a (ix3 0 r j)) (g (ix2 r j)) := by
  rw [← pay14_at]; pointwise [k0_pay2]

theorem pay3_at : k0_pay3 (k0_pay15 g b) (ix3 0 r j) = sq (b (ix3 0 r j)) (g (ix2 r j)) := by
  rw [← pay15_at]; pointwise [k0_pay3]

theorem pay1_at : k0_pay1 (k0_pay16 g w a b) (ix3 0 r j) = upd (w (ix3 0 r j)) (a (ix3 0 r j)) (b (ix3 0 r j)) (g (ix2 r j)) := by
  rw [← pay16_at]; pointwise [k0_pay1]
end

/-- The block of every stacked window at a grid point. -/
theorem idx : ∀ t : Fin cfg0.N, win0_0.index t = ![t.val / 4, t.val % 4, 0] ∧ win0_1.index t = ![t.val / 4, t.val % 4, 0] ∧ win0_2.index t = ![t.val / 4, t.val % 4, 0]
    ∧ win0_7.index t = ![t.val / 4, t.val % 4, 0] ∧ win0_8.index t = ![t.val / 4, t.val % 4, 0] ∧ win0_9.index t = ![t.val / 4, t.val % 4, 0] ∧ win0_10.index t = ![t.val / 4, t.val % 4, 0] :=
  (by decide +kernel : ∀ t : Fin grid0.N, _)

/-- The block of layer 0's gradient at that layer's points. -/
theorem idx3 : ∀ t : Fin cfg0.N, t.val < 4 → win0_3.index t = ![t.val % 4, 0] :=
  (by decide +kernel : ∀ t : Fin grid0.N, t.val < 4 → win0_3.index t = ![t.val % 4, 0])
/-- The block of layer 1's gradient at that layer's points. -/
theorem idx4 : ∀ t : Fin cfg0.N, t.val / 4 % 4 = 1 → win0_4.index t = ![t.val % 4, 0] :=
  (by decide +kernel : ∀ t : Fin grid0.N, t.val / 4 % 4 = 1 → win0_4.index t = ![t.val % 4, 0])
/-- The block of layer 2's gradient at that layer's points. -/
theorem idx5 : ∀ t : Fin cfg0.N, t.val / 4 % 4 = 2 → win0_5.index t = ![t.val % 4, 0] :=
  (by decide +kernel : ∀ t : Fin grid0.N, t.val / 4 % 4 = 2 → win0_5.index t = ![t.val % 4, 0])
/-- The block of layer 3's gradient at that layer's points. -/
theorem idx6 : ∀ t : Fin cfg0.N, 12 ≤ t.val → win0_6.index t = ![t.val % 4, 0] :=
  (by decide +kernel : ∀ t : Fin grid0.N, 12 ≤ t.val → win0_6.index t = ![t.val % 4, 0])

/-- A grid point's layer, and row `r` of its block. -/
def lay (t : ℕ) : Fin 4 := ⟨t / 4 % 4, Nat.mod_lt _ (by norm_num)⟩
@[inherit_doc lay] def row (t : ℕ) (r : Fin 256) : Fin 1024 := ⟨(t % 4 * 256 + r.val) % 1024, Nat.mod_lt _ (by norm_num)⟩

theorem lay_val (t : Fin cfg0.N) : (lay t.val).val = t.val / 4 := by
  have := t.isLt
  have hN : cfg0.N = 16 := rfl
  show t.val / 4 % 4 = _
  omega

theorem row_val (t : Fin cfg0.N) (r : Fin 256) : (row t.val r).val = t.val % 4 * 256 + r.val := by
  have := r.isLt
  show (t.val % 4 * 256 + r.val) % 1024 = _
  omega

variable (m : (ℓ : Loc nD τ sig) → Buf (Elt Ideal) ℓ) (c : Dev nD)

/-- The weights and the two moments. -/
def W : (⟨3, ![4, 1024, 1408]⟩ : Shape).Idx → EReal := m ((c : Thread nD τ).loc main_arg0)
@[inherit_doc W] def M1 : (⟨3, ![4, 1024, 1408]⟩ : Shape).Idx → EReal := m ((c : Thread nD τ).loc main_arg5)
@[inherit_doc W] def M2 : (⟨3, ![4, 1024, 1408]⟩ : Shape).Idx → EReal := m ((c : Thread nD τ).loc main_arg6)

/-- The gradient of a layer. -/
def G (l : Fin 4) : (⟨2, ![1024, 1408]⟩ : Shape).Idx → EReal := match l with
  | 0 => m ((c : Thread nD τ).loc main_arg1)
  | 1 => m ((c : Thread nD τ).loc main_arg2)
  | 2 => m ((c : Thread nD τ).loc main_arg3)
  | 3 => m ((c : Thread nD τ).loc main_arg4)

variable (t : Fin cfg0.N) (r : Fin 256) (j : Fin 1408)

theorem blkW : iblk m c 0 t (ix3 0 r j) = W m c (ix3 (lay t.val) (row t.val r) j) := by
  have := row_val t r; have := lay_val t; unfold W; rw [← V_main_arg0 m c]; blk_ext [iblk, idx t]
theorem blkM1 : iblk m c 1 t (ix3 0 r j) = M1 m c (ix3 (lay t.val) (row t.val r) j) := by
  have := row_val t r; have := lay_val t; unfold M1; rw [← V_main_arg5 m c]; blk_ext [iblk, idx t]
theorem blkM2 : iblk m c 2 t (ix3 0 r j) = M2 m c (ix3 (lay t.val) (row t.val r) j) := by
  have := row_val t r; have := lay_val t; unfold M2; rw [← V_main_arg6 m c]; blk_ext [iblk, idx t]
theorem blkG0 (h : t.val < 4) : iblk m c 3 t (ix2 r j) = G m c (lay t.val) (ix2 (row t.val r) j) := by
  have hl : lay t.val = 0 := Fin.ext (by have := lay_val t; have := t.isLt; have hN : cfg0.N = 16 := rfl; show (lay t.val).val = 0; omega)
  have := row_val t r; rw [hl]; show _ = m ((c : Thread nD τ).loc main_arg1) _; rw [← V_main_arg1 m c]; blk_ext [iblk, idx3 t h]
theorem blkG1 (h : t.val / 4 % 4 = 1) : iblk m c 4 t (ix2 r j) = G m c (lay t.val) (ix2 (row t.val r) j) := by
  have hl : lay t.val = 1 := Fin.ext (by have := lay_val t; have := t.isLt; have hN : cfg0.N = 16 := rfl; show (lay t.val).val = 1; omega)
  have := row_val t r; rw [hl]; show _ = m ((c : Thread nD τ).loc main_arg2) _; rw [← V_main_arg2 m c]; blk_ext [iblk, idx4 t h]
theorem blkG2 (h : t.val / 4 % 4 = 2) : iblk m c 5 t (ix2 r j) = G m c (lay t.val) (ix2 (row t.val r) j) := by
  have hl : lay t.val = 2 := Fin.ext (by have := lay_val t; have := t.isLt; have hN : cfg0.N = 16 := rfl; show (lay t.val).val = 2; omega)
  have := row_val t r; rw [hl]; show _ = m ((c : Thread nD τ).loc main_arg3) _; rw [← V_main_arg3 m c]; blk_ext [iblk, idx5 t h]
theorem blkG3 (h : 12 ≤ t.val) : iblk m c 6 t (ix2 r j) = G m c (lay t.val) (ix2 (row t.val r) j) := by
  have hl : lay t.val = 3 := Fin.ext (by have := lay_val t; have := t.isLt; have hN : cfg0.N = 16 := rfl; show (lay t.val).val = 3; omega)
  have := row_val t r; rw [hl]; show _ = m ((c : Thread nD τ).loc main_arg4) _; rw [← V_main_arg4 m c]; blk_ext [iblk, idx6 t h]

/-- What a grid point leaves in its four results' buffers: the layer's gradient, and the step of its blocks. -/
theorem out : ∃ g : Vec Ideal S256x1408 .f32, (∀ r j, g (ix2 r j) = G m c (lay t.val) (ix2 (row t.val r) j))
    ∧ (outsAt0 m c t.val t.isLt).1 = k0_pay13 g
    ∧ (outsAt0 m c t.val t.isLt).2.1 = k0_pay1 (k0_pay16 g (iblk m c 0 t) (iblk m c 1 t) (iblk m c 2 t))
    ∧ (outsAt0 m c t.val t.isLt).2.2.1 = k0_pay2 (k0_pay14 g (iblk m c 1 t))
    ∧ (outsAt0 m c t.val t.isLt).2.2.2 = k0_pay3 (k0_pay15 g (iblk m c 2 t)) := by
  have hN : cfg0.N = 16 := rfl
  have := t.isLt
  by_cases h0 : t.val < 4
  · have h1 : ¬t.val / 4 % 4 = 1 := by omega
    have h2 : ¬t.val / 4 % 4 = 2 := by omega
    have h3 : ¬12 ≤ t.val := by omega
    refine ⟨iblk m c 3 t, fun r j => blkG0 m c t r j h0, ?_, ?_, ?_, ?_⟩
    · rw [outsAt0_A m c t h0 h1 h2 h3]; frame_out; try rfl
    · rw [outsAt0_A m c t h0 h1 h2 h3]; frame_out; try rfl
    · rw [outsAt0_A m c t h0 h1 h2 h3]; frame_out; try rfl
    · rw [outsAt0_A m c t h0 h1 h2 h3]; frame_out; try rfl
  by_cases h1 : t.val / 4 % 4 = 1
  · have h2 : ¬t.val / 4 % 4 = 2 := by omega
    have h3 : ¬12 ≤ t.val := by omega
    refine ⟨iblk m c 4 t, fun r j => blkG1 m c t r j h1, ?_, ?_, ?_, ?_⟩
    · rw [outsAt0_B m c t h0 h1 h2 h3]; frame_out; try rfl
    · rw [outsAt0_B m c t h0 h1 h2 h3]; frame_out; try rfl
    · rw [outsAt0_B m c t h0 h1 h2 h3]; frame_out; try rfl
    · rw [outsAt0_B m c t h0 h1 h2 h3]; frame_out; try rfl
  by_cases h2 : t.val / 4 % 4 = 2
  · have h3 : ¬12 ≤ t.val := by omega
    refine ⟨iblk m c 5 t, fun r j => blkG2 m c t r j h2, ?_, ?_, ?_, ?_⟩
    · rw [outsAt0_C m c t h0 h1 h2 h3]; frame_out; try rfl
    · rw [outsAt0_C m c t h0 h1 h2 h3]; frame_out; try rfl
    · rw [outsAt0_C m c t h0 h1 h2 h3]; frame_out; try rfl
    · rw [outsAt0_C m c t h0 h1 h2 h3]; frame_out; try rfl
  have h3 : 12 ≤ t.val := by omega
  refine ⟨iblk m c 6 t, fun r j => blkG3 m c t r j h3, ?_, ?_, ?_, ?_⟩
  · rw [outsAt0_D m c t h0 h1 h2 h3]; frame_out; try rfl
  · rw [outsAt0_D m c t h0 h1 h2 h3]; frame_out; try rfl
  · rw [outsAt0_D m c t h0 h1 h2 h3]; frame_out; try rfl
  · rw [outsAt0_D m c t h0 h1 h2 h3]; frame_out; try rfl

/-- The gradients, stacked. -/
theorem final7 : (dats m 0 c).arrAt 7 (cfgs 0).N = fun i => G m c (i 0) (ix2 (i 1) (i 2)) := by
  refine (dats m 0 c).arrAt_eq_of_covers 7 _ (by decide +kernel) fun t _ y => ?_
  blk_simp
  obtain ⟨g, hg, o0, o1, o2, o3⟩ := out m c t
  rw [after0_7, o0]
  obtain ⟨r, j, rfl⟩ : ∃ r j, y = ix3 0 r j := ⟨y 1, y 2, by blk_ext⟩
  have e0 : (((cfg0.win 7).blk t).view.emb (ix3 0 r j)) 0 = lay t.val := by
    apply Fin.ext; have := lay_val t; blk_simp [idx t]; omega
  have e1 : (((cfg0.win 7).blk t).view.emb (ix3 0 r j)) 1 = row t.val r := by
    apply Fin.ext; have := row_val t r; blk_simp [idx t]; omega
  have e2 : (((cfg0.win 7).blk t).view.emb (ix3 0 r j)) 2 = j := by
    apply Fin.ext; blk_simp [idx t]
  rw [e0, e1, e2, pay13_at, hg]

/-- The updates. -/
theorem final8 : (dats m 0 c).arrAt 8 (cfgs 0).N = fun i => upd (W m c (ix3 (i 0) (i 1) (i 2))) (M1 m c (ix3 (i 0) (i 1) (i 2))) (M2 m c (ix3 (i 0) (i 1) (i 2))) (G m c (i 0) (ix2 (i 1) (i 2))) := by
  refine (dats m 0 c).arrAt_eq_of_covers 8 _ (by decide +kernel) fun t _ y => ?_
  blk_simp
  obtain ⟨g, hg, o0, o1, o2, o3⟩ := out m c t
  rw [after0_8, o1]
  obtain ⟨r, j, rfl⟩ : ∃ r j, y = ix3 0 r j := ⟨y 1, y 2, by blk_ext⟩
  have e0 : (((cfg0.win 8).blk t).view.emb (ix3 0 r j)) 0 = lay t.val := by
    apply Fin.ext; have := lay_val t; blk_simp [idx t]; omega
  have e1 : (((cfg0.win 8).blk t).view.emb (ix3 0 r j)) 1 = row t.val r := by
    apply Fin.ext; have := row_val t r; blk_simp [idx t]; omega
  have e2 : (((cfg0.win 8).blk t).view.emb (ix3 0 r j)) 2 = j := by
    apply Fin.ext; blk_simp [idx t]
  rw [e0, e1, e2, pay1_at, blkW, blkM1, blkM2, hg]

/-- The first moments. -/
theorem final9 : (dats m 0 c).arrAt 9 (cfgs 0).N = fun i => mom (M1 m c (ix3 (i 0) (i 1) (i 2))) (G m c (i 0) (ix2 (i 1) (i 2))) := by
  refine (dats m 0 c).arrAt_eq_of_covers 9 _ (by decide +kernel) fun t _ y => ?_
  blk_simp
  obtain ⟨g, hg, o0, o1, o2, o3⟩ := out m c t
  rw [after0_9, o2]
  obtain ⟨r, j, rfl⟩ : ∃ r j, y = ix3 0 r j := ⟨y 1, y 2, by blk_ext⟩
  have e0 : (((cfg0.win 9).blk t).view.emb (ix3 0 r j)) 0 = lay t.val := by
    apply Fin.ext; have := lay_val t; blk_simp [idx t]; omega
  have e1 : (((cfg0.win 9).blk t).view.emb (ix3 0 r j)) 1 = row t.val r := by
    apply Fin.ext; have := row_val t r; blk_simp [idx t]; omega
  have e2 : (((cfg0.win 9).blk t).view.emb (ix3 0 r j)) 2 = j := by
    apply Fin.ext; blk_simp [idx t]
  rw [e0, e1, e2, pay2_at, blkM1, hg]

/-- The second moments. -/
theorem final10 : (dats m 0 c).arrAt 10 (cfgs 0).N = fun i => sq (M2 m c (ix3 (i 0) (i 1) (i 2))) (G m c (i 0) (ix2 (i 1) (i 2))) := by
  refine (dats m 0 c).arrAt_eq_of_covers 10 _ (by decide +kernel) fun t _ y => ?_
  blk_simp
  obtain ⟨g, hg, o0, o1, o2, o3⟩ := out m c t
  rw [after0_10, o3]
  obtain ⟨r, j, rfl⟩ : ∃ r j, y = ix3 0 r j := ⟨y 1, y 2, by blk_ext⟩
  have e0 : (((cfg0.win 10).blk t).view.emb (ix3 0 r j)) 0 = lay t.val := by
    apply Fin.ext; have := lay_val t; blk_simp [idx t]; omega
  have e1 : (((cfg0.win 10).blk t).view.emb (ix3 0 r j)) 1 = row t.val r := by
    apply Fin.ext; have := row_val t r; blk_simp [idx t]; omega
  have e2 : (((cfg0.win 10).blk t).view.emb (ix3 0 r j)) 2 = j := by
    apply Fin.ext; blk_simp [idx t]
  rw [e0, e1, e2, pay3_at, blkM2, hg]

section
open Cert.RefAdamUpIdeal.Read
variable (x0 x5 x6 : (⟨⟨3, ![4, 1024, 1408]⟩, .f32⟩ : BufTy).Contents (Elt Ideal)) (x1 x2 x3 x4 : (⟨⟨2, ![1024, 1408]⟩, .f32⟩ : BufTy).Contents (Elt Ideal))
  (l : Fin 4) (R : Fin 1024) (j : Fin 1408)

theorem v4_0 : val_main_v4 (F := Ideal) x1 x2 x3 x4 (ix3 0 R j) = x1 (ix2 R j) :=
  (concatenate_apply_piece (α := EReal) 0 [⟨Cert.RefAdamUpIdeal.S1x1024x1408, val_main_v0 (F := Ideal) x1⟩, ⟨Cert.RefAdamUpIdeal.S1x1024x1408, val_main_v1 (F := Ideal) x2⟩, ⟨Cert.RefAdamUpIdeal.S1x1024x1408, val_main_v2 (F := Ideal) x3⟩, ⟨Cert.RefAdamUpIdeal.S1x1024x1408, val_main_v3 (F := Ideal) x4⟩] Cert.RefAdamUpIdeal.Facts₀.concatenates_S1x1024x1408_S1x1024x1408_S1x1024x1408_S1x1024x1408_S4x1024x1408_d0 (ix3 0 R j) 0 (by simp) ⟨3, ![1, 1024, 1408]⟩ _ rfl rfl 0 rfl (ix3 0 R j) (fun b hb => match b with
    | ⟨0, _⟩ => absurd rfl hb
    | ⟨1, _⟩ => rfl
    | ⟨2, _⟩ => rfl) rfl).trans ((val_main_v0_apply x1 (ix3 0 R j)).trans (congrArg x1 (by blk_ext)))
theorem v4_1 : val_main_v4 (F := Ideal) x1 x2 x3 x4 (ix3 1 R j) = x2 (ix2 R j) :=
  (concatenate_apply_piece (α := EReal) 0 [⟨Cert.RefAdamUpIdeal.S1x1024x1408, val_main_v0 (F := Ideal) x1⟩, ⟨Cert.RefAdamUpIdeal.S1x1024x1408, val_main_v1 (F := Ideal) x2⟩, ⟨Cert.RefAdamUpIdeal.S1x1024x1408, val_main_v2 (F := Ideal) x3⟩, ⟨Cert.RefAdamUpIdeal.S1x1024x1408, val_main_v3 (F := Ideal) x4⟩] Cert.RefAdamUpIdeal.Facts₀.concatenates_S1x1024x1408_S1x1024x1408_S1x1024x1408_S1x1024x1408_S4x1024x1408_d0 (ix3 1 R j) 1 (by simp) ⟨3, ![1, 1024, 1408]⟩ _ rfl rfl 1 rfl (ix3 0 R j) (fun b hb => match b with
    | ⟨0, _⟩ => absurd rfl hb
    | ⟨1, _⟩ => rfl
    | ⟨2, _⟩ => rfl) rfl).trans ((val_main_v1_apply x2 (ix3 0 R j)).trans (congrArg x2 (by blk_ext)))
theorem v4_2 : val_main_v4 (F := Ideal) x1 x2 x3 x4 (ix3 2 R j) = x3 (ix2 R j) :=
  (concatenate_apply_piece (α := EReal) 0 [⟨Cert.RefAdamUpIdeal.S1x1024x1408, val_main_v0 (F := Ideal) x1⟩, ⟨Cert.RefAdamUpIdeal.S1x1024x1408, val_main_v1 (F := Ideal) x2⟩, ⟨Cert.RefAdamUpIdeal.S1x1024x1408, val_main_v2 (F := Ideal) x3⟩, ⟨Cert.RefAdamUpIdeal.S1x1024x1408, val_main_v3 (F := Ideal) x4⟩] Cert.RefAdamUpIdeal.Facts₀.concatenates_S1x1024x1408_S1x1024x1408_S1x1024x1408_S1x1024x1408_S4x1024x1408_d0 (ix3 2 R j) 2 (by simp) ⟨3, ![1, 1024, 1408]⟩ _ rfl rfl 2 rfl (ix3 0 R j) (fun b hb => match b with
    | ⟨0, _⟩ => absurd rfl hb
    | ⟨1, _⟩ => rfl
    | ⟨2, _⟩ => rfl) rfl).trans ((val_main_v2_apply x3 (ix3 0 R j)).trans (congrArg x3 (by blk_ext)))
theorem v4_3 : val_main_v4 (F := Ideal) x1 x2 x3 x4 (ix3 3 R j) = x4 (ix2 R j) :=
  (concatenate_apply_piece (α := EReal) 0 [⟨Cert.RefAdamUpIdeal.S1x1024x1408, val_main_v0 (F := Ideal) x1⟩, ⟨Cert.RefAdamUpIdeal.S1x1024x1408, val_main_v1 (F := Ideal) x2⟩, ⟨Cert.RefAdamUpIdeal.S1x1024x1408, val_main_v2 (F := Ideal) x3⟩, ⟨Cert.RefAdamUpIdeal.S1x1024x1408, val_main_v3 (F := Ideal) x4⟩] Cert.RefAdamUpIdeal.Facts₀.concatenates_S1x1024x1408_S1x1024x1408_S1x1024x1408_S1x1024x1408_S4x1024x1408_d0 (ix3 3 R j) 3 (by simp) ⟨3, ![1, 1024, 1408]⟩ _ rfl rfl 3 rfl (ix3 0 R j) (fun b hb => match b with
    | ⟨0, _⟩ => absurd rfl hb
    | ⟨1, _⟩ => rfl
    | ⟨2, _⟩ => rfl) rfl).trans ((val_main_v3_apply x4 (ix3 0 R j)).trans (congrArg x4 (by blk_ext)))

theorem v9_at : val_main_v9 (F := Ideal) x1 x2 x3 x4 x5 (ix3 l R j) = mom (x5 (ix3 l R j)) (val_main_v4 (F := Ideal) x1 x2 x3 x4 (ix3 l R j)) := rfl

theorem v15_at : val_main_v15 (F := Ideal) x1 x2 x3 x4 x6 (ix3 l R j) = sq (x6 (ix3 l R j)) (val_main_v4 (F := Ideal) x1 x2 x3 x4 (ix3 l R j)) := rfl

theorem v28_at : val_main_v28 (F := Ideal) x0 x1 x2 x3 x4 x5 x6 (ix3 l R j) = upd (x0 (ix3 l R j)) (x5 (ix3 l R j)) (x6 (ix3 l R j)) (val_main_v4 (F := Ideal) x1 x2 x3 x4 (ix3 l R j)) := rfl

/-- The stacked gradients are the layers' gradients. -/
theorem v4_at : val_main_v4 (F := Ideal) (m ((c : Thread nD τ).loc main_arg1)) (m ((c : Thread nD τ).loc main_arg2)) (m ((c : Thread nD τ).loc main_arg3)) (m ((c : Thread nD τ).loc main_arg4)) (ix3 l R j)
    = G m c l (ix2 R j) := by
  match l with
  | 0 => exact v4_0 _ _ _ _ R j
  | 1 => exact v4_1 _ _ _ _ R j
  | 2 => exact v4_2 _ _ _ _ R j
  | 3 => exact v4_3 _ _ _ _ R j
end

end Cert.AdamUpIdeal.Rows
-- ==== Proof.AdamUpClaim.lean ====
/- The value claim of the stacked Adam update of w_up. -/
module
public import proofs.«01_k».proof.Defs
public import proofs.«01_k».proof.Proof.AdamUpValue
public import proofs.«01_k».proof.Proof.Gen.RefAdamUpIdeal.Run
@[expose] public section
set_option maxRecDepth 16384
noncomputable section
namespace Cert.AdamUpIdeal.Rows
open Idealize.ShloMosaic Idealize.ShloMosaic.TcCoe Idealize.SL.Sem

/-- The value claim: the stacked gradients, the updates and both moments. -/
theorem algebraic : Cert.algebraic_AdamUpIdeal_RefAdamUpIdeal := by
  intro m g m' g' _ heq
  refine ⟨fun c => (Gen.dats m 0 c).arrAt 7 (cfgs 0).N, fun c => (Gen.dats m 0 c).arrAt 8 (cfgs 0).N, fun c => (Gen.dats m 0 c).arrAt 9 (cfgs 0).N, fun c => (Gen.dats m 0 c).arrAt 10 (cfgs 0).N, ?_, ?_⟩
  · exact Cert.AdamUpIdeal.Value.run_blocks m g
  · refine (θ_run Cert.RefAdamUpIdeal.defs _ _).mono (fun r h c => ?_) (Cert.RefAdamUpIdeal.Value.run (F := Ideal) m' g')
    obtain ⟨r0, r1, r2, r3, rk⟩ := h c
    obtain ⟨e0, e1, e2, e3, e4, e5, e6⟩ := heq c
    refine ⟨r0.trans ?_, r1.trans ?_, r2.trans ?_, r3.trans ?_, rk⟩
    · show _ = (Gen.dats m 0 c).arrAt 7 (cfgs 0).N
      rw [Cert.RefAdamUpIdeal.Read.val_main_v4_eq, final7, e1, e2, e3, e4]
      funext i
      obtain ⟨l, R, j, rfl⟩ : ∃ (l : Fin 4) (R : Fin 1024) (j : Fin 1408), i = ix3 l R j := ⟨i 0, i 1, i 2, by blk_ext⟩
      rw [v4_at m c]
      rfl
    · show _ = (Gen.dats m 0 c).arrAt 8 (cfgs 0).N
      rw [Cert.RefAdamUpIdeal.Read.val_main_v28_eq, final8, e0, e1, e2, e3, e4, e5, e6]
      funext i
      obtain ⟨l, R, j, rfl⟩ : ∃ (l : Fin 4) (R : Fin 1024) (j : Fin 1408), i = ix3 l R j := ⟨i 0, i 1, i 2, by blk_ext⟩
      rw [v28_at, v4_at m c]
      rfl
    · show _ = (Gen.dats m 0 c).arrAt 9 (cfgs 0).N
      rw [Cert.RefAdamUpIdeal.Read.val_main_v9_eq, final9, e1, e2, e3, e4, e5]
      funext i
      obtain ⟨l, R, j, rfl⟩ : ∃ (l : Fin 4) (R : Fin 1024) (j : Fin 1408), i = ix3 l R j := ⟨i 0, i 1, i 2, by blk_ext⟩
      rw [v9_at, v4_at m c]
      rfl
    · show _ = (Gen.dats m 0 c).arrAt 10 (cfgs 0).N
      rw [Cert.RefAdamUpIdeal.Read.val_main_v15_eq, final10, e1, e2, e3, e4, e6]
      funext i
      obtain ⟨l, R, j, rfl⟩ : ∃ (l : Fin 4) (R : Fin 1024) (j : Fin 1408), i = ix3 l R j := ⟨i 0, i 1, i 2, by blk_ext⟩
      rw [v15_at, v4_at m c]
      rfl

end Cert.AdamUpIdeal.Rows
-- ==== Proof.AdamDownValue.lean ====
/- The stacked Adam update of w_down: what a grid point leaves in its four results' buffers, the results as functions of the
   arguments, and the reference's results entry by entry. -/
module
public import proofs.«01_k».proof.Proof.Gen.AdamDownIdeal.Value
public import proofs.«01_k».proof.Proof.Gen.RefAdamDownIdeal.Read
public import Idealize.ShloMosaic.Lib.Pipeline.ValueKit
public import Idealize.ShloMosaic.Lib.Pipeline.ReadBack
@[expose] public section
set_option maxRecDepth 16384
noncomputable section
namespace Cert.AdamDownIdeal.Rows
open Cert.AdamDownIdeal Cert.AdamDownIdeal.Gen
open Idealize.ShloMosaic Idealize.ShloMosaic.TcCoe Idealize.SL.Sem
open Idealize.ShloMosaic.Pipeline (Dat)

/-- The first moment's step. -/
def mom (a g : EReal) : EReal := Ideal.ofBits .f32 0x3F666666#32 * a + Ideal.ofBits .f32 0x3DCCCCCD#32 * g

/-- The second moment's step. -/
def sq (a g : EReal) : EReal := Ideal.ofBits .f32 0x3F7FBE77#32 * a + Ideal.ofBits .f32 0x3A83126F#32 * (g * g)

/-- The update of a weight. -/
def upd (w a b g : EReal) : EReal := Ideal.ofBits .f32 0xBA83126F#32 * (Ideal.div (Ideal.div (mom a g) (Ideal.ofBits .f32 0x3F26BD02#32))
  (Ideal.sqrt (Ideal.div (sq b g) (Ideal.ofBits .f32 0x3C231ACC#32)) + Ideal.ofBits .f32 0x322BCC77#32) + Ideal.ofBits .f32 0x3C23D70A#32 * w)

section
variable (g : Vec Ideal S176x1024 .f32) (w a b : Vec Ideal S1x176x1024 .f32) (r : Fin 176) (j : Fin 1024)

theorem pay13_at : k0_pay13 g (ix3 0 r j) = g (ix2 r j) := by pointwise [k0_pay13]

theorem pay14_at : k0_pay14 g a (ix2 r j) = mom (a (ix3 0 r j)) (g (ix2 r j)) := by
  unfold mom; pointwise [k0_pay14]

theorem pay15_at : k0_pay15 g b (ix2 r j) = sq (b (ix3 0 r j)) (g (ix2 r j)) := by
  unfold sq; pointwise [k0_pay15]

theorem pay16_at : k0_pay16 g w a b (ix2 r j) = upd (w (ix3 0 r j)) (a (ix3 0 r j)) (b (ix3 0 r j)) (g (ix2 r j)) := by
  unfold upd; rw [← pay14_at, ← pay15_at]; pointwise [k0_pay16]

theorem pay2_at : k0_pay2 (k0_pay14 g a) (ix3 0 r j) = mom (a (ix3 0 r j)) (g (ix2 r j)) := by
  rw [← pay14_at]; pointwise [k0_pay2]

theorem pay3_at : k0_pay3 (k0_pay15 g b) (ix3 0 r j) = sq (b (ix3 0 r j)) (g (ix2 r j)) := by
  rw [← pay15_at]; pointwise [k0_pay3]

theorem pay1_at : k0_pay1 (k0_pay16 g w a b) (ix3 0 r j) = upd (w (ix3 0 r j)) (a (ix3 0 r j)) (b (ix3 0 r j)) (g (ix2 r j)) := by
  rw [← pay16_at]; pointwise [k0_pay1]
end

/-- The block of every stacked window at a grid point. -/
theorem idx : ∀ t : Fin cfg0.N, win0_0.index t = ![t.val / 4, t.val % 4, 0] ∧ win0_1.index t = ![t.val / 4, t.val % 4, 0] ∧ win0_2.index t = ![t.val / 4, t.val % 4, 0]
    ∧ win0_7.index t = ![t.val / 4, t.val % 4, 0] ∧ win0_8.index t = ![t.val / 4, t.val % 4, 0] ∧ win0_9.index t = ![t.val / 4, t.val % 4, 0] ∧ win0_10.index t = ![t.val / 4, t.val % 4, 0] :=
  (by decide +kernel : ∀ t : Fin grid0.N, _)

/-- The block of layer 0's gradient at that layer's points. -/
theorem idx3 : ∀ t : Fin cfg0.N, t.val < 4 → win0_3.index t = ![t.val % 4, 0] :=
  (by decide +kernel : ∀ t : Fin grid0.N, t.val < 4 → win0_3.index t = ![t.val % 4, 0])
/-- The block of layer 1's gradient at that layer's points. -/
theorem idx4 : ∀ t : Fin cfg0.N, t.val / 4 % 4 = 1 → win0_4.index t = ![t.val % 4, 0] :=
  (by decide +kernel : ∀ t : Fin grid0.N, t.val / 4 % 4 = 1 → win0_4.index t = ![t.val % 4, 0])
/-- The block of layer 2's gradient at that layer's points. -/
theorem idx5 : ∀ t : Fin cfg0.N, t.val / 4 % 4 = 2 → win0_5.index t = ![t.val % 4, 0] :=
  (by decide +kernel : ∀ t : Fin grid0.N, t.val / 4 % 4 = 2 → win0_5.index t = ![t.val % 4, 0])
/-- The block of layer 3's gradient at that layer's points. -/
theorem idx6 : ∀ t : Fin cfg0.N, 12 ≤ t.val → win0_6.index t = ![t.val % 4, 0] :=
  (by decide +kernel : ∀ t : Fin grid0.N, 12 ≤ t.val → win0_6.index t = ![t.val % 4, 0])

/-- A grid point's layer, and row `r` of its block. -/
def lay (t : ℕ) : Fin 4 := ⟨t / 4 % 4, Nat.mod_lt _ (by norm_num)⟩
@[inherit_doc lay] def row (t : ℕ) (r : Fin 176) : Fin 704 := ⟨(t % 4 * 176 + r.val) % 704, Nat.mod_lt _ (by norm_num)⟩

theorem lay_val (t : Fin cfg0.N) : (lay t.val).val = t.val / 4 := by
  have := t.isLt
  have hN : cfg0.N = 16 := rfl
  show t.val / 4 % 4 = _
  omega

theorem row_val (t : Fin cfg0.N) (r : Fin 176) : (row t.val r).val = t.val % 4 * 176 + r.val := by
  have := r.isLt
  show (t.val % 4 * 176 + r.val) % 704 = _
  omega

variable (m : (ℓ : Loc nD τ sig) → Buf (Elt Ideal) ℓ) (c : Dev nD)

/-- The weights and the two moments. -/
def W : (⟨3, ![4, 704, 1024]⟩ : Shape).Idx → EReal := m ((c : Thread nD τ).loc main_arg0)
@[inherit_doc W] def M1 : (⟨3, ![4, 704, 1024]⟩ : Shape).Idx → EReal := m ((c : Thread nD τ).loc main_arg5)
@[inherit_doc W] def M2 : (⟨3, ![4, 704, 1024]⟩ : Shape).Idx → EReal := m ((c : Thread nD τ).loc main_arg6)

/-- The gradient of a layer. -/
def G (l : Fin 4) : (⟨2, ![704, 1024]⟩ : Shape).Idx → EReal := match l with
  | 0 => m ((c : Thread nD τ).loc main_arg1)
  | 1 => m ((c : Thread nD τ).loc main_arg2)
  | 2 => m ((c : Thread nD τ).loc main_arg3)
  | 3 => m ((c : Thread nD τ).loc main_arg4)

variable (t : Fin cfg0.N) (r : Fin 176) (j : Fin 1024)

theorem blkW : iblk m c 0 t (ix3 0 r j) = W m c (ix3 (lay t.val) (row t.val r) j) := by
  have := row_val t r; have := lay_val t; unfold W; rw [← V_main_arg0 m c]; blk_ext [iblk, idx t]
theorem blkM1 : iblk m c 1 t (ix3 0 r j) = M1 m c (ix3 (lay t.val) (row t.val r) j) := by
  have := row_val t r; have := lay_val t; unfold M1; rw [← V_main_arg5 m c]; blk_ext [iblk, idx t]
theorem blkM2 : iblk m c 2 t (ix3 0 r j) = M2 m c (ix3 (lay t.val) (row t.val r) j) := by
  have := row_val t r; have := lay_val t; unfold M2; rw [← V_main_arg6 m c]; blk_ext [iblk, idx t]
theorem blkG0 (h : t.val < 4) : iblk m c 3 t (ix2 r j) = G m c (lay t.val) (ix2 (row t.val r) j) := by
  have hl : lay t.val = 0 := Fin.ext (by have := lay_val t; have := t.isLt; have hN : cfg0.N = 16 := rfl; show (lay t.val).val = 0; omega)
  have := row_val t r; rw [hl]; show _ = m ((c : Thread nD τ).loc main_arg1) _; rw [← V_main_arg1 m c]; blk_ext [iblk, idx3 t h]
theorem blkG1 (h : t.val / 4 % 4 = 1) : iblk m c 4 t (ix2 r j) = G m c (lay t.val) (ix2 (row t.val r) j) := by
  have hl : lay t.val = 1 := Fin.ext (by have := lay_val t; have := t.isLt; have hN : cfg0.N = 16 := rfl; show (lay t.val).val = 1; omega)
  have := row_val t r; rw [hl]; show _ = m ((c : Thread nD τ).loc main_arg2) _; rw [← V_main_arg2 m c]; blk_ext [iblk, idx4 t h]
theorem blkG2 (h : t.val / 4 % 4 = 2) : iblk m c 5 t (ix2 r j) = G m c (lay t.val) (ix2 (row t.val r) j) := by
  have hl : lay t.val = 2 := Fin.ext (by have := lay_val t; have := t.isLt; have hN : cfg0.N = 16 := rfl; show (lay t.val).val = 2; omega)
  have := row_val t r; rw [hl]; show _ = m ((c : Thread nD τ).loc main_arg3) _; rw [← V_main_arg3 m c]; blk_ext [iblk, idx5 t h]
theorem blkG3 (h : 12 ≤ t.val) : iblk m c 6 t (ix2 r j) = G m c (lay t.val) (ix2 (row t.val r) j) := by
  have hl : lay t.val = 3 := Fin.ext (by have := lay_val t; have := t.isLt; have hN : cfg0.N = 16 := rfl; show (lay t.val).val = 3; omega)
  have := row_val t r; rw [hl]; show _ = m ((c : Thread nD τ).loc main_arg4) _; rw [← V_main_arg4 m c]; blk_ext [iblk, idx6 t h]

/-- What a grid point leaves in its four results' buffers: the layer's gradient, and the step of its blocks. -/
theorem out : ∃ g : Vec Ideal S176x1024 .f32, (∀ r j, g (ix2 r j) = G m c (lay t.val) (ix2 (row t.val r) j))
    ∧ (outsAt0 m c t.val t.isLt).1 = k0_pay13 g
    ∧ (outsAt0 m c t.val t.isLt).2.1 = k0_pay1 (k0_pay16 g (iblk m c 0 t) (iblk m c 1 t) (iblk m c 2 t))
    ∧ (outsAt0 m c t.val t.isLt).2.2.1 = k0_pay2 (k0_pay14 g (iblk m c 1 t))
    ∧ (outsAt0 m c t.val t.isLt).2.2.2 = k0_pay3 (k0_pay15 g (iblk m c 2 t)) := by
  have hN : cfg0.N = 16 := rfl
  have := t.isLt
  by_cases h0 : t.val < 4
  · have h1 : ¬t.val / 4 % 4 = 1 := by omega
    have h2 : ¬t.val / 4 % 4 = 2 := by omega
    have h3 : ¬12 ≤ t.val := by omega
    refine ⟨iblk m c 3 t, fun r j => blkG0 m c t r j h0, ?_, ?_, ?_, ?_⟩
    · rw [outsAt0_A m c t h0 h1 h2 h3]; frame_out; try rfl
    · rw [outsAt0_A m c t h0 h1 h2 h3]; frame_out; try rfl
    · rw [outsAt0_A m c t h0 h1 h2 h3]; frame_out; try rfl
    · rw [outsAt0_A m c t h0 h1 h2 h3]; frame_out; try rfl
  by_cases h1 : t.val / 4 % 4 = 1
  · have h2 : ¬t.val / 4 % 4 = 2 := by omega
    have h3 : ¬12 ≤ t.val := by omega
    refine ⟨iblk m c 4 t, fun r j => blkG1 m c t r j h1, ?_, ?_, ?_, ?_⟩
    · rw [outsAt0_B m c t h0 h1 h2 h3]; frame_out; try rfl
    · rw [outsAt0_B m c t h0 h1 h2 h3]; frame_out; try rfl
    · rw [outsAt0_B m c t h0 h1 h2 h3]; frame_out; try rfl
    · rw [outsAt0_B m c t h0 h1 h2 h3]; frame_out; try rfl
  by_cases h2 : t.val / 4 % 4 = 2
  · have h3 : ¬12 ≤ t.val := by omega
    refine ⟨iblk m c 5 t, fun r j => blkG2 m c t r j h2, ?_, ?_, ?_, ?_⟩
    · rw [outsAt0_C m c t h0 h1 h2 h3]; frame_out; try rfl
    · rw [outsAt0_C m c t h0 h1 h2 h3]; frame_out; try rfl
    · rw [outsAt0_C m c t h0 h1 h2 h3]; frame_out; try rfl
    · rw [outsAt0_C m c t h0 h1 h2 h3]; frame_out; try rfl
  have h3 : 12 ≤ t.val := by omega
  refine ⟨iblk m c 6 t, fun r j => blkG3 m c t r j h3, ?_, ?_, ?_, ?_⟩
  · rw [outsAt0_D m c t h0 h1 h2 h3]; frame_out; try rfl
  · rw [outsAt0_D m c t h0 h1 h2 h3]; frame_out; try rfl
  · rw [outsAt0_D m c t h0 h1 h2 h3]; frame_out; try rfl
  · rw [outsAt0_D m c t h0 h1 h2 h3]; frame_out; try rfl

/-- The gradients, stacked. -/
theorem final7 : (dats m 0 c).arrAt 7 (cfgs 0).N = fun i => G m c (i 0) (ix2 (i 1) (i 2)) := by
  refine (dats m 0 c).arrAt_eq_of_covers 7 _ (by decide +kernel) fun t _ y => ?_
  blk_simp
  obtain ⟨g, hg, o0, o1, o2, o3⟩ := out m c t
  rw [after0_7, o0]
  obtain ⟨r, j, rfl⟩ : ∃ r j, y = ix3 0 r j := ⟨y 1, y 2, by blk_ext⟩
  have e0 : (((cfg0.win 7).blk t).view.emb (ix3 0 r j)) 0 = lay t.val := by
    apply Fin.ext; have := lay_val t; blk_simp [idx t]; omega
  have e1 : (((cfg0.win 7).blk t).view.emb (ix3 0 r j)) 1 = row t.val r := by
    apply Fin.ext; have := row_val t r; blk_simp [idx t]; omega
  have e2 : (((cfg0.win 7).blk t).view.emb (ix3 0 r j)) 2 = j := by
    apply Fin.ext; blk_simp [idx t]
  rw [e0, e1, e2, pay13_at, hg]

/-- The updates. -/
theorem final8 : (dats m 0 c).arrAt 8 (cfgs 0).N = fun i => upd (W m c (ix3 (i 0) (i 1) (i 2))) (M1 m c (ix3 (i 0) (i 1) (i 2))) (M2 m c (ix3 (i 0) (i 1) (i 2))) (G m c (i 0) (ix2 (i 1) (i 2))) := by
  refine (dats m 0 c).arrAt_eq_of_covers 8 _ (by decide +kernel) fun t _ y => ?_
  blk_simp
  obtain ⟨g, hg, o0, o1, o2, o3⟩ := out m c t
  rw [after0_8, o1]
  obtain ⟨r, j, rfl⟩ : ∃ r j, y = ix3 0 r j := ⟨y 1, y 2, by blk_ext⟩
  have e0 : (((cfg0.win 8).blk t).view.emb (ix3 0 r j)) 0 = lay t.val := by
    apply Fin.ext; have := lay_val t; blk_simp [idx t]; omega
  have e1 : (((cfg0.win 8).blk t).view.emb (ix3 0 r j)) 1 = row t.val r := by
    apply Fin.ext; have := row_val t r; blk_simp [idx t]; omega
  have e2 : (((cfg0.win 8).blk t).view.emb (ix3 0 r j)) 2 = j := by
    apply Fin.ext; blk_simp [idx t]
  rw [e0, e1, e2, pay1_at, blkW, blkM1, blkM2, hg]

/-- The first moments. -/
theorem final9 : (dats m 0 c).arrAt 9 (cfgs 0).N = fun i => mom (M1 m c (ix3 (i 0) (i 1) (i 2))) (G m c (i 0) (ix2 (i 1) (i 2))) := by
  refine (dats m 0 c).arrAt_eq_of_covers 9 _ (by decide +kernel) fun t _ y => ?_
  blk_simp
  obtain ⟨g, hg, o0, o1, o2, o3⟩ := out m c t
  rw [after0_9, o2]
  obtain ⟨r, j, rfl⟩ : ∃ r j, y = ix3 0 r j := ⟨y 1, y 2, by blk_ext⟩
  have e0 : (((cfg0.win 9).blk t).view.emb (ix3 0 r j)) 0 = lay t.val := by
    apply Fin.ext; have := lay_val t; blk_simp [idx t]; omega
  have e1 : (((cfg0.win 9).blk t).view.emb (ix3 0 r j)) 1 = row t.val r := by
    apply Fin.ext; have := row_val t r; blk_simp [idx t]; omega
  have e2 : (((cfg0.win 9).blk t).view.emb (ix3 0 r j)) 2 = j := by
    apply Fin.ext; blk_simp [idx t]
  rw [e0, e1, e2, pay2_at, blkM1, hg]

/-- The second moments. -/
theorem final10 : (dats m 0 c).arrAt 10 (cfgs 0).N = fun i => sq (M2 m c (ix3 (i 0) (i 1) (i 2))) (G m c (i 0) (ix2 (i 1) (i 2))) := by
  refine (dats m 0 c).arrAt_eq_of_covers 10 _ (by decide +kernel) fun t _ y => ?_
  blk_simp
  obtain ⟨g, hg, o0, o1, o2, o3⟩ := out m c t
  rw [after0_10, o3]
  obtain ⟨r, j, rfl⟩ : ∃ r j, y = ix3 0 r j := ⟨y 1, y 2, by blk_ext⟩
  have e0 : (((cfg0.win 10).blk t).view.emb (ix3 0 r j)) 0 = lay t.val := by
    apply Fin.ext; have := lay_val t; blk_simp [idx t]; omega
  have e1 : (((cfg0.win 10).blk t).view.emb (ix3 0 r j)) 1 = row t.val r := by
    apply Fin.ext; have := row_val t r; blk_simp [idx t]; omega
  have e2 : (((cfg0.win 10).blk t).view.emb (ix3 0 r j)) 2 = j := by
    apply Fin.ext; blk_simp [idx t]
  rw [e0, e1, e2, pay3_at, blkM2, hg]

section
open Cert.RefAdamDownIdeal.Read
variable (x0 x5 x6 : (⟨⟨3, ![4, 704, 1024]⟩, .f32⟩ : BufTy).Contents (Elt Ideal)) (x1 x2 x3 x4 : (⟨⟨2, ![704, 1024]⟩, .f32⟩ : BufTy).Contents (Elt Ideal))
  (l : Fin 4) (R : Fin 704) (j : Fin 1024)

theorem v4_0 : val_main_v4 (F := Ideal) x1 x2 x3 x4 (ix3 0 R j) = x1 (ix2 R j) :=
  (concatenate_apply_piece (α := EReal) 0 [⟨Cert.RefAdamDownIdeal.S1x704x1024, val_main_v0 (F := Ideal) x1⟩, ⟨Cert.RefAdamDownIdeal.S1x704x1024, val_main_v1 (F := Ideal) x2⟩, ⟨Cert.RefAdamDownIdeal.S1x704x1024, val_main_v2 (F := Ideal) x3⟩, ⟨Cert.RefAdamDownIdeal.S1x704x1024, val_main_v3 (F := Ideal) x4⟩] Cert.RefAdamDownIdeal.Facts₀.concatenates_S1x704x1024_S1x704x1024_S1x704x1024_S1x704x1024_S4x704x1024_d0 (ix3 0 R j) 0 (by simp) ⟨3, ![1, 704, 1024]⟩ _ rfl rfl 0 rfl (ix3 0 R j) (fun b hb => match b with
    | ⟨0, _⟩ => absurd rfl hb
    | ⟨1, _⟩ => rfl
    | ⟨2, _⟩ => rfl) rfl).trans ((val_main_v0_apply x1 (ix3 0 R j)).trans (congrArg x1 (by blk_ext)))
theorem v4_1 : val_main_v4 (F := Ideal) x1 x2 x3 x4 (ix3 1 R j) = x2 (ix2 R j) :=
  (concatenate_apply_piece (α := EReal) 0 [⟨Cert.RefAdamDownIdeal.S1x704x1024, val_main_v0 (F := Ideal) x1⟩, ⟨Cert.RefAdamDownIdeal.S1x704x1024, val_main_v1 (F := Ideal) x2⟩, ⟨Cert.RefAdamDownIdeal.S1x704x1024, val_main_v2 (F := Ideal) x3⟩, ⟨Cert.RefAdamDownIdeal.S1x704x1024, val_main_v3 (F := Ideal) x4⟩] Cert.RefAdamDownIdeal.Facts₀.concatenates_S1x704x1024_S1x704x1024_S1x704x1024_S1x704x1024_S4x704x1024_d0 (ix3 1 R j) 1 (by simp) ⟨3, ![1, 704, 1024]⟩ _ rfl rfl 1 rfl (ix3 0 R j) (fun b hb => match b with
    | ⟨0, _⟩ => absurd rfl hb
    | ⟨1, _⟩ => rfl
    | ⟨2, _⟩ => rfl) rfl).trans ((val_main_v1_apply x2 (ix3 0 R j)).trans (congrArg x2 (by blk_ext)))
theorem v4_2 : val_main_v4 (F := Ideal) x1 x2 x3 x4 (ix3 2 R j) = x3 (ix2 R j) :=
  (concatenate_apply_piece (α := EReal) 0 [⟨Cert.RefAdamDownIdeal.S1x704x1024, val_main_v0 (F := Ideal) x1⟩, ⟨Cert.RefAdamDownIdeal.S1x704x1024, val_main_v1 (F := Ideal) x2⟩, ⟨Cert.RefAdamDownIdeal.S1x704x1024, val_main_v2 (F := Ideal) x3⟩, ⟨Cert.RefAdamDownIdeal.S1x704x1024, val_main_v3 (F := Ideal) x4⟩] Cert.RefAdamDownIdeal.Facts₀.concatenates_S1x704x1024_S1x704x1024_S1x704x1024_S1x704x1024_S4x704x1024_d0 (ix3 2 R j) 2 (by simp) ⟨3, ![1, 704, 1024]⟩ _ rfl rfl 2 rfl (ix3 0 R j) (fun b hb => match b with
    | ⟨0, _⟩ => absurd rfl hb
    | ⟨1, _⟩ => rfl
    | ⟨2, _⟩ => rfl) rfl).trans ((val_main_v2_apply x3 (ix3 0 R j)).trans (congrArg x3 (by blk_ext)))
theorem v4_3 : val_main_v4 (F := Ideal) x1 x2 x3 x4 (ix3 3 R j) = x4 (ix2 R j) :=
  (concatenate_apply_piece (α := EReal) 0 [⟨Cert.RefAdamDownIdeal.S1x704x1024, val_main_v0 (F := Ideal) x1⟩, ⟨Cert.RefAdamDownIdeal.S1x704x1024, val_main_v1 (F := Ideal) x2⟩, ⟨Cert.RefAdamDownIdeal.S1x704x1024, val_main_v2 (F := Ideal) x3⟩, ⟨Cert.RefAdamDownIdeal.S1x704x1024, val_main_v3 (F := Ideal) x4⟩] Cert.RefAdamDownIdeal.Facts₀.concatenates_S1x704x1024_S1x704x1024_S1x704x1024_S1x704x1024_S4x704x1024_d0 (ix3 3 R j) 3 (by simp) ⟨3, ![1, 704, 1024]⟩ _ rfl rfl 3 rfl (ix3 0 R j) (fun b hb => match b with
    | ⟨0, _⟩ => absurd rfl hb
    | ⟨1, _⟩ => rfl
    | ⟨2, _⟩ => rfl) rfl).trans ((val_main_v3_apply x4 (ix3 0 R j)).trans (congrArg x4 (by blk_ext)))

theorem v9_at : val_main_v9 (F := Ideal) x1 x2 x3 x4 x5 (ix3 l R j) = mom (x5 (ix3 l R j)) (val_main_v4 (F := Ideal) x1 x2 x3 x4 (ix3 l R j)) := rfl

theorem v15_at : val_main_v15 (F := Ideal) x1 x2 x3 x4 x6 (ix3 l R j) = sq (x6 (ix3 l R j)) (val_main_v4 (F := Ideal) x1 x2 x3 x4 (ix3 l R j)) := rfl

theorem v28_at : val_main_v28 (F := Ideal) x0 x1 x2 x3 x4 x5 x6 (ix3 l R j) = upd (x0 (ix3 l R j)) (x5 (ix3 l R j)) (x6 (ix3 l R j)) (val_main_v4 (F := Ideal) x1 x2 x3 x4 (ix3 l R j)) := rfl

/-- The stacked gradients are the layers' gradients. -/
theorem v4_at : val_main_v4 (F := Ideal) (m ((c : Thread nD τ).loc main_arg1)) (m ((c : Thread nD τ).loc main_arg2)) (m ((c : Thread nD τ).loc main_arg3)) (m ((c : Thread nD τ).loc main_arg4)) (ix3 l R j)
    = G m c l (ix2 R j) := by
  match l with
  | 0 => exact v4_0 _ _ _ _ R j
  | 1 => exact v4_1 _ _ _ _ R j
  | 2 => exact v4_2 _ _ _ _ R j
  | 3 => exact v4_3 _ _ _ _ R j
end

end Cert.AdamDownIdeal.Rows
-- ==== Proof.AdamDownClaim.lean ====
/- The value claim of the stacked Adam update of w_down. -/
module
public import proofs.«01_k».proof.Defs
public import proofs.«01_k».proof.Proof.AdamDownValue
public import proofs.«01_k».proof.Proof.Gen.RefAdamDownIdeal.Run
@[expose] public section
set_option maxRecDepth 16384
noncomputable section
namespace Cert.AdamDownIdeal.Rows
open Idealize.ShloMosaic Idealize.ShloMosaic.TcCoe Idealize.SL.Sem

/-- The value claim: the stacked gradients, the updates and both moments. -/
theorem algebraic : Cert.algebraic_AdamDownIdeal_RefAdamDownIdeal := by
  intro m g m' g' _ heq
  refine ⟨fun c => (Gen.dats m 0 c).arrAt 7 (cfgs 0).N, fun c => (Gen.dats m 0 c).arrAt 8 (cfgs 0).N, fun c => (Gen.dats m 0 c).arrAt 9 (cfgs 0).N, fun c => (Gen.dats m 0 c).arrAt 10 (cfgs 0).N, ?_, ?_⟩
  · exact Cert.AdamDownIdeal.Value.run_blocks m g
  · refine (θ_run Cert.RefAdamDownIdeal.defs _ _).mono (fun r h c => ?_) (Cert.RefAdamDownIdeal.Value.run (F := Ideal) m' g')
    obtain ⟨r0, r1, r2, r3, rk⟩ := h c
    obtain ⟨e0, e1, e2, e3, e4, e5, e6⟩ := heq c
    refine ⟨r0.trans ?_, r1.trans ?_, r2.trans ?_, r3.trans ?_, rk⟩
    · show _ = (Gen.dats m 0 c).arrAt 7 (cfgs 0).N
      rw [Cert.RefAdamDownIdeal.Read.val_main_v4_eq, final7, e1, e2, e3, e4]
      funext i
      obtain ⟨l, R, j, rfl⟩ : ∃ (l : Fin 4) (R : Fin 704) (j : Fin 1024), i = ix3 l R j := ⟨i 0, i 1, i 2, by blk_ext⟩
      rw [v4_at m c]
      rfl
    · show _ = (Gen.dats m 0 c).arrAt 8 (cfgs 0).N
      rw [Cert.RefAdamDownIdeal.Read.val_main_v28_eq, final8, e0, e1, e2, e3, e4, e5, e6]
      funext i
      obtain ⟨l, R, j, rfl⟩ : ∃ (l : Fin 4) (R : Fin 704) (j : Fin 1024), i = ix3 l R j := ⟨i 0, i 1, i 2, by blk_ext⟩
      rw [v28_at, v4_at m c]
      rfl
    · show _ = (Gen.dats m 0 c).arrAt 9 (cfgs 0).N
      rw [Cert.RefAdamDownIdeal.Read.val_main_v9_eq, final9, e1, e2, e3, e4, e5]
      funext i
      obtain ⟨l, R, j, rfl⟩ : ∃ (l : Fin 4) (R : Fin 704) (j : Fin 1024), i = ix3 l R j := ⟨i 0, i 1, i 2, by blk_ext⟩
      rw [v9_at, v4_at m c]
      rfl
    · show _ = (Gen.dats m 0 c).arrAt 10 (cfgs 0).N
      rw [Cert.RefAdamDownIdeal.Read.val_main_v15_eq, final10, e1, e2, e3, e4, e6]
      funext i
      obtain ⟨l, R, j, rfl⟩ : ∃ (l : Fin 4) (R : Fin 704) (j : Fin 1024), i = ix3 l R j := ⟨i 0, i 1, i 2, by blk_ext⟩
      rw [v15_at, v4_at m c]
      rfl

end Cert.AdamDownIdeal.Rows
-- ==== Proof.lean ====
module

public import proofs.«01_k».proof.Defs
public import proofs.«01_k».proof.Proof.AttnFrame
public import proofs.«01_k».proof.Proof.DevFrame
public import proofs.«01_k».proof.Proof.Gen.ReferenceIdeal.Run
public import proofs.«01_k».proof.Proof.UpClaim
public import proofs.«01_k».proof.Proof.DwClaim
public import proofs.«01_k».proof.Proof.DownClaim
public import proofs.«01_k».proof.Proof.DownDwClaim
public import proofs.«01_k».proof.Proof.UpFwdClaim
public import proofs.«01_k».proof.Proof.DownFwdClaim
public import proofs.«01_k».proof.Proof.InClaim
public import proofs.«01_k».proof.Proof.InDwClaim
public import proofs.«01_k».proof.Proof.InFwdClaim
public import proofs.«01_k».proof.Proof.OutClaim
public import proofs.«01_k».proof.Proof.OutDwClaim
public import proofs.«01_k».proof.Proof.OutFwdClaim
public import proofs.«01_k».proof.Proof.LnClaim
public import proofs.«01_k».proof.Proof.LnFwdClaim
public import proofs.«01_k».proof.Proof.LossClaim
public import proofs.«01_k».proof.Proof.AdamNormClaim
public import proofs.«01_k».proof.Proof.AdamQkClaim
public import proofs.«01_k».proof.Proof.AdamConvWClaim
public import proofs.«01_k».proof.Proof.AdamConvBClaim
public import proofs.«01_k».proof.Proof.AdamFfnWClaim
public import proofs.«01_k».proof.Proof.AdamFfnBClaim
public import proofs.«01_k».proof.Proof.AdamInClaim
public import proofs.«01_k».proof.Proof.AdamOutClaim
public import proofs.«01_k».proof.Proof.AdamUpClaim
public import proofs.«01_k».proof.Proof.AdamDownClaim
public import proofs.«01_k».proof.Proof.Gen.Up.Frame
public import proofs.«01_k».proof.Proof.Gen.UpIdeal.Value
public import proofs.«01_k».proof.Proof.Gen.RefUpIdeal.Run
public import proofs.«01_k».proof.Proof.Gen.RefUpIdeal.Read
public import proofs.«01_k».proof.Proof.Gen.Dw.Frame
public import proofs.«01_k».proof.Proof.Gen.DwIdeal.Value
public import proofs.«01_k».proof.Proof.Gen.RefDwIdeal.Run
public import proofs.«01_k».proof.Proof.Gen.RefDwIdeal.Read
public import proofs.«01_k».proof.Proof.Gen.Down.Frame
public import proofs.«01_k».proof.Proof.Gen.DownIdeal.Value
public import proofs.«01_k».proof.Proof.Gen.RefDownIdeal.Run
public import proofs.«01_k».proof.Proof.Gen.RefDownIdeal.Read
public import proofs.«01_k».proof.Proof.Gen.DownDw.Frame
public import proofs.«01_k».proof.Proof.Gen.DownDwIdeal.Value
public import proofs.«01_k».proof.Proof.Gen.RefDownDwIdeal.Run
public import proofs.«01_k».proof.Proof.Gen.RefDownDwIdeal.Read
public import proofs.«01_k».proof.Proof.Gen.UpFwd.Frame
public import proofs.«01_k».proof.Proof.Gen.UpFwdIdeal.Value
public import proofs.«01_k».proof.Proof.Gen.RefUpFwdIdeal.Run
public import proofs.«01_k».proof.Proof.Gen.RefUpFwdIdeal.Read
public import proofs.«01_k».proof.Proof.Gen.DownFwd.Frame
public import proofs.«01_k».proof.Proof.Gen.DownFwdIdeal.Value
public import proofs.«01_k».proof.Proof.Gen.RefDownFwdIdeal.Run
public import proofs.«01_k».proof.Proof.Gen.RefDownFwdIdeal.Read
public import proofs.«01_k».proof.Proof.Gen.In.Frame
public import proofs.«01_k».proof.Proof.Gen.InIdeal.Value
public import proofs.«01_k».proof.Proof.Gen.RefInIdeal.Run
public import proofs.«01_k».proof.Proof.Gen.RefInIdeal.Read
public import proofs.«01_k».proof.Proof.Gen.InDw.Frame
public import proofs.«01_k».proof.Proof.Gen.InDwIdeal.Frame
public import proofs.«01_k».proof.Proof.Gen.RefInDwIdeal.Run
public import proofs.«01_k».proof.Proof.Gen.RefInDwIdeal.Read
public import proofs.«01_k».proof.Proof.Gen.InFwd.Frame
public import proofs.«01_k».proof.Proof.Gen.InFwdIdeal.Value
public import proofs.«01_k».proof.Proof.Gen.RefInFwdIdeal.Run
public import proofs.«01_k».proof.Proof.Gen.RefInFwdIdeal.Read
public import proofs.«01_k».proof.Proof.Gen.Out.Frame
public import proofs.«01_k».proof.Proof.Gen.OutIdeal.Value
public import proofs.«01_k».proof.Proof.Gen.RefOutIdeal.Run
public import proofs.«01_k».proof.Proof.Gen.RefOutIdeal.Read
public import proofs.«01_k».proof.Proof.Gen.OutDw.Frame
public import proofs.«01_k».proof.Proof.Gen.OutDwIdeal.Value
public import proofs.«01_k».proof.Proof.Gen.RefOutDwIdeal.Run
public import proofs.«01_k».proof.Proof.Gen.RefOutDwIdeal.Read
public import proofs.«01_k».proof.Proof.Gen.OutFwd.Frame
public import proofs.«01_k».proof.Proof.Gen.OutFwdIdeal.Value
public import proofs.«01_k».proof.Proof.Gen.RefOutFwdIdeal.Run
public import proofs.«01_k».proof.Proof.Gen.RefOutFwdIdeal.Read
public import proofs.«01_k».proof.Proof.Gen.Ln.Frame
public import proofs.«01_k».proof.Proof.Gen.LnIdeal.Value
public import proofs.«01_k».proof.Proof.Gen.RefLnIdeal.Run
public import proofs.«01_k».proof.Proof.Gen.RefLnIdeal.Read
public import proofs.«01_k».proof.Proof.Gen.LnFwd.Frame
public import proofs.«01_k».proof.Proof.Gen.LnFwdIdeal.Value
public import proofs.«01_k».proof.Proof.Gen.RefLnFwdIdeal.Run
public import proofs.«01_k».proof.Proof.Gen.RefLnFwdIdeal.Read
public import proofs.«01_k».proof.Proof.Gen.Loss.Frame
public import proofs.«01_k».proof.Proof.Gen.LossIdeal.Value
public import proofs.«01_k».proof.Proof.Gen.RefLossIdeal.Run
public import proofs.«01_k».proof.Proof.Gen.RefLossIdeal.Read
public import proofs.«01_k».proof.Proof.Gen.AdamNorm.Frame
public import proofs.«01_k».proof.Proof.Gen.AdamNormIdeal.Value
public import proofs.«01_k».proof.Proof.Gen.RefAdamNormIdeal.Run
public import proofs.«01_k».proof.Proof.Gen.RefAdamNormIdeal.Read
public import proofs.«01_k».proof.Proof.Gen.AdamQk.Frame
public import proofs.«01_k».proof.Proof.Gen.AdamQkIdeal.Value
public import proofs.«01_k».proof.Proof.Gen.RefAdamQkIdeal.Run
public import proofs.«01_k».proof.Proof.Gen.RefAdamQkIdeal.Read
public import proofs.«01_k».proof.Proof.Gen.AdamConvW.Frame
public import proofs.«01_k».proof.Proof.Gen.AdamConvWIdeal.Value
public import proofs.«01_k».proof.Proof.Gen.RefAdamConvWIdeal.Run
public import proofs.«01_k».proof.Proof.Gen.RefAdamConvWIdeal.Read
public import proofs.«01_k».proof.Proof.Gen.AdamConvB.Frame
public import proofs.«01_k».proof.Proof.Gen.AdamConvBIdeal.Value
public import proofs.«01_k».proof.Proof.Gen.RefAdamConvBIdeal.Run
public import proofs.«01_k».proof.Proof.Gen.RefAdamConvBIdeal.Read
public import proofs.«01_k».proof.Proof.Gen.AdamFfnW.Frame
public import proofs.«01_k».proof.Proof.Gen.AdamFfnWIdeal.Value
public import proofs.«01_k».proof.Proof.Gen.RefAdamFfnWIdeal.Run
public import proofs.«01_k».proof.Proof.Gen.RefAdamFfnWIdeal.Read
public import proofs.«01_k».proof.Proof.Gen.AdamFfnB.Frame
public import proofs.«01_k».proof.Proof.Gen.AdamFfnBIdeal.Value
public import proofs.«01_k».proof.Proof.Gen.RefAdamFfnBIdeal.Run
public import proofs.«01_k».proof.Proof.Gen.RefAdamFfnBIdeal.Read
public import proofs.«01_k».proof.Proof.Gen.AdamIn.Frame
public import proofs.«01_k».proof.Proof.Gen.AdamInIdeal.Value
public import proofs.«01_k».proof.Proof.Gen.RefAdamInIdeal.Run
public import proofs.«01_k».proof.Proof.Gen.RefAdamInIdeal.Read
public import proofs.«01_k».proof.Proof.Gen.AdamOut.Frame
public import proofs.«01_k».proof.Proof.Gen.AdamOutIdeal.Value
public import proofs.«01_k».proof.Proof.Gen.RefAdamOutIdeal.Run
public import proofs.«01_k».proof.Proof.Gen.RefAdamOutIdeal.Read
public import proofs.«01_k».proof.Proof.Gen.AdamUp.Frame
public import proofs.«01_k».proof.Proof.Gen.AdamUpIdeal.Value
public import proofs.«01_k».proof.Proof.Gen.RefAdamUpIdeal.Run
public import proofs.«01_k».proof.Proof.Gen.RefAdamUpIdeal.Read
public import proofs.«01_k».proof.Proof.Gen.AdamDown.Frame
public import proofs.«01_k».proof.Proof.Gen.AdamDownIdeal.Value
public import proofs.«01_k».proof.Proof.Gen.RefAdamDownIdeal.Run
public import proofs.«01_k».proof.Proof.Gen.RefAdamDownIdeal.Read

@[expose] public section

noncomputable section

namespace Cert.Proof

open Idealize.ShloMosaic Idealize.ShloMosaic.TcCoe

/-- The ideal kernel's frame. -/
theorem frame_kernelIdeal : Cert.quiescent_KernelIdeal := fun m ρ _ =>
  Cert.KernelIdeal.Attn.frame m ρ

/-- The kernel's frame: the same run, at bits. -/
theorem frame_kernel : Cert.quiescent_Kernel := fun m ρ _ =>
  Cert.Kernel.Attn.frame (F := Bits) m ρ

/-- The reference's frame: host operations only, which write no argument and declare no semaphore. -/
theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The frame of the reference of the gradient through w_up's product. -/
theorem frame_refUp : Cert.quiescent_RefUpIdeal := fun m ρ _ =>
  (θ_run Cert.RefUpIdeal.defs _ _).mono (fun r h => ⟨fun c => (h c).2.2, Idealize.ShloMosaic.sem_eq_zero_of_no_sems (by decide) r.2⟩)
    (Cert.RefUpIdeal.Value.run (F := Ideal) m ρ)

/-- The frame of the reference of w_up's gradient. -/
theorem frame_refDw : Cert.quiescent_RefDwIdeal := fun m ρ _ =>
  (θ_run Cert.RefDwIdeal.defs _ _).mono (fun r h => ⟨fun c => (h c).2, Idealize.ShloMosaic.sem_eq_zero_of_no_sems (by decide) r.2⟩)
    (Cert.RefDwIdeal.Value.run (F := Ideal) m ρ)

/-- The frame of the reference of the gradient through w_down's product. -/
theorem frame_refDown : Cert.quiescent_RefDownIdeal := fun m ρ _ =>
  (θ_run Cert.RefDownIdeal.defs _ _).mono (fun r h => ⟨fun c => (h c).2, Idealize.ShloMosaic.sem_eq_zero_of_no_sems (by decide) r.2⟩)
    (Cert.RefDownIdeal.Value.run (F := Ideal) m ρ)

/-- The frame of the reference of w_down's gradient. -/
theorem frame_refDownDw : Cert.quiescent_RefDownDwIdeal := fun m ρ _ =>
  (θ_run Cert.RefDownDwIdeal.defs _ _).mono (fun r h => ⟨fun c => (h c).2, Idealize.ShloMosaic.sem_eq_zero_of_no_sems (by decide) r.2⟩)
    (Cert.RefDownDwIdeal.Value.run (F := Ideal) m ρ)

/-- The frame of the reference of w_up's product. -/
theorem frame_refUpFwd : Cert.quiescent_RefUpFwdIdeal := fun m ρ _ =>
  (θ_run Cert.RefUpFwdIdeal.defs _ _).mono (fun r h => ⟨fun c => (h c).2.2, Idealize.ShloMosaic.sem_eq_zero_of_no_sems (by decide) r.2⟩)
    (Cert.RefUpFwdIdeal.Value.run (F := Ideal) m ρ)

/-- The frame of the reference of w_down's product. -/
theorem frame_refDownFwd : Cert.quiescent_RefDownFwdIdeal := fun m ρ _ =>
  (θ_run Cert.RefDownFwdIdeal.defs _ _).mono (fun r h => ⟨fun c => (h c).2, Idealize.ShloMosaic.sem_eq_zero_of_no_sems (by decide) r.2⟩)
    (Cert.RefDownFwdIdeal.Value.run (F := Ideal) m ρ)

/-- The frame of the reference of the gradient through w_in's product. -/
theorem frame_refIn : Cert.quiescent_RefInIdeal := fun m ρ _ =>
  (θ_run Cert.RefInIdeal.defs _ _).mono (fun r h => ⟨fun c => (h c).2.2, Idealize.ShloMosaic.sem_eq_zero_of_no_sems (by decide) r.2⟩)
    (Cert.RefInIdeal.Value.run (F := Ideal) m ρ)

/-- The frame of the reference of w_in's gradient. -/
theorem frame_refInDw : Cert.quiescent_RefInDwIdeal := fun m ρ _ =>
  (θ_run Cert.RefInDwIdeal.defs _ _).mono (fun r h => ⟨fun c => (h c).2, Idealize.ShloMosaic.sem_eq_zero_of_no_sems (by decide) r.2⟩)
    (Cert.RefInDwIdeal.Value.run (F := Ideal) m ρ)

/-- The frame of the reference of w_in's product. -/
theorem frame_refInFwd : Cert.quiescent_RefInFwdIdeal := fun m ρ _ =>
  (θ_run Cert.RefInFwdIdeal.defs _ _).mono (fun r h => ⟨fun c => (h c).2.2, Idealize.ShloMosaic.sem_eq_zero_of_no_sems (by decide) r.2⟩)
    (Cert.RefInFwdIdeal.Value.run (F := Ideal) m ρ)

/-- The frame of the reference of the gradient through w_out's product. -/
theorem frame_refOut : Cert.quiescent_RefOutIdeal := fun m ρ _ =>
  (θ_run Cert.RefOutIdeal.defs _ _).mono (fun r h => ⟨fun c => (h c).2, Idealize.ShloMosaic.sem_eq_zero_of_no_sems (by decide) r.2⟩)
    (Cert.RefOutIdeal.Value.run (F := Ideal) m ρ)

/-- The frame of the reference of w_out's gradient. -/
theorem frame_refOutDw : Cert.quiescent_RefOutDwIdeal := fun m ρ _ =>
  (θ_run Cert.RefOutDwIdeal.defs _ _).mono (fun r h => ⟨fun c => (h c).2, Idealize.ShloMosaic.sem_eq_zero_of_no_sems (by decide) r.2⟩)
    (Cert.RefOutDwIdeal.Value.run (F := Ideal) m ρ)

/-- The frame of the reference of w_out's product. -/
theorem frame_refOutFwd : Cert.quiescent_RefOutFwdIdeal := fun m ρ _ =>
  (θ_run Cert.RefOutFwdIdeal.defs _ _).mono (fun r h => ⟨fun c => (h c).2, Idealize.ShloMosaic.sem_eq_zero_of_no_sems (by decide) r.2⟩)
    (Cert.RefOutFwdIdeal.Value.run (F := Ideal) m ρ)

/-- The frame of the reference of the gradient through the convolution module's norm and activation. -/
theorem frame_refLn : Cert.quiescent_RefLnIdeal := fun m ρ _ =>
  (θ_run Cert.RefLnIdeal.defs _ _).mono (fun r h => ⟨fun c => (h c).2.2.2, Idealize.ShloMosaic.sem_eq_zero_of_no_sems (by decide) r.2⟩)
    (Cert.RefLnIdeal.Value.run (F := Ideal) m ρ)

/-- The frame of the reference of the convolution module's norm and activation. -/
theorem frame_refLnFwd : Cert.quiescent_RefLnFwdIdeal := fun m ρ _ =>
  (θ_run Cert.RefLnFwdIdeal.defs _ _).mono (fun r h => ⟨fun c => (h c).2.2, Idealize.ShloMosaic.sem_eq_zero_of_no_sems (by decide) r.2⟩)
    (Cert.RefLnFwdIdeal.Value.run (F := Ideal) m ρ)

/-- The frame of the reference of the loss and its gradient. -/
theorem frame_refLoss : Cert.quiescent_RefLossIdeal := fun m ρ _ =>
  (θ_run Cert.RefLossIdeal.defs _ _).mono (fun r h => ⟨fun c => (h c).2.2, Idealize.ShloMosaic.sem_eq_zero_of_no_sems (by decide) r.2⟩)
    (Cert.RefLossIdeal.Value.run (F := Ideal) m ρ)

/-- The frame of the reference of the step of the norms' weights. -/
theorem frame_refAdamNorm : Cert.quiescent_RefAdamNormIdeal := fun m ρ _ =>
  (θ_run Cert.RefAdamNormIdeal.defs _ _).mono (fun r h => ⟨fun c => (h c).2.2.2, Idealize.ShloMosaic.sem_eq_zero_of_no_sems (by decide) r.2⟩)
    (Cert.RefAdamNormIdeal.Value.run (F := Ideal) m ρ)

/-- The frame of the reference of the step of the norms of the queries and the keys. -/
theorem frame_refAdamQk : Cert.quiescent_RefAdamQkIdeal := fun m ρ _ =>
  (θ_run Cert.RefAdamQkIdeal.defs _ _).mono (fun r h => ⟨fun c => (h c).2.2.2, Idealize.ShloMosaic.sem_eq_zero_of_no_sems (by decide) r.2⟩)
    (Cert.RefAdamQkIdeal.Value.run (F := Ideal) m ρ)

/-- The frame of the reference of the step of the convolution's weights. -/
theorem frame_refAdamConvW : Cert.quiescent_RefAdamConvWIdeal := fun m ρ _ =>
  (θ_run Cert.RefAdamConvWIdeal.defs _ _).mono (fun r h => ⟨fun c => (h c).2.2.2, Idealize.ShloMosaic.sem_eq_zero_of_no_sems (by decide) r.2⟩)
    (Cert.RefAdamConvWIdeal.Value.run (F := Ideal) m ρ)

/-- The frame of the reference of the step of the convolution's biases. -/
theorem frame_refAdamConvB : Cert.quiescent_RefAdamConvBIdeal := fun m ρ _ =>
  (θ_run Cert.RefAdamConvBIdeal.defs _ _).mono (fun r h => ⟨fun c => (h c).2.2.2, Idealize.ShloMosaic.sem_eq_zero_of_no_sems (by decide) r.2⟩)
    (Cert.RefAdamConvBIdeal.Value.run (F := Ideal) m ρ)

/-- The frame of the reference of the step of the feed-forward convolution's weights. -/
theorem frame_refAdamFfnW : Cert.quiescent_RefAdamFfnWIdeal := fun m ρ _ =>
  (θ_run Cert.RefAdamFfnWIdeal.defs _ _).mono (fun r h => ⟨fun c => (h c).2.2.2, Idealize.ShloMosaic.sem_eq_zero_of_no_sems (by decide) r.2⟩)
    (Cert.RefAdamFfnWIdeal.Value.run (F := Ideal) m ρ)

/-- The frame of the reference of the step of the feed-forward convolution's biases. -/
theorem frame_refAdamFfnB : Cert.quiescent_RefAdamFfnBIdeal := fun m ρ _ =>
  (θ_run Cert.RefAdamFfnBIdeal.defs _ _).mono (fun r h => ⟨fun c => (h c).2.2.2, Idealize.ShloMosaic.sem_eq_zero_of_no_sems (by decide) r.2⟩)
    (Cert.RefAdamFfnBIdeal.Value.run (F := Ideal) m ρ)

/-- The frame of the reference of the step of w_in. -/
theorem frame_refAdamIn : Cert.quiescent_RefAdamInIdeal := fun m ρ _ =>
  (θ_run Cert.RefAdamInIdeal.defs _ _).mono (fun r h => ⟨fun c => (h c).2.2.2.2, Idealize.ShloMosaic.sem_eq_zero_of_no_sems (by decide) r.2⟩)
    (Cert.RefAdamInIdeal.Value.run (F := Ideal) m ρ)

/-- The frame of the reference of the step of w_out. -/
theorem frame_refAdamOut : Cert.quiescent_RefAdamOutIdeal := fun m ρ _ =>
  (θ_run Cert.RefAdamOutIdeal.defs _ _).mono (fun r h => ⟨fun c => (h c).2.2.2.2, Idealize.ShloMosaic.sem_eq_zero_of_no_sems (by decide) r.2⟩)
    (Cert.RefAdamOutIdeal.Value.run (F := Ideal) m ρ)

/-- The frame of the reference of the step of w_up. -/
theorem frame_refAdamUp : Cert.quiescent_RefAdamUpIdeal := fun m ρ _ =>
  (θ_run Cert.RefAdamUpIdeal.defs _ _).mono (fun r h => ⟨fun c => (h c).2.2.2.2, Idealize.ShloMosaic.sem_eq_zero_of_no_sems (by decide) r.2⟩)
    (Cert.RefAdamUpIdeal.Value.run (F := Ideal) m ρ)

/-- The frame of the reference of the step of w_down. -/
theorem frame_refAdamDown : Cert.quiescent_RefAdamDownIdeal := fun m ρ _ =>
  (θ_run Cert.RefAdamDownIdeal.defs _ _).mono (fun r h => ⟨fun c => (h c).2.2.2.2, Idealize.ShloMosaic.sem_eq_zero_of_no_sems (by decide) r.2⟩)
    (Cert.RefAdamDownIdeal.Value.run (F := Ideal) m ρ)

end Cert.Proof

/-- The certificate. -/
theorem Cert.Proof.claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, Cert.Proof.frame_kernel, Cert.Proof.frame_kernelIdeal, Cert.Proof.frame_reference,
    fun m ρ _ => Cert.Up.Gen.frame m ρ, fun m ρ _ => Cert.UpIdeal.Gen.frame m ρ, fun m ρ _ => Cert.UpIdeal.Gen.frame m ρ,
    Cert.Proof.frame_refUp, fun m ρ _ => Cert.Proof.frame_refUp m ρ trivial, fun m ρ _ => Cert.Dw.Gen.frame m ρ,
    fun m ρ _ => Cert.DwIdeal.Gen.frame m ρ, Cert.Proof.frame_refDw, fun m ρ _ => Cert.Down.Gen.frame m ρ,
    fun m ρ _ => Cert.DownIdeal.Gen.frame m ρ, Cert.Proof.frame_refDown, fun m ρ _ => Cert.DownDw.Gen.frame m ρ,
    fun m ρ _ => Cert.DownDwIdeal.Gen.frame m ρ, Cert.Proof.frame_refDownDw, fun m ρ _ => Cert.UpFwd.Gen.frame m ρ,
    fun m ρ _ => Cert.UpFwdIdeal.Gen.frame m ρ, Cert.Proof.frame_refUpFwd, fun m ρ _ => Cert.DownFwd.Gen.frame m ρ,
    fun m ρ _ => Cert.DownFwdIdeal.Gen.frame m ρ, Cert.Proof.frame_refDownFwd, fun m ρ _ => Cert.In.Gen.frame m ρ,
    fun m ρ _ => Cert.InIdeal.Gen.frame m ρ, fun m ρ _ => Cert.InIdeal.Gen.frame m ρ, Cert.Proof.frame_refIn,
    fun m ρ _ => Cert.Proof.frame_refIn m ρ trivial, fun m ρ _ => Cert.InDw.Gen.frame m ρ, fun m ρ _ => Cert.InDwIdeal.Gen.frame m ρ,
    Cert.Proof.frame_refInDw, fun m ρ _ => Cert.InFwd.Gen.frame m ρ, fun m ρ _ => Cert.InFwdIdeal.Gen.frame m ρ,
    Cert.Proof.frame_refInFwd, fun m ρ _ => Cert.Out.Gen.frame m ρ, fun m ρ _ => Cert.OutIdeal.Gen.frame m ρ, Cert.Proof.frame_refOut,
    fun m ρ _ => Cert.OutDw.Gen.frame m ρ, fun m ρ _ => Cert.OutDwIdeal.Gen.frame m ρ, Cert.Proof.frame_refOutDw,
    fun m ρ _ => Cert.OutFwd.Gen.frame m ρ, fun m ρ _ => Cert.OutFwdIdeal.Gen.frame m ρ, Cert.Proof.frame_refOutFwd,
    fun m ρ _ => Cert.Ln.Gen.frame m ρ, fun m ρ _ => Cert.LnIdeal.Gen.frame m ρ, fun m ρ _ => Cert.LnIdeal.Gen.frame m ρ,
    Cert.Proof.frame_refLn, fun m ρ _ => Cert.Proof.frame_refLn m ρ trivial, fun m ρ _ => Cert.LnFwd.Gen.frame m ρ,
    fun m ρ _ => Cert.LnFwdIdeal.Gen.frame m ρ, Cert.Proof.frame_refLnFwd, fun m ρ _ => Cert.Loss.Gen.frame m ρ,
    fun m ρ _ => Cert.LossIdeal.Gen.frame m ρ, Cert.Proof.frame_refLoss, fun m ρ _ => Cert.AdamNorm.Gen.frame m ρ,
    fun m ρ _ => Cert.AdamNormIdeal.Gen.frame m ρ, Cert.Proof.frame_refAdamNorm, fun m ρ _ => Cert.AdamQk.Gen.frame m ρ,
    fun m ρ _ => Cert.AdamQkIdeal.Gen.frame m ρ, Cert.Proof.frame_refAdamQk, fun m ρ _ => Cert.AdamConvW.Gen.frame m ρ,
    fun m ρ _ => Cert.AdamConvWIdeal.Gen.frame m ρ, Cert.Proof.frame_refAdamConvW, fun m ρ _ => Cert.AdamConvB.Gen.frame m ρ,
    fun m ρ _ => Cert.AdamConvBIdeal.Gen.frame m ρ, Cert.Proof.frame_refAdamConvB, fun m ρ _ => Cert.AdamFfnW.Gen.frame m ρ,
    fun m ρ _ => Cert.AdamFfnWIdeal.Gen.frame m ρ, Cert.Proof.frame_refAdamFfnW, fun m ρ _ => Cert.AdamFfnB.Gen.frame m ρ,
    fun m ρ _ => Cert.AdamFfnBIdeal.Gen.frame m ρ, Cert.Proof.frame_refAdamFfnB, fun m ρ _ => Cert.AdamIn.Gen.frame m ρ,
    fun m ρ _ => Cert.AdamInIdeal.Gen.frame m ρ, Cert.Proof.frame_refAdamIn, fun m ρ _ => Cert.AdamOut.Gen.frame m ρ,
    fun m ρ _ => Cert.AdamOutIdeal.Gen.frame m ρ, Cert.Proof.frame_refAdamOut, fun m ρ _ => Cert.AdamUp.Gen.frame m ρ,
    fun m ρ _ => Cert.AdamUpIdeal.Gen.frame m ρ, Cert.Proof.frame_refAdamUp, fun m ρ _ => Cert.AdamDown.Gen.frame m ρ,
    fun m ρ _ => Cert.AdamDownIdeal.Gen.frame m ρ, Cert.Proof.frame_refAdamDown, trivial, trivial, Cert.UpIdeal.Rows.algebraic,
    trivial, Cert.DwIdeal.Rows.algebraic, trivial, Cert.DownIdeal.Rows.algebraic, trivial, Cert.DownDwIdeal.Rows.algebraic, trivial,
    Cert.UpFwdIdeal.Rows.algebraic, trivial, Cert.DownFwdIdeal.Rows.algebraic, trivial, Cert.InIdeal.Rows.algebraic, trivial,
    Cert.InDwIdeal.Rows.algebraic, trivial, Cert.InFwdIdeal.Rows.algebraic, trivial, Cert.OutIdeal.Rows.algebraic, trivial,
    Cert.OutDwIdeal.Rows.algebraic, trivial, Cert.OutFwdIdeal.Rows.algebraic, trivial, Cert.LnIdeal.Rows.algebraic, trivial,
    Cert.LnFwdIdeal.Rows.algebraic, trivial, Cert.LossIdeal.Rows.algebraic, trivial, Cert.AdamNormIdeal.Rows.algebraic, trivial,
    Cert.AdamQkIdeal.Rows.algebraic, trivial, Cert.AdamConvWIdeal.Rows.algebraic, trivial, Cert.AdamConvBIdeal.Rows.algebraic, trivial,
    Cert.AdamFfnWIdeal.Rows.algebraic, trivial, Cert.AdamFfnBIdeal.Rows.algebraic, trivial, Cert.AdamInIdeal.Rows.algebraic, trivial,
    Cert.AdamOutIdeal.Rows.algebraic, trivial, Cert.AdamUpIdeal.Rows.algebraic, trivial, Cert.AdamDownIdeal.Rows.algebraic⟩
